-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_outputs [hPre_finite_outputs : Cert.Pre_finite_outputs.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_outputs.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_outputs [hPre_finite_outputs : Cert.Pre_finite_outputs.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_outputs.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite_outputs [hKernel12Ideal : Cert.Kernel12Ideal.Facts] [hPre_finite_outputs : Cert.Pre_finite_outputs.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_outputs m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite_outputs [hReference12Ideal : Cert.Reference12Ideal.Facts] [hPre_finite_outputs : Cert.Pre_finite_outputs.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_outputs m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "scale2" .f32 0x3DD53B95#32 (((Real.sqrt 192)⁻¹ * (Real.log 2)⁻¹ : ℝ) : EReal)
  ∧ IdealRules.named_const.Statement Cert.KernelIdeal.κ "mask" .f32 0xF149F2CA#32 ⊥
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v30)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v14_0)) (v1 : (c : Dev Cert.Kernel11Ideal.nD) → Buf (Elt Ideal) ((c.tc : Thread Cert.Kernel11Ideal.nD Cert.Kernel11Ideal.τ).loc Cert.Kernel11Ideal.main_v14_1)) (v2 : (c : Dev Cert.Kernel11Ideal.nD) → Buf (Elt Ideal) ((c.tc : Thread Cert.Kernel11Ideal.nD Cert.Kernel11Ideal.τ).loc Cert.Kernel11Ideal.main_v14_2)) (v3 : (c : Dev Cert.Kernel11Ideal.nD) → Buf (Elt Ideal) ((c.tc : Thread Cert.Kernel11Ideal.nD Cert.Kernel11Ideal.τ).loc Cert.Kernel11Ideal.main_v14_3)) (v4 : (c : Dev Cert.Kernel11Ideal.nD) → Buf (Elt Ideal) ((c.tc : Thread Cert.Kernel11Ideal.nD Cert.Kernel11Ideal.τ).loc Cert.Kernel11Ideal.main_v14_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v14_0) = v0 c
          ∧ r.2.mem ((c.tc : Thread Cert.Kernel11Ideal.nD Cert.Kernel11Ideal.τ).loc Cert.Kernel11Ideal.main_v14_1) = v1 c
          ∧ r.2.mem ((c.tc : Thread Cert.Kernel11Ideal.nD Cert.Kernel11Ideal.τ).loc Cert.Kernel11Ideal.main_v14_2) = v2 c
          ∧ r.2.mem ((c.tc : Thread Cert.Kernel11Ideal.nD Cert.Kernel11Ideal.τ).loc Cert.Kernel11Ideal.main_v14_3) = v3 c
          ∧ r.2.mem ((c.tc : Thread Cert.Kernel11Ideal.nD Cert.Kernel11Ideal.τ).loc Cert.Kernel11Ideal.main_v14_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v64) = v0 c
          ∧ r.2.mem ((c.tc : Thread Cert.Reference11Ideal.nD Cert.Reference11Ideal.τ).loc Cert.Reference11Ideal.main_v69) = v1 c
          ∧ r.2.mem ((c.tc : Thread Cert.Reference11Ideal.nD Cert.Reference11Ideal.τ).loc Cert.Reference11Ideal.main_v73) = v2 c
          ∧ r.2.mem ((c.tc : Thread Cert.Reference11Ideal.nD Cert.Reference11Ideal.τ).loc Cert.Reference11Ideal.main_v74) = v3 c
          ∧ r.2.mem ((c.tc : Thread Cert.Reference11Ideal.nD Cert.Reference11Ideal.τ).loc Cert.Reference11Ideal.main_v75) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_finite_outputs [hKernel12Ideal : Cert.Kernel12Ideal.Facts] [hReference12Ideal : Cert.Reference12Ideal.Facts] [hPre_finite_outputs : Cert.Pre_finite_outputs.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_outputs m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_v23) = v2 c
          ∧ r.2.mem ((c.tc : Thread Cert.Reference12Ideal.nD Cert.Reference12Ideal.τ).loc Cert.Reference12Ideal.main_v24) = v3 c
          ∧ r.2.mem ((c.tc : Thread Cert.Reference12Ideal.nD Cert.Reference12Ideal.τ).loc Cert.Reference12Ideal.main_v20) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v17) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite_outputs : Cert.Pre_finite_outputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_outputs (hKernel12Ideal := hKernel12Ideal) (hPre_finite_outputs := hPre_finite_outputs)
    ∧ quiescent_Reference12Ideal (hReference12Ideal := hReference12Ideal)
    ∧ quiescent_Reference12Ideal_pre_finite_outputs (hReference12Ideal := hReference12Ideal) (hPre_finite_outputs := hPre_finite_outputs)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_outputs (hKernel12Ideal := hKernel12Ideal) (hReference12Ideal := hReference12Ideal) (hPre_finite_outputs := hPre_finite_outputs)
    ∧ preserves_Kernel13_Kernel13Ideal
    ∧ algebraic_Kernel13Ideal_Reference13Ideal (hKernel13Ideal := hKernel13Ideal) (hReference13Ideal := hReference13Ideal)
-- ==== Pre_finite.lean ====
abbrev S4096x8x192 : Shape := ⟨3, ![4096, 8, 192]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x192 .f32) (main_arg1 : FVec F S4096x8x192 .f32) (main_arg2 : FVec F S4096x8x128 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x192 .f32 := Host.absf main_arg1
  let main_cst_0 : FVec F S_ .f32 := constant S_ .f32 0x7F800000#32
  let main_v5 : FVec F S4096x8x192 .f32 := broadcastInDim S4096x8x192 ![] bcast_S_S4096x8x192 main_cst_0
  let main_v6 : IVec S4096x8x192 1 := cmpf .olt main_v4 main_v5
  let main_c_1 : IVec S_ 1 := constantI S_ 1 1#1
  let main_v7 : IVec S_ 1 := (fun x v => Host.reduce IntOp.andi x v reducesTo_S4096x8x192_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Pre_finite_outputs.lean ====
abbrev S4096x2048 : Shape := ⟨2, ![4096, 2048]⟩
abbrev S4096x1024 : Shape := ⟨2, ![4096, 1024]⟩
abbrev S4096x4096 : Shape := ⟨2, ![4096, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2048 .f32) (main_arg1 : FVec F S4096x1024 .f32) (main_arg2 : FVec F S4096x1024 .f32) (main_arg3 : FVec F S4096x4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x8x192 : Shape := ⟨3, ![4096, 8, 192]⟩
abbrev S4096x8x128 : Shape := ⟨3, ![4096, 8, 128]⟩
abbrev S_ : Shape := ⟨0, ![]⟩
abbrev S8x4096x4096 : Shape := ⟨3, ![8, 4096, 4096]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S4096x8x256 : Shape := ⟨3, ![4096, 8, 256]⟩
abbrev S4096x2048 : Shape := ⟨2, ![4096, 2048]⟩
abbrev S4096x1024 : Shape := ⟨2, ![4096, 1024]⟩
abbrev S4096x4x2 : Shape := ⟨3, ![4096, 4, 2]⟩
abbrev S4096x4x128 : Shape := ⟨3, ![4096, 4, 128]⟩
abbrev S4096x512 : Shape := ⟨2, ![4096, 512]⟩
abbrev S4096x256 : Shape := ⟨2, ![4096, 256]⟩
abbrev S2048x256 : Shape := ⟨2, ![2048, 256]⟩
abbrev S2048x128 : Shape := ⟨2, ![2048, 128]⟩
abbrev S4096x128 : Shape := ⟨2, ![4096, 128]⟩
abbrev S256x512 : Shape := ⟨2, ![256, 512]⟩
abbrev S128x512 : Shape := ⟨2, ![128, 512]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 82
  | .vmem => 20
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S_, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096, .i32⟩
  | .hbm, ⟨13, _⟩ => ⟨S4096, .i32⟩
  | .hbm, ⟨14, _⟩ => ⟨S1x1x4096, .i32⟩
  | .hbm, ⟨15, _⟩ => ⟨S1x4096x1, .i32⟩
  | .hbm, ⟨16, _⟩ => ⟨S1x4096x4096, .i32⟩
  | .hbm, ⟨17, _⟩ => ⟨S1x4096x4096, .i32⟩
  | .hbm, ⟨18, _⟩ => ⟨S1x4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x128x4096, .f32⟩
  | .hbm, ⟨36, _⟩ => ⟨S4096x8x128, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096, .f32⟩
  | .hbm, ⟨45, _⟩ => ⟨S4096x8, .f32⟩
  | .hbm, ⟨46, _⟩ => ⟨S4096x8x128, .f32⟩
  | .hbm, ⟨47, _⟩ => ⟨S_, .f32⟩
  | .hbm, ⟨48, _⟩ => ⟨S4096x8, .f32⟩
  | .hbm, ⟨49, _⟩ => ⟨S_, .i32⟩
  | .hbm, ⟨50, _⟩ => ⟨S_, .f32⟩
  | .hbm, ⟨51, _⟩ => ⟨S4096x8x256, .f32⟩
  | .hbm, ⟨52, _⟩ => ⟨S4096x2048, .f32⟩
  | .hbm, ⟨53, _⟩ => ⟨S4096x2048, .bf16⟩
  | .hbm, ⟨54, _⟩ => ⟨S_, .i32⟩
  | .hbm, ⟨55, _⟩ => ⟨S_, .f32⟩
  | .hbm, ⟨56, _⟩ => ⟨S4096x8x256, .f32⟩
  | .hbm, ⟨57, _⟩ => ⟨S4096x2048, .f32⟩
  | .hbm, ⟨58, _⟩ => ⟨S4096x2048, .bf16⟩
  | .hbm, ⟨59, _⟩ => ⟨S4096x8x256, .f32⟩
  | .hbm, ⟨60, _⟩ => ⟨S4096x2048, .f32⟩
  | .hbm, ⟨61, _⟩ => ⟨S4096x2048, .bf16⟩
  | .hbm, ⟨62, _⟩ => ⟨S4096x1024, .f32⟩
  | .hbm, ⟨63, _⟩ => ⟨S4096x1024, .bf16⟩
  | .hbm, ⟨64, _⟩ => ⟨S4096x4x2, .f32⟩
  | .hbm, ⟨65, _⟩ => ⟨S_, .i32⟩
  | .hbm, ⟨66, _⟩ => ⟨S_, .f32⟩
  | .hbm, ⟨67, _⟩ => ⟨S4096x4x128, .f32⟩
  | .hbm, ⟨68, _⟩ => ⟨S4096x512, .f32⟩
  | .hbm, ⟨69, _⟩ => ⟨S4096x4x2, .f32⟩
  | .hbm, ⟨70, _⟩ => ⟨S_, .i32⟩
  | .hbm, ⟨71, _⟩ => ⟨S_, .f32⟩
  | .hbm, ⟨72, _⟩ => ⟨S4096x4x128, .f32⟩
  | .hbm, ⟨73, _⟩ => ⟨S4096x512, .f32⟩
  | .hbm, ⟨74, _⟩ => ⟨S4096x2048, .f32⟩
  | .hbm, ⟨75, _⟩ => ⟨S4096x2048, .f32⟩
  | .hbm, ⟨76, _⟩ => ⟨S4096x1024, .f32⟩
  | .hbm, ⟨77, _⟩ => ⟨S4096x8x256, .f32⟩
  | .hbm, ⟨78, _⟩ => ⟨S4096x8x192, .f32⟩
  | .hbm, ⟨79, _⟩ => ⟨S4096x8x256, .f32⟩
  | .hbm, ⟨80, _⟩ => ⟨S4096x8x192, .f32⟩
  | .hbm, ⟨81, _⟩ => ⟨S4096x8x128, .f32⟩
  | .local _ .vmem, ⟨0, _⟩ => ⟨S4096x256, .bf16⟩
  | .local _ .vmem, ⟨1, _⟩ => ⟨S4096x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x256, .f32⟩
  | .local _ .vmem, ⟨13, _⟩ => ⟨S4096x256, .f32⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | .local _ .vmem, ⟨18, _⟩ => ⟨S256x512, .f32⟩
  | .local _ .vmem, ⟨19, _⟩ => ⟨S128x512, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_c : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_call3_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_call4_v0 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v52_2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c512_i32 : BitVec 32 := 512#32
  let v30 : BitVec 32 := Scalar.muli v17 c512_i32
  v30
def k0_off1 (i : grid0.Coords) (c0_i32_5 : BitVec 32) : Fin 2 → Nat :=
  let arg1 : BitVec 32 := BitVec.ofNat 32 (i 1).val
  let c4_i32 : BitVec 32 := 4#32
  let v16 : BitVec 32 := Scalar.muli arg1 c4_i32
  let v17 : BitVec 32 := Scalar.addi v16 c0_i32_5
  let c512_i32 : BitVec 32 := 512#32
  let v30 : BitVec 32 := Scalar.muli v17 c512_i32
  let v31 : BitVec 32 := v30
  let v32 : Index := Scalar.indexCast v31
  let c0_14 : Index := 0#32
  ![v32.toNat, 0]
def k0_off2 (i : grid0.Coords) (c0_i32_5 : BitVec 32) : Fin 2 → Nat :=
  let arg1 : BitVec 32 := BitVec.ofNat 32 (i 1).val
  let c4_i32 : BitVec 32 := 4#32
  let v16 : BitVec 32 := Scalar.muli arg1 c4_i32
  let v17 : BitVec 32 := Scalar.addi v16 c0_i32_5
  let c512_i32 : BitVec 32 := 512#32
  let v30 : BitVec 32 := Scalar.muli v17 c512_i32
  let v31 : BitVec 32 := v30
  let v35 : Index := Scalar.indexCast v31
  let c0_15 : Index := 0#32
  ![v35.toNat, 0]
@[reducible] def k0_t1_loop (i : grid0.Coords) : Scf.Loop 32 :=
  let c0_i32_49 : BitVec 32 := 0#32
  let c8_i32 : BitVec 32 := 8#32
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_51 : BitVec 32 := 1#32
  ⟨c0_i32_49, v113, c1_i32_51⟩
def k0_mult2 (i : grid0.Coords) (k0_t1 : Fin (k0_t1_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_336 : BitVec 32 := 4#32
  let c0_i32_49 : BitVec 32 := 0#32
  let c1_i32_51 : BitVec 32 := 1#32
  let arg13 : BitVec 32 := Scf.iv c0_i32_49 c1_i32_51 k0_t1
  let v612 : BitVec 32 := Scalar.muli c4_i32_336 arg13
  let v613 : BitVec 32 := Scalar.addi v90 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off3 (i : grid0.Coords) (k0_t1 : Fin (k0_t1_loop i).trips) (c0_i32_337 : BitVec 32) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_336 : BitVec 32 := 4#32
  let c0_i32_49 : BitVec 32 := 0#32
  let c1_i32_51 : BitVec 32 := 1#32
  let arg13 : BitVec 32 := Scf.iv c0_i32_49 c1_i32_51 k0_t1
  let v612 : BitVec 32 := Scalar.muli c4_i32_336 arg13
  let v613 : BitVec 32 := Scalar.addi v90 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off4 (i : grid0.Coords) (k0_t1 : Fin (k0_t1_loop i).trips) (c0_i32_337 : BitVec 32) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_336 : BitVec 32 := 4#32
  let c0_i32_49 : BitVec 32 := 0#32
  let c1_i32_51 : BitVec 32 := 1#32
  let arg13 : BitVec 32 := Scf.iv c0_i32_49 c1_i32_51 k0_t1
  let v612 : BitVec 32 := Scalar.muli c4_i32_336 arg13
  let v613 : BitVec 32 := Scalar.addi v90 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult3 (i : grid0.Coords) (k0_t1 : Fin (k0_t1_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_364 : BitVec 32 := 4#32
  let c0_i32_49 : BitVec 32 := 0#32
  let c1_i32_51 : BitVec 32 := 1#32
  let arg13 : BitVec 32 := Scf.iv c0_i32_49 c1_i32_51 k0_t1
  let v670 : BitVec 32 := Scalar.muli c4_i32_364 arg13
  let v671 : BitVec 32 := Scalar.addi v90 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult4 (i : grid0.Coords) (k0_t1 : Fin (k0_t1_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_392 : BitVec 32 := 4#32
  let c0_i32_49 : BitVec 32 := 0#32
  let c1_i32_51 : BitVec 32 := 1#32
  let arg13 : BitVec 32 := Scf.iv c0_i32_49 c1_i32_51 k0_t1
  let v728 : BitVec 32 := Scalar.muli c4_i32_392 arg13
  let v729 : BitVec 32 := Scalar.addi v90 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult5 (i : grid0.Coords) (k0_t1 : Fin (k0_t1_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_420 : BitVec 32 := 4#32
  let c0_i32_49 : BitVec 32 := 0#32
  let c1_i32_51 : BitVec 32 := 1#32
  let arg13 : BitVec 32 := Scf.iv c0_i32_49 c1_i32_51 k0_t1
  let v786 : BitVec 32 := Scalar.muli c4_i32_420 arg13
  let v787 : BitVec 32 := Scalar.addi v90 v786
  let c3_i32_421 : BitVec 32 := 3#32
  let v788 : BitVec 32 := Scalar.addi v787 c3_i32_421
  let c512_i32_422 : BitVec 32 := 512#32
  let v789 : BitVec 32 := Scalar.muli v788 c512_i32_422
  v789
@[reducible] def k0_t2_loop (i : grid0.Coords) : Scf.Loop 32 :=
  let c0_i32_49 : BitVec 32 := 0#32
  let c8_i32 : BitVec 32 := 8#32
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let v110 : BitVec 32 := Scalar.addi c0_i32_49 v109
  let c1_i32_52 : BitVec 32 := 1#32
  ⟨v113, v110, c1_i32_52⟩
def k0_mult6 (i : grid0.Coords) (k0_t2 : Fin (k0_t2_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_336 : BitVec 32 := 4#32
  let c0_i32_49 : BitVec 32 := 0#32
  let c8_i32 : BitVec 32 := 8#32
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg13 : BitVec 32 := Scf.iv v113 c1_i32_52 k0_t2
  let v612 : BitVec 32 := Scalar.muli c4_i32_336 arg13
  let v613 : BitVec 32 := Scalar.addi v90 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off5 (i : grid0.Coords) (k0_t2 : Fin (k0_t2_loop i).trips) (c0_i32_337 : BitVec 32) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_336 : BitVec 32 := 4#32
  let c0_i32_49 : BitVec 32 := 0#32
  let c8_i32 : BitVec 32 := 8#32
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg13 : BitVec 32 := Scf.iv v113 c1_i32_52 k0_t2
  let v612 : BitVec 32 := Scalar.muli c4_i32_336 arg13
  let v613 : BitVec 32 := Scalar.addi v90 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off6 (i : grid0.Coords) (k0_t2 : Fin (k0_t2_loop i).trips) (c0_i32_337 : BitVec 32) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_336 : BitVec 32 := 4#32
  let c0_i32_49 : BitVec 32 := 0#32
  let c8_i32 : BitVec 32 := 8#32
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg13 : BitVec 32 := Scf.iv v113 c1_i32_52 k0_t2
  let v612 : BitVec 32 := Scalar.muli c4_i32_336 arg13
  let v613 : BitVec 32 := Scalar.addi v90 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult7 (i : grid0.Coords) (k0_t2 : Fin (k0_t2_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_364 : BitVec 32 := 4#32
  let c0_i32_49 : BitVec 32 := 0#32
  let c8_i32 : BitVec 32 := 8#32
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg13 : BitVec 32 := Scf.iv v113 c1_i32_52 k0_t2
  let v670 : BitVec 32 := Scalar.muli c4_i32_364 arg13
  let v671 : BitVec 32 := Scalar.addi v90 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult8 (i : grid0.Coords) (k0_t2 : Fin (k0_t2_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_392 : BitVec 32 := 4#32
  let c0_i32_49 : BitVec 32 := 0#32
  let c8_i32 : BitVec 32 := 8#32
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg13 : BitVec 32 := Scf.iv v113 c1_i32_52 k0_t2
  let v728 : BitVec 32 := Scalar.muli c4_i32_392 arg13
  let v729 : BitVec 32 := Scalar.addi v90 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult9 (i : grid0.Coords) (k0_t2 : Fin (k0_t2_loop i).trips) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c4_i32_420 : BitVec 32 := 4#32
  let c0_i32_49 : BitVec 32 := 0#32
  let c8_i32 : BitVec 32 := 8#32
  let v91 : BitVec 32 := Scalar.subi c8_i32 v90
  let c0_i32_42 : BitVec 32 := 0#32
  let v93 : BitVec 1 := Scalar.cmpi .sgt v91 c0_i32_42
  let v94 : BitVec 32 := Scalar.extui v93
  let c0_i32_43 : BitVec 32 := 0#32
  let v95 : BitVec 1 := Scalar.cmpi .slt v91 c0_i32_43
  let v96 : BitVec 32 := Scalar.extui v95
  let v97 : BitVec 32 := Scalar.subi v94 v96
  let c4_i32_41 : BitVec 32 := 4#32
  let c0_i32_44 : BitVec 32 := 0#32
  let v98 : BitVec 1 := Scalar.cmpi .sgt c4_i32_41 c0_i32_44
  let v99 : BitVec 32 := Scalar.extui v98
  let c0_i32_45 : BitVec 32 := 0#32
  let v100 : BitVec 1 := Scalar.cmpi .slt c4_i32_41 c0_i32_45
  let v101 : BitVec 32 := Scalar.extui v100
  let v102 : BitVec 32 := Scalar.subi v99 v101
  let v103 : BitVec 1 := Scalar.cmpi .ne v97 v102
  let v104 : BitVec 32 := Scalar.remsi v91 c4_i32_41
  let c0_i32_46 : BitVec 32 := 0#32
  let v105 : BitVec 1 := Scalar.cmpi .ne v104 c0_i32_46
  let v106 : BitVec 1 := Scalar.andi v103 v105
  let v92 : BitVec 32 := Scalar.divsi v91 c4_i32_41
  let c1_i32_47 : BitVec 32 := 1#32
  let v107 : BitVec 32 := Scalar.subi v92 c1_i32_47
  let v108 : BitVec 32 := Scalar.select v106 v107 v92
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg13 : BitVec 32 := Scf.iv v113 c1_i32_52 k0_t2
  let v786 : BitVec 32 := Scalar.muli c4_i32_420 arg13
  let v787 : BitVec 32 := Scalar.addi v90 v786
  let c3_i32_421 : BitVec 32 := 3#32
  let v788 : BitVec 32 := Scalar.addi v787 c3_i32_421
  let c512_i32_422 : BitVec 32 := 512#32
  let v789 : BitVec 32 := Scalar.muli v788 c512_i32_422
  v789
def k0_cond2 (i : grid0.Coords) : BitVec 1 :=
  let c8_i32 : BitVec 32 := 8#32
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let v91 : BitVec 32 := Scalar.subi c8_i32 v90
  let c4_i32_61 : BitVec 32 := 4#32
  let c0_i32_62 : BitVec 32 := 0#32
  let v133 : BitVec 1 := Scalar.cmpi .eq c4_i32_61 c0_i32_62
  let c1_i32_63 : BitVec 32 := 1#32
  let v134 : BitVec 32 := Scalar.select v133 c1_i32_63 c4_i32_61
  let v135 : BitVec 32 := Scalar.remsi v91 v134
  let c0_i32_65 : BitVec 32 := 0#32
  let v137 : BitVec 1 := Scalar.cmpi .slt v135 c0_i32_65
  let c0_i32_66 : BitVec 32 := 0#32
  let v138 : BitVec 1 := Scalar.cmpi .slt v134 c0_i32_66
  let v139 : BitVec 1 := Scalar.xori v137 v138
  let c0_i32_64 : BitVec 32 := 0#32
  let v136 : BitVec 1 := Scalar.cmpi .ne v135 c0_i32_64
  let v140 : BitVec 1 := Scalar.andi v139 v136
  let v141 : BitVec 32 := Scalar.addi v135 v134
  let v142 : BitVec 32 := Scalar.select v140 v141 v135
  let c2_i32_67 : BitVec 32 := 2#32
  let v143 : BitVec 1 := Scalar.cmpi .sge v142 c2_i32_67
  let v144 : BitVec 32 := Scalar.extui v143
  let c0_i32_68 : BitVec 32 := 0#32
  let v145 : BitVec 1 := Scalar.cmpi .ne v144 c0_i32_68
  v145

def k0_mult10 (i : grid0.Coords) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c8_i32 : BitVec 32 := 8#32
  let v91 : BitVec 32 := Scalar.subi c8_i32 v90
  let c0_i32_54 : BitVec 32 := 0#32
  let v115 : BitVec 1 := Scalar.cmpi .sgt v91 c0_i32_54
  let v116 : BitVec 32 := Scalar.extui v115
  let c0_i32_55 : BitVec 32 := 0#32
  let v117 : BitVec 1 := Scalar.cmpi .slt v91 c0_i32_55
  let v118 : BitVec 32 := Scalar.extui v117
  let v119 : BitVec 32 := Scalar.subi v116 v118
  let c4_i32_53 : BitVec 32 := 4#32
  let c0_i32_56 : BitVec 32 := 0#32
  let v120 : BitVec 1 := Scalar.cmpi .sgt c4_i32_53 c0_i32_56
  let v121 : BitVec 32 := Scalar.extui v120
  let c0_i32_57 : BitVec 32 := 0#32
  let v122 : BitVec 1 := Scalar.cmpi .slt c4_i32_53 c0_i32_57
  let v123 : BitVec 32 := Scalar.extui v122
  let v124 : BitVec 32 := Scalar.subi v121 v123
  let v125 : BitVec 1 := Scalar.cmpi .ne v119 v124
  let v126 : BitVec 32 := Scalar.remsi v91 c4_i32_53
  let c0_i32_58 : BitVec 32 := 0#32
  let v127 : BitVec 1 := Scalar.cmpi .ne v126 c0_i32_58
  let v128 : BitVec 1 := Scalar.andi v125 v127
  let v114 : BitVec 32 := Scalar.divsi v91 c4_i32_53
  let c1_i32_59 : BitVec 32 := 1#32
  let v129 : BitVec 32 := Scalar.subi v114 c1_i32_59
  let v130 : BitVec 32 := Scalar.select v128 v129 v114
  let c4_i32_60 : BitVec 32 := 4#32
  let v131 : BitVec 32 := Scalar.muli v130 c4_i32_60
  let v132 : BitVec 32 := Scalar.addi v90 v131
  let c512_i32_336 : BitVec 32 := 512#32
  let v612 : BitVec 32 := Scalar.muli v132 c512_i32_336
  v612
def k0_off7 (i : grid0.Coords) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c8_i32 : BitVec 32 := 8#32
  let v91 : BitVec 32 := Scalar.subi c8_i32 v90
  let c0_i32_54 : BitVec 32 := 0#32
  let v115 : BitVec 1 := Scalar.cmpi .sgt v91 c0_i32_54
  let v116 : BitVec 32 := Scalar.extui v115
  let c0_i32_55 : BitVec 32 := 0#32
  let v117 : BitVec 1 := Scalar.cmpi .slt v91 c0_i32_55
  let v118 : BitVec 32 := Scalar.extui v117
  let v119 : BitVec 32 := Scalar.subi v116 v118
  let c4_i32_53 : BitVec 32 := 4#32
  let c0_i32_56 : BitVec 32 := 0#32
  let v120 : BitVec 1 := Scalar.cmpi .sgt c4_i32_53 c0_i32_56
  let v121 : BitVec 32 := Scalar.extui v120
  let c0_i32_57 : BitVec 32 := 0#32
  let v122 : BitVec 1 := Scalar.cmpi .slt c4_i32_53 c0_i32_57
  let v123 : BitVec 32 := Scalar.extui v122
  let v124 : BitVec 32 := Scalar.subi v121 v123
  let v125 : BitVec 1 := Scalar.cmpi .ne v119 v124
  let v126 : BitVec 32 := Scalar.remsi v91 c4_i32_53
  let c0_i32_58 : BitVec 32 := 0#32
  let v127 : BitVec 1 := Scalar.cmpi .ne v126 c0_i32_58
  let v128 : BitVec 1 := Scalar.andi v125 v127
  let v114 : BitVec 32 := Scalar.divsi v91 c4_i32_53
  let c1_i32_59 : BitVec 32 := 1#32
  let v129 : BitVec 32 := Scalar.subi v114 c1_i32_59
  let v130 : BitVec 32 := Scalar.select v128 v129 v114
  let c4_i32_60 : BitVec 32 := 4#32
  let v131 : BitVec 32 := Scalar.muli v130 c4_i32_60
  let v132 : BitVec 32 := Scalar.addi v90 v131
  let c512_i32_336 : BitVec 32 := 512#32
  let v612 : BitVec 32 := Scalar.muli v132 c512_i32_336
  let v613 : BitVec 32 := v612
  let v614 : Index := Scalar.indexCast v613
  let c0_337 : Index := 0#32
  ![v614.toNat, 0]
def k0_off8 (i : grid0.Coords) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c8_i32 : BitVec 32 := 8#32
  let v91 : BitVec 32 := Scalar.subi c8_i32 v90
  let c0_i32_54 : BitVec 32 := 0#32
  let v115 : BitVec 1 := Scalar.cmpi .sgt v91 c0_i32_54
  let v116 : BitVec 32 := Scalar.extui v115
  let c0_i32_55 : BitVec 32 := 0#32
  let v117 : BitVec 1 := Scalar.cmpi .slt v91 c0_i32_55
  let v118 : BitVec 32 := Scalar.extui v117
  let v119 : BitVec 32 := Scalar.subi v116 v118
  let c4_i32_53 : BitVec 32 := 4#32
  let c0_i32_56 : BitVec 32 := 0#32
  let v120 : BitVec 1 := Scalar.cmpi .sgt c4_i32_53 c0_i32_56
  let v121 : BitVec 32 := Scalar.extui v120
  let c0_i32_57 : BitVec 32 := 0#32
  let v122 : BitVec 1 := Scalar.cmpi .slt c4_i32_53 c0_i32_57
  let v123 : BitVec 32 := Scalar.extui v122
  let v124 : BitVec 32 := Scalar.subi v121 v123
  let v125 : BitVec 1 := Scalar.cmpi .ne v119 v124
  let v126 : BitVec 32 := Scalar.remsi v91 c4_i32_53
  let c0_i32_58 : BitVec 32 := 0#32
  let v127 : BitVec 1 := Scalar.cmpi .ne v126 c0_i32_58
  let v128 : BitVec 1 := Scalar.andi v125 v127
  let v114 : BitVec 32 := Scalar.divsi v91 c4_i32_53
  let c1_i32_59 : BitVec 32 := 1#32
  let v129 : BitVec 32 := Scalar.subi v114 c1_i32_59
  let v130 : BitVec 32 := Scalar.select v128 v129 v114
  let c4_i32_60 : BitVec 32 := 4#32
  let v131 : BitVec 32 := Scalar.muli v130 c4_i32_60
  let v132 : BitVec 32 := Scalar.addi v90 v131
  let c512_i32_336 : BitVec 32 := 512#32
  let v612 : BitVec 32 := Scalar.muli v132 c512_i32_336
  let v613 : BitVec 32 := v612
  let v617 : Index := Scalar.indexCast v613
  let c0_338 : Index := 0#32
  ![v617.toNat, 0]
def k0_mult11 (i : grid0.Coords) : BitVec 32 :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c8_i32 : BitVec 32 := 8#32
  let v91 : BitVec 32 := Scalar.subi c8_i32 v90
  let c0_i32_54 : BitVec 32 := 0#32
  let v115 : BitVec 1 := Scalar.cmpi .sgt v91 c0_i32_54
  let v116 : BitVec 32 := Scalar.extui v115
  let c0_i32_55 : BitVec 32 := 0#32
  let v117 : BitVec 1 := Scalar.cmpi .slt v91 c0_i32_55
  let v118 : BitVec 32 := Scalar.extui v117
  let v119 : BitVec 32 := Scalar.subi v116 v118
  let c4_i32_53 : BitVec 32 := 4#32
  let c0_i32_56 : BitVec 32 := 0#32
  let v120 : BitVec 1 := Scalar.cmpi .sgt c4_i32_53 c0_i32_56
  let v121 : BitVec 32 := Scalar.extui v120
  let c0_i32_57 : BitVec 32 := 0#32
  let v122 : BitVec 1 := Scalar.cmpi .slt c4_i32_53 c0_i32_57
  let v123 : BitVec 32 := Scalar.extui v122
  let v124 : BitVec 32 := Scalar.subi v121 v123
  let v125 : BitVec 1 := Scalar.cmpi .ne v119 v124
  let v126 : BitVec 32 := Scalar.remsi v91 c4_i32_53
  let c0_i32_58 : BitVec 32 := 0#32
  let v127 : BitVec 1 := Scalar.cmpi .ne v126 c0_i32_58
  let v128 : BitVec 1 := Scalar.andi v125 v127
  let v114 : BitVec 32 := Scalar.divsi v91 c4_i32_53
  let c1_i32_59 : BitVec 32 := 1#32
  let v129 : BitVec 32 := Scalar.subi v114 c1_i32_59
  let v130 : BitVec 32 := Scalar.select v128 v129 v114
  let c4_i32_60 : BitVec 32 := 4#32
  let v131 : BitVec 32 := Scalar.muli v130 c4_i32_60
  let v132 : BitVec 32 := Scalar.addi v90 v131
  let c1_i32_362 : BitVec 32 := 1#32
  let v667 : BitVec 32 := Scalar.addi v132 c1_i32_362
  let c512_i32_363 : BitVec 32 := 512#32
  let v668 : BitVec 32 := Scalar.muli v667 c512_i32_363
  v668
def k0_off9 (i : grid0.Coords) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c8_i32 : BitVec 32 := 8#32
  let v91 : BitVec 32 := Scalar.subi c8_i32 v90
  let c0_i32_54 : BitVec 32 := 0#32
  let v115 : BitVec 1 := Scalar.cmpi .sgt v91 c0_i32_54
  let v116 : BitVec 32 := Scalar.extui v115
  let c0_i32_55 : BitVec 32 := 0#32
  let v117 : BitVec 1 := Scalar.cmpi .slt v91 c0_i32_55
  let v118 : BitVec 32 := Scalar.extui v117
  let v119 : BitVec 32 := Scalar.subi v116 v118
  let c4_i32_53 : BitVec 32 := 4#32
  let c0_i32_56 : BitVec 32 := 0#32
  let v120 : BitVec 1 := Scalar.cmpi .sgt c4_i32_53 c0_i32_56
  let v121 : BitVec 32 := Scalar.extui v120
  let c0_i32_57 : BitVec 32 := 0#32
  let v122 : BitVec 1 := Scalar.cmpi .slt c4_i32_53 c0_i32_57
  let v123 : BitVec 32 := Scalar.extui v122
  let v124 : BitVec 32 := Scalar.subi v121 v123
  let v125 : BitVec 1 := Scalar.cmpi .ne v119 v124
  let v126 : BitVec 32 := Scalar.remsi v91 c4_i32_53
  let c0_i32_58 : BitVec 32 := 0#32
  let v127 : BitVec 1 := Scalar.cmpi .ne v126 c0_i32_58
  let v128 : BitVec 1 := Scalar.andi v125 v127
  let v114 : BitVec 32 := Scalar.divsi v91 c4_i32_53
  let c1_i32_59 : BitVec 32 := 1#32
  let v129 : BitVec 32 := Scalar.subi v114 c1_i32_59
  let v130 : BitVec 32 := Scalar.select v128 v129 v114
  let c4_i32_60 : BitVec 32 := 4#32
  let v131 : BitVec 32 := Scalar.muli v130 c4_i32_60
  let v132 : BitVec 32 := Scalar.addi v90 v131
  let c1_i32_362 : BitVec 32 := 1#32
  let v667 : BitVec 32 := Scalar.addi v132 c1_i32_362
  let c512_i32_363 : BitVec 32 := 512#32
  let v668 : BitVec 32 := Scalar.muli v667 c512_i32_363
  let v669 : BitVec 32 := v668
  let v670 : Index := Scalar.indexCast v669
  let c0_364 : Index := 0#32
  ![v670.toNat, 0]
def k0_off10 (i : grid0.Coords) : Fin 2 → Nat :=
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let c8_i32 : BitVec 32 := 8#32
  let v91 : BitVec 32 := Scalar.subi c8_i32 v90
  let c0_i32_54 : BitVec 32 := 0#32
  let v115 : BitVec 1 := Scalar.cmpi .sgt v91 c0_i32_54
  let v116 : BitVec 32 := Scalar.extui v115
  let c0_i32_55 : BitVec 32 := 0#32
  let v117 : BitVec 1 := Scalar.cmpi .slt v91 c0_i32_55
  let v118 : BitVec 32 := Scalar.extui v117
  let v119 : BitVec 32 := Scalar.subi v116 v118
  let c4_i32_53 : BitVec 32 := 4#32
  let c0_i32_56 : BitVec 32 := 0#32
  let v120 : BitVec 1 := Scalar.cmpi .sgt c4_i32_53 c0_i32_56
  let v121 : BitVec 32 := Scalar.extui v120
  let c0_i32_57 : BitVec 32 := 0#32
  let v122 : BitVec 1 := Scalar.cmpi .slt c4_i32_53 c0_i32_57
  let v123 : BitVec 32 := Scalar.extui v122
  let v124 : BitVec 32 := Scalar.subi v121 v123
  let v125 : BitVec 1 := Scalar.cmpi .ne v119 v124
  let v126 : BitVec 32 := Scalar.remsi v91 c4_i32_53
  let c0_i32_58 : BitVec 32 := 0#32
  let v127 : BitVec 1 := Scalar.cmpi .ne v126 c0_i32_58
  let v128 : BitVec 1 := Scalar.andi v125 v127
  let v114 : BitVec 32 := Scalar.divsi v91 c4_i32_53
  let c1_i32_59 : BitVec 32 := 1#32
  let v129 : BitVec 32 := Scalar.subi v114 c1_i32_59
  let v130 : BitVec 32 := Scalar.select v128 v129 v114
  let c4_i32_60 : BitVec 32 := 4#32
  let v131 : BitVec 32 := Scalar.muli v130 c4_i32_60
  let v132 : BitVec 32 := Scalar.addi v90 v131
  let c1_i32_362 : BitVec 32 := 1#32
  let v667 : BitVec 32 := Scalar.addi v132 c1_i32_362
  let c512_i32_363 : BitVec 32 := 512#32
  let v668 : BitVec 32 := Scalar.muli v667 c512_i32_363
  let v669 : BitVec 32 := v668
  let v673 : Index := Scalar.indexCast v669
  let c0_365 : Index := 0#32
  ![v673.toNat, 0]
def k0_cond3 (i : grid0.Coords) : BitVec 1 :=
  let c8_i32 : BitVec 32 := 8#32
  let arg1 : BitVec 32 := BitVec.ofNat 32 (i 1).val
  let c4_i32 : BitVec 32 := 4#32
  let v16 : BitVec 32 := Scalar.muli arg1 c4_i32
  let c0_i32_5 : BitVec 32 := 0#32
  let v17 : BitVec 32 := Scalar.addi v16 c0_i32_5
  let c1_i32_40 : BitVec 32 := 1#32
  let v90 : BitVec 32 := Scalar.addi v17 c1_i32_40
  let v91 : BitVec 32 := Scalar.subi c8_i32 v90
  let c2_i32_69 : BitVec 32 := 2#32
  let c0_i32_70 : BitVec 32 := 0#32
  let v146 : BitVec 1 := Scalar.cmpi .eq c2_i32_69 c0_i32_70
  let c1_i32_71 : BitVec 32 := 1#32
  let v147 : BitVec 32 := Scalar.select v146 c1_i32_71 c2_i32_69
  let v148 : BitVec 32 := Scalar.remsi v91 v147
  let c0_i32_73 : BitVec 32 := 0#32
  let v150 : BitVec 1 := Scalar.cmpi .slt v148 c0_i32_73
  let c0_i32_74 : BitVec 32 := 0#32
  let v151 : BitVec 1 := Scalar.cmpi .slt v147 c0_i32_74
  let v152 : BitVec 1 := Scalar.xori v150 v151
  let c0_i32_72 : BitVec 32 := 0#32
  let v149 : BitVec 1 := Scalar.cmpi .ne v148 c0_i32_72
  let v153 : BitVec 1 := Scalar.andi v152 v149
  let v154 : BitVec 32 := Scalar.addi v148 v147
  let v155 : BitVec 32 := Scalar.select v153 v154 v148
  let c1_i32_75 : BitVec 32 := 1#32
  let v156 : BitVec 1 := Scalar.cmpi .eq v155 c1_i32_75
  let v157 : BitVec 32 := Scalar.extui v156
  let c0_i32_76 : BitVec 32 := 0#32
  let v158 : BitVec 1 := Scalar.cmpi .ne v157 c0_i32_76
  v158

def k0_mult12 : BitVec 32 :=
  let c3584_i32 : BitVec 32 := 3584#32
  c3584_i32
def k0_mult13 (i : grid0.Coords) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c512_i32_96 : BitVec 32 := 512#32
  let v179 : BitVec 32 := Scalar.muli v166 c512_i32_96
  v179
@[reducible] def k0_t3_loop (i : grid0.Coords) : Scf.Loop 32 :=
  let c0_i32_133 : BitVec 32 := 0#32
  let c8_i32_124 : BitVec 32 := 8#32
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_135 : BitVec 32 := 1#32
  ⟨c0_i32_133, v262, c1_i32_135⟩
def k0_mult14 (i : grid0.Coords) (k0_t3 : Fin (k0_t3_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_336 : BitVec 32 := 4#32
  let c0_i32_133 : BitVec 32 := 0#32
  let c1_i32_135 : BitVec 32 := 1#32
  let arg13 : BitVec 32 := Scf.iv c0_i32_133 c1_i32_135 k0_t3
  let v612 : BitVec 32 := Scalar.muli c4_i32_336 arg13
  let v613 : BitVec 32 := Scalar.addi v239 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off11 (i : grid0.Coords) (k0_t3 : Fin (k0_t3_loop i).trips) (c0_i32_337 : BitVec 32) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_336 : BitVec 32 := 4#32
  let c0_i32_133 : BitVec 32 := 0#32
  let c1_i32_135 : BitVec 32 := 1#32
  let arg13 : BitVec 32 := Scf.iv c0_i32_133 c1_i32_135 k0_t3
  let v612 : BitVec 32 := Scalar.muli c4_i32_336 arg13
  let v613 : BitVec 32 := Scalar.addi v239 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off12 (i : grid0.Coords) (k0_t3 : Fin (k0_t3_loop i).trips) (c0_i32_337 : BitVec 32) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_336 : BitVec 32 := 4#32
  let c0_i32_133 : BitVec 32 := 0#32
  let c1_i32_135 : BitVec 32 := 1#32
  let arg13 : BitVec 32 := Scf.iv c0_i32_133 c1_i32_135 k0_t3
  let v612 : BitVec 32 := Scalar.muli c4_i32_336 arg13
  let v613 : BitVec 32 := Scalar.addi v239 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult15 (i : grid0.Coords) (k0_t3 : Fin (k0_t3_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_364 : BitVec 32 := 4#32
  let c0_i32_133 : BitVec 32 := 0#32
  let c1_i32_135 : BitVec 32 := 1#32
  let arg13 : BitVec 32 := Scf.iv c0_i32_133 c1_i32_135 k0_t3
  let v670 : BitVec 32 := Scalar.muli c4_i32_364 arg13
  let v671 : BitVec 32 := Scalar.addi v239 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult16 (i : grid0.Coords) (k0_t3 : Fin (k0_t3_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_392 : BitVec 32 := 4#32
  let c0_i32_133 : BitVec 32 := 0#32
  let c1_i32_135 : BitVec 32 := 1#32
  let arg13 : BitVec 32 := Scf.iv c0_i32_133 c1_i32_135 k0_t3
  let v728 : BitVec 32 := Scalar.muli c4_i32_392 arg13
  let v729 : BitVec 32 := Scalar.addi v239 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult17 (i : grid0.Coords) (k0_t3 : Fin (k0_t3_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_420 : BitVec 32 := 4#32
  let c0_i32_133 : BitVec 32 := 0#32
  let c1_i32_135 : BitVec 32 := 1#32
  let arg13 : BitVec 32 := Scf.iv c0_i32_133 c1_i32_135 k0_t3
  let v786 : BitVec 32 := Scalar.muli c4_i32_420 arg13
  let v787 : BitVec 32 := Scalar.addi v239 v786
  let c3_i32_421 : BitVec 32 := 3#32
  let v788 : BitVec 32 := Scalar.addi v787 c3_i32_421
  let c512_i32_422 : BitVec 32 := 512#32
  let v789 : BitVec 32 := Scalar.muli v788 c512_i32_422
  v789
@[reducible] def k0_t4_loop (i : grid0.Coords) : Scf.Loop 32 :=
  let c0_i32_133 : BitVec 32 := 0#32
  let c8_i32_124 : BitVec 32 := 8#32
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let v259 : BitVec 32 := Scalar.addi c0_i32_133 v258
  let c1_i32_136 : BitVec 32 := 1#32
  ⟨v262, v259, c1_i32_136⟩
def k0_mult18 (i : grid0.Coords) (k0_t4 : Fin (k0_t4_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_336 : BitVec 32 := 4#32
  let c0_i32_133 : BitVec 32 := 0#32
  let c8_i32_124 : BitVec 32 := 8#32
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_136 : BitVec 32 := 1#32
  let arg13 : BitVec 32 := Scf.iv v262 c1_i32_136 k0_t4
  let v612 : BitVec 32 := Scalar.muli c4_i32_336 arg13
  let v613 : BitVec 32 := Scalar.addi v239 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off13 (i : grid0.Coords) (k0_t4 : Fin (k0_t4_loop i).trips) (c0_i32_337 : BitVec 32) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_336 : BitVec 32 := 4#32
  let c0_i32_133 : BitVec 32 := 0#32
  let c8_i32_124 : BitVec 32 := 8#32
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_136 : BitVec 32 := 1#32
  let arg13 : BitVec 32 := Scf.iv v262 c1_i32_136 k0_t4
  let v612 : BitVec 32 := Scalar.muli c4_i32_336 arg13
  let v613 : BitVec 32 := Scalar.addi v239 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off14 (i : grid0.Coords) (k0_t4 : Fin (k0_t4_loop i).trips) (c0_i32_337 : BitVec 32) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_336 : BitVec 32 := 4#32
  let c0_i32_133 : BitVec 32 := 0#32
  let c8_i32_124 : BitVec 32 := 8#32
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_136 : BitVec 32 := 1#32
  let arg13 : BitVec 32 := Scf.iv v262 c1_i32_136 k0_t4
  let v612 : BitVec 32 := Scalar.muli c4_i32_336 arg13
  let v613 : BitVec 32 := Scalar.addi v239 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult19 (i : grid0.Coords) (k0_t4 : Fin (k0_t4_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_364 : BitVec 32 := 4#32
  let c0_i32_133 : BitVec 32 := 0#32
  let c8_i32_124 : BitVec 32 := 8#32
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_136 : BitVec 32 := 1#32
  let arg13 : BitVec 32 := Scf.iv v262 c1_i32_136 k0_t4
  let v670 : BitVec 32 := Scalar.muli c4_i32_364 arg13
  let v671 : BitVec 32 := Scalar.addi v239 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult20 (i : grid0.Coords) (k0_t4 : Fin (k0_t4_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_392 : BitVec 32 := 4#32
  let c0_i32_133 : BitVec 32 := 0#32
  let c8_i32_124 : BitVec 32 := 8#32
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_136 : BitVec 32 := 1#32
  let arg13 : BitVec 32 := Scf.iv v262 c1_i32_136 k0_t4
  let v728 : BitVec 32 := Scalar.muli c4_i32_392 arg13
  let v729 : BitVec 32 := Scalar.addi v239 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult21 (i : grid0.Coords) (k0_t4 : Fin (k0_t4_loop i).trips) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c4_i32_420 : BitVec 32 := 4#32
  let c0_i32_133 : BitVec 32 := 0#32
  let c8_i32_124 : BitVec 32 := 8#32
  let v240 : BitVec 32 := Scalar.subi c8_i32_124 v239
  let c0_i32_126 : BitVec 32 := 0#32
  let v242 : BitVec 1 := Scalar.cmpi .sgt v240 c0_i32_126
  let v243 : BitVec 32 := Scalar.extui v242
  let c0_i32_127 : BitVec 32 := 0#32
  let v244 : BitVec 1 := Scalar.cmpi .slt v240 c0_i32_127
  let v245 : BitVec 32 := Scalar.extui v244
  let v246 : BitVec 32 := Scalar.subi v243 v245
  let c4_i32_125 : BitVec 32 := 4#32
  let c0_i32_128 : BitVec 32 := 0#32
  let v247 : BitVec 1 := Scalar.cmpi .sgt c4_i32_125 c0_i32_128
  let v248 : BitVec 32 := Scalar.extui v247
  let c0_i32_129 : BitVec 32 := 0#32
  let v249 : BitVec 1 := Scalar.cmpi .slt c4_i32_125 c0_i32_129
  let v250 : BitVec 32 := Scalar.extui v249
  let v251 : BitVec 32 := Scalar.subi v248 v250
  let v252 : BitVec 1 := Scalar.cmpi .ne v246 v251
  let v253 : BitVec 32 := Scalar.remsi v240 c4_i32_125
  let c0_i32_130 : BitVec 32 := 0#32
  let v254 : BitVec 1 := Scalar.cmpi .ne v253 c0_i32_130
  let v255 : BitVec 1 := Scalar.andi v252 v254
  let v241 : BitVec 32 := Scalar.divsi v240 c4_i32_125
  let c1_i32_131 : BitVec 32 := 1#32
  let v256 : BitVec 32 := Scalar.subi v241 c1_i32_131
  let v257 : BitVec 32 := Scalar.select v255 v256 v241
  let v258 : BitVec 32 := Scalar.subi v257 c0_i32_133
  let c1_i32_134 : BitVec 32 := 1#32
  let v260 : BitVec 32 := Scalar.divsi v258 c1_i32_134
  let v261 : BitVec 32 := Scalar.muli v260 c1_i32_134
  let v262 : BitVec 32 := Scalar.addi c0_i32_133 v261
  let c1_i32_136 : BitVec 32 := 1#32
  let arg13 : BitVec 32 := Scf.iv v262 c1_i32_136 k0_t4
  let v786 : BitVec 32 := Scalar.muli c4_i32_420 arg13
  let v787 : BitVec 32 := Scalar.addi v239 v786
  let c3_i32_421 : BitVec 32 := 3#32
  let v788 : BitVec 32 := Scalar.addi v787 c3_i32_421
  let c512_i32_422 : BitVec 32 := 512#32
  let v789 : BitVec 32 := Scalar.muli v788 c512_i32_422
  v789
def k0_cond4 (i : grid0.Coords) : BitVec 1 :=
  let c8_i32_124 : BitVec 32 := 8#32
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let v240 : BitVec 32 := Scalar.subi c8_i32_124 v239
  let c4_i32_145 : BitVec 32 := 4#32
  let c0_i32_146 : BitVec 32 := 0#32
  let v282 : BitVec 1 := Scalar.cmpi .eq c4_i32_145 c0_i32_146
  let c1_i32_147 : BitVec 32 := 1#32
  let v283 : BitVec 32 := Scalar.select v282 c1_i32_147 c4_i32_145
  let v284 : BitVec 32 := Scalar.remsi v240 v283
  let c0_i32_149 : BitVec 32 := 0#32
  let v286 : BitVec 1 := Scalar.cmpi .slt v284 c0_i32_149
  let c0_i32_150 : BitVec 32 := 0#32
  let v287 : BitVec 1 := Scalar.cmpi .slt v283 c0_i32_150
  let v288 : BitVec 1 := Scalar.xori v286 v287
  let c0_i32_148 : BitVec 32 := 0#32
  let v285 : BitVec 1 := Scalar.cmpi .ne v284 c0_i32_148
  let v289 : BitVec 1 := Scalar.andi v288 v285
  let v290 : BitVec 32 := Scalar.addi v284 v283
  let v291 : BitVec 32 := Scalar.select v289 v290 v284
  let c2_i32_151 : BitVec 32 := 2#32
  let v292 : BitVec 1 := Scalar.cmpi .sge v291 c2_i32_151
  let v293 : BitVec 32 := Scalar.extui v292
  let c0_i32_152 : BitVec 32 := 0#32
  let v294 : BitVec 1 := Scalar.cmpi .ne v293 c0_i32_152
  v294

def k0_mult22 (i : grid0.Coords) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c8_i32_124 : BitVec 32 := 8#32
  let v240 : BitVec 32 := Scalar.subi c8_i32_124 v239
  let c0_i32_138 : BitVec 32 := 0#32
  let v264 : BitVec 1 := Scalar.cmpi .sgt v240 c0_i32_138
  let v265 : BitVec 32 := Scalar.extui v264
  let c0_i32_139 : BitVec 32 := 0#32
  let v266 : BitVec 1 := Scalar.cmpi .slt v240 c0_i32_139
  let v267 : BitVec 32 := Scalar.extui v266
  let v268 : BitVec 32 := Scalar.subi v265 v267
  let c4_i32_137 : BitVec 32 := 4#32
  let c0_i32_140 : BitVec 32 := 0#32
  let v269 : BitVec 1 := Scalar.cmpi .sgt c4_i32_137 c0_i32_140
  let v270 : BitVec 32 := Scalar.extui v269
  let c0_i32_141 : BitVec 32 := 0#32
  let v271 : BitVec 1 := Scalar.cmpi .slt c4_i32_137 c0_i32_141
  let v272 : BitVec 32 := Scalar.extui v271
  let v273 : BitVec 32 := Scalar.subi v270 v272
  let v274 : BitVec 1 := Scalar.cmpi .ne v268 v273
  let v275 : BitVec 32 := Scalar.remsi v240 c4_i32_137
  let c0_i32_142 : BitVec 32 := 0#32
  let v276 : BitVec 1 := Scalar.cmpi .ne v275 c0_i32_142
  let v277 : BitVec 1 := Scalar.andi v274 v276
  let v263 : BitVec 32 := Scalar.divsi v240 c4_i32_137
  let c1_i32_143 : BitVec 32 := 1#32
  let v278 : BitVec 32 := Scalar.subi v263 c1_i32_143
  let v279 : BitVec 32 := Scalar.select v277 v278 v263
  let c4_i32_144 : BitVec 32 := 4#32
  let v280 : BitVec 32 := Scalar.muli v279 c4_i32_144
  let v281 : BitVec 32 := Scalar.addi v239 v280
  let c512_i32_336 : BitVec 32 := 512#32
  let v612 : BitVec 32 := Scalar.muli v281 c512_i32_336
  v612
def k0_off15 (i : grid0.Coords) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c8_i32_124 : BitVec 32 := 8#32
  let v240 : BitVec 32 := Scalar.subi c8_i32_124 v239
  let c0_i32_138 : BitVec 32 := 0#32
  let v264 : BitVec 1 := Scalar.cmpi .sgt v240 c0_i32_138
  let v265 : BitVec 32 := Scalar.extui v264
  let c0_i32_139 : BitVec 32 := 0#32
  let v266 : BitVec 1 := Scalar.cmpi .slt v240 c0_i32_139
  let v267 : BitVec 32 := Scalar.extui v266
  let v268 : BitVec 32 := Scalar.subi v265 v267
  let c4_i32_137 : BitVec 32 := 4#32
  let c0_i32_140 : BitVec 32 := 0#32
  let v269 : BitVec 1 := Scalar.cmpi .sgt c4_i32_137 c0_i32_140
  let v270 : BitVec 32 := Scalar.extui v269
  let c0_i32_141 : BitVec 32 := 0#32
  let v271 : BitVec 1 := Scalar.cmpi .slt c4_i32_137 c0_i32_141
  let v272 : BitVec 32 := Scalar.extui v271
  let v273 : BitVec 32 := Scalar.subi v270 v272
  let v274 : BitVec 1 := Scalar.cmpi .ne v268 v273
  let v275 : BitVec 32 := Scalar.remsi v240 c4_i32_137
  let c0_i32_142 : BitVec 32 := 0#32
  let v276 : BitVec 1 := Scalar.cmpi .ne v275 c0_i32_142
  let v277 : BitVec 1 := Scalar.andi v274 v276
  let v263 : BitVec 32 := Scalar.divsi v240 c4_i32_137
  let c1_i32_143 : BitVec 32 := 1#32
  let v278 : BitVec 32 := Scalar.subi v263 c1_i32_143
  let v279 : BitVec 32 := Scalar.select v277 v278 v263
  let c4_i32_144 : BitVec 32 := 4#32
  let v280 : BitVec 32 := Scalar.muli v279 c4_i32_144
  let v281 : BitVec 32 := Scalar.addi v239 v280
  let c512_i32_336 : BitVec 32 := 512#32
  let v612 : BitVec 32 := Scalar.muli v281 c512_i32_336
  let v613 : BitVec 32 := v612
  let v614 : Index := Scalar.indexCast v613
  let c0_337 : Index := 0#32
  ![v614.toNat, 0]
def k0_off16 (i : grid0.Coords) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c8_i32_124 : BitVec 32 := 8#32
  let v240 : BitVec 32 := Scalar.subi c8_i32_124 v239
  let c0_i32_138 : BitVec 32 := 0#32
  let v264 : BitVec 1 := Scalar.cmpi .sgt v240 c0_i32_138
  let v265 : BitVec 32 := Scalar.extui v264
  let c0_i32_139 : BitVec 32 := 0#32
  let v266 : BitVec 1 := Scalar.cmpi .slt v240 c0_i32_139
  let v267 : BitVec 32 := Scalar.extui v266
  let v268 : BitVec 32 := Scalar.subi v265 v267
  let c4_i32_137 : BitVec 32 := 4#32
  let c0_i32_140 : BitVec 32 := 0#32
  let v269 : BitVec 1 := Scalar.cmpi .sgt c4_i32_137 c0_i32_140
  let v270 : BitVec 32 := Scalar.extui v269
  let c0_i32_141 : BitVec 32 := 0#32
  let v271 : BitVec 1 := Scalar.cmpi .slt c4_i32_137 c0_i32_141
  let v272 : BitVec 32 := Scalar.extui v271
  let v273 : BitVec 32 := Scalar.subi v270 v272
  let v274 : BitVec 1 := Scalar.cmpi .ne v268 v273
  let v275 : BitVec 32 := Scalar.remsi v240 c4_i32_137
  let c0_i32_142 : BitVec 32 := 0#32
  let v276 : BitVec 1 := Scalar.cmpi .ne v275 c0_i32_142
  let v277 : BitVec 1 := Scalar.andi v274 v276
  let v263 : BitVec 32 := Scalar.divsi v240 c4_i32_137
  let c1_i32_143 : BitVec 32 := 1#32
  let v278 : BitVec 32 := Scalar.subi v263 c1_i32_143
  let v279 : BitVec 32 := Scalar.select v277 v278 v263
  let c4_i32_144 : BitVec 32 := 4#32
  let v280 : BitVec 32 := Scalar.muli v279 c4_i32_144
  let v281 : BitVec 32 := Scalar.addi v239 v280
  let c512_i32_336 : BitVec 32 := 512#32
  let v612 : BitVec 32 := Scalar.muli v281 c512_i32_336
  let v613 : BitVec 32 := v612
  let v617 : Index := Scalar.indexCast v613
  let c0_338 : Index := 0#32
  ![v617.toNat, 0]
def k0_mult23 (i : grid0.Coords) : BitVec 32 :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c8_i32_124 : BitVec 32 := 8#32
  let v240 : BitVec 32 := Scalar.subi c8_i32_124 v239
  let c0_i32_138 : BitVec 32 := 0#32
  let v264 : BitVec 1 := Scalar.cmpi .sgt v240 c0_i32_138
  let v265 : BitVec 32 := Scalar.extui v264
  let c0_i32_139 : BitVec 32 := 0#32
  let v266 : BitVec 1 := Scalar.cmpi .slt v240 c0_i32_139
  let v267 : BitVec 32 := Scalar.extui v266
  let v268 : BitVec 32 := Scalar.subi v265 v267
  let c4_i32_137 : BitVec 32 := 4#32
  let c0_i32_140 : BitVec 32 := 0#32
  let v269 : BitVec 1 := Scalar.cmpi .sgt c4_i32_137 c0_i32_140
  let v270 : BitVec 32 := Scalar.extui v269
  let c0_i32_141 : BitVec 32 := 0#32
  let v271 : BitVec 1 := Scalar.cmpi .slt c4_i32_137 c0_i32_141
  let v272 : BitVec 32 := Scalar.extui v271
  let v273 : BitVec 32 := Scalar.subi v270 v272
  let v274 : BitVec 1 := Scalar.cmpi .ne v268 v273
  let v275 : BitVec 32 := Scalar.remsi v240 c4_i32_137
  let c0_i32_142 : BitVec 32 := 0#32
  let v276 : BitVec 1 := Scalar.cmpi .ne v275 c0_i32_142
  let v277 : BitVec 1 := Scalar.andi v274 v276
  let v263 : BitVec 32 := Scalar.divsi v240 c4_i32_137
  let c1_i32_143 : BitVec 32 := 1#32
  let v278 : BitVec 32 := Scalar.subi v263 c1_i32_143
  let v279 : BitVec 32 := Scalar.select v277 v278 v263
  let c4_i32_144 : BitVec 32 := 4#32
  let v280 : BitVec 32 := Scalar.muli v279 c4_i32_144
  let v281 : BitVec 32 := Scalar.addi v239 v280
  let c1_i32_362 : BitVec 32 := 1#32
  let v667 : BitVec 32 := Scalar.addi v281 c1_i32_362
  let c512_i32_363 : BitVec 32 := 512#32
  let v668 : BitVec 32 := Scalar.muli v667 c512_i32_363
  v668
def k0_off17 (i : grid0.Coords) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c8_i32_124 : BitVec 32 := 8#32
  let v240 : BitVec 32 := Scalar.subi c8_i32_124 v239
  let c0_i32_138 : BitVec 32 := 0#32
  let v264 : BitVec 1 := Scalar.cmpi .sgt v240 c0_i32_138
  let v265 : BitVec 32 := Scalar.extui v264
  let c0_i32_139 : BitVec 32 := 0#32
  let v266 : BitVec 1 := Scalar.cmpi .slt v240 c0_i32_139
  let v267 : BitVec 32 := Scalar.extui v266
  let v268 : BitVec 32 := Scalar.subi v265 v267
  let c4_i32_137 : BitVec 32 := 4#32
  let c0_i32_140 : BitVec 32 := 0#32
  let v269 : BitVec 1 := Scalar.cmpi .sgt c4_i32_137 c0_i32_140
  let v270 : BitVec 32 := Scalar.extui v269
  let c0_i32_141 : BitVec 32 := 0#32
  let v271 : BitVec 1 := Scalar.cmpi .slt c4_i32_137 c0_i32_141
  let v272 : BitVec 32 := Scalar.extui v271
  let v273 : BitVec 32 := Scalar.subi v270 v272
  let v274 : BitVec 1 := Scalar.cmpi .ne v268 v273
  let v275 : BitVec 32 := Scalar.remsi v240 c4_i32_137
  let c0_i32_142 : BitVec 32 := 0#32
  let v276 : BitVec 1 := Scalar.cmpi .ne v275 c0_i32_142
  let v277 : BitVec 1 := Scalar.andi v274 v276
  let v263 : BitVec 32 := Scalar.divsi v240 c4_i32_137
  let c1_i32_143 : BitVec 32 := 1#32
  let v278 : BitVec 32 := Scalar.subi v263 c1_i32_143
  let v279 : BitVec 32 := Scalar.select v277 v278 v263
  let c4_i32_144 : BitVec 32 := 4#32
  let v280 : BitVec 32 := Scalar.muli v279 c4_i32_144
  let v281 : BitVec 32 := Scalar.addi v239 v280
  let c1_i32_362 : BitVec 32 := 1#32
  let v667 : BitVec 32 := Scalar.addi v281 c1_i32_362
  let c512_i32_363 : BitVec 32 := 512#32
  let v668 : BitVec 32 := Scalar.muli v667 c512_i32_363
  let v669 : BitVec 32 := v668
  let v670 : Index := Scalar.indexCast v669
  let c0_364 : Index := 0#32
  ![v670.toNat, 0]
def k0_off18 (i : grid0.Coords) : Fin 2 → Nat :=
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let c8_i32_124 : BitVec 32 := 8#32
  let v240 : BitVec 32 := Scalar.subi c8_i32_124 v239
  let c0_i32_138 : BitVec 32 := 0#32
  let v264 : BitVec 1 := Scalar.cmpi .sgt v240 c0_i32_138
  let v265 : BitVec 32 := Scalar.extui v264
  let c0_i32_139 : BitVec 32 := 0#32
  let v266 : BitVec 1 := Scalar.cmpi .slt v240 c0_i32_139
  let v267 : BitVec 32 := Scalar.extui v266
  let v268 : BitVec 32 := Scalar.subi v265 v267
  let c4_i32_137 : BitVec 32 := 4#32
  let c0_i32_140 : BitVec 32 := 0#32
  let v269 : BitVec 1 := Scalar.cmpi .sgt c4_i32_137 c0_i32_140
  let v270 : BitVec 32 := Scalar.extui v269
  let c0_i32_141 : BitVec 32 := 0#32
  let v271 : BitVec 1 := Scalar.cmpi .slt c4_i32_137 c0_i32_141
  let v272 : BitVec 32 := Scalar.extui v271
  let v273 : BitVec 32 := Scalar.subi v270 v272
  let v274 : BitVec 1 := Scalar.cmpi .ne v268 v273
  let v275 : BitVec 32 := Scalar.remsi v240 c4_i32_137
  let c0_i32_142 : BitVec 32 := 0#32
  let v276 : BitVec 1 := Scalar.cmpi .ne v275 c0_i32_142
  let v277 : BitVec 1 := Scalar.andi v274 v276
  let v263 : BitVec 32 := Scalar.divsi v240 c4_i32_137
  let c1_i32_143 : BitVec 32 := 1#32
  let v278 : BitVec 32 := Scalar.subi v263 c1_i32_143
  let v279 : BitVec 32 := Scalar.select v277 v278 v263
  let c4_i32_144 : BitVec 32 := 4#32
  let v280 : BitVec 32 := Scalar.muli v279 c4_i32_144
  let v281 : BitVec 32 := Scalar.addi v239 v280
  let c1_i32_362 : BitVec 32 := 1#32
  let v667 : BitVec 32 := Scalar.addi v281 c1_i32_362
  let c512_i32_363 : BitVec 32 := 512#32
  let v668 : BitVec 32 := Scalar.muli v667 c512_i32_363
  let v669 : BitVec 32 := v668
  let v673 : Index := Scalar.indexCast v669
  let c0_365 : Index := 0#32
  ![v673.toNat, 0]
def k0_cond5 (i : grid0.Coords) : BitVec 1 :=
  let c8_i32_124 : BitVec 32 := 8#32
  let arg1 : BitVec 32 := BitVec.ofNat 32 (i 1).val
  let c4_i32_85 : BitVec 32 := 4#32
  let v165 : BitVec 32 := Scalar.muli arg1 c4_i32_85
  let c1_i32_86 : BitVec 32 := 1#32
  let v166 : BitVec 32 := Scalar.addi v165 c1_i32_86
  let c1_i32_123 : BitVec 32 := 1#32
  let v239 : BitVec 32 := Scalar.addi v166 c1_i32_123
  let v240 : BitVec 32 := Scalar.subi c8_i32_124 v239
  let c2_i32_153 : BitVec 32 := 2#32
  let c0_i32_154 : BitVec 32 := 0#32
  let v295 : BitVec 1 := Scalar.cmpi .eq c2_i32_153 c0_i32_154
  let c1_i32_155 : BitVec 32 := 1#32
  let v296 : BitVec 32 := Scalar.select v295 c1_i32_155 c2_i32_153
  let v297 : BitVec 32 := Scalar.remsi v240 v296
  let c0_i32_157 : BitVec 32 := 0#32
  let v299 : BitVec 1 := Scalar.cmpi .slt v297 c0_i32_157
  let c0_i32_158 : BitVec 32 := 0#32
  let v300 : BitVec 1 := Scalar.cmpi .slt v296 c0_i32_158
  let v301 : BitVec 1 := Scalar.xori v299 v300
  let c0_i32_156 : BitVec 32 := 0#32
  let v298 : BitVec 1 := Scalar.cmpi .ne v297 c0_i32_156
  let v302 : BitVec 1 := Scalar.andi v301 v298
  let v303 : BitVec 32 := Scalar.addi v297 v296
  let v304 : BitVec 32 := Scalar.select v302 v303 v297
  let c1_i32_159 : BitVec 32 := 1#32
  let v305 : BitVec 1 := Scalar.cmpi .eq v304 c1_i32_159
  let v306 : BitVec 32 := Scalar.extui v305
  let c0_i32_160 : BitVec 32 := 0#32
  let v307 : BitVec 1 := Scalar.cmpi .ne v306 c0_i32_160
  v307

def k0_mult24 : BitVec 32 :=
  let c3584_i32 : BitVec 32 := 3584#32
  c3584_i32
def k0_mult25 (i : grid0.Coords) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c512_i32_180 : BitVec 32 := 512#32
  let v328 : BitVec 32 := Scalar.muli v315 c512_i32_180
  v328
@[reducible] def k0_t5_loop (i : grid0.Coords) : Scf.Loop 32 :=
  let c0_i32_217 : BitVec 32 := 0#32
  let c8_i32_208 : BitVec 32 := 8#32
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_219 : BitVec 32 := 1#32
  ⟨c0_i32_217, v411, c1_i32_219⟩
def k0_mult26 (i : grid0.Coords) (k0_t5 : Fin (k0_t5_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_336 : BitVec 32 := 4#32
  let c0_i32_217 : BitVec 32 := 0#32
  let c1_i32_219 : BitVec 32 := 1#32
  let arg13 : BitVec 32 := Scf.iv c0_i32_217 c1_i32_219 k0_t5
  let v612 : BitVec 32 := Scalar.muli c4_i32_336 arg13
  let v613 : BitVec 32 := Scalar.addi v388 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off19 (i : grid0.Coords) (k0_t5 : Fin (k0_t5_loop i).trips) (c0_i32_337 : BitVec 32) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_336 : BitVec 32 := 4#32
  let c0_i32_217 : BitVec 32 := 0#32
  let c1_i32_219 : BitVec 32 := 1#32
  let arg13 : BitVec 32 := Scf.iv c0_i32_217 c1_i32_219 k0_t5
  let v612 : BitVec 32 := Scalar.muli c4_i32_336 arg13
  let v613 : BitVec 32 := Scalar.addi v388 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off20 (i : grid0.Coords) (k0_t5 : Fin (k0_t5_loop i).trips) (c0_i32_337 : BitVec 32) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_336 : BitVec 32 := 4#32
  let c0_i32_217 : BitVec 32 := 0#32
  let c1_i32_219 : BitVec 32 := 1#32
  let arg13 : BitVec 32 := Scf.iv c0_i32_217 c1_i32_219 k0_t5
  let v612 : BitVec 32 := Scalar.muli c4_i32_336 arg13
  let v613 : BitVec 32 := Scalar.addi v388 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult27 (i : grid0.Coords) (k0_t5 : Fin (k0_t5_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_364 : BitVec 32 := 4#32
  let c0_i32_217 : BitVec 32 := 0#32
  let c1_i32_219 : BitVec 32 := 1#32
  let arg13 : BitVec 32 := Scf.iv c0_i32_217 c1_i32_219 k0_t5
  let v670 : BitVec 32 := Scalar.muli c4_i32_364 arg13
  let v671 : BitVec 32 := Scalar.addi v388 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult28 (i : grid0.Coords) (k0_t5 : Fin (k0_t5_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_392 : BitVec 32 := 4#32
  let c0_i32_217 : BitVec 32 := 0#32
  let c1_i32_219 : BitVec 32 := 1#32
  let arg13 : BitVec 32 := Scf.iv c0_i32_217 c1_i32_219 k0_t5
  let v728 : BitVec 32 := Scalar.muli c4_i32_392 arg13
  let v729 : BitVec 32 := Scalar.addi v388 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult29 (i : grid0.Coords) (k0_t5 : Fin (k0_t5_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_420 : BitVec 32 := 4#32
  let c0_i32_217 : BitVec 32 := 0#32
  let c1_i32_219 : BitVec 32 := 1#32
  let arg13 : BitVec 32 := Scf.iv c0_i32_217 c1_i32_219 k0_t5
  let v786 : BitVec 32 := Scalar.muli c4_i32_420 arg13
  let v787 : BitVec 32 := Scalar.addi v388 v786
  let c3_i32_421 : BitVec 32 := 3#32
  let v788 : BitVec 32 := Scalar.addi v787 c3_i32_421
  let c512_i32_422 : BitVec 32 := 512#32
  let v789 : BitVec 32 := Scalar.muli v788 c512_i32_422
  v789
@[reducible] def k0_t6_loop (i : grid0.Coords) : Scf.Loop 32 :=
  let c0_i32_217 : BitVec 32 := 0#32
  let c8_i32_208 : BitVec 32 := 8#32
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let v408 : BitVec 32 := Scalar.addi c0_i32_217 v407
  let c1_i32_220 : BitVec 32 := 1#32
  ⟨v411, v408, c1_i32_220⟩
def k0_mult30 (i : grid0.Coords) (k0_t6 : Fin (k0_t6_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_336 : BitVec 32 := 4#32
  let c0_i32_217 : BitVec 32 := 0#32
  let c8_i32_208 : BitVec 32 := 8#32
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_220 : BitVec 32 := 1#32
  let arg13 : BitVec 32 := Scf.iv v411 c1_i32_220 k0_t6
  let v612 : BitVec 32 := Scalar.muli c4_i32_336 arg13
  let v613 : BitVec 32 := Scalar.addi v388 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off21 (i : grid0.Coords) (k0_t6 : Fin (k0_t6_loop i).trips) (c0_i32_337 : BitVec 32) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_336 : BitVec 32 := 4#32
  let c0_i32_217 : BitVec 32 := 0#32
  let c8_i32_208 : BitVec 32 := 8#32
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_220 : BitVec 32 := 1#32
  let arg13 : BitVec 32 := Scf.iv v411 c1_i32_220 k0_t6
  let v612 : BitVec 32 := Scalar.muli c4_i32_336 arg13
  let v613 : BitVec 32 := Scalar.addi v388 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off22 (i : grid0.Coords) (k0_t6 : Fin (k0_t6_loop i).trips) (c0_i32_337 : BitVec 32) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_336 : BitVec 32 := 4#32
  let c0_i32_217 : BitVec 32 := 0#32
  let c8_i32_208 : BitVec 32 := 8#32
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_220 : BitVec 32 := 1#32
  let arg13 : BitVec 32 := Scf.iv v411 c1_i32_220 k0_t6
  let v612 : BitVec 32 := Scalar.muli c4_i32_336 arg13
  let v613 : BitVec 32 := Scalar.addi v388 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult31 (i : grid0.Coords) (k0_t6 : Fin (k0_t6_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_364 : BitVec 32 := 4#32
  let c0_i32_217 : BitVec 32 := 0#32
  let c8_i32_208 : BitVec 32 := 8#32
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_220 : BitVec 32 := 1#32
  let arg13 : BitVec 32 := Scf.iv v411 c1_i32_220 k0_t6
  let v670 : BitVec 32 := Scalar.muli c4_i32_364 arg13
  let v671 : BitVec 32 := Scalar.addi v388 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult32 (i : grid0.Coords) (k0_t6 : Fin (k0_t6_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_392 : BitVec 32 := 4#32
  let c0_i32_217 : BitVec 32 := 0#32
  let c8_i32_208 : BitVec 32 := 8#32
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_220 : BitVec 32 := 1#32
  let arg13 : BitVec 32 := Scf.iv v411 c1_i32_220 k0_t6
  let v728 : BitVec 32 := Scalar.muli c4_i32_392 arg13
  let v729 : BitVec 32 := Scalar.addi v388 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult33 (i : grid0.Coords) (k0_t6 : Fin (k0_t6_loop i).trips) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c4_i32_420 : BitVec 32 := 4#32
  let c0_i32_217 : BitVec 32 := 0#32
  let c8_i32_208 : BitVec 32 := 8#32
  let v389 : BitVec 32 := Scalar.subi c8_i32_208 v388
  let c0_i32_210 : BitVec 32 := 0#32
  let v391 : BitVec 1 := Scalar.cmpi .sgt v389 c0_i32_210
  let v392 : BitVec 32 := Scalar.extui v391
  let c0_i32_211 : BitVec 32 := 0#32
  let v393 : BitVec 1 := Scalar.cmpi .slt v389 c0_i32_211
  let v394 : BitVec 32 := Scalar.extui v393
  let v395 : BitVec 32 := Scalar.subi v392 v394
  let c4_i32_209 : BitVec 32 := 4#32
  let c0_i32_212 : BitVec 32 := 0#32
  let v396 : BitVec 1 := Scalar.cmpi .sgt c4_i32_209 c0_i32_212
  let v397 : BitVec 32 := Scalar.extui v396
  let c0_i32_213 : BitVec 32 := 0#32
  let v398 : BitVec 1 := Scalar.cmpi .slt c4_i32_209 c0_i32_213
  let v399 : BitVec 32 := Scalar.extui v398
  let v400 : BitVec 32 := Scalar.subi v397 v399
  let v401 : BitVec 1 := Scalar.cmpi .ne v395 v400
  let v402 : BitVec 32 := Scalar.remsi v389 c4_i32_209
  let c0_i32_214 : BitVec 32 := 0#32
  let v403 : BitVec 1 := Scalar.cmpi .ne v402 c0_i32_214
  let v404 : BitVec 1 := Scalar.andi v401 v403
  let v390 : BitVec 32 := Scalar.divsi v389 c4_i32_209
  let c1_i32_215 : BitVec 32 := 1#32
  let v405 : BitVec 32 := Scalar.subi v390 c1_i32_215
  let v406 : BitVec 32 := Scalar.select v404 v405 v390
  let v407 : BitVec 32 := Scalar.subi v406 c0_i32_217
  let c1_i32_218 : BitVec 32 := 1#32
  let v409 : BitVec 32 := Scalar.divsi v407 c1_i32_218
  let v410 : BitVec 32 := Scalar.muli v409 c1_i32_218
  let v411 : BitVec 32 := Scalar.addi c0_i32_217 v410
  let c1_i32_220 : BitVec 32 := 1#32
  let arg13 : BitVec 32 := Scf.iv v411 c1_i32_220 k0_t6
  let v786 : BitVec 32 := Scalar.muli c4_i32_420 arg13
  let v787 : BitVec 32 := Scalar.addi v388 v786
  let c3_i32_421 : BitVec 32 := 3#32
  let v788 : BitVec 32 := Scalar.addi v787 c3_i32_421
  let c512_i32_422 : BitVec 32 := 512#32
  let v789 : BitVec 32 := Scalar.muli v788 c512_i32_422
  v789
def k0_cond6 (i : grid0.Coords) : BitVec 1 :=
  let c8_i32_208 : BitVec 32 := 8#32
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let v389 : BitVec 32 := Scalar.subi c8_i32_208 v388
  let c4_i32_229 : BitVec 32 := 4#32
  let c0_i32_230 : BitVec 32 := 0#32
  let v431 : BitVec 1 := Scalar.cmpi .eq c4_i32_229 c0_i32_230
  let c1_i32_231 : BitVec 32 := 1#32
  let v432 : BitVec 32 := Scalar.select v431 c1_i32_231 c4_i32_229
  let v433 : BitVec 32 := Scalar.remsi v389 v432
  let c0_i32_233 : BitVec 32 := 0#32
  let v435 : BitVec 1 := Scalar.cmpi .slt v433 c0_i32_233
  let c0_i32_234 : BitVec 32 := 0#32
  let v436 : BitVec 1 := Scalar.cmpi .slt v432 c0_i32_234
  let v437 : BitVec 1 := Scalar.xori v435 v436
  let c0_i32_232 : BitVec 32 := 0#32
  let v434 : BitVec 1 := Scalar.cmpi .ne v433 c0_i32_232
  let v438 : BitVec 1 := Scalar.andi v437 v434
  let v439 : BitVec 32 := Scalar.addi v433 v432
  let v440 : BitVec 32 := Scalar.select v438 v439 v433
  let c2_i32_235 : BitVec 32 := 2#32
  let v441 : BitVec 1 := Scalar.cmpi .sge v440 c2_i32_235
  let v442 : BitVec 32 := Scalar.extui v441
  let c0_i32_236 : BitVec 32 := 0#32
  let v443 : BitVec 1 := Scalar.cmpi .ne v442 c0_i32_236
  v443

def k0_mult34 (i : grid0.Coords) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c8_i32_208 : BitVec 32 := 8#32
  let v389 : BitVec 32 := Scalar.subi c8_i32_208 v388
  let c0_i32_222 : BitVec 32 := 0#32
  let v413 : BitVec 1 := Scalar.cmpi .sgt v389 c0_i32_222
  let v414 : BitVec 32 := Scalar.extui v413
  let c0_i32_223 : BitVec 32 := 0#32
  let v415 : BitVec 1 := Scalar.cmpi .slt v389 c0_i32_223
  let v416 : BitVec 32 := Scalar.extui v415
  let v417 : BitVec 32 := Scalar.subi v414 v416
  let c4_i32_221 : BitVec 32 := 4#32
  let c0_i32_224 : BitVec 32 := 0#32
  let v418 : BitVec 1 := Scalar.cmpi .sgt c4_i32_221 c0_i32_224
  let v419 : BitVec 32 := Scalar.extui v418
  let c0_i32_225 : BitVec 32 := 0#32
  let v420 : BitVec 1 := Scalar.cmpi .slt c4_i32_221 c0_i32_225
  let v421 : BitVec 32 := Scalar.extui v420
  let v422 : BitVec 32 := Scalar.subi v419 v421
  let v423 : BitVec 1 := Scalar.cmpi .ne v417 v422
  let v424 : BitVec 32 := Scalar.remsi v389 c4_i32_221
  let c0_i32_226 : BitVec 32 := 0#32
  let v425 : BitVec 1 := Scalar.cmpi .ne v424 c0_i32_226
  let v426 : BitVec 1 := Scalar.andi v423 v425
  let v412 : BitVec 32 := Scalar.divsi v389 c4_i32_221
  let c1_i32_227 : BitVec 32 := 1#32
  let v427 : BitVec 32 := Scalar.subi v412 c1_i32_227
  let v428 : BitVec 32 := Scalar.select v426 v427 v412
  let c4_i32_228 : BitVec 32 := 4#32
  let v429 : BitVec 32 := Scalar.muli v428 c4_i32_228
  let v430 : BitVec 32 := Scalar.addi v388 v429
  let c512_i32_336 : BitVec 32 := 512#32
  let v612 : BitVec 32 := Scalar.muli v430 c512_i32_336
  v612
def k0_off23 (i : grid0.Coords) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c8_i32_208 : BitVec 32 := 8#32
  let v389 : BitVec 32 := Scalar.subi c8_i32_208 v388
  let c0_i32_222 : BitVec 32 := 0#32
  let v413 : BitVec 1 := Scalar.cmpi .sgt v389 c0_i32_222
  let v414 : BitVec 32 := Scalar.extui v413
  let c0_i32_223 : BitVec 32 := 0#32
  let v415 : BitVec 1 := Scalar.cmpi .slt v389 c0_i32_223
  let v416 : BitVec 32 := Scalar.extui v415
  let v417 : BitVec 32 := Scalar.subi v414 v416
  let c4_i32_221 : BitVec 32 := 4#32
  let c0_i32_224 : BitVec 32 := 0#32
  let v418 : BitVec 1 := Scalar.cmpi .sgt c4_i32_221 c0_i32_224
  let v419 : BitVec 32 := Scalar.extui v418
  let c0_i32_225 : BitVec 32 := 0#32
  let v420 : BitVec 1 := Scalar.cmpi .slt c4_i32_221 c0_i32_225
  let v421 : BitVec 32 := Scalar.extui v420
  let v422 : BitVec 32 := Scalar.subi v419 v421
  let v423 : BitVec 1 := Scalar.cmpi .ne v417 v422
  let v424 : BitVec 32 := Scalar.remsi v389 c4_i32_221
  let c0_i32_226 : BitVec 32 := 0#32
  let v425 : BitVec 1 := Scalar.cmpi .ne v424 c0_i32_226
  let v426 : BitVec 1 := Scalar.andi v423 v425
  let v412 : BitVec 32 := Scalar.divsi v389 c4_i32_221
  let c1_i32_227 : BitVec 32 := 1#32
  let v427 : BitVec 32 := Scalar.subi v412 c1_i32_227
  let v428 : BitVec 32 := Scalar.select v426 v427 v412
  let c4_i32_228 : BitVec 32 := 4#32
  let v429 : BitVec 32 := Scalar.muli v428 c4_i32_228
  let v430 : BitVec 32 := Scalar.addi v388 v429
  let c512_i32_336 : BitVec 32 := 512#32
  let v612 : BitVec 32 := Scalar.muli v430 c512_i32_336
  let v613 : BitVec 32 := v612
  let v614 : Index := Scalar.indexCast v613
  let c0_337 : Index := 0#32
  ![v614.toNat, 0]
def k0_off24 (i : grid0.Coords) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c8_i32_208 : BitVec 32 := 8#32
  let v389 : BitVec 32 := Scalar.subi c8_i32_208 v388
  let c0_i32_222 : BitVec 32 := 0#32
  let v413 : BitVec 1 := Scalar.cmpi .sgt v389 c0_i32_222
  let v414 : BitVec 32 := Scalar.extui v413
  let c0_i32_223 : BitVec 32 := 0#32
  let v415 : BitVec 1 := Scalar.cmpi .slt v389 c0_i32_223
  let v416 : BitVec 32 := Scalar.extui v415
  let v417 : BitVec 32 := Scalar.subi v414 v416
  let c4_i32_221 : BitVec 32 := 4#32
  let c0_i32_224 : BitVec 32 := 0#32
  let v418 : BitVec 1 := Scalar.cmpi .sgt c4_i32_221 c0_i32_224
  let v419 : BitVec 32 := Scalar.extui v418
  let c0_i32_225 : BitVec 32 := 0#32
  let v420 : BitVec 1 := Scalar.cmpi .slt c4_i32_221 c0_i32_225
  let v421 : BitVec 32 := Scalar.extui v420
  let v422 : BitVec 32 := Scalar.subi v419 v421
  let v423 : BitVec 1 := Scalar.cmpi .ne v417 v422
  let v424 : BitVec 32 := Scalar.remsi v389 c4_i32_221
  let c0_i32_226 : BitVec 32 := 0#32
  let v425 : BitVec 1 := Scalar.cmpi .ne v424 c0_i32_226
  let v426 : BitVec 1 := Scalar.andi v423 v425
  let v412 : BitVec 32 := Scalar.divsi v389 c4_i32_221
  let c1_i32_227 : BitVec 32 := 1#32
  let v427 : BitVec 32 := Scalar.subi v412 c1_i32_227
  let v428 : BitVec 32 := Scalar.select v426 v427 v412
  let c4_i32_228 : BitVec 32 := 4#32
  let v429 : BitVec 32 := Scalar.muli v428 c4_i32_228
  let v430 : BitVec 32 := Scalar.addi v388 v429
  let c512_i32_336 : BitVec 32 := 512#32
  let v612 : BitVec 32 := Scalar.muli v430 c512_i32_336
  let v613 : BitVec 32 := v612
  let v617 : Index := Scalar.indexCast v613
  let c0_338 : Index := 0#32
  ![v617.toNat, 0]
def k0_mult35 (i : grid0.Coords) : BitVec 32 :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c8_i32_208 : BitVec 32 := 8#32
  let v389 : BitVec 32 := Scalar.subi c8_i32_208 v388
  let c0_i32_222 : BitVec 32 := 0#32
  let v413 : BitVec 1 := Scalar.cmpi .sgt v389 c0_i32_222
  let v414 : BitVec 32 := Scalar.extui v413
  let c0_i32_223 : BitVec 32 := 0#32
  let v415 : BitVec 1 := Scalar.cmpi .slt v389 c0_i32_223
  let v416 : BitVec 32 := Scalar.extui v415
  let v417 : BitVec 32 := Scalar.subi v414 v416
  let c4_i32_221 : BitVec 32 := 4#32
  let c0_i32_224 : BitVec 32 := 0#32
  let v418 : BitVec 1 := Scalar.cmpi .sgt c4_i32_221 c0_i32_224
  let v419 : BitVec 32 := Scalar.extui v418
  let c0_i32_225 : BitVec 32 := 0#32
  let v420 : BitVec 1 := Scalar.cmpi .slt c4_i32_221 c0_i32_225
  let v421 : BitVec 32 := Scalar.extui v420
  let v422 : BitVec 32 := Scalar.subi v419 v421
  let v423 : BitVec 1 := Scalar.cmpi .ne v417 v422
  let v424 : BitVec 32 := Scalar.remsi v389 c4_i32_221
  let c0_i32_226 : BitVec 32 := 0#32
  let v425 : BitVec 1 := Scalar.cmpi .ne v424 c0_i32_226
  let v426 : BitVec 1 := Scalar.andi v423 v425
  let v412 : BitVec 32 := Scalar.divsi v389 c4_i32_221
  let c1_i32_227 : BitVec 32 := 1#32
  let v427 : BitVec 32 := Scalar.subi v412 c1_i32_227
  let v428 : BitVec 32 := Scalar.select v426 v427 v412
  let c4_i32_228 : BitVec 32 := 4#32
  let v429 : BitVec 32 := Scalar.muli v428 c4_i32_228
  let v430 : BitVec 32 := Scalar.addi v388 v429
  let c1_i32_362 : BitVec 32 := 1#32
  let v667 : BitVec 32 := Scalar.addi v430 c1_i32_362
  let c512_i32_363 : BitVec 32 := 512#32
  let v668 : BitVec 32 := Scalar.muli v667 c512_i32_363
  v668
def k0_off25 (i : grid0.Coords) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c8_i32_208 : BitVec 32 := 8#32
  let v389 : BitVec 32 := Scalar.subi c8_i32_208 v388
  let c0_i32_222 : BitVec 32 := 0#32
  let v413 : BitVec 1 := Scalar.cmpi .sgt v389 c0_i32_222
  let v414 : BitVec 32 := Scalar.extui v413
  let c0_i32_223 : BitVec 32 := 0#32
  let v415 : BitVec 1 := Scalar.cmpi .slt v389 c0_i32_223
  let v416 : BitVec 32 := Scalar.extui v415
  let v417 : BitVec 32 := Scalar.subi v414 v416
  let c4_i32_221 : BitVec 32 := 4#32
  let c0_i32_224 : BitVec 32 := 0#32
  let v418 : BitVec 1 := Scalar.cmpi .sgt c4_i32_221 c0_i32_224
  let v419 : BitVec 32 := Scalar.extui v418
  let c0_i32_225 : BitVec 32 := 0#32
  let v420 : BitVec 1 := Scalar.cmpi .slt c4_i32_221 c0_i32_225
  let v421 : BitVec 32 := Scalar.extui v420
  let v422 : BitVec 32 := Scalar.subi v419 v421
  let v423 : BitVec 1 := Scalar.cmpi .ne v417 v422
  let v424 : BitVec 32 := Scalar.remsi v389 c4_i32_221
  let c0_i32_226 : BitVec 32 := 0#32
  let v425 : BitVec 1 := Scalar.cmpi .ne v424 c0_i32_226
  let v426 : BitVec 1 := Scalar.andi v423 v425
  let v412 : BitVec 32 := Scalar.divsi v389 c4_i32_221
  let c1_i32_227 : BitVec 32 := 1#32
  let v427 : BitVec 32 := Scalar.subi v412 c1_i32_227
  let v428 : BitVec 32 := Scalar.select v426 v427 v412
  let c4_i32_228 : BitVec 32 := 4#32
  let v429 : BitVec 32 := Scalar.muli v428 c4_i32_228
  let v430 : BitVec 32 := Scalar.addi v388 v429
  let c1_i32_362 : BitVec 32 := 1#32
  let v667 : BitVec 32 := Scalar.addi v430 c1_i32_362
  let c512_i32_363 : BitVec 32 := 512#32
  let v668 : BitVec 32 := Scalar.muli v667 c512_i32_363
  let v669 : BitVec 32 := v668
  let v670 : Index := Scalar.indexCast v669
  let c0_364 : Index := 0#32
  ![v670.toNat, 0]
def k0_off26 (i : grid0.Coords) : Fin 2 → Nat :=
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let c8_i32_208 : BitVec 32 := 8#32
  let v389 : BitVec 32 := Scalar.subi c8_i32_208 v388
  let c0_i32_222 : BitVec 32 := 0#32
  let v413 : BitVec 1 := Scalar.cmpi .sgt v389 c0_i32_222
  let v414 : BitVec 32 := Scalar.extui v413
  let c0_i32_223 : BitVec 32 := 0#32
  let v415 : BitVec 1 := Scalar.cmpi .slt v389 c0_i32_223
  let v416 : BitVec 32 := Scalar.extui v415
  let v417 : BitVec 32 := Scalar.subi v414 v416
  let c4_i32_221 : BitVec 32 := 4#32
  let c0_i32_224 : BitVec 32 := 0#32
  let v418 : BitVec 1 := Scalar.cmpi .sgt c4_i32_221 c0_i32_224
  let v419 : BitVec 32 := Scalar.extui v418
  let c0_i32_225 : BitVec 32 := 0#32
  let v420 : BitVec 1 := Scalar.cmpi .slt c4_i32_221 c0_i32_225
  let v421 : BitVec 32 := Scalar.extui v420
  let v422 : BitVec 32 := Scalar.subi v419 v421
  let v423 : BitVec 1 := Scalar.cmpi .ne v417 v422
  let v424 : BitVec 32 := Scalar.remsi v389 c4_i32_221
  let c0_i32_226 : BitVec 32 := 0#32
  let v425 : BitVec 1 := Scalar.cmpi .ne v424 c0_i32_226
  let v426 : BitVec 1 := Scalar.andi v423 v425
  let v412 : BitVec 32 := Scalar.divsi v389 c4_i32_221
  let c1_i32_227 : BitVec 32 := 1#32
  let v427 : BitVec 32 := Scalar.subi v412 c1_i32_227
  let v428 : BitVec 32 := Scalar.select v426 v427 v412
  let c4_i32_228 : BitVec 32 := 4#32
  let v429 : BitVec 32 := Scalar.muli v428 c4_i32_228
  let v430 : BitVec 32 := Scalar.addi v388 v429
  let c1_i32_362 : BitVec 32 := 1#32
  let v667 : BitVec 32 := Scalar.addi v430 c1_i32_362
  let c512_i32_363 : BitVec 32 := 512#32
  let v668 : BitVec 32 := Scalar.muli v667 c512_i32_363
  let v669 : BitVec 32 := v668
  let v673 : Index := Scalar.indexCast v669
  let c0_365 : Index := 0#32
  ![v673.toNat, 0]
def k0_cond7 (i : grid0.Coords) : BitVec 1 :=
  let c8_i32_208 : BitVec 32 := 8#32
  let arg1 : BitVec 32 := BitVec.ofNat 32 (i 1).val
  let c4_i32_169 : BitVec 32 := 4#32
  let v314 : BitVec 32 := Scalar.muli arg1 c4_i32_169
  let c2_i32_170 : BitVec 32 := 2#32
  let v315 : BitVec 32 := Scalar.addi v314 c2_i32_170
  let c1_i32_207 : BitVec 32 := 1#32
  let v388 : BitVec 32 := Scalar.addi v315 c1_i32_207
  let v389 : BitVec 32 := Scalar.subi c8_i32_208 v388
  let c2_i32_237 : BitVec 32 := 2#32
  let c0_i32_238 : BitVec 32 := 0#32
  let v444 : BitVec 1 := Scalar.cmpi .eq c2_i32_237 c0_i32_238
  let c1_i32_239 : BitVec 32 := 1#32
  let v445 : BitVec 32 := Scalar.select v444 c1_i32_239 c2_i32_237
  let v446 : BitVec 32 := Scalar.remsi v389 v445
  let c0_i32_241 : BitVec 32 := 0#32
  let v448 : BitVec 1 := Scalar.cmpi .slt v446 c0_i32_241
  let c0_i32_242 : BitVec 32 := 0#32
  let v449 : BitVec 1 := Scalar.cmpi .slt v445 c0_i32_242
  let v450 : BitVec 1 := Scalar.xori v448 v449
  let c0_i32_240 : BitVec 32 := 0#32
  let v447 : BitVec 1 := Scalar.cmpi .ne v446 c0_i32_240
  let v451 : BitVec 1 := Scalar.andi v450 v447
  let v452 : BitVec 32 := Scalar.addi v446 v445
  let v453 : BitVec 32 := Scalar.select v451 v452 v446
  let c1_i32_243 : BitVec 32 := 1#32
  let v454 : BitVec 1 := Scalar.cmpi .eq v453 c1_i32_243
  let v455 : BitVec 32 := Scalar.extui v454
  let c0_i32_244 : BitVec 32 := 0#32
  let v456 : BitVec 1 := Scalar.cmpi .ne v455 c0_i32_244
  v456

def k0_mult36 : BitVec 32 :=
  let c3584_i32 : BitVec 32 := 3584#32
  c3584_i32
def k0_mult37 (i : grid0.Coords) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c512_i32_263 : BitVec 32 := 512#32
  let v477 : BitVec 32 := Scalar.muli v464 c512_i32_263
  v477
@[reducible] def k0_t7_loop (i : grid0.Coords) : Scf.Loop 32 :=
  let c0_i32_300 : BitVec 32 := 0#32
  let c8_i32_291 : BitVec 32 := 8#32
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_302 : BitVec 32 := 1#32
  ⟨c0_i32_300, v560, c1_i32_302⟩
def k0_mult38 (i : grid0.Coords) (k0_t7 : Fin (k0_t7_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_336 : BitVec 32 := 4#32
  let c0_i32_300 : BitVec 32 := 0#32
  let c1_i32_302 : BitVec 32 := 1#32
  let arg13 : BitVec 32 := Scf.iv c0_i32_300 c1_i32_302 k0_t7
  let v612 : BitVec 32 := Scalar.muli c4_i32_336 arg13
  let v613 : BitVec 32 := Scalar.addi v537 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off27 (i : grid0.Coords) (k0_t7 : Fin (k0_t7_loop i).trips) (c0_i32_337 : BitVec 32) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_336 : BitVec 32 := 4#32
  let c0_i32_300 : BitVec 32 := 0#32
  let c1_i32_302 : BitVec 32 := 1#32
  let arg13 : BitVec 32 := Scf.iv c0_i32_300 c1_i32_302 k0_t7
  let v612 : BitVec 32 := Scalar.muli c4_i32_336 arg13
  let v613 : BitVec 32 := Scalar.addi v537 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off28 (i : grid0.Coords) (k0_t7 : Fin (k0_t7_loop i).trips) (c0_i32_337 : BitVec 32) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_336 : BitVec 32 := 4#32
  let c0_i32_300 : BitVec 32 := 0#32
  let c1_i32_302 : BitVec 32 := 1#32
  let arg13 : BitVec 32 := Scf.iv c0_i32_300 c1_i32_302 k0_t7
  let v612 : BitVec 32 := Scalar.muli c4_i32_336 arg13
  let v613 : BitVec 32 := Scalar.addi v537 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult39 (i : grid0.Coords) (k0_t7 : Fin (k0_t7_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_364 : BitVec 32 := 4#32
  let c0_i32_300 : BitVec 32 := 0#32
  let c1_i32_302 : BitVec 32 := 1#32
  let arg13 : BitVec 32 := Scf.iv c0_i32_300 c1_i32_302 k0_t7
  let v670 : BitVec 32 := Scalar.muli c4_i32_364 arg13
  let v671 : BitVec 32 := Scalar.addi v537 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult40 (i : grid0.Coords) (k0_t7 : Fin (k0_t7_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_392 : BitVec 32 := 4#32
  let c0_i32_300 : BitVec 32 := 0#32
  let c1_i32_302 : BitVec 32 := 1#32
  let arg13 : BitVec 32 := Scf.iv c0_i32_300 c1_i32_302 k0_t7
  let v728 : BitVec 32 := Scalar.muli c4_i32_392 arg13
  let v729 : BitVec 32 := Scalar.addi v537 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult41 (i : grid0.Coords) (k0_t7 : Fin (k0_t7_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_420 : BitVec 32 := 4#32
  let c0_i32_300 : BitVec 32 := 0#32
  let c1_i32_302 : BitVec 32 := 1#32
  let arg13 : BitVec 32 := Scf.iv c0_i32_300 c1_i32_302 k0_t7
  let v786 : BitVec 32 := Scalar.muli c4_i32_420 arg13
  let v787 : BitVec 32 := Scalar.addi v537 v786
  let c3_i32_421 : BitVec 32 := 3#32
  let v788 : BitVec 32 := Scalar.addi v787 c3_i32_421
  let c512_i32_422 : BitVec 32 := 512#32
  let v789 : BitVec 32 := Scalar.muli v788 c512_i32_422
  v789
@[reducible] def k0_t8_loop (i : grid0.Coords) : Scf.Loop 32 :=
  let c0_i32_300 : BitVec 32 := 0#32
  let c8_i32_291 : BitVec 32 := 8#32
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let v557 : BitVec 32 := Scalar.addi c0_i32_300 v556
  let c1_i32_303 : BitVec 32 := 1#32
  ⟨v560, v557, c1_i32_303⟩
def k0_mult42 (i : grid0.Coords) (k0_t8 : Fin (k0_t8_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_336 : BitVec 32 := 4#32
  let c0_i32_300 : BitVec 32 := 0#32
  let c8_i32_291 : BitVec 32 := 8#32
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_303 : BitVec 32 := 1#32
  let arg13 : BitVec 32 := Scf.iv v560 c1_i32_303 k0_t8
  let v612 : BitVec 32 := Scalar.muli c4_i32_336 arg13
  let v613 : BitVec 32 := Scalar.addi v537 v612
  let c0_i32_337 : BitVec 32 := 0#32
  let v614 : BitVec 32 := Scalar.addi v613 c0_i32_337
  let c512_i32_338 : BitVec 32 := 512#32
  let v615 : BitVec 32 := Scalar.muli v614 c512_i32_338
  v615
def k0_off29 (i : grid0.Coords) (k0_t8 : Fin (k0_t8_loop i).trips) (c0_i32_337 : BitVec 32) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_336 : BitVec 32 := 4#32
  let c0_i32_300 : BitVec 32 := 0#32
  let c8_i32_291 : BitVec 32 := 8#32
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_303 : BitVec 32 := 1#32
  let arg13 : BitVec 32 := Scf.iv v560 c1_i32_303 k0_t8
  let v612 : BitVec 32 := Scalar.muli c4_i32_336 arg13
  let v613 : BitVec 32 := Scalar.addi v537 v612
  let v614 : BitVec 32 := Scalar.addi v613 c0_i32_337
  let c512_i32_338 : BitVec 32 := 512#32
  let v615 : BitVec 32 := Scalar.muli v614 c512_i32_338
  let v616 : BitVec 32 := v615
  let v617 : Index := Scalar.indexCast v616
  let c0_339 : Index := 0#32
  ![v617.toNat, 0]
def k0_off30 (i : grid0.Coords) (k0_t8 : Fin (k0_t8_loop i).trips) (c0_i32_337 : BitVec 32) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_336 : BitVec 32 := 4#32
  let c0_i32_300 : BitVec 32 := 0#32
  let c8_i32_291 : BitVec 32 := 8#32
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_303 : BitVec 32 := 1#32
  let arg13 : BitVec 32 := Scf.iv v560 c1_i32_303 k0_t8
  let v612 : BitVec 32 := Scalar.muli c4_i32_336 arg13
  let v613 : BitVec 32 := Scalar.addi v537 v612
  let v614 : BitVec 32 := Scalar.addi v613 c0_i32_337
  let c512_i32_338 : BitVec 32 := 512#32
  let v615 : BitVec 32 := Scalar.muli v614 c512_i32_338
  let v616 : BitVec 32 := v615
  let v620 : Index := Scalar.indexCast v616
  let c0_340 : Index := 0#32
  ![v620.toNat, 0]
def k0_mult43 (i : grid0.Coords) (k0_t8 : Fin (k0_t8_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_364 : BitVec 32 := 4#32
  let c0_i32_300 : BitVec 32 := 0#32
  let c8_i32_291 : BitVec 32 := 8#32
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_303 : BitVec 32 := 1#32
  let arg13 : BitVec 32 := Scf.iv v560 c1_i32_303 k0_t8
  let v670 : BitVec 32 := Scalar.muli c4_i32_364 arg13
  let v671 : BitVec 32 := Scalar.addi v537 v670
  let c1_i32_365 : BitVec 32 := 1#32
  let v672 : BitVec 32 := Scalar.addi v671 c1_i32_365
  let c512_i32_366 : BitVec 32 := 512#32
  let v673 : BitVec 32 := Scalar.muli v672 c512_i32_366
  v673
def k0_mult44 (i : grid0.Coords) (k0_t8 : Fin (k0_t8_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_392 : BitVec 32 := 4#32
  let c0_i32_300 : BitVec 32 := 0#32
  let c8_i32_291 : BitVec 32 := 8#32
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_303 : BitVec 32 := 1#32
  let arg13 : BitVec 32 := Scf.iv v560 c1_i32_303 k0_t8
  let v728 : BitVec 32 := Scalar.muli c4_i32_392 arg13
  let v729 : BitVec 32 := Scalar.addi v537 v728
  let c2_i32_393 : BitVec 32 := 2#32
  let v730 : BitVec 32 := Scalar.addi v729 c2_i32_393
  let c512_i32_394 : BitVec 32 := 512#32
  let v731 : BitVec 32 := Scalar.muli v730 c512_i32_394
  v731
def k0_mult45 (i : grid0.Coords) (k0_t8 : Fin (k0_t8_loop i).trips) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c4_i32_420 : BitVec 32 := 4#32
  let c0_i32_300 : BitVec 32 := 0#32
  let c8_i32_291 : BitVec 32 := 8#32
  let v538 : BitVec 32 := Scalar.subi c8_i32_291 v537
  let c0_i32_293 : BitVec 32 := 0#32
  let v540 : BitVec 1 := Scalar.cmpi .sgt v538 c0_i32_293
  let v541 : BitVec 32 := Scalar.extui v540
  let c0_i32_294 : BitVec 32 := 0#32
  let v542 : BitVec 1 := Scalar.cmpi .slt v538 c0_i32_294
  let v543 : BitVec 32 := Scalar.extui v542
  let v544 : BitVec 32 := Scalar.subi v541 v543
  let c4_i32_292 : BitVec 32 := 4#32
  let c0_i32_295 : BitVec 32 := 0#32
  let v545 : BitVec 1 := Scalar.cmpi .sgt c4_i32_292 c0_i32_295
  let v546 : BitVec 32 := Scalar.extui v545
  let c0_i32_296 : BitVec 32 := 0#32
  let v547 : BitVec 1 := Scalar.cmpi .slt c4_i32_292 c0_i32_296
  let v548 : BitVec 32 := Scalar.extui v547
  let v549 : BitVec 32 := Scalar.subi v546 v548
  let v550 : BitVec 1 := Scalar.cmpi .ne v544 v549
  let v551 : BitVec 32 := Scalar.remsi v538 c4_i32_292
  let c0_i32_297 : BitVec 32 := 0#32
  let v552 : BitVec 1 := Scalar.cmpi .ne v551 c0_i32_297
  let v553 : BitVec 1 := Scalar.andi v550 v552
  let v539 : BitVec 32 := Scalar.divsi v538 c4_i32_292
  let c1_i32_298 : BitVec 32 := 1#32
  let v554 : BitVec 32 := Scalar.subi v539 c1_i32_298
  let v555 : BitVec 32 := Scalar.select v553 v554 v539
  let v556 : BitVec 32 := Scalar.subi v555 c0_i32_300
  let c1_i32_301 : BitVec 32 := 1#32
  let v558 : BitVec 32 := Scalar.divsi v556 c1_i32_301
  let v559 : BitVec 32 := Scalar.muli v558 c1_i32_301
  let v560 : BitVec 32 := Scalar.addi c0_i32_300 v559
  let c1_i32_303 : BitVec 32 := 1#32
  let arg13 : BitVec 32 := Scf.iv v560 c1_i32_303 k0_t8
  let v786 : BitVec 32 := Scalar.muli c4_i32_420 arg13
  let v787 : BitVec 32 := Scalar.addi v537 v786
  let c3_i32_421 : BitVec 32 := 3#32
  let v788 : BitVec 32 := Scalar.addi v787 c3_i32_421
  let c512_i32_422 : BitVec 32 := 512#32
  let v789 : BitVec 32 := Scalar.muli v788 c512_i32_422
  v789
def k0_cond8 (i : grid0.Coords) : BitVec 1 :=
  let c8_i32_291 : BitVec 32 := 8#32
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let v538 : BitVec 32 := Scalar.subi c8_i32_291 v537
  let c4_i32_312 : BitVec 32 := 4#32
  let c0_i32_313 : BitVec 32 := 0#32
  let v580 : BitVec 1 := Scalar.cmpi .eq c4_i32_312 c0_i32_313
  let c1_i32_314 : BitVec 32 := 1#32
  let v581 : BitVec 32 := Scalar.select v580 c1_i32_314 c4_i32_312
  let v582 : BitVec 32 := Scalar.remsi v538 v581
  let c0_i32_316 : BitVec 32 := 0#32
  let v584 : BitVec 1 := Scalar.cmpi .slt v582 c0_i32_316
  let c0_i32_317 : BitVec 32 := 0#32
  let v585 : BitVec 1 := Scalar.cmpi .slt v581 c0_i32_317
  let v586 : BitVec 1 := Scalar.xori v584 v585
  let c0_i32_315 : BitVec 32 := 0#32
  let v583 : BitVec 1 := Scalar.cmpi .ne v582 c0_i32_315
  let v587 : BitVec 1 := Scalar.andi v586 v583
  let v588 : BitVec 32 := Scalar.addi v582 v581
  let v589 : BitVec 32 := Scalar.select v587 v588 v582
  let c2_i32_318 : BitVec 32 := 2#32
  let v590 : BitVec 1 := Scalar.cmpi .sge v589 c2_i32_318
  let v591 : BitVec 32 := Scalar.extui v590
  let c0_i32_319 : BitVec 32 := 0#32
  let v592 : BitVec 1 := Scalar.cmpi .ne v591 c0_i32_319
  v592

def k0_mult46 (i : grid0.Coords) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c8_i32_291 : BitVec 32 := 8#32
  let v538 : BitVec 32 := Scalar.subi c8_i32_291 v537
  let c0_i32_305 : BitVec 32 := 0#32
  let v562 : BitVec 1 := Scalar.cmpi .sgt v538 c0_i32_305
  let v563 : BitVec 32 := Scalar.extui v562
  let c0_i32_306 : BitVec 32 := 0#32
  let v564 : BitVec 1 := Scalar.cmpi .slt v538 c0_i32_306
  let v565 : BitVec 32 := Scalar.extui v564
  let v566 : BitVec 32 := Scalar.subi v563 v565
  let c4_i32_304 : BitVec 32 := 4#32
  let c0_i32_307 : BitVec 32 := 0#32
  let v567 : BitVec 1 := Scalar.cmpi .sgt c4_i32_304 c0_i32_307
  let v568 : BitVec 32 := Scalar.extui v567
  let c0_i32_308 : BitVec 32 := 0#32
  let v569 : BitVec 1 := Scalar.cmpi .slt c4_i32_304 c0_i32_308
  let v570 : BitVec 32 := Scalar.extui v569
  let v571 : BitVec 32 := Scalar.subi v568 v570
  let v572 : BitVec 1 := Scalar.cmpi .ne v566 v571
  let v573 : BitVec 32 := Scalar.remsi v538 c4_i32_304
  let c0_i32_309 : BitVec 32 := 0#32
  let v574 : BitVec 1 := Scalar.cmpi .ne v573 c0_i32_309
  let v575 : BitVec 1 := Scalar.andi v572 v574
  let v561 : BitVec 32 := Scalar.divsi v538 c4_i32_304
  let c1_i32_310 : BitVec 32 := 1#32
  let v576 : BitVec 32 := Scalar.subi v561 c1_i32_310
  let v577 : BitVec 32 := Scalar.select v575 v576 v561
  let c4_i32_311 : BitVec 32 := 4#32
  let v578 : BitVec 32 := Scalar.muli v577 c4_i32_311
  let v579 : BitVec 32 := Scalar.addi v537 v578
  let c512_i32_336 : BitVec 32 := 512#32
  let v612 : BitVec 32 := Scalar.muli v579 c512_i32_336
  v612
def k0_off31 (i : grid0.Coords) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c8_i32_291 : BitVec 32 := 8#32
  let v538 : BitVec 32 := Scalar.subi c8_i32_291 v537
  let c0_i32_305 : BitVec 32 := 0#32
  let v562 : BitVec 1 := Scalar.cmpi .sgt v538 c0_i32_305
  let v563 : BitVec 32 := Scalar.extui v562
  let c0_i32_306 : BitVec 32 := 0#32
  let v564 : BitVec 1 := Scalar.cmpi .slt v538 c0_i32_306
  let v565 : BitVec 32 := Scalar.extui v564
  let v566 : BitVec 32 := Scalar.subi v563 v565
  let c4_i32_304 : BitVec 32 := 4#32
  let c0_i32_307 : BitVec 32 := 0#32
  let v567 : BitVec 1 := Scalar.cmpi .sgt c4_i32_304 c0_i32_307
  let v568 : BitVec 32 := Scalar.extui v567
  let c0_i32_308 : BitVec 32 := 0#32
  let v569 : BitVec 1 := Scalar.cmpi .slt c4_i32_304 c0_i32_308
  let v570 : BitVec 32 := Scalar.extui v569
  let v571 : BitVec 32 := Scalar.subi v568 v570
  let v572 : BitVec 1 := Scalar.cmpi .ne v566 v571
  let v573 : BitVec 32 := Scalar.remsi v538 c4_i32_304
  let c0_i32_309 : BitVec 32 := 0#32
  let v574 : BitVec 1 := Scalar.cmpi .ne v573 c0_i32_309
  let v575 : BitVec 1 := Scalar.andi v572 v574
  let v561 : BitVec 32 := Scalar.divsi v538 c4_i32_304
  let c1_i32_310 : BitVec 32 := 1#32
  let v576 : BitVec 32 := Scalar.subi v561 c1_i32_310
  let v577 : BitVec 32 := Scalar.select v575 v576 v561
  let c4_i32_311 : BitVec 32 := 4#32
  let v578 : BitVec 32 := Scalar.muli v577 c4_i32_311
  let v579 : BitVec 32 := Scalar.addi v537 v578
  let c512_i32_336 : BitVec 32 := 512#32
  let v612 : BitVec 32 := Scalar.muli v579 c512_i32_336
  let v613 : BitVec 32 := v612
  let v614 : Index := Scalar.indexCast v613
  let c0_337 : Index := 0#32
  ![v614.toNat, 0]
def k0_off32 (i : grid0.Coords) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c8_i32_291 : BitVec 32 := 8#32
  let v538 : BitVec 32 := Scalar.subi c8_i32_291 v537
  let c0_i32_305 : BitVec 32 := 0#32
  let v562 : BitVec 1 := Scalar.cmpi .sgt v538 c0_i32_305
  let v563 : BitVec 32 := Scalar.extui v562
  let c0_i32_306 : BitVec 32 := 0#32
  let v564 : BitVec 1 := Scalar.cmpi .slt v538 c0_i32_306
  let v565 : BitVec 32 := Scalar.extui v564
  let v566 : BitVec 32 := Scalar.subi v563 v565
  let c4_i32_304 : BitVec 32 := 4#32
  let c0_i32_307 : BitVec 32 := 0#32
  let v567 : BitVec 1 := Scalar.cmpi .sgt c4_i32_304 c0_i32_307
  let v568 : BitVec 32 := Scalar.extui v567
  let c0_i32_308 : BitVec 32 := 0#32
  let v569 : BitVec 1 := Scalar.cmpi .slt c4_i32_304 c0_i32_308
  let v570 : BitVec 32 := Scalar.extui v569
  let v571 : BitVec 32 := Scalar.subi v568 v570
  let v572 : BitVec 1 := Scalar.cmpi .ne v566 v571
  let v573 : BitVec 32 := Scalar.remsi v538 c4_i32_304
  let c0_i32_309 : BitVec 32 := 0#32
  let v574 : BitVec 1 := Scalar.cmpi .ne v573 c0_i32_309
  let v575 : BitVec 1 := Scalar.andi v572 v574
  let v561 : BitVec 32 := Scalar.divsi v538 c4_i32_304
  let c1_i32_310 : BitVec 32 := 1#32
  let v576 : BitVec 32 := Scalar.subi v561 c1_i32_310
  let v577 : BitVec 32 := Scalar.select v575 v576 v561
  let c4_i32_311 : BitVec 32 := 4#32
  let v578 : BitVec 32 := Scalar.muli v577 c4_i32_311
  let v579 : BitVec 32 := Scalar.addi v537 v578
  let c512_i32_336 : BitVec 32 := 512#32
  let v612 : BitVec 32 := Scalar.muli v579 c512_i32_336
  let v613 : BitVec 32 := v612
  let v617 : Index := Scalar.indexCast v613
  let c0_338 : Index := 0#32
  ![v617.toNat, 0]
def k0_mult47 (i : grid0.Coords) : BitVec 32 :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c8_i32_291 : BitVec 32 := 8#32
  let v538 : BitVec 32 := Scalar.subi c8_i32_291 v537
  let c0_i32_305 : BitVec 32 := 0#32
  let v562 : BitVec 1 := Scalar.cmpi .sgt v538 c0_i32_305
  let v563 : BitVec 32 := Scalar.extui v562
  let c0_i32_306 : BitVec 32 := 0#32
  let v564 : BitVec 1 := Scalar.cmpi .slt v538 c0_i32_306
  let v565 : BitVec 32 := Scalar.extui v564
  let v566 : BitVec 32 := Scalar.subi v563 v565
  let c4_i32_304 : BitVec 32 := 4#32
  let c0_i32_307 : BitVec 32 := 0#32
  let v567 : BitVec 1 := Scalar.cmpi .sgt c4_i32_304 c0_i32_307
  let v568 : BitVec 32 := Scalar.extui v567
  let c0_i32_308 : BitVec 32 := 0#32
  let v569 : BitVec 1 := Scalar.cmpi .slt c4_i32_304 c0_i32_308
  let v570 : BitVec 32 := Scalar.extui v569
  let v571 : BitVec 32 := Scalar.subi v568 v570
  let v572 : BitVec 1 := Scalar.cmpi .ne v566 v571
  let v573 : BitVec 32 := Scalar.remsi v538 c4_i32_304
  let c0_i32_309 : BitVec 32 := 0#32
  let v574 : BitVec 1 := Scalar.cmpi .ne v573 c0_i32_309
  let v575 : BitVec 1 := Scalar.andi v572 v574
  let v561 : BitVec 32 := Scalar.divsi v538 c4_i32_304
  let c1_i32_310 : BitVec 32 := 1#32
  let v576 : BitVec 32 := Scalar.subi v561 c1_i32_310
  let v577 : BitVec 32 := Scalar.select v575 v576 v561
  let c4_i32_311 : BitVec 32 := 4#32
  let v578 : BitVec 32 := Scalar.muli v577 c4_i32_311
  let v579 : BitVec 32 := Scalar.addi v537 v578
  let c1_i32_362 : BitVec 32 := 1#32
  let v667 : BitVec 32 := Scalar.addi v579 c1_i32_362
  let c512_i32_363 : BitVec 32 := 512#32
  let v668 : BitVec 32 := Scalar.muli v667 c512_i32_363
  v668
def k0_off33 (i : grid0.Coords) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c8_i32_291 : BitVec 32 := 8#32
  let v538 : BitVec 32 := Scalar.subi c8_i32_291 v537
  let c0_i32_305 : BitVec 32 := 0#32
  let v562 : BitVec 1 := Scalar.cmpi .sgt v538 c0_i32_305
  let v563 : BitVec 32 := Scalar.extui v562
  let c0_i32_306 : BitVec 32 := 0#32
  let v564 : BitVec 1 := Scalar.cmpi .slt v538 c0_i32_306
  let v565 : BitVec 32 := Scalar.extui v564
  let v566 : BitVec 32 := Scalar.subi v563 v565
  let c4_i32_304 : BitVec 32 := 4#32
  let c0_i32_307 : BitVec 32 := 0#32
  let v567 : BitVec 1 := Scalar.cmpi .sgt c4_i32_304 c0_i32_307
  let v568 : BitVec 32 := Scalar.extui v567
  let c0_i32_308 : BitVec 32 := 0#32
  let v569 : BitVec 1 := Scalar.cmpi .slt c4_i32_304 c0_i32_308
  let v570 : BitVec 32 := Scalar.extui v569
  let v571 : BitVec 32 := Scalar.subi v568 v570
  let v572 : BitVec 1 := Scalar.cmpi .ne v566 v571
  let v573 : BitVec 32 := Scalar.remsi v538 c4_i32_304
  let c0_i32_309 : BitVec 32 := 0#32
  let v574 : BitVec 1 := Scalar.cmpi .ne v573 c0_i32_309
  let v575 : BitVec 1 := Scalar.andi v572 v574
  let v561 : BitVec 32 := Scalar.divsi v538 c4_i32_304
  let c1_i32_310 : BitVec 32 := 1#32
  let v576 : BitVec 32 := Scalar.subi v561 c1_i32_310
  let v577 : BitVec 32 := Scalar.select v575 v576 v561
  let c4_i32_311 : BitVec 32 := 4#32
  let v578 : BitVec 32 := Scalar.muli v577 c4_i32_311
  let v579 : BitVec 32 := Scalar.addi v537 v578
  let c1_i32_362 : BitVec 32 := 1#32
  let v667 : BitVec 32 := Scalar.addi v579 c1_i32_362
  let c512_i32_363 : BitVec 32 := 512#32
  let v668 : BitVec 32 := Scalar.muli v667 c512_i32_363
  let v669 : BitVec 32 := v668
  let v670 : Index := Scalar.indexCast v669
  let c0_364 : Index := 0#32
  ![v670.toNat, 0]
def k0_off34 (i : grid0.Coords) : Fin 2 → Nat :=
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let c8_i32_291 : BitVec 32 := 8#32
  let v538 : BitVec 32 := Scalar.subi c8_i32_291 v537
  let c0_i32_305 : BitVec 32 := 0#32
  let v562 : BitVec 1 := Scalar.cmpi .sgt v538 c0_i32_305
  let v563 : BitVec 32 := Scalar.extui v562
  let c0_i32_306 : BitVec 32 := 0#32
  let v564 : BitVec 1 := Scalar.cmpi .slt v538 c0_i32_306
  let v565 : BitVec 32 := Scalar.extui v564
  let v566 : BitVec 32 := Scalar.subi v563 v565
  let c4_i32_304 : BitVec 32 := 4#32
  let c0_i32_307 : BitVec 32 := 0#32
  let v567 : BitVec 1 := Scalar.cmpi .sgt c4_i32_304 c0_i32_307
  let v568 : BitVec 32 := Scalar.extui v567
  let c0_i32_308 : BitVec 32 := 0#32
  let v569 : BitVec 1 := Scalar.cmpi .slt c4_i32_304 c0_i32_308
  let v570 : BitVec 32 := Scalar.extui v569
  let v571 : BitVec 32 := Scalar.subi v568 v570
  let v572 : BitVec 1 := Scalar.cmpi .ne v566 v571
  let v573 : BitVec 32 := Scalar.remsi v538 c4_i32_304
  let c0_i32_309 : BitVec 32 := 0#32
  let v574 : BitVec 1 := Scalar.cmpi .ne v573 c0_i32_309
  let v575 : BitVec 1 := Scalar.andi v572 v574
  let v561 : BitVec 32 := Scalar.divsi v538 c4_i32_304
  let c1_i32_310 : BitVec 32 := 1#32
  let v576 : BitVec 32 := Scalar.subi v561 c1_i32_310
  let v577 : BitVec 32 := Scalar.select v575 v576 v561
  let c4_i32_311 : BitVec 32 := 4#32
  let v578 : BitVec 32 := Scalar.muli v577 c4_i32_311
  let v579 : BitVec 32 := Scalar.addi v537 v578
  let c1_i32_362 : BitVec 32 := 1#32
  let v667 : BitVec 32 := Scalar.addi v579 c1_i32_362
  let c512_i32_363 : BitVec 32 := 512#32
  let v668 : BitVec 32 := Scalar.muli v667 c512_i32_363
  let v669 : BitVec 32 := v668
  let v673 : Index := Scalar.indexCast v669
  let c0_365 : Index := 0#32
  ![v673.toNat, 0]
def k0_cond9 (i : grid0.Coords) : BitVec 1 :=
  let c8_i32_291 : BitVec 32 := 8#32
  let arg1 : BitVec 32 := BitVec.ofNat 32 (i 1).val
  let c4_i32_253 : BitVec 32 := 4#32
  let v463 : BitVec 32 := Scalar.muli arg1 c4_i32_253
  let c3_i32 : BitVec 32 := 3#32
  let v464 : BitVec 32 := Scalar.addi v463 c3_i32
  let c1_i32_290 : BitVec 32 := 1#32
  let v537 : BitVec 32 := Scalar.addi v464 c1_i32_290
  let v538 : BitVec 32 := Scalar.subi c8_i32_291 v537
  let c2_i32_320 : BitVec 32 := 2#32
  let c0_i32_321 : BitVec 32 := 0#32
  let v593 : BitVec 1 := Scalar.cmpi .eq c2_i32_320 c0_i32_321
  let c1_i32_322 : BitVec 32 := 1#32
  let v594 : BitVec 32 := Scalar.select v593 c1_i32_322 c2_i32_320
  let v595 : BitVec 32 := Scalar.remsi v538 v594
  let c0_i32_324 : BitVec 32 := 0#32
  let v597 : BitVec 1 := Scalar.cmpi .slt v595 c0_i32_324
  let c0_i32_325 : BitVec 32 := 0#32
  let v598 : BitVec 1 := Scalar.cmpi .slt v594 c0_i32_325
  let v599 : BitVec 1 := Scalar.xori v597 v598
  let c0_i32_323 : BitVec 32 := 0#32
  let v596 : BitVec 1 := Scalar.cmpi .ne v595 c0_i32_323
  let v600 : BitVec 1 := Scalar.andi v599 v596
  let v601 : BitVec 32 := Scalar.addi v595 v594
  let v602 : BitVec 32 := Scalar.select v600 v601 v595
  let c1_i32_326 : BitVec 32 := 1#32
  let v603 : BitVec 1 := Scalar.cmpi .eq v602 c1_i32_326
  let v604 : BitVec 32 := Scalar.extui v603
  let c0_i32_327 : BitVec 32 := 0#32
  let v605 : BitVec 1 := Scalar.cmpi .ne v604 c0_i32_327
  v605

def k0_mult48 : BitVec 32 :=
  let c3584_i32 : BitVec 32 := 3584#32
  c3584_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale" => some (((Real.sqrt 192)⁻¹ : ℝ) : EReal)
  | "scale2" => some (((Real.sqrt 192)⁻¹ * (Real.log 2)⁻¹ : ℝ) : EReal)
  | _ => none
-- ==== ReferenceIdeal.lean ====
abbrev S4096x8x192 : Shape := ⟨3, ![4096, 8, 192]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩

abbrev nBuf : Space → Nat
  | .hbm => 91
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x192, .f32⟩
  | .hbm, ⟨2, _⟩ => ⟨S4096x8x128, .f32⟩
  | .hbm, ⟨3, _⟩ => ⟨S4096x8x128, .f32⟩
  | .hbm, ⟨4, _⟩ => ⟨S8x4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S4096, .i32⟩
  | .hbm, ⟨12, _⟩ => ⟨S1x1x4096, .i32⟩
  | .hbm, ⟨13, _⟩ => ⟨S1x4096x1, .i32⟩
  | .hbm, ⟨14, _⟩ => ⟨S1x4096x4096, .i32⟩
  | .hbm, ⟨15, _⟩ => ⟨S1x4096x4096, .i32⟩
  | .hbm, ⟨16, _⟩ => ⟨S1x4096x4096, .i1⟩
  | .hbm, ⟨17, _⟩ => ⟨S_, .f32⟩
  | .hbm, ⟨18, _⟩ => ⟨S_, .f32⟩
  | .hbm, ⟨19, _⟩ => ⟨S8x4096x4096, .i1⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S_, .f32⟩
  | .hbm, ⟨33, _⟩ => ⟨S8x4096, .f32⟩
  | .hbm, ⟨34, _⟩ => ⟨S8x4096, .f32⟩
  | .hbm, ⟨35, _⟩ => ⟨S_, .f32⟩
  | .hbm, ⟨36, _⟩ => ⟨S8x4096, .f32⟩
  | .hbm, ⟨37, _⟩ => ⟨S8x4096, .i1⟩
  | .hbm, ⟨38, _⟩ => ⟨S_, .f32⟩
  | .hbm, ⟨39, _⟩ => ⟨S8x4096, .f32⟩
  | .hbm, ⟨40, _⟩ => ⟨S8x4096, .i1⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S8x4096, .f32⟩
  | .hbm, ⟨49, _⟩ => ⟨S8x4096x1, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x128x4096, .f32⟩
  | .hbm, ⟨63, _⟩ => ⟨S4096x8x128, .f32⟩
  | .hbm, ⟨64, _⟩ => ⟨S8x128x4096, .f32⟩
  | .hbm, ⟨65, _⟩ => ⟨S8x4096x4096, .f32⟩
  | .hbm, ⟨66, _⟩ => ⟨S8x128x4096, .f32⟩
  | .hbm, ⟨67, _⟩ => ⟨S4096x8x128, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S_, .f32⟩
  | .hbm, ⟨72, _⟩ => ⟨S8x4096, .f32⟩
  | .hbm, ⟨73, _⟩ => ⟨S8x4096x1, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x192, .f32⟩
  | .hbm, ⟨88, _⟩ => ⟨S4096x8x192, .f32⟩
  | .hbm, ⟨89, _⟩ => ⟨S8x4096x192, .f32⟩
  | .hbm, ⟨90, _⟩ => ⟨S4096x8x192, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x2048, .bf16⟩
  | .hbm, ⟨4, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S4096x1024, .bf16⟩
  | .hbm, ⟨4, _⟩ => ⟨S4096x2048, .bf16⟩
  | .hbm, ⟨5, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S2048x1024, .f32⟩
  | .hbm, ⟨4, _⟩ => ⟨S4096x1024, .f32⟩
  | .hbm, ⟨5, _⟩ => ⟨S1024x2048, .f32⟩
  | .hbm, ⟨6, _⟩ => ⟨S2048x1024, .f32⟩
  | .hbm, ⟨7, _⟩ => ⟨S4096x2048, .f32⟩
  | .hbm, ⟨8, _⟩ => ⟨S1024x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S2048x4032 : Shape := ⟨2, ![2048, 4032]⟩
abbrev S4096x4032 : Shape := ⟨2, ![4096, 4032]⟩
abbrev S4096x384 : Shape := ⟨2, ![4096, 384]⟩
abbrev S4096x128 : Shape := ⟨2, ![4096, 128]⟩
abbrev S4096x256 : Shape := ⟨2, ![4096, 256]⟩
abbrev S4096x64 : Shape := ⟨2, ![4096, 64]⟩
abbrev S_ : Shape := ⟨0, ![]⟩
abbrev S4096x1024 : Shape := ⟨2, ![4096, 1024]⟩
abbrev S4032x2048 : Shape := ⟨2, ![4032, 2048]⟩
abbrev S64x2048 : Shape := ⟨2, ![64, 2048]⟩
abbrev S1024x2048 : Shape := ⟨2, ![1024, 2048]⟩
abbrev S384x2048 : Shape := ⟨2, ![384, 2048]⟩
abbrev S128x2048 : Shape := ⟨2, ![128, 2048]⟩
abbrev S256x2048 : Shape := ⟨2, ![256, 2048]⟩
abbrev S1024x1024 : Shape := ⟨2, ![1024, 1024]⟩

abbrev nBuf : Space → Nat
  | .hbm => 36
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x4032, .f32⟩
  | .hbm, ⟨2, _⟩ => ⟨S4096x4032, .f32⟩
  | .hbm, ⟨3, _⟩ => ⟨S4096x384, .f32⟩
  | .hbm, ⟨4, _⟩ => ⟨S4096x384, .bf16⟩
  | .hbm, ⟨5, _⟩ => ⟨S4096x128, .f32⟩
  | .hbm, ⟨6, _⟩ => ⟨S4096x128, .bf16⟩
  | .hbm, ⟨7, _⟩ => ⟨S4096x256, .f32⟩
  | .hbm, ⟨8, _⟩ => ⟨S4096x256, .bf16⟩
  | .hbm, ⟨9, _⟩ => ⟨S4096x128, .f32⟩
  | .hbm, ⟨10, _⟩ => ⟨S4096x128, .bf16⟩
  | .hbm, ⟨11, _⟩ => ⟨S4096x64, .f32⟩
  | .hbm, ⟨12, _⟩ => ⟨S4096x64, .bf16⟩
  | .hbm, ⟨13, _⟩ => ⟨S_, .bf16⟩
  | .hbm, ⟨14, _⟩ => ⟨S4096x64, .bf16⟩
  | .hbm, ⟨15, _⟩ => ⟨S4096x1024, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S4096x1024, .bf16⟩
  | .hbm, ⟨22, _⟩ => ⟨S4032x2048, .f32⟩
  | .hbm, ⟨23, _⟩ => ⟨S4032x2048, .bf16⟩
  | .hbm, ⟨24, _⟩ => ⟨S64x2048, .bf16⟩
  | .hbm, ⟨25, _⟩ => ⟨S1024x2048, .bf16⟩
  | .hbm, ⟨26, _⟩ => ⟨S1024x2048, .bf16⟩
  | .hbm, ⟨27, _⟩ => ⟨S1024x2048, .bf16⟩
  | .hbm, ⟨28, _⟩ => ⟨S384x2048, .bf16⟩
  | .hbm, ⟨29, _⟩ => ⟨S128x2048, .bf16⟩
  | .hbm, ⟨30, _⟩ => ⟨S256x2048, .bf16⟩
  | .hbm, ⟨31, _⟩ => ⟨S128x2048, .bf16⟩
  | .hbm, ⟨32, _⟩ => ⟨S_, .bf16⟩
  | .hbm, ⟨33, _⟩ => ⟨S64x2048, .bf16⟩
  | .hbm, ⟨34, _⟩ => ⟨S4096x2048, .bf16⟩
  | .hbm, ⟨35, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4096x2048 : Shape := ⟨2, ![4096, 2048]⟩
abbrev S2048x4032 : Shape := ⟨2, ![2048, 4032]⟩
abbrev S4096x4032 : Shape := ⟨2, ![4096, 4032]⟩
abbrev S4032x2048 : Shape := ⟨2, ![4032, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4032, .f32⟩
  | .hbm, ⟨2, _⟩ => ⟨S4096x4032, .f32⟩
  | .hbm, ⟨3, _⟩ => ⟨S4096x4032, .f32⟩
  | .hbm, ⟨4, _⟩ => ⟨S4032x2048, .f32⟩
  | .hbm, ⟨5, _⟩ => ⟨S2048x4032, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S2048x4032 : Shape := ⟨2, ![2048, 4032]⟩
abbrev S4032x2048 : Shape := ⟨2, ![4032, 2048]⟩
abbrev S64x2048 : Shape := ⟨2, ![64, 2048]⟩
abbrev S1024x2048 : Shape := ⟨2, ![1024, 2048]⟩
abbrev S384x2048 : Shape := ⟨2, ![384, 2048]⟩
abbrev S128x2048 : Shape := ⟨2, ![128, 2048]⟩
abbrev S256x2048 : Shape := ⟨2, ![256, 2048]⟩
abbrev S_ : Shape := ⟨0, ![]⟩
abbrev S4096x4096 : Shape := ⟨2, ![4096, 4096]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4032, .f32⟩
  | .hbm, ⟨2, _⟩ => ⟨S4096x2048, .bf16⟩
  | .hbm, ⟨3, _⟩ => ⟨S4032x2048, .f32⟩
  | .hbm, ⟨4, _⟩ => ⟨S4032x2048, .bf16⟩
  | .hbm, ⟨5, _⟩ => ⟨S64x2048, .bf16⟩
  | .hbm, ⟨6, _⟩ => ⟨S1024x2048, .bf16⟩
  | .hbm, ⟨7, _⟩ => ⟨S1024x2048, .bf16⟩
  | .hbm, ⟨8, _⟩ => ⟨S1024x2048, .bf16⟩
  | .hbm, ⟨9, _⟩ => ⟨S384x2048, .bf16⟩
  | .hbm, ⟨10, _⟩ => ⟨S128x2048, .bf16⟩
  | .hbm, ⟨11, _⟩ => ⟨S256x2048, .bf16⟩
  | .hbm, ⟨12, _⟩ => ⟨S128x2048, .bf16⟩
  | .hbm, ⟨13, _⟩ => ⟨S_, .bf16⟩
  | .hbm, ⟨14, _⟩ => ⟨S64x2048, .bf16⟩
  | .hbm, ⟨15, _⟩ => ⟨S4096x2048, .bf16⟩
  | .hbm, ⟨16, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x4032 : Shape := ⟨2, ![2048, 4032]⟩
abbrev S4096x4032 : Shape := ⟨2, ![4096, 4032]⟩
abbrev S4096x1024 : Shape := ⟨2, ![4096, 1024]⟩
abbrev S4096x128 : Shape := ⟨2, ![4096, 128]⟩
abbrev S4096x384 : Shape := ⟨2, ![4096, 384]⟩
abbrev S4096x256 : Shape := ⟨2, ![4096, 256]⟩
abbrev S4096x64 : Shape := ⟨2, ![4096, 64]⟩
abbrev S_ : Shape := ⟨0, ![]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4032, .f32⟩
  | .hbm, ⟨2, _⟩ => ⟨S4096x4032, .f32⟩
  | .hbm, ⟨3, _⟩ => ⟨S4096x1024, .f32⟩
  | .hbm, ⟨4, _⟩ => ⟨S4096x128, .f32⟩
  | .hbm, ⟨5, _⟩ => ⟨S4096x128, .f32⟩
  | .hbm, ⟨6, _⟩ => ⟨S4096x1024, .f32⟩
  | .hbm, ⟨7, _⟩ => ⟨S4096x384, .f32⟩
  | .hbm, ⟨8, _⟩ => ⟨S4096x256, .f32⟩
  | .hbm, ⟨9, _⟩ => ⟨S4096x64, .f32⟩
  | .hbm, ⟨10, _⟩ => ⟨S4096x1024, .f32⟩
  | .hbm, ⟨11, _⟩ => ⟨S_, .f32⟩
  | .hbm, ⟨12, _⟩ => ⟨S4096x64, .f32⟩
  | .hbm, ⟨13, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S4096x1024 : Shape := ⟨2, ![4096, 1024]⟩
abbrev S4096x4096 : Shape := ⟨2, ![4096, 4096]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4096x1024 : Shape := ⟨2, ![4096, 1024]⟩
abbrev S4096x4096 : Shape := ⟨2, ![4096, 4096]⟩
abbrev S_ : Shape := ⟨0, ![]⟩
abbrev S4096x2048 : Shape := ⟨2, ![4096, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Kernel10.lean ====
abbrev S4x512x2048 : Shape := ⟨3, ![4, 512, 2048]⟩
abbrev S1x256x2048 : Shape := ⟨3, ![1, 256, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S4096x4096 : Shape := ⟨2, ![4096, 4096]⟩
abbrev S1x384 : Shape := ⟨2, ![1, 384]⟩
abbrev S1x256 : Shape := ⟨2, ![1, 256]⟩
abbrev S384x1536 : Shape := ⟨2, ![384, 1536]⟩
abbrev S256x2048 : Shape := ⟨2, ![256, 2048]⟩
abbrev S4096x32 : Shape := ⟨2, ![4096, 32]⟩
abbrev S_ : Shape := ⟨0, ![]⟩
abbrev S4096x64 : Shape := ⟨2, ![4096, 64]⟩
abbrev S1536x384 : Shape := ⟨2, ![1536, 384]⟩
abbrev S8x192x384 : Shape := ⟨3, ![8, 192, 384]⟩
abbrev S8x256x384 : Shape := ⟨3, ![8, 256, 384]⟩
abbrev S2048x384 : Shape := ⟨2, ![2048, 384]⟩
abbrev S2048x256 : Shape := ⟨2, ![2048, 256]⟩
abbrev S8x2x128x256 : Shape := ⟨4, ![8, 2, 128, 256]⟩
abbrev S2x8x128x256 : Shape := ⟨4, ![2, 8, 128, 256]⟩
abbrev S4096x128 : Shape := ⟨2, ![4096, 128]⟩
abbrev S4096x2048 : Shape := ⟨2, ![4096, 2048]⟩
abbrev S4096x384 : Shape := ⟨2, ![4096, 384]⟩
abbrev S4096x256 : Shape := ⟨2, ![4096, 256]⟩
abbrev S512x384 : Shape := ⟨2, ![512, 384]⟩
abbrev S512x256 : Shape := ⟨2, ![512, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 29
  | .vmem => 24
  | .smem => 0
  | _ => 0

abbrev bufTy : (tb : Table) → Fin (tcTables nBuf tb) → BufTy
  | .hbm, ⟨0, _⟩ => ⟨S4096x4096, .f32⟩
  | .hbm, ⟨1, _⟩ => ⟨S1x384, .f32⟩
  | .hbm, ⟨2, _⟩ => ⟨S1x256, .f32⟩
  | .hbm, ⟨3, _⟩ => ⟨S384x1536, .f32⟩
  | .hbm, ⟨4, _⟩ => ⟨S256x2048, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096x64, .f32⟩
  | .hbm, ⟨9, _⟩ => ⟨S1536x384, .f32⟩
  | .hbm, ⟨10, _⟩ => ⟨S1536x384, .bf16⟩
  | .hbm, ⟨11, _⟩ => ⟨S8x192x384, .bf16⟩
  | .hbm, ⟨12, _⟩ => ⟨S_, .i32⟩
  | .hbm, ⟨13, _⟩ => ⟨S_, .bf16⟩
  | .hbm, ⟨14, _⟩ => ⟨S8x256x384, .bf16⟩
  | .hbm, ⟨15, _⟩ => ⟨S2048x384, .bf16⟩
  | .hbm, ⟨16, _⟩ => ⟨S2048x256, .f32⟩
  | .hbm, ⟨17, _⟩ => ⟨S2048x256, .bf16⟩
  | .hbm, ⟨18, _⟩ => ⟨S8x2x128x256, .bf16⟩
  | .hbm, ⟨19, _⟩ => ⟨S2x8x128x256, .bf16⟩
  | .hbm, ⟨20, _⟩ => ⟨S2048x256, .bf16⟩
  | .hbm, ⟨21, _⟩ => ⟨S4096x128, .f32⟩
  | .hbm, ⟨22, _⟩ => ⟨S4096x32, .f32⟩
  | .hbm, ⟨23, _⟩ => ⟨S4096x128, .f32⟩
  | .hbm, ⟨24, _⟩ => ⟨S4096x2048, .bf16⟩
  | .hbm, ⟨25, _⟩ => ⟨S4096x2048, .bf16⟩
  | .hbm, ⟨26, _⟩ => ⟨S4096x2048, .bf16⟩
  | .hbm, ⟨27, _⟩ => ⟨S4096x384, .bf16⟩
  | .hbm, ⟨28, _⟩ => ⟨S4096x256, .bf16⟩
  | .local _ .vmem, ⟨0, _⟩ => ⟨S512x384, .f32⟩
  | .local _ .vmem, ⟨1, _⟩ => ⟨S512x384, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x384, .f32⟩
  | .local _ .vmem, ⟨7, _⟩ => ⟨S1x256, .f32⟩
  | .local _ .vmem, ⟨8, _⟩ => ⟨S2048x384, .bf16⟩
  | .local _ .vmem, ⟨9, _⟩ => ⟨S2048x256, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x384, .bf16⟩
  | .local _ .vmem, ⟨21, _⟩ => ⟨S512x384, .bf16⟩
  | .local _ .vmem, ⟨22, _⟩ => ⟨S512x256, .bf16⟩
  | .local _ .vmem, ⟨23, _⟩ => ⟨S512x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c31_i32 : BitVec 32 := 31#32
  let c0_i32 : BitVec 32 := 0#32
  ![arg0.toNat, c31_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S4096x4096 : Shape := ⟨2, ![4096, 4096]⟩
abbrev S1x384 : Shape := ⟨2, ![1, 384]⟩
abbrev S1x256 : Shape := ⟨2, ![1, 256]⟩
abbrev S384x1536 : Shape := ⟨2, ![384, 1536]⟩
abbrev S256x2048 : Shape := ⟨2, ![256, 2048]⟩
abbrev S4096x32 : Shape := ⟨2, ![4096, 32]⟩
abbrev S4096x384 : Shape := ⟨2, ![4096, 384]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S4096x1536 : Shape := ⟨2, ![4096, 1536]⟩
abbrev S4096x8x192 : Shape := ⟨3, ![4096, 8, 192]⟩
abbrev S4096x2048 : Shape := ⟨2, ![4096, 2048]⟩
abbrev S4096x8x256 : Shape := ⟨3, ![4096, 8, 256]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x64 : Shape := ⟨2, ![4096, 64]⟩
abbrev S4096x1x64 : Shape := ⟨3, ![4096, 1, 64]⟩
abbrev S4096x8x128 : Shape := ⟨3, ![4096, 8, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x384, .f32⟩
  | .hbm, ⟨2, _⟩ => ⟨S1x256, .f32⟩
  | .hbm, ⟨3, _⟩ => ⟨S384x1536, .f32⟩
  | .hbm, ⟨4, _⟩ => ⟨S256x2048, .f32⟩
  | .hbm, ⟨5, _⟩ => ⟨S4096x32, .f32⟩
  | .hbm, ⟨6, _⟩ => ⟨S4096x32, .f32⟩
  | .hbm, ⟨7, _⟩ => ⟨S4096x384, .f32⟩
  | .hbm, ⟨8, _⟩ => ⟨S4096x384, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x384, .f32⟩
  | .hbm, ⟨20, _⟩ => ⟨S4096x384, .f32⟩
  | .hbm, ⟨21, _⟩ => ⟨S4096x384, .f32⟩
  | .hbm, ⟨22, _⟩ => ⟨S4096x384, .f32⟩
  | .hbm, ⟨23, _⟩ => ⟨S4096x256, .f32⟩
  | .hbm, ⟨24, _⟩ => ⟨S4096x256, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x1536, .f32⟩
  | .hbm, ⟨40, _⟩ => ⟨S4096x8x192, .f32⟩
  | .hbm, ⟨41, _⟩ => ⟨S4096x2048, .f32⟩
  | .hbm, ⟨42, _⟩ => ⟨S4096x8x256, .f32⟩
  | .hbm, ⟨43, _⟩ => ⟨S4096x8x64, .f32⟩
  | .hbm, ⟨44, _⟩ => ⟨S4096x1x32, .f32⟩
  | .hbm, ⟨45, _⟩ => ⟨S4096x1x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x32, .f32⟩
  | .hbm, ⟨50, _⟩ => ⟨S4096x8x32, .f32⟩
  | .hbm, ⟨51, _⟩ => ⟨S4096x8x32, .f32⟩
  | .hbm, ⟨52, _⟩ => ⟨S4096x8x32, .f32⟩
  | .hbm, ⟨53, _⟩ => ⟨S4096x8x32, .f32⟩
  | .hbm, ⟨54, _⟩ => ⟨S4096x8x32, .f32⟩
  | .hbm, ⟨55, _⟩ => ⟨S4096x8x32, .f32⟩
  | .hbm, ⟨56, _⟩ => ⟨S4096x8x32, .f32⟩
  | .hbm, ⟨57, _⟩ => ⟨S4096x8x32, .f32⟩
  | .hbm, ⟨58, _⟩ => ⟨S4096x8x64, .f32⟩
  | .hbm, ⟨59, _⟩ => ⟨S4096x64, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x64, .f32⟩
  | .hbm, ⟨69, _⟩ => ⟨S4096x1x64, .f32⟩
  | .hbm, ⟨70, _⟩ => ⟨S4096x8x64, .f32⟩
  | .hbm, ⟨71, _⟩ => ⟨S_, .f32⟩
  | .hbm, ⟨72, _⟩ => ⟨S4096x8x64, .f32⟩
  | .hbm, ⟨73, _⟩ => ⟨S_, .f32⟩
  | .hbm, ⟨74, _⟩ => ⟨S4096x8x128, .f32⟩
  | .hbm, ⟨75, _⟩ => ⟨S4096x8x128, .f32⟩
  | .hbm, ⟨76, _⟩ => ⟨S4096x8x128, .f32⟩
  | .hbm, ⟨77, _⟩ => ⟨S4096x8x256, .f32⟩
  | .hbm, ⟨78, _⟩ => ⟨S4096x2048, .f32⟩
  | .hbm, ⟨79, _⟩ => ⟨S4096x2048, .bf16⟩
  | .hbm, ⟨80, _⟩ => ⟨S4096x8x128, .f32⟩
  | .hbm, ⟨81, _⟩ => ⟨S4096x8x128, .f32⟩
  | .hbm, ⟨82, _⟩ => ⟨S4096x8x256, .f32⟩
  | .hbm, ⟨83, _⟩ => ⟨S4096x2048, .f32⟩
  | .hbm, ⟨84, _⟩ => ⟨S4096x2048, .bf16⟩
  | .hbm, ⟨85, _⟩ => ⟨S4096x8x128, .f32⟩
  | .hbm, ⟨86, _⟩ => ⟨S4096x8x256, .f32⟩
  | .hbm, ⟨87, _⟩ => ⟨S4096x2048, .f32⟩
  | .hbm, ⟨88, _⟩ => ⟨S4096x2048, .bf16⟩
  | .hbm, ⟨89, _⟩ => ⟨S4096x384, .bf16⟩
  | .hbm, ⟨90, _⟩ => ⟨S4096x256, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩

abbrev nD : Nat := 1
abbrev τ : Topo := Topo.v7x

variable {F : FTy → Type} [FloatOps F]
-- ==== Kernel12.lean ====
abbrev S4096x2048 : Shape := ⟨2, ![4096, 2048]⟩
abbrev S4096x1024 : Shape := ⟨2, ![4096, 1024]⟩
abbrev S4096x4096 : Shape := ⟨2, ![4096, 4096]⟩
abbrev S4096x512 : Shape := ⟨2, ![4096, 512]⟩
abbrev S512x2048 : Shape := ⟨2, ![512, 2048]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x512, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S4096x2048 : Shape := ⟨2, ![4096, 2048]⟩
abbrev S4096x1024 : Shape := ⟨2, ![4096, 1024]⟩
abbrev S4096x4096 : Shape := ⟨2, ![4096, 4096]⟩
abbrev S_ : Shape := ⟨0, ![]⟩
abbrev S4096x8x128 : Shape := ⟨3, ![4096, 8, 128]⟩
abbrev S4096x8 : Shape := ⟨2, ![4096, 8]⟩
abbrev S4096x4x2 : Shape := ⟨3, ![4096, 4, 2]⟩
abbrev S4096x4x126 : Shape := ⟨3, ![4096, 4, 126]⟩
abbrev S4096x4x128 : Shape := ⟨3, ![4096, 4, 128]⟩
abbrev S4096x512 : Shape := ⟨2, ![4096, 512]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x8x128, .f32⟩
  | .hbm, ⟨50, _⟩ => ⟨S_, .f32⟩
  | .hbm, ⟨51, _⟩ => ⟨S4096x8, .f32⟩
  | .hbm, ⟨52, _⟩ => ⟨S4096x4x2, .f32⟩
  | .hbm, ⟨53, _⟩ => ⟨S_, .f32⟩
  | .hbm, ⟨54, _⟩ => ⟨S4096x4x126, .f32⟩
  | .hbm, ⟨55, _⟩ => ⟨S4096x4x128, .f32⟩
  | .hbm, ⟨56, _⟩ => ⟨S4096x512, .f32⟩
  | .hbm, ⟨57, _⟩ => ⟨S4096x1024, .bf16⟩
  | .hbm, ⟨58, _⟩ => ⟨S4096x1024, .bf16⟩
  | .hbm, ⟨59, _⟩ => ⟨S4096x1024, .bf16⟩
  | .hbm, ⟨60, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_call2_v0 : Ref sig .tc := ⟨.hbm, 27, rfl⟩
abbrev main_call2_v1 : Ref sig .tc := ⟨.hbm, 28, rfl⟩
abbrev main_call2_cst : Ref sig .tc := ⟨.hbm, 29, rfl⟩
abbrev main_call2_v2 : Ref sig .tc := ⟨.hbm, 30, rfl⟩
abbrev main_call2_v3 : Ref sig .tc := ⟨.hbm, 31, rfl⟩
abbrev main_call2_cst_0 : Ref sig .tc := ⟨.hbm, 32, rfl⟩
abbrev main_call2_v4 : Ref sig .tc := ⟨.hbm, 33, rfl⟩
abbrev main_v8_2 : Ref sig .tc := ⟨.hbm, 34, rfl⟩
abbrev main_call2_cst_1 : Ref sig .tc := ⟨.hbm, 35, rfl⟩
abbrev main_call2_v6 : Ref sig .tc := ⟨.hbm, 36, rfl⟩
abbrev main_call2_v7 : Ref sig .tc := ⟨.hbm, 37, rfl⟩
abbrev main_v8_1 : Ref sig .tc := ⟨.hbm, 38, rfl⟩
abbrev main_v8_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst : Ref sig .tc := ⟨.hbm, 50, rfl⟩
abbrev main_v16 : Ref sig .tc := ⟨.hbm, 51, rfl⟩
abbrev main_v17 : Ref sig .tc := ⟨.hbm, 52, rfl⟩
abbrev main_cst_0 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩

abbrev nD : Nat := 1
abbrev τ : Topo := Topo.v7x

variable {F : FTy → Type} [FloatOps F]
-- ==== Kernel13.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference13Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Chunk.lean ====
module

public import proofs.«01_k».proof.Proof.Gen.KernelIdeal.Skeleton
public import Idealize.ShloMosaic.Lib.Pipeline.TableIdle

@[expose] public section

set_option synthInstance.maxSize 4096

noncomputable section

/-! # One chunk of the attention backward pass

The kernel's body is, for each of the four blocks of keys of a grid point, the same stretch of loads,
products and stores, over one block of 512 query rows after another. `chunk` is that stretch written
once, and `sub` is the passage of one block of keys over a list of such stretches. -/

namespace Cert.KernelIdeal.Att

open Idealize.ShloMosaic Idealize.SL.Sem Cert.KernelIdeal.Gen

variable {F : FTy → Type} [FloatOps F] [Named F]

/-- The lane of a head pair's saved column, read out of a 128-lane block: a column of 512 rows. -/
def col (v15 : IVec S512x128 1) (x : Vec F S512x128 .f32) : FVec F S512x1 .f32 :=
  shapeCast S512x1 (multiReduction .add [1] S512
    (select v15 (shapeCast S512x128 x shapeCasts_S512x128_S512x128) (broadcast S512x128 (Scalar.ofBits .f32 0x00000000#32)))
    0x00000000#32 reduces_S512x128_S512 (.inl rfl) rfl) shapeCasts_S512_S512x1

/-- The scaled logits of a block of queries against a block of keys. -/
def logits (v27 : FVec F S512x256 .bf16) (q : Vec F S512x256 .bf16) : FVec F S512x512 .f32 :=
  mulf (matmul dot_S512x256_S512x256_S512x512_1_1_0_0_n_n none (shapeCast S512x256 q shapeCasts_S512x256_S512x256) v27
    (constant S512x512 .f32 0x00000000#32)) (broadcast S512x512 (Named.named κ "scale2" 0x3DD53B95#32))

/-- The logits of a block on the diagonal: a key after the query is masked. -/
def masked (x : FVec F S512x512 .f32) : FVec F S512x512 .f32 :=
  select (cmpi .sle (iota .tc S512x512 32 [1] iota_S512x512_d1_w32) (iota .tc S512x512 32 [0] iota_S512x512_d0_w32)) x
    (broadcast S512x512 (Named.named κ "mask" 0xF149F2CA#32))

/-- The probabilities of a block. -/
def prob (mk : Bool) (v15 : IVec S512x128 1) (v27 : FVec F S512x256 .bf16) (q : Vec F S512x256 .bf16) (lse : Vec F S512x128 .f32) :
    FVec F S512x512 .f32 :=
  exp2 (subf (bif mk then masked (logits v27 q) else logits v27 q) (broadcastTo S512x512 (col v15 lse) broadcasts_S512x1_S512x512))

/-- The gradient of a block's unscaled logits. -/
def dlog (mk : Bool) (v15 : IVec S512x128 1) (v27 : FVec F S512x256 .bf16) (v29 : FVec F S512x128 .bf16) (q : Vec F S512x256 .bf16)
    (ct : Vec F S512x128 .bf16) (lse dl : Vec F S512x128 .f32) : FVec F S512x512 .bf16 :=
  truncf .bf16 (mulf (mulf (prob mk v15 v27 q lse)
    (subf (matmul dot_S512x128_S512x128_S512x512_1_1_0_0_n_n none (shapeCast S512x128 ct shapeCasts_S512x128_S512x128) v29
      (constant S512x512 .f32 0x00000000#32)) (broadcastTo S512x512 (col v15 dl) broadcasts_S512x1_S512x512)))
    (broadcast S512x512 (Named.named κ "scale" 0x3D93CD3A#32))) bitsLt_bf16_f32

/-- What a block adds to the value gradient, on top of what is there. -/
def accV (mk : Bool) (v15 : IVec S512x128 1) (v27 : FVec F S512x256 .bf16) (q : Vec F S512x256 .bf16) (ct : Vec F S512x128 .bf16)
    (lse : Vec F S512x128 .f32) (b : Vec F S128x512 .f32) : FVec F S128x512 .f32 :=
  shapeCast S128x512 (addf b (matmul dot_S512x128_S512x512_S128x512_0_0_1_1_n_n none
    (shapeCast S512x128 ct shapeCasts_S512x128_S512x128) (truncf .bf16 (prob mk v15 v27 q lse) bitsLt_bf16_f32)
    (constant S128x512 .f32 0x00000000#32))) shapeCasts_S128x512_S128x512

/-- What a block adds to the key gradient, on top of what is there. -/
def accK (mk : Bool) (v15 : IVec S512x128 1) (v27 : FVec F S512x256 .bf16) (v29 : FVec F S512x128 .bf16) (q : Vec F S512x256 .bf16)
    (ct : Vec F S512x128 .bf16) (lse dl : Vec F S512x128 .f32) (a : Vec F S256x512 .f32) : FVec F S256x512 .f32 :=
  shapeCast S256x512 (addf a (matmul dot_S512x256_S512x512_S256x512_0_0_1_1_n_n none
    (shapeCast S512x256 q shapeCasts_S512x256_S512x256) (dlog mk v15 v27 v29 q ct lse dl)
    (constant S256x512 .f32 0x00000000#32))) shapeCasts_S256x512_S256x512

/-- What a block adds to the query gradient, on top of what is there. -/
def accQ (mk : Bool) (v15 : IVec S512x128 1) (v27 : FVec F S512x256 .bf16) (v29 : FVec F S512x128 .bf16) (q : Vec F S512x256 .bf16)
    (ct : Vec F S512x128 .bf16) (lse dl : Vec F S512x128 .f32) (d : Vec F S512x256 .f32) : FVec F S512x256 .f32 :=
  addf (shapeCast S512x256 d shapeCasts_S512x256_S512x256) (matmul dot_S512x512_S512x256_S512x256_1_0_0_1_n_n none
    (dlog mk v15 v27 v29 q ct lse dl) v27 (constant S512x256 .f32 0x00000000#32))

/-- The programs of the kernel's body. -/
abbrev P (F : FTy → Type) [FloatOps F] [Named F] (α : Type) := Prog (TpuEff nD τ sig (Elt F) Λ₀ .tc) α

/-- The memory the kernel's body is given: the four arrays of the forward pass and the cotangent, the three gradients, the two scratch
    arrays. -/
structure Refs where
  a2 : Memref sig .tc .vmem S4096x256 .bf16
  h2 : a2.IsWhole
  a3 : Memref sig .tc .vmem S2048x256 .bf16
  h3 : a3.IsWhole
  a4 : Memref sig .tc .vmem S2048x128 .bf16
  h4 : a4.IsWhole
  a5 : Memref sig .tc .vmem S4096x128 .bf16
  h5 : a5.IsWhole
  a6 : Memref sig .tc .vmem S4096x128 .f32
  h6 : a6.IsWhole
  a7 : Memref sig .tc .vmem S4096x128 .f32
  h7 : a7.IsWhole
  a8 : Memref sig .tc .vmem S4096x256 .f32
  h8 : a8.IsWhole
  a9 : Memref sig .tc .vmem S2048x256 .f32
  h9 : a9.IsWhole
  a10 : Memref sig .tc .vmem S2048x128 .f32
  h10 : a10.IsWhole
  a11 : Memref sig .tc .vmem S256x512 .f32
  h11 : a11.IsWhole
  a12 : Memref sig .tc .vmem S128x512 .f32
  h12 : a12.IsWhole

/-- A piece of the body at the memory it is given. -/
abbrev Refs.ap (R : Refs) {β : Type 1} (f : (a2 : Memref sig .tc .vmem S4096x256 .bf16) → a2.IsWhole →
    (a3 : Memref sig .tc .vmem S2048x256 .bf16) → a3.IsWhole → (a4 : Memref sig .tc .vmem S2048x128 .bf16) → a4.IsWhole →
    (a5 : Memref sig .tc .vmem S4096x128 .bf16) → a5.IsWhole → (a6 : Memref sig .tc .vmem S4096x128 .f32) → a6.IsWhole →
    (a7 : Memref sig .tc .vmem S4096x128 .f32) → a7.IsWhole → (a8 : Memref sig .tc .vmem S4096x256 .f32) → a8.IsWhole →
    (a9 : Memref sig .tc .vmem S2048x256 .f32) → a9.IsWhole → (a10 : Memref sig .tc .vmem S2048x128 .f32) → a10.IsWhole →
    (a11 : Memref sig .tc .vmem S256x512 .f32) → a11.IsWhole → (a12 : Memref sig .tc .vmem S128x512 .f32) → a12.IsWhole → β) : β :=
  f R.a2 R.h2 R.a3 R.h3 R.a4 R.h4 R.a5 R.h5 R.a6 R.h6 R.a7 R.h7 R.a8 R.h8 R.a9 R.h9 R.a10 R.h10 R.a11 R.h11 R.a12 R.h12

variable (R : Refs) (mk : Bool) (v15 : IVec S512x128 1) (v27 : FVec F S512x256 .bf16) (v29 : FVec F S512x128 .bf16)

/-- One block of query rows against the block of keys in hand. -/
def chunk (o1 : Fin 2 → ℕ) (h1 : ∀ a, o1 a + S512x256.size a ≤ S4096x256.size a)
    (o2 : Fin 2 → ℕ) (h2 : ∀ a, o2 a + S512x128.size a ≤ S4096x128.size a) : P F PUnit := do
  let q : Vec F S512x256 .bf16 ← Prog.lift (.load R.a2 (Rect.unit (s := S4096x256) o1 S512x256.size h1).toLoadRect (View.loadsAt_vmem h_S512x256))
  let ct : Vec F S512x128 .bf16 ← Prog.lift (.load R.a5 (Rect.unit (s := S4096x128) o2 S512x128.size h2).toLoadRect (View.loadsAt_vmem h_S512x128))
  let lse : Vec F S512x128 .f32 ← Prog.lift (.load R.a6 (Rect.unit (s := S4096x128) o2 S512x128.size h2).toLoadRect (View.loadsAt_vmem h_S512x128))
  let dl : Vec F S512x128 .f32 ← Prog.lift (.load R.a7 (Rect.unit (s := S4096x128) o2 S512x128.size h2).toLoadRect (View.loadsAt_vmem h_S512x128))
  let b : Vec F S128x512 .f32 ← Prog.lift (.load R.a12 (Rect.unit (s := S128x512) ![0, 0] S128x512.size inb_S128x512_S128x512_0_0).toLoadRect (View.loadsAt_vmem h_S128x512))
  let b' : Vec F S128x512 .f32 ← Prog.lift (.load R.a12 (Rect.unit (s := S128x512) ![0, 0] S128x512.size inb_S128x512_S128x512_0_0).toLoadRect (View.loadsAt_vmem h_S128x512))
  Prog.lift (.store R.a12 (Rect.unit (s := S128x512) ![0, 0] S128x512.size inb_S128x512_S128x512_0_0) (accV mk v15 v27 q ct lse b) Finset.univ (View.stores_vmem_bits_univ h_S128x512 rfl) (.inl rfl))
  let a : Vec F S256x512 .f32 ← Prog.lift (.load R.a11 (Rect.unit (s := S256x512) ![0, 0] S256x512.size inb_S256x512_S256x512_0_0).toLoadRect (View.loadsAt_vmem h_S256x512))
  let a' : Vec F S256x512 .f32 ← Prog.lift (.load R.a11 (Rect.unit (s := S256x512) ![0, 0] S256x512.size inb_S256x512_S256x512_0_0).toLoadRect (View.loadsAt_vmem h_S256x512))
  Prog.lift (.store R.a11 (Rect.unit (s := S256x512) ![0, 0] S256x512.size inb_S256x512_S256x512_0_0) (accK mk v15 v27 v29 q ct lse dl a) Finset.univ (View.stores_vmem_bits_univ h_S256x512 rfl) (.inl rfl))
  let d : Vec F S512x256 .f32 ← Prog.lift (.load R.a8 (Rect.unit (s := S4096x256) o1 S512x256.size h1).toLoadRect (View.loadsAt_vmem h_S512x256))
  let d' : Vec F S512x256 .f32 ← Prog.lift (.load R.a8 (Rect.unit (s := S4096x256) o1 S512x256.size h1).toLoadRect (View.loadsAt_vmem h_S512x256))
  Prog.lift (.store R.a8 (Rect.unit (s := S4096x256) o1 S512x256.size h1) (accQ mk v15 v27 v29 q ct lse dl d) Finset.univ (View.stores_vmem_bits_univ h_S512x256 rfl) (.inl rfl))
  pure ⟨⟩

/-- The block of 512 rows a chunk reads: inside the array, for each of the eight. -/
theorem rowQ (r : Fin 8) (a : Fin 2) : (![512 * r.val, 0] : Fin 2 → ℕ) a + S512x256.size a ≤ S4096x256.size a := by
  fin_cases a <;> (simp; try omega)
theorem rowD (r : Fin 8) (a : Fin 2) : (![512 * r.val, 0] : Fin 2 → ℕ) a + S512x128.size a ≤ S4096x128.size a := by
  fin_cases a <;> (simp; try omega)

/-- The chunk of block `r` of the query rows. -/
def chunkR (r : Fin 8) : P F PUnit := chunk R mk v15 v27 v29 ![512 * r.val, 0] (rowQ r) ![512 * r.val, 0] (rowD r)

theorem chunk_at (r : Fin 8) {o1 : Fin 2 → ℕ} {h1 : ∀ a, o1 a + S512x256.size a ≤ S4096x256.size a}
    {o2 : Fin 2 → ℕ} {h2 : ∀ a, o2 a + S512x128.size a ≤ S4096x128.size a}
    (e1 : o1 = ![512 * r.val, 0]) (e2 : o2 = ![512 * r.val, 0]) :
    chunk R mk v15 v27 v29 o1 h1 o2 h2 = chunkR R mk v15 v27 v29 r := by
  subst e1 e2; rfl

/-- The chunks below the diagonal, one after another. -/
def chunks : List (Fin 8) → P F PUnit
  | [] => pure ⟨⟩
  | r :: rs => do
    chunkR R false v15 v27 v29 r
    chunks rs

variable (i : grid0.Coords)

end Cert.KernelIdeal.Att
-- ==== Proof.Triple.lean ====
module

public import proofs.«01_k».proof.Proof.Chunk
public import proofs.«01_k».proof.Proof.Gen.KernelIdeal.Frame
public import Idealize.ShloMosaic.Lib.VecWindow

@[expose] public section

set_option maxRecDepth 16384

noncomputable section

/-! # What a chunk leaves

The body's memory as values: the four forward arrays, the two row statistics, the three gradients, the two
accumulators. A chunk changes the query gradient at its own rows and the two accumulators. -/

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

/-- The arrays a grid point reads. -/
structure In (F : FTy → Type) [FloatOps F] [Named F] where
  q : Vec F S4096x256 .bf16
  k : Vec F S2048x256 .bf16
  v : Vec F S2048x128 .bf16
  ct : Vec F S4096x128 .bf16
  lse : Vec F S4096x128 .f32
  dl : Vec F S4096x128 .f32

/-- The arrays a grid point changes. -/
structure St (F : FTy → Type) [FloatOps F] [Named F] where
  dq : Vec F S4096x256 .f32
  dk : Vec F S2048x256 .f32
  dv : Vec F S2048x128 .f32
  a : Vec F S256x512 .f32
  b : Vec F S128x512 .f32

/-- A block of 512 rows of the query side. -/
def rowsQ {e : EltTy} (x : Vec F S4096x256 e) (r : Fin 8) : Vec F S512x256 e := window x ![512 * r.val, 0] S512x256.size (rowQ r)
def rowsD {e : EltTy} (x : Vec F S4096x128 e) (r : Fin 8) : Vec F S512x128 e := window x ![512 * r.val, 0] S512x128.size (rowD r)

/-- A chunk's step on the arrays. -/
def step (X : In F) (mk : Bool) (v15 : IVec S512x128 1) (v27 : FVec F S512x256 .bf16) (v29 : FVec F S512x128 .bf16) (r : Fin 8) (s : St F) : St F :=
  { s with
    dq := put s.dq ![512 * r.val, 0] S512x256.size (accQ mk v15 v27 v29 (rowsQ X.q r) (rowsD X.ct r) (rowsD X.lse r) (rowsD X.dl r) (rowsQ s.dq r))
    a := accK mk v15 v27 v29 (rowsQ X.q r) (rowsD X.ct r) (rowsD X.lse r) (rowsD X.dl r) s.a
    b := accV mk v15 v27 (rowsQ X.q r) (rowsD X.ct r) (rowsD X.lse r) s.b }

/-- The memory a grid point reads, held at the arrays `X`. -/
def heldIn (R : Refs) (c : Dev nD) (X : In F) : sProp 𝕄 :=
  iprop(owns (c : Thread nD τ) R.a2 fullShare X.q ∗ owns (c : Thread nD τ) R.a3 fullShare X.k ∗ owns (c : Thread nD τ) R.a4 fullShare X.v
    ∗ owns (c : Thread nD τ) R.a5 fullShare X.ct ∗ owns (c : Thread nD τ) R.a6 fullShare X.lse ∗ owns (c : Thread nD τ) R.a7 fullShare X.dl)
/-- The memory a grid point changes, held at the arrays `s`. -/
def heldSt (R : Refs) (c : Dev nD) (s : St F) : sProp 𝕄 :=
  iprop(owns (c : Thread nD τ) R.a8 fullShare s.dq ∗ owns (c : Thread nD τ) R.a9 fullShare s.dk ∗ owns (c : Thread nD τ) R.a10 fullShare s.dv
    ∗ owns (c : Thread nD τ) R.a11 fullShare s.a ∗ owns (c : Thread nD τ) R.a12 fullShare s.b)

variable (R : Refs) (c : Dev nD) (X : In F) (v15 : IVec S512x128 1) (v27 : FVec F S512x256 .bf16) (v29 : FVec F S512x128 .bf16)

set_option maxHeartbeats 1600000 in
theorem chunk_wp (mk : Bool) (r : Fin 8) (s : St F) (K : PUnit → sProp 𝕄) :
    iprop(heldIn R c X ∗ heldSt R c s ∗ (iprop(heldIn R c X ∗ heldSt R c (step X mk v15 v27 v29 r s)) -∗ K ⟨⟩))
      ⊢ wp frame (wpE (defs₀ (F := F)) Variants.none c none) Set.univ (chunkR R mk v15 v27 v29 r) K := by
  unfold chunkR chunk heldIn heldSt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H2 H3 H4 H5 H6 H7]
  · isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [H8]
  · iexists _; isplitr; swap; · iexact H8
    ipureintro
    unfold step rowsQ rowsD
    rw [← hf2, ← hf5, ← hf6, ← hf7, ← hf8]
    exact View.read_writes_cons_put _ _ _ _ _ rfl
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro
    unfold step rowsQ rowsD
    rw [← hf2, ← hf5, ← hf6, ← hf7, ← hf11, ← View.readAt_full R.a11.view f11 inb_S256x512_S256x512_0_0]
    exact View.read_writes_full _ _ _ _ _
  iexists _; isplitr; swap; · iexact H12
  ipureintro
  unfold step rowsQ rowsD
  rw [← hf2, ← hf5, ← hf6, ← hf12, ← View.readAt_full R.a12.view f12 inb_S128x512_S128x512_0_0]
  exact View.read_writes_full _ _ _ _ _

/-- A run of chunks' step on the arrays. -/
def steps (X : In F) (v15 : IVec S512x128 1) (v27 : FVec F S512x256 .bf16) (v29 : FVec F S512x128 .bf16) (l : List (Fin 8)) (s : St F) : St F :=
  l.foldl (fun s r => step X false v15 v27 v29 r s) s

theorem chunks_wp (l : List (Fin 8)) (s : St F) (K : PUnit → sProp 𝕄) :
    iprop(heldIn R c X ∗ heldSt R c s ∗ (iprop(heldIn R c X ∗ heldSt R c (steps X v15 v27 v29 l s)) -∗ K ⟨⟩))
      ⊢ wp frame (wpE (defs₀ (F := F)) Variants.none c none) Set.univ (chunks R v15 v27 v29 l) K := by
  induction l generalizing s with
  | nil =>
    unfold chunks
    iintro ⟨H, G, Hk⟩
    sl_step
    iapply Hk
    isplitl [H]
    · iexact H
    iexact G
  | cons r l ih =>
    unfold chunks
    rw [wp_bind]
    iintro ⟨H, G, Hk⟩
    iapply (chunk_wp R c X v15 v27 v29 false r s _)
    isplitl [H]
    · iexact H
    isplitl [G]
    · iexact G
    iintro ⟨H, G⟩
    iapply (ih (step X false v15 v27 v29 r s))
    isplitl [H]
    · iexact H
    isplitl [G]
    · iexact G
    iexact Hk

end Cert.KernelIdeal.Att
-- ==== Proof.Sub.lean ====
module

public import proofs.«01_k».proof.Proof.Chunk

@[expose] public section

set_option synthInstance.maxSize 4096

noncomputable section

/-! # The passage of one block of keys -/

namespace Cert.KernelIdeal.Att

open Idealize.ShloMosaic Idealize.SL.Sem Cert.KernelIdeal.Gen

variable {F : FTy → Type} [FloatOps F] [Named F]
variable (R : Refs) (v15 : IVec S512x128 1) (v27 : FVec F S512x256 .bf16) (v29 : FVec F S512x128 .bf16) (i : grid0.Coords)

/-- The four blocks a loop passes over, from block `s` on: at a head's first point only. -/
def lp (s : ℕ) (h : s + 4 ≤ 8) : List (Fin 8) :=
  if (i 1).val = 0 then [⟨s, by omega⟩, ⟨s + 1, by omega⟩, ⟨s + 2, by omega⟩, ⟨s + 3, by omega⟩] else []

/-! ## The passages -/

/-- At a head's first point the query gradient is cleared. -/
def zeroQ : P F PUnit :=
  if (i 1).val = 0 then do
    let x : Vec F S4096x256 .f32 ← Prog.lift (.load R.a8 (Rect.unit (s := S4096x256) ![0, 0] S4096x256.size inb_S4096x256_S4096x256_0_0).toLoadRect (View.loadsAt_vmem h_S4096x256))
    Prog.lift (.store R.a8 (Rect.unit (s := S4096x256) ![0, 0] S4096x256.size inb_S4096x256_S4096x256_0_0) (k0_pay337 (F := F)) Finset.univ (View.stores_vmem_bits_univ h_S4096x256 rfl) (.inl rfl))
    pure ⟨⟩
  else pure ⟨⟩

theorem ownQ (s : Fin 4) (a : Fin 2) : (![512 * s.val, 0] : Fin 2 → ℕ) a + S512x256.size a ≤ S2048x256.size a := by
  fin_cases a <;> (simp; try omega)
theorem ownD (s : Fin 4) (a : Fin 2) : (![512 * s.val, 0] : Fin 2 → ℕ) a + S512x128.size a ≤ S2048x128.size a := by
  fin_cases a <;> (simp; try omega)

/-- The block of query rows on the diagonal of block `s` of the point's keys. -/
def row (s : Fin 4) : Fin 8 := ⟨4 * (i 1).val + s.val, by have h : (i 1).val < 2 := (i 1).isLt; omega⟩

/-- The start of a block of keys: the scratch cleared, the keys and values read, the chunk on the diagonal. -/
def start (s : Fin 4) : P F (Σ' (_ : FVec F S512x256 .bf16), FVec F S512x128 .bf16) := do
  let x : Vec F S256x512 .f32 ← Prog.lift (.load R.a11 (Rect.unit (s := S256x512) ![0, 0] S256x512.size inb_S256x512_S256x512_0_0).toLoadRect (View.loadsAt_vmem h_S256x512))
  Prog.lift (.store R.a11 (Rect.unit (s := S256x512) ![0, 0] S256x512.size inb_S256x512_S256x512_0_0) (k0_pay339 (F := F)) Finset.univ (View.stores_vmem_bits_univ h_S256x512 rfl) (.inl rfl))
  let y : Vec F S128x512 .f32 ← Prog.lift (.load R.a12 (Rect.unit (s := S128x512) ![0, 0] S128x512.size inb_S128x512_S128x512_0_0).toLoadRect (View.loadsAt_vmem h_S128x512))
  Prog.lift (.store R.a12 (Rect.unit (s := S128x512) ![0, 0] S128x512.size inb_S128x512_S128x512_0_0) (k0_pay340 (F := F)) Finset.univ (View.stores_vmem_bits_univ h_S128x512 rfl) (.inl rfl))
  let k : Vec F S512x256 .bf16 ← Prog.lift (.load R.a3 (Rect.unit (s := S2048x256) ![512 * s.val, 0] S512x256.size (ownQ s)).toLoadRect (View.loadsAt_vmem h_S512x256))
  let v : Vec F S512x128 .bf16 ← Prog.lift (.load R.a4 (Rect.unit (s := S2048x128) ![512 * s.val, 0] S512x128.size (ownD s)).toLoadRect (View.loadsAt_vmem h_S512x128))
  chunkR R true (k0_pay338 i) (k0_pay341 k) (k0_pay342 v) (row i s)
  pure ⟨k0_pay341 k, k0_pay342 v⟩

/-- The end of a block of keys: the two accumulated gradients stored, transposed. -/
def finish (s : Fin 4) : P F PUnit := do
  let x : Vec F S256x512 .f32 ← Prog.lift (.load R.a11 (Rect.unit (s := S256x512) ![0, 0] S256x512.size inb_S256x512_S256x512_0_0).toLoadRect (View.loadsAt_vmem h_S256x512))
  let x' : Vec F S512x256 .f32 ← Prog.lift (.load R.a9 (Rect.unit (s := S2048x256) ![512 * s.val, 0] S512x256.size (ownQ s)).toLoadRect (View.loadsAt_vmem h_S512x256))
  Prog.lift (.store R.a9 (Rect.unit (s := S2048x256) ![512 * s.val, 0] S512x256.size (ownQ s)) (k0_pay357 x) Finset.univ (View.stores_vmem_bits_univ h_S512x256 rfl) (.inl rfl))
  let y : Vec F S128x512 .f32 ← Prog.lift (.load R.a12 (Rect.unit (s := S128x512) ![0, 0] S128x512.size inb_S128x512_S128x512_0_0).toLoadRect (View.loadsAt_vmem h_S128x512))
  let y' : Vec F S512x128 .f32 ← Prog.lift (.load R.a10 (Rect.unit (s := S2048x128) ![512 * s.val, 0] S512x128.size (ownD s)).toLoadRect (View.loadsAt_vmem h_S512x128))
  Prog.lift (.store R.a10 (Rect.unit (s := S2048x128) ![512 * s.val, 0] S512x128.size (ownD s)) (k0_pay358 y) Finset.univ (View.stores_vmem_bits_univ h_S512x128 rfl) (.inl rfl))
  pure ⟨⟩

/-- One block of keys: its start, the chunks of the loop, the chunks after it, its end. -/
def sub (s : Fin 4) (h : s.val + 1 + 4 ≤ 8) (rest : List (Fin 8)) : P F PUnit := do
  let ⟨k, v⟩ ← start R i s
  chunks R (k0_pay338 i) k v (lp i (s.val + 1) h)
  chunks R (k0_pay338 i) k v rest
  finish R s

end Cert.KernelIdeal.Att
-- ==== Proof.Walk.lean ====
module

public import proofs.«01_k».proof.Proof.Triple
public import proofs.«01_k».proof.Proof.Sub

@[expose] public section

set_option maxRecDepth 16384

noncomputable section

/-! # What the body leaves -/

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F] [Named F]

local notation "𝕄" => MT nD τ sig Unit (Elt F) ℕ (UR sig nD τ) ℕ

variable (R : Refs) (c : Dev nD) (X : In F) (i : grid0.Coords)

/-- A point's own block of 512 keys, and of 512 values. -/
def keys (s : Fin 4) : FVec F S512x256 .bf16 := k0_pay341 (window X.k ![512 * s.val, 0] S512x256.size (ownQ s))
def vals (s : Fin 4) : FVec F S512x128 .bf16 := k0_pay342 (window X.v ![512 * s.val, 0] S512x128.size (ownD s))

def zeroSt (s : St F) : St F := if (i 1).val = 0 then { s with dq := k0_pay337 (F := F) } else s
def clear (s : St F) : St F := { s with a := k0_pay339 (F := F), b := k0_pay340 (F := F) }
def finSt (b : Fin 4) (s : St F) : St F :=
  { s with
    dk := put s.dk ![512 * b.val, 0] S512x256.size (k0_pay357 s.a)
    dv := put s.dv ![512 * b.val, 0] S512x128.size (k0_pay358 s.b) }
/-- What the passage of block `b` of the point's keys leaves. -/
def subSt (b : Fin 4) (h : b.val + 1 + 4 ≤ 8) (rest : List (Fin 8)) (s : St F) : St F :=
  finSt b (steps X (k0_pay338 i) (keys X b) (vals X b) rest (steps X (k0_pay338 i) (keys X b) (vals X b) (lp i (b.val + 1) h)
    (step X true (k0_pay338 i) (keys X b) (vals X b) (row i b) (clear s))))
/-- What the body leaves. -/
def bodySt (s : St F) : St F :=
  subSt X i 3 (by decide) [] (subSt X i 2 (by decide) [7] (subSt X i 1 (by decide) [6, 7] (subSt X i 0 (by decide) [5, 6, 7] (zeroSt i s))))

theorem zeroQ_wp (s : St F) (K : PUnit → sProp 𝕄) :
    iprop(heldIn R c X ∗ heldSt R c s ∗ (iprop(heldIn R c X ∗ heldSt R c (zeroSt i s)) -∗ K ⟨⟩)) ⊢ wp frame (wpE (defs₀ (F := F)) Variants.none c none) Set.univ (zeroQ R i) K := by
  unfold zeroQ zeroSt
  by_cases hk : (i 1).val = 0
  · rw [if_pos hk, if_pos hk]
    unfold heldSt owns
    iintro ⟨H, ⟨⟨%f8, %hf8, H8⟩, ⟨%f9, %hf9, H9⟩, ⟨%f10, %hf10, H10⟩, ⟨%f11, %hf11, H11⟩, ⟨%f12, %hf12, H12⟩⟩, Hk⟩
    sl_exec
    sl_step
    iapply Hk
    isplitl [H]
    · iexact H
    isplitl [H8]
    · iexists _; isplitr; swap; · iexact H8
      ipureintro
      exact View.read_writes_full _ _ _ _ _
    isplitl [H9]
    · iexists _; isplitr; swap; · iexact H9
      ipureintro
      exact hf9
    isplitl [H10]
    · iexists _; isplitr; swap; · iexact H10
      ipureintro
      exact hf10
    isplitl [H11]
    · iexists _; isplitr; swap; · iexact H11
      ipureintro
      exact hf11
    iexists _; isplitr; swap; · iexact H12
    ipureintro
    exact hf12
  · rw [if_neg hk, if_neg hk]
    iintro ⟨H, G, Hk⟩
    sl_step
    iapply Hk
    isplitl [H]
    · iexact H
    iexact G

set_option maxHeartbeats 1600000 in
/-- The stretch of the start before its chunk. -/
theorem head_wp (b : Fin 4) (s : St F) {α : Type} (k : Vec F S512x256 .bf16 → Vec F S512x128 .bf16 → P F α) (K : α → sProp 𝕄) :
    iprop(heldIn R c X ∗ heldSt R c s ∗ (iprop(heldIn R c X ∗ heldSt R c (clear s)) -∗ wp frame (wpE (defs₀ (F := F)) Variants.none c none) Set.univ
        (k (window X.k ![512 * b.val, 0] S512x256.size (ownQ b)) (window X.v ![512 * b.val, 0] S512x128.size (ownD b))) K)) ⊢ wp frame (wpE (defs₀ (F := F)) Variants.none c none) Set.univ (do
      let x : Vec F S256x512 .f32 ← Prog.lift (.load R.a11 (Rect.unit (s := S256x512) ![0, 0] S256x512.size inb_S256x512_S256x512_0_0).toLoadRect (View.loadsAt_vmem h_S256x512))
      Prog.lift (.store R.a11 (Rect.unit (s := S256x512) ![0, 0] S256x512.size inb_S256x512_S256x512_0_0) (k0_pay339 (F := F)) Finset.univ (View.stores_vmem_bits_univ h_S256x512 rfl) (.inl rfl))
      let y : Vec F S128x512 .f32 ← Prog.lift (.load R.a12 (Rect.unit (s := S128x512) ![0, 0] S128x512.size inb_S128x512_S128x512_0_0).toLoadRect (View.loadsAt_vmem h_S128x512))
      Prog.lift (.store R.a12 (Rect.unit (s := S128x512) ![0, 0] S128x512.size inb_S128x512_S128x512_0_0) (k0_pay340 (F := F)) Finset.univ (View.stores_vmem_bits_univ h_S128x512 rfl) (.inl rfl))
      let kk : Vec F S512x256 .bf16 ← Prog.lift (.load R.a3 (Rect.unit (s := S2048x256) ![512 * b.val, 0] S512x256.size (ownQ b)).toLoadRect (View.loadsAt_vmem h_S512x256))
      let vv : Vec F S512x128 .bf16 ← Prog.lift (.load R.a4 (Rect.unit (s := S2048x128) ![512 * b.val, 0] S512x128.size (ownD b)).toLoadRect (View.loadsAt_vmem h_S512x128))
      k kk vv) K := by
  unfold heldIn heldSt owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, ⟨⟨%f8, %hf8, H8⟩, ⟨%f9, %hf9, H9⟩, ⟨%f10, %hf10, H10⟩, ⟨%f11, %hf11, H11⟩, ⟨%f12, %hf12, H12⟩⟩, Hk⟩
  sl_exec
  have e3 : View.readAt (Elt F) R.a3.view (Rect.unit (s := S2048x256) ![512 * b.val, 0] S512x256.size (ownQ b)).toLoadRect f3
      = window X.k ![512 * b.val, 0] S512x256.size (ownQ b) := by rw [← hf3]; rfl
  have e4 : View.readAt (Elt F) R.a4.view (Rect.unit (s := S2048x128) ![512 * b.val, 0] S512x128.size (ownD b)).toLoadRect f4
      = window X.v ![512 * b.val, 0] S512x128.size (ownD b) := by rw [← hf4]; rfl
  rw [e3, e4]
  iapply Hk
  isplitl [H2 H3 H4 H5 H6 H7]
  · isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    iexists _; isplitr; swap; · iexact H7
    ipureintro; exact hf7
  isplitl [H8]
  · iexists _; isplitr; swap; · iexact H8
    ipureintro
    exact hf8
  isplitl [H9]
  · iexists _; isplitr; swap; · iexact H9
    ipureintro
    exact hf9
  isplitl [H10]
  · iexists _; isplitr; swap; · iexact H10
    ipureintro
    exact hf10
  isplitl [H11]
  · iexists _; isplitr; swap; · iexact H11
    ipureintro
    exact View.read_writes_full _ _ _ _ _
  iexists _; isplitr; swap; · iexact H12
  ipureintro
  exact View.read_writes_full _ _ _ _ _

theorem start_wp (b : Fin 4) (s : St F) (K : (Σ' (_ : FVec F S512x256 .bf16), FVec F S512x128 .bf16) → sProp 𝕄) :
    iprop(heldIn R c X ∗ heldSt R c s ∗ (iprop(heldIn R c X ∗ heldSt R c (step X true (k0_pay338 i) (keys X b) (vals X b) (row i b) (clear s)))
      -∗ K ⟨keys X b, vals X b⟩)) ⊢ wp frame (wpE (defs₀ (F := F)) Variants.none c none) Set.univ (start R i b) K := by
  unfold start keys vals
  iintro ⟨H, G, Hk⟩
  iapply (head_wp R c X b s _ K)
  isplitl [H]
  · iexact H
  isplitl [G]
  · iexact G
  iintro ⟨H, G⟩
  rw [wp_bind]
  iapply (chunk_wp R c X (k0_pay338 i) _ _ true (row i b) (clear s) _)
  isplitl [H]
  · iexact H
  isplitl [G]
  · iexact G
  iintro HG
  sl_step
  iapply Hk
  iexact HG

set_option maxHeartbeats 1600000 in
theorem finish_wp (b : Fin 4) (s : St F) (K : PUnit → sProp 𝕄) :
    iprop(heldIn R c X ∗ heldSt R c s ∗ (iprop(heldIn R c X ∗ heldSt R c (finSt b s)) -∗ K ⟨⟩)) ⊢ wp frame (wpE (defs₀ (F := F)) Variants.none c none) Set.univ (finish R b) K := by
  unfold finish heldSt owns
  iintro ⟨H, ⟨⟨%f8, %hf8, H8⟩, ⟨%f9, %hf9, H9⟩, ⟨%f10, %hf10, H10⟩, ⟨%f11, %hf11, H11⟩, ⟨%f12, %hf12, H12⟩⟩, Hk⟩
  sl_exec
  sl_step
  iapply Hk
  isplitl [H]
  · iexact H
  isplitl [H8]
  · iexists _; isplitr; swap; · iexact H8
    ipureintro
    exact hf8
  isplitl [H9]
  · iexists _; isplitr; swap; · iexact H9
    ipureintro
    unfold finSt
    rw [← hf9, ← hf11, ← View.readAt_full R.a11.view f11 inb_S256x512_S256x512_0_0]
    exact View.read_writes_cons_put _ _ _ _ _ rfl
  isplitl [H10]
  · iexists _; isplitr; swap; · iexact H10
    ipureintro
    unfold finSt
    rw [← hf10, ← hf12, ← View.readAt_full R.a12.view f12 inb_S128x512_S128x512_0_0]
    exact View.read_writes_cons_put _ _ _ _ _ rfl
  isplitl [H11]
  · iexists _; isplitr; swap; · iexact H11
    ipureintro
    exact hf11
  iexists _; isplitr; swap; · iexact H12
  ipureintro
  exact hf12

theorem sub_wp (b : Fin 4) (h : b.val + 1 + 4 ≤ 8) (rest : List (Fin 8)) (s : St F) (K : PUnit → sProp 𝕄) :
    iprop(heldIn R c X ∗ heldSt R c s ∗ (iprop(heldIn R c X ∗ heldSt R c (subSt X i b h rest s)) -∗ K ⟨⟩)) ⊢ wp frame (wpE (defs₀ (F := F)) Variants.none c none) Set.univ (sub R i b h rest) K := by
  unfold sub subSt
  rw [wp_bind]
  iintro ⟨H, G, Hk⟩
  iapply (start_wp R c X i b s _)
  isplitl [H]
  · iexact H
  isplitl [G]
  · iexact G
  iintro ⟨H, G⟩
  dsimp only
  rw [wp_bind]
  iapply (chunks_wp R c X (k0_pay338 i) (keys X b) (vals X b) (lp i (b.val + 1) h) _ _)
  isplitl [H]
  · iexact H
  isplitl [G]
  · iexact G
  iintro ⟨H, G⟩
  rw [wp_bind]
  iapply (chunks_wp R c X (k0_pay338 i) (keys X b) (vals X b) rest _ _)
  isplitl [H]
  · iexact H
  isplitl [G]
  · iexact G
  iintro ⟨H, G⟩
  iapply (finish_wp R c X b _ _)
  isplitl [H]
  · iexact H
  isplitl [G]
  · iexact G
  iexact Hk

/-- The passages one after another. -/
theorem body_wp (s : St F) (K : PUnit → sProp 𝕄) :
    iprop(heldIn R c X ∗ heldSt R c s ∗ (iprop(heldIn R c X ∗ heldSt R c (bodySt X i s)) -∗ K ⟨⟩)) ⊢ wp frame (wpE (defs₀ (F := F)) Variants.none c none) Set.univ (do
      zeroQ R i
      sub R i 0 (by decide) [5, 6, 7]
      sub R i 1 (by decide) [6, 7]
      sub R i 2 (by decide) [7]
      sub R i 3 (by decide) []) K := by
  unfold bodySt
  iintro ⟨H, G, Hk⟩
  rw [wp_bind]
  iapply (zeroQ_wp R c X i s _)
  isplitl [H]
  · iexact H
  isplitl [G]
  · iexact G
  iintro ⟨H, G⟩
  rw [wp_bind]
  iapply (sub_wp R c X i 0 _ [5, 6, 7] _ _)
  isplitl [H]
  · iexact H
  isplitl [G]
  · iexact G
  iintro ⟨H, G⟩
  rw [wp_bind]
  iapply (sub_wp R c X i 1 _ [6, 7] _ _)
  isplitl [H]
  · iexact H
  isplitl [G]
  · iexact G
  iintro ⟨H, G⟩
  rw [wp_bind]
  iapply (sub_wp R c X i 2 _ [7] _ _)
  isplitl [H]
  · iexact H
  isplitl [G]
  · iexact G
  iintro ⟨H, G⟩
  iapply (sub_wp R c X i 3 _ [] _ _)
  isplitl [H]
  · iexact H
  isplitl [G]
  · iexact G
  iexact Hk

end Cert.KernelIdeal.Att
-- ==== Proof.Values.lean ====
module

public import proofs.«01_k».proof.Proof.Walk
public import Idealize.ShloMosaic.Lib.ValueIdxCore

@[expose] public section

set_option maxRecDepth 16384

noncomputable section

/-! # What the body leaves, gradient by gradient

The key and value gradients of a block of keys are folds over the blocks of query rows on and below the
diagonal, apart from anything the memory held before; the query gradient is a fold of row blocks changed in place. -/

namespace Cert.KernelIdeal.Att

open Cert.KernelIdeal.Gen
open Idealize.ShloMosaic Idealize.ShloMosaic.VecWindow Idealize.ShloMosaic.ValueIdx

variable {F : FTy → Type} [FloatOps F] [Named F]
variable (X : In F) (i : grid0.Coords)

/-- One block of query rows on top of the key gradient's accumulator, the value gradient's, the query gradient. -/
def stepA (b : Fin 4) (mk : Bool) (r : Fin 8) (a : Vec F S256x512 .f32) : Vec F S256x512 .f32 :=
  accK mk (k0_pay338 i) (keys X b) (vals X b) (rowsQ X.q r) (rowsD X.ct r) (rowsD X.lse r) (rowsD X.dl r) a
def stepB (b : Fin 4) (mk : Bool) (r : Fin 8) (a : Vec F S128x512 .f32) : Vec F S128x512 .f32 :=
  accV mk (k0_pay338 i) (keys X b) (rowsQ X.q r) (rowsD X.ct r) (rowsD X.lse r) a
def stepQ (b : Fin 4) (mk : Bool) (r : Fin 8) (d : Vec F S4096x256 .f32) : Vec F S4096x256 .f32 :=
  put d ![512 * r.val, 0] S512x256.size
    (accQ mk (k0_pay338 i) (keys X b) (vals X b) (rowsQ X.q r) (rowsD X.ct r) (rowsD X.lse r) (rowsD X.dl r) (rowsQ d r))

/-- The blocks of query rows after the loop of four. -/
def tail (b : Fin 4) : List (Fin 8) := (![[5, 6, 7], [6, 7], [7], []] : Fin 4 → List (Fin 8)) b
/-- The blocks of query rows below the diagonal of block `b` of the point's keys. -/
def below (b : Fin 4) : List (Fin 8) := lp i (b.val + 1) (by omega) ++ tail b

def sumA (b : Fin 4) : Vec F S256x512 .f32 :=
  (below i b).foldl (fun a r => stepA X i b false r a) (stepA X i b true (row i b) (k0_pay339 (F := F)))
def sumB (b : Fin 4) : Vec F S128x512 .f32 :=
  (below i b).foldl (fun a r => stepB X i b false r a) (stepB X i b true (row i b) (k0_pay340 (F := F)))
def sumQ (b : Fin 4) (d : Vec F S4096x256 .f32) : Vec F S4096x256 .f32 :=
  (below i b).foldl (fun a r => stepQ X i b false r a) (stepQ X i b true (row i b) d)

theorem steps_a (b : Fin 4) (l : List (Fin 8)) (s : St F) :
    (steps X (k0_pay338 i) (keys X b) (vals X b) l s).a = l.foldl (fun a r => stepA X i b false r a) s.a := by
  unfold steps
  induction l generalizing s with
  | nil => rfl
  | cons r l ih => rw [List.foldl_cons, List.foldl_cons, ih]; rfl
theorem steps_b (b : Fin 4) (l : List (Fin 8)) (s : St F) :
    (steps X (k0_pay338 i) (keys X b) (vals X b) l s).b = l.foldl (fun a r => stepB X i b false r a) s.b := by
  unfold steps
  induction l generalizing s with
  | nil => rfl
  | cons r l ih => rw [List.foldl_cons, List.foldl_cons, ih]; rfl
theorem steps_dq (b : Fin 4) (l : List (Fin 8)) (s : St F) :
    (steps X (k0_pay338 i) (keys X b) (vals X b) l s).dq = l.foldl (fun a r => stepQ X i b false r a) s.dq := by
  unfold steps
  induction l generalizing s with
  | nil => rfl
  | cons r l ih => rw [List.foldl_cons, List.foldl_cons, ih]; rfl
theorem steps_dk (b : Fin 4) (l : List (Fin 8)) (s : St F) :
    (steps X (k0_pay338 i) (keys X b) (vals X b) l s).dk = s.dk := by
  unfold steps
  induction l generalizing s with
  | nil => rfl
  | cons r l ih => rw [List.foldl_cons, ih]; rfl
theorem steps_dv (b : Fin 4) (l : List (Fin 8)) (s : St F) :
    (steps X (k0_pay338 i) (keys X b) (vals X b) l s).dv = s.dv := by
  unfold steps
  induction l generalizing s with
  | nil => rfl
  | cons r l ih => rw [List.foldl_cons, ih]; rfl

theorem subSt_dq (b : Fin 4) (h : b.val + 1 + 4 ≤ 8) (s : St F) : (subSt X i b h (tail b) s).dq = sumQ X i b s.dq := by
  show (steps X _ _ _ _ _).dq = _
  rw [steps_dq, steps_dq]
  unfold sumQ below
  rw [List.foldl_append]
  rfl
theorem subSt_dk (b : Fin 4) (h : b.val + 1 + 4 ≤ 8) (s : St F) :
    (subSt X i b h (tail b) s).dk = put s.dk ![512 * b.val, 0] S512x256.size (k0_pay357 (sumA X i b)) := by
  show put (steps X _ _ _ _ _).dk _ _ (k0_pay357 (steps X _ _ _ _ _).a) = _
  rw [steps_dk, steps_dk, steps_a, steps_a]
  unfold sumA below
  rw [List.foldl_append]
  rfl
theorem subSt_dv (b : Fin 4) (h : b.val + 1 + 4 ≤ 8) (s : St F) :
    (subSt X i b h (tail b) s).dv = put s.dv ![512 * b.val, 0] S512x128.size (k0_pay358 (sumB X i b)) := by
  show put (steps X _ _ _ _ _).dv _ _ (k0_pay358 (steps X _ _ _ _ _).b) = _
  rw [steps_dv, steps_dv, steps_b, steps_b]
  unfold sumB below
  rw [List.foldl_append]
  rfl

theorem bodySt_tail (s : St F) : bodySt X i s = subSt X i 3 (by decide) (tail 3) (subSt X i 2 (by decide) (tail 2)
    (subSt X i 1 (by decide) (tail 1) (subSt X i 0 (by decide) (tail 0) (zeroSt i s)))) := rfl

/-- The query gradient a point leaves, of the one it finds. -/
def dqOf (d : Vec F S4096x256 .f32) : Vec F S4096x256 .f32 :=
  sumQ X i 3 (sumQ X i 2 (sumQ X i 1 (sumQ X i 0 (if (i 1).val = 0 then k0_pay337 (F := F) else d))))
/-- The key gradient a point leaves. -/
def dkOf : Vec F S2048x256 .f32 := fun y =>
  k0_pay357 (sumA X i ⟨(y 0).val / 512, by have := idx2_lt0 y; omega⟩) (ix2 ⟨(y 0).val % 512, by omega⟩ (y 1))
/-- The value gradient a point leaves. -/
def dvOf : Vec F S2048x128 .f32 := fun y =>
  k0_pay358 (sumB X i ⟨(y 0).val / 512, by have := idx2_lt0 y; omega⟩) (ix2 ⟨(y 0).val % 512, by omega⟩ (y 1))

theorem bodySt_dq (s : St F) : (bodySt X i s).dq = dqOf X i s.dq := by
  rw [bodySt_tail, subSt_dq, subSt_dq, subSt_dq, subSt_dq]
  unfold dqOf zeroSt
  congr 4
  split <;> rfl

/-- Four row blocks put one after another hold every row. -/
theorem put_four {α : Type} {w : ℕ} (x : (⟨2, ![2048, w]⟩ : Shape).Idx → α) (f : Fin 4 → (⟨2, ![512, w]⟩ : Shape).Idx → α) :
    put (s := ⟨2, ![2048, w]⟩) (put (s := ⟨2, ![2048, w]⟩) (put (s := ⟨2, ![2048, w]⟩) (put (s := ⟨2, ![2048, w]⟩) x
        ![512 * (0 : Fin 4).val, 0] ![512, w] (f 0)) ![512 * (1 : Fin 4).val, 0] ![512, w] (f 1))
        ![512 * (2 : Fin 4).val, 0] ![512, w] (f 2)) ![512 * (3 : Fin 4).val, 0] ![512, w] (f 3)
      = fun y => f ⟨(y 0).val / 512, by have := idx2_lt0 y; omega⟩ (ix2 ⟨(y 0).val % 512, by omega⟩ (y 1)) := by
  funext y
  have h0 : (y 0).val < 2048 := idx2_lt0 y
  have h1 : (y 1).val < w := idx2_lt1 y
  have key : ∀ (b : Fin 4) (z : (⟨2, ![2048, w]⟩ : Shape).Idx → α),
      put (s := ⟨2, ![2048, w]⟩) z ![512 * b.val, 0] ![512, w] (f b) y
        = if (y 0).val / 512 = b.val then f ⟨(y 0).val / 512, by omega⟩ (ix2 ⟨(y 0).val % 512, by omega⟩ (y 1)) else z y := by
    intro b z
    unfold put
    by_cases hb : (y 0).val / 512 = b.val
    · rw [if_pos hb, dif_pos]
      · rw [show (⟨(y 0).val / 512, by omega⟩ : Fin 4) = b from Fin.ext hb]
        congr 1
        funext a
        apply Fin.ext
        fin_cases a
        · show (y 0).val - 512 * b.val = (y 0).val % 512
          omega
        · show (y 1).val - 0 = (y 1).val
          omega
      · intro a
        fin_cases a
        · show 512 * b.val ≤ (y 0).val ∧ (y 0).val < 512 * b.val + 512
          omega
        · show 0 ≤ (y 1).val ∧ (y 1).val < 0 + w
          omega
    · rw [if_neg hb, dif_neg]
      intro h
      have h := h 0
      have h : 512 * b.val ≤ (y 0).val ∧ (y 0).val < 512 * b.val + 512 := h
      omega
  rw [key, key, key, key]
  have : (y 0).val / 512 = 0 ∨ (y 0).val / 512 = 1 ∨ (y 0).val / 512 = 2 ∨ (y 0).val / 512 = 3 := by omega
  rcases this with h | h | h | h <;> simp [h]

theorem bodySt_dk (s : St F) : (bodySt X i s).dk = dkOf X i := by
  rw [bodySt_tail, subSt_dk, subSt_dk, subSt_dk, subSt_dk]
  exact put_four (w := 256) _ (fun b => k0_pay357 (sumA X i b))
theorem bodySt_dv (s : St F) : (bodySt X i s).dv = dvOf X i := by
  rw [bodySt_tail, subSt_dv, subSt_dv, subSt_dv, subSt_dv]
  exact put_four (w := 128) _ (fun b => k0_pay358 (sumB X i b))

end Cert.KernelIdeal.Att
-- ==== Proof.Body.lean ====
module

public import proofs.«01_k».proof.Proof.Sub

@[expose] public section

set_option synthInstance.maxSize 4096

noncomputable section

/-! # The kernel's body, chunk by chunk

At each grid point the body is: the query gradient cleared at a head's first point, then four blocks of keys, each a passage over the
blocks of query rows from the diagonal on. The counted loops run at most one trip of four chunks, and which of the remaining chunks run
does not depend on the point. -/

namespace Cert.KernelIdeal.Att

open Idealize.ShloMosaic Idealize.SL.Sem Cert.KernelIdeal.Gen

variable {F : FTy → Type} [FloatOps F] [Named F]

/-! ## Conditions, trip counts and offsets, by computation over the grid -/

theorem cond2 : ∀ i : grid0.Coords, k0_cond2 i = 1#1 := by decide +kernel
theorem cond3 : ∀ i : grid0.Coords, k0_cond3 i = 1#1 := by decide +kernel
theorem cond4 : ∀ i : grid0.Coords, k0_cond4 i = 1#1 := by decide +kernel
theorem cond5 : ∀ i : grid0.Coords, ¬ k0_cond5 i = 1#1 := by decide +kernel
theorem cond6 : ∀ i : grid0.Coords, ¬ k0_cond6 i = 1#1 := by decide +kernel
theorem cond7 : ∀ i : grid0.Coords, k0_cond7 i = 1#1 := by decide +kernel
theorem cond8 : ∀ i : grid0.Coords, ¬ k0_cond8 i = 1#1 := by decide +kernel
theorem cond9 : ∀ i : grid0.Coords, ¬ k0_cond9 i = 1#1 := by decide +kernel
theorem trips1 : ∀ i : grid0.Coords, (k0_t1_loop i).trips = if (i 1).val = 0 then 1 else 0 := by decide +kernel
theorem trips2 : ∀ i : grid0.Coords, (k0_t2_loop i).trips = 0 := by decide +kernel
theorem trips3 : ∀ i : grid0.Coords, (k0_t3_loop i).trips = if (i 1).val = 0 then 1 else 0 := by decide +kernel
theorem trips4 : ∀ i : grid0.Coords, (k0_t4_loop i).trips = 0 := by decide +kernel
theorem trips5 : ∀ i : grid0.Coords, (k0_t5_loop i).trips = if (i 1).val = 0 then 1 else 0 := by decide +kernel
theorem trips6 : ∀ i : grid0.Coords, (k0_t6_loop i).trips = 0 := by decide +kernel
theorem trips7 : ∀ i : grid0.Coords, (k0_t7_loop i).trips = if (i 1).val = 0 then 1 else 0 := by decide +kernel
theorem trips8 : ∀ i : grid0.Coords, (k0_t8_loop i).trips = 0 := by decide +kernel
theorem off1 : ∀ i : grid0.Coords, ∀ u : Fin 4, k0_off1 i (BitVec.ofNat 32 u.val) = ![512 * (4 * (i 1).val + u.val), 0] := by decide +kernel
theorem off2 : ∀ i : grid0.Coords, ∀ u : Fin 4, k0_off2 i (BitVec.ofNat 32 u.val) = ![512 * (4 * (i 1).val + u.val), 0] := by decide +kernel
theorem off3 : ∀ (i : grid0.Coords) (k : Fin (k0_t1_loop i).trips) (u : Fin 4), k0_off3 i k (BitVec.ofNat 32 u.val) = ![512 * (1 + u.val), 0] := by decide +kernel
theorem off4 : ∀ (i : grid0.Coords) (k : Fin (k0_t1_loop i).trips) (u : Fin 4), k0_off4 i k (BitVec.ofNat 32 u.val) = ![512 * (1 + u.val), 0] := by decide +kernel
theorem off11 : ∀ (i : grid0.Coords) (k : Fin (k0_t3_loop i).trips) (u : Fin 4), k0_off11 i k (BitVec.ofNat 32 u.val) = ![512 * (2 + u.val), 0] := by decide +kernel
theorem off12 : ∀ (i : grid0.Coords) (k : Fin (k0_t3_loop i).trips) (u : Fin 4), k0_off12 i k (BitVec.ofNat 32 u.val) = ![512 * (2 + u.val), 0] := by decide +kernel
theorem off19 : ∀ (i : grid0.Coords) (k : Fin (k0_t5_loop i).trips) (u : Fin 4), k0_off19 i k (BitVec.ofNat 32 u.val) = ![512 * (3 + u.val), 0] := by decide +kernel
theorem off20 : ∀ (i : grid0.Coords) (k : Fin (k0_t5_loop i).trips) (u : Fin 4), k0_off20 i k (BitVec.ofNat 32 u.val) = ![512 * (3 + u.val), 0] := by decide +kernel
theorem off27 : ∀ (i : grid0.Coords) (k : Fin (k0_t7_loop i).trips) (u : Fin 4), k0_off27 i k (BitVec.ofNat 32 u.val) = ![512 * (4 + u.val), 0] := by decide +kernel
theorem off28 : ∀ (i : grid0.Coords) (k : Fin (k0_t7_loop i).trips) (u : Fin 4), k0_off28 i k (BitVec.ofNat 32 u.val) = ![512 * (4 + u.val), 0] := by decide +kernel
theorem off7 : ∀ i : grid0.Coords, k0_off7 i = ![512 * 5, 0] := by decide +kernel
theorem off8 : ∀ i : grid0.Coords, k0_off8 i = ![512 * 5, 0] := by decide +kernel
theorem off9 : ∀ i : grid0.Coords, k0_off9 i = ![512 * 6, 0] := by decide +kernel
theorem off10 : ∀ i : grid0.Coords, k0_off10 i = ![512 * 6, 0] := by decide +kernel
theorem off15 : ∀ i : grid0.Coords, k0_off15 i = ![512 * 6, 0] := by decide +kernel
theorem off16 : ∀ i : grid0.Coords, k0_off16 i = ![512 * 6, 0] := by decide +kernel
theorem off17 : ∀ i : grid0.Coords, k0_off17 i = ![512 * 7, 0] := by decide +kernel
theorem off18 : ∀ i : grid0.Coords, k0_off18 i = ![512 * 7, 0] := by decide +kernel

variable (R : Refs) (v15 : IVec S512x128 1) (v27 : FVec F S512x256 .bf16) (v29 : FVec F S512x128 .bf16) (i : grid0.Coords)

/-! ## The loops -/

/-- A loop of at most one trip of four chunks is its list of chunks. -/
theorem for_chunks (l : Scf.Loop 32) (hok : l.OK) (s : ℕ) (h : s + 4 ≤ 8) (ht : l.trips = if (i 1).val = 0 then 1 else 0)
    (body : Fin l.trips → PUnit → P F PUnit)
    (hb : ∀ k, body k ⟨⟩ = chunks R v15 v27 v29 [⟨s, by omega⟩, ⟨s + 1, by omega⟩, ⟨s + 2, by omega⟩, ⟨s + 3, by omega⟩]) :
    l.for hok ⟨⟩ body = chunks R v15 v27 v29 (lp i s h) := by
  unfold lp
  by_cases hk : (i 1).val = 0
  · rw [if_pos hk] at ht ⊢
    rw [Scf.for_trips1 l hok ht, hb]
    rfl
  · rw [if_neg hk] at ht ⊢
    rw [Scf.for_trips0 l hok ht]
    rfl

theorem loop1 (a b c d : BitVec 32) :
    (k0_t1_loop i).for (k0_t1_ok i) ⟨⟩ (R.ap (k0_t1_body (F := F) i) v15 v27 v29 a b c d) = chunks R v15 v27 v29 (lp i 1 (by omega)) := by
  refine for_chunks R v15 v27 v29 i _ _ 1 (by omega) (trips1 i) _ fun k => ?_
  rw [chunks, ← chunk_at R false v15 v27 v29 _ (off3 i k 0) (off4 i k 0) (h1 := k0_off3_inb i k 0) (h2 := k0_off4_inb i k 0)]
  rw [chunks, ← chunk_at R false v15 v27 v29 _ (off3 i k 1) (off4 i k 1) (h1 := k0_off3_inb i k 1) (h2 := k0_off4_inb i k 1)]
  rw [chunks, ← chunk_at R false v15 v27 v29 _ (off3 i k 2) (off4 i k 2) (h1 := k0_off3_inb i k 2) (h2 := k0_off4_inb i k 2)]
  rw [chunks, ← chunk_at R false v15 v27 v29 _ (off3 i k 3) (off4 i k 3) (h1 := k0_off3_inb i k 3) (h2 := k0_off4_inb i k 3)]
  rfl

theorem loop3 (a b c d : BitVec 32) :
    (k0_t3_loop i).for (k0_t3_ok i) ⟨⟩ (R.ap (k0_t3_body (F := F) i) v15 v27 v29 a b c d) = chunks R v15 v27 v29 (lp i 2 (by omega)) := by
  refine for_chunks R v15 v27 v29 i _ _ 2 (by omega) (trips3 i) _ fun k => ?_
  rw [chunks, ← chunk_at R false v15 v27 v29 _ (off11 i k 0) (off12 i k 0) (h1 := k0_off11_inb i k 0) (h2 := k0_off12_inb i k 0)]
  rw [chunks, ← chunk_at R false v15 v27 v29 _ (off11 i k 1) (off12 i k 1) (h1 := k0_off11_inb i k 1) (h2 := k0_off12_inb i k 1)]
  rw [chunks, ← chunk_at R false v15 v27 v29 _ (off11 i k 2) (off12 i k 2) (h1 := k0_off11_inb i k 2) (h2 := k0_off12_inb i k 2)]
  rw [chunks, ← chunk_at R false v15 v27 v29 _ (off11 i k 3) (off12 i k 3) (h1 := k0_off11_inb i k 3) (h2 := k0_off12_inb i k 3)]
  rfl

theorem loop5 (a b c : BitVec 32) (d : BitVec 1) :
    (k0_t5_loop i).for (k0_t5_ok i) ⟨⟩ (R.ap (k0_t5_body (F := F) i) v15 v27 v29 a b c d) = chunks R v15 v27 v29 (lp i 3 (by omega)) := by
  refine for_chunks R v15 v27 v29 i _ _ 3 (by omega) (trips5 i) _ fun k => ?_
  rw [chunks, ← chunk_at R false v15 v27 v29 _ (off19 i k 0) (off20 i k 0) (h1 := k0_off19_inb i k 0) (h2 := k0_off20_inb i k 0)]
  rw [chunks, ← chunk_at R false v15 v27 v29 _ (off19 i k 1) (off20 i k 1) (h1 := k0_off19_inb i k 1) (h2 := k0_off20_inb i k 1)]
  rw [chunks, ← chunk_at R false v15 v27 v29 _ (off19 i k 2) (off20 i k 2) (h1 := k0_off19_inb i k 2) (h2 := k0_off20_inb i k 2)]
  rw [chunks, ← chunk_at R false v15 v27 v29 _ (off19 i k 3) (off20 i k 3) (h1 := k0_off19_inb i k 3) (h2 := k0_off20_inb i k 3)]
  rfl

theorem loop7 (a b c d e f : BitVec 32) :
    (k0_t7_loop i).for (k0_t7_ok i) ⟨⟩ (R.ap (k0_t7_body (F := F) i) v15 v27 v29 a b c d e f) = chunks R v15 v27 v29 (lp i 4 (by omega)) := by
  refine for_chunks R v15 v27 v29 i _ _ 4 (by omega) (trips7 i) _ fun k => ?_
  rw [chunks, ← chunk_at R false v15 v27 v29 _ (off27 i k 0) (off28 i k 0) (h1 := k0_off27_inb i k 0) (h2 := k0_off28_inb i k 0)]
  rw [chunks, ← chunk_at R false v15 v27 v29 _ (off27 i k 1) (off28 i k 1) (h1 := k0_off27_inb i k 1) (h2 := k0_off28_inb i k 1)]
  rw [chunks, ← chunk_at R false v15 v27 v29 _ (off27 i k 2) (off28 i k 2) (h1 := k0_off27_inb i k 2) (h2 := k0_off28_inb i k 2)]
  rw [chunks, ← chunk_at R false v15 v27 v29 _ (off27 i k 3) (off28 i k 3) (h1 := k0_off27_inb i k 3) (h2 := k0_off28_inb i k 3)]
  rfl

theorem condA : ∀ i : grid0.Coords, (i 1).val = 0 →
    Scalar.cmpi .ne (Scalar.extui (Scalar.cmpi .eq (BitVec.ofNat 32 (i 1).val) 0#32) : BitVec 32) 0#32 = 1#1 := by decide +kernel
theorem condB : ∀ i : grid0.Coords, ¬ (i 1).val = 0 →
    ¬ Scalar.cmpi .ne (Scalar.extui (Scalar.cmpi .eq (BitVec.ofNat 32 (i 1).val) 0#32) : BitVec 32) 0#32 = 1#1 := by decide +kernel

theorem start_eq (s : Fin 4) : start (F := F) R i s = (do
    let x : Vec F S256x512 .f32 ← Prog.lift (.load R.a11 (Rect.unit (s := S256x512) ![0, 0] S256x512.size inb_S256x512_S256x512_0_0).toLoadRect (View.loadsAt_vmem h_S256x512))
    Prog.lift (.store R.a11 (Rect.unit (s := S256x512) ![0, 0] S256x512.size inb_S256x512_S256x512_0_0) (k0_pay339 (F := F)) Finset.univ (View.stores_vmem_bits_univ h_S256x512 rfl) (.inl rfl))
    let y : Vec F S128x512 .f32 ← Prog.lift (.load R.a12 (Rect.unit (s := S128x512) ![0, 0] S128x512.size inb_S128x512_S128x512_0_0).toLoadRect (View.loadsAt_vmem h_S128x512))
    Prog.lift (.store R.a12 (Rect.unit (s := S128x512) ![0, 0] S128x512.size inb_S128x512_S128x512_0_0) (k0_pay340 (F := F)) Finset.univ (View.stores_vmem_bits_univ h_S128x512 rfl) (.inl rfl))
    let k : Vec F S512x256 .bf16 ← Prog.lift (.load R.a3 (Rect.unit (s := S2048x256) ![512 * s.val, 0] S512x256.size (ownQ s)).toLoadRect (View.loadsAt_vmem h_S512x256))
    let v : Vec F S512x128 .bf16 ← Prog.lift (.load R.a4 (Rect.unit (s := S2048x128) ![512 * s.val, 0] S512x128.size (ownD s)).toLoadRect (View.loadsAt_vmem h_S512x128))
    chunk R true (k0_pay338 i) (k0_pay341 k) (k0_pay342 v) (k0_off1 i (BitVec.ofNat 32 s.val)) (k0_off1_inb i s) (k0_off2 i (BitVec.ofNat 32 s.val)) (k0_off2_inb i s)
    pure ⟨k0_pay341 k, k0_pay342 v⟩) := by
  unfold start
  simp only [chunk_at R true (k0_pay338 i) _ _ (row i s) (off1 i s) (off2 i s)]

theorem pair0 : chunks R v15 v27 v29 [5, 6] = (do
    chunk R false v15 v27 v29 (k0_off7 i) (k0_off7_inb i (cond2 i)) (k0_off8 i) (k0_off8_inb i (cond2 i))
    chunk R false v15 v27 v29 (k0_off9 i) (k0_off9_inb i (cond2 i)) (k0_off10 i) (k0_off10_inb i (cond2 i))) := by
  rw [chunk_at R false v15 v27 v29 5 (off7 i) (off8 i), chunk_at R false v15 v27 v29 6 (off9 i) (off10 i)]
  rfl
theorem pair1 : chunks R v15 v27 v29 [6, 7] = (do
    chunk R false v15 v27 v29 (k0_off15 i) (k0_off15_inb i (cond4 i)) (k0_off16 i) (k0_off16_inb i (cond4 i))
    chunk R false v15 v27 v29 (k0_off17 i) (k0_off17_inb i (cond4 i)) (k0_off18 i) (k0_off18_inb i (cond4 i))) := by
  rw [chunk_at R false v15 v27 v29 6 (off15 i) (off16 i), chunk_at R false v15 v27 v29 7 (off17 i) (off18 i)]
  rfl

theorem pair_rest0 : chunks R v15 v27 v29 [5, 6, 7] = (do
    chunks R v15 v27 v29 [5, 6]
    chunkR R false v15 v27 v29 7) := rfl

theorem part61_eq : R.ap (k0_part61 (F := F) i) = (do
    zeroQ R i
    let x : Vec F S256x512 .f32 ← Prog.lift (.load R.a11 (Rect.unit (s := S256x512) ![0, 0] S256x512.size inb_S256x512_S256x512_0_0).toLoadRect (View.loadsAt_vmem h_S256x512))
    Prog.lift (.store R.a11 (Rect.unit (s := S256x512) ![0, 0] S256x512.size inb_S256x512_S256x512_0_0) (k0_pay339 (F := F)) Finset.univ (View.stores_vmem_bits_univ h_S256x512 rfl) (.inl rfl))
    let y : Vec F S128x512 .f32 ← Prog.lift (.load R.a12 (Rect.unit (s := S128x512) ![0, 0] S128x512.size inb_S128x512_S128x512_0_0).toLoadRect (View.loadsAt_vmem h_S128x512))
    Prog.lift (.store R.a12 (Rect.unit (s := S128x512) ![0, 0] S128x512.size inb_S128x512_S128x512_0_0) (k0_pay340 (F := F)) Finset.univ (View.stores_vmem_bits_univ h_S128x512 rfl) (.inl rfl))
    let k : Vec F S512x256 .bf16 ← Prog.lift (.load R.a3 (Rect.unit (s := S2048x256) ![512 * (0 : Fin 4).val, 0] S512x256.size (ownQ 0)).toLoadRect (View.loadsAt_vmem h_S512x256))
    let v : Vec F S512x128 .bf16 ← Prog.lift (.load R.a4 (Rect.unit (s := S2048x128) ![512 * (0 : Fin 4).val, 0] S512x128.size (ownD 0)).toLoadRect (View.loadsAt_vmem h_S512x128))
    pure ⟨BitVec.ofNat 32 (i 1).val, k0_pay338 i, Scalar.addi (Scalar.muli (BitVec.ofNat 32 (i 1).val) 4#32) 0#32, k0_pay341 k, k0_pay342 v,
      Scalar.muli (Scalar.addi (Scalar.muli (BitVec.ofNat 32 (i 1).val) 4#32) 0#32) 512#32⟩) := by
  unfold Refs.ap
  rw [k0_part61_eq_skeleton]
  unfold k0_part61_skel zeroQ
  by_cases hk : (i 1).val = 0
  · rw [if_pos hk]
    exact (dif_pos (condA i hk)).trans rfl
  · rw [if_neg hk]
    exact (dif_neg (condB i hk)).trans rfl

/-! ## The parts of the printed body, as chunks -/

theorem bind_ext {α β : Type} {p : P F α} {f g : α → P F β} (h : ∀ x, f x = g x) : (p >>= f) = (p >>= g) :=
  congrArg _ (funext h)

/-- Clearing the scratch and reading block `s` of the keys and values. -/
def head (s : Fin 4) {β : Type} (g : FVec F S512x256 .bf16 → FVec F S512x128 .bf16 → P F β) : P F β := do
  let x : Vec F S256x512 .f32 ← Prog.lift (.load R.a11 (Rect.unit (s := S256x512) ![0, 0] S256x512.size inb_S256x512_S256x512_0_0).toLoadRect (View.loadsAt_vmem h_S256x512))
  Prog.lift (.store R.a11 (Rect.unit (s := S256x512) ![0, 0] S256x512.size inb_S256x512_S256x512_0_0) (k0_pay339 (F := F)) Finset.univ (View.stores_vmem_bits_univ h_S256x512 rfl) (.inl rfl))
  let y : Vec F S128x512 .f32 ← Prog.lift (.load R.a12 (Rect.unit (s := S128x512) ![0, 0] S128x512.size inb_S128x512_S128x512_0_0).toLoadRect (View.loadsAt_vmem h_S128x512))
  Prog.lift (.store R.a12 (Rect.unit (s := S128x512) ![0, 0] S128x512.size inb_S128x512_S128x512_0_0) (k0_pay340 (F := F)) Finset.univ (View.stores_vmem_bits_univ h_S128x512 rfl) (.inl rfl))
  let k : Vec F S512x256 .bf16 ← Prog.lift (.load R.a3 (Rect.unit (s := S2048x256) ![512 * s.val, 0] S512x256.size (ownQ s)).toLoadRect (View.loadsAt_vmem h_S512x256))
  let v : Vec F S512x128 .bf16 ← Prog.lift (.load R.a4 (Rect.unit (s := S2048x128) ![512 * s.val, 0] S512x128.size (ownD s)).toLoadRect (View.loadsAt_vmem h_S512x128))
  g (k0_pay341 k) (k0_pay342 v)

theorem head_ext (s : Fin 4) {β : Type} {f g : FVec F S512x256 .bf16 → FVec F S512x128 .bf16 → P F β} (h : ∀ k v, f k v = g k v) :
    head R s f = head R s g := by rw [show f = g from funext fun k => funext fun v => h k v]

theorem sub_eq (s : Fin 4) (h : s.val + 1 + 4 ≤ 8) (rest : List (Fin 8)) {β : Type} (g : P F β) :
    (do sub R i s h rest; g) = (head R s fun k v => do
      chunk R true (k0_pay338 i) k v (k0_off1 i (BitVec.ofNat 32 s.val)) (k0_off1_inb i s) (k0_off2 i (BitVec.ofNat 32 s.val)) (k0_off2_inb i s)
      chunks R (k0_pay338 i) k v (lp i (s.val + 1) h)
      chunks R (k0_pay338 i) k v rest
      finish R s
      g) := by
  unfold sub
  rw [start_eq]
  simp only [Prog.bind_assoc]
  rfl

theorem part61_head {β : Type} (g : _ → P F β) : ∃ n n' n'' : BitVec 32, (R.ap (k0_part61 (F := F) i) >>= g) = (do
    zeroQ R i
    head R 0 fun k v => g ⟨n, k0_pay338 i, n', k, v, n''⟩) := by
  rw [part61_eq]
  exact ⟨_, _, _, by rw [Prog.bind_assoc]; rfl⟩

theorem part62_63 (v17 v31 : BitVec 32) : ∃ n : (Σ' (v90 : BitVec 32) (v91 : BitVec 32) (c0_i32_49 : BitVec 32), BitVec 32), ∀ {β : Type} (g : _ → P F β), (do
    let ⟨v34, v69, v73⟩ ← R.ap (k0_part62 (F := F) i) v15 v27 v29 v31
    let x ← R.ap (k0_part63 (F := F) i) v17 v27 v31 v34 v69 v73
    g x) = (do
    chunk R true v15 v27 v29 (k0_off1 i (BitVec.ofNat 32 (0 : Fin 4).val)) (k0_off1_inb i 0) (k0_off2 i (BitVec.ofNat 32 (0 : Fin 4).val)) (k0_off2_inb i 0)
    g n) := by
  unfold Refs.ap
  apply Exists.intro
  intro β g
  rw [k0_part62_eq_skeleton]
  simp only [k0_part63_eq_skeleton]
  unfold k0_part62_skel k0_part63_skel
  rfl

theorem part64_eq (a b c d : BitVec 32) : ∃ n : (Σ' (v147 : BitVec 32), BitVec 32), ∀ {β : Type} (g : _ → P F β),
    (R.ap (k0_part64 (F := F) i) v15 v27 v29 a b c d >>= g) = (do
    chunks R v15 v27 v29 (lp i 1 (by omega))
    chunks R v15 v27 v29 [5, 6]
    g n) := by
  have e1 := loop1 R v15 v27 v29 i a b c d
  unfold Refs.ap at e1 ⊢
  apply Exists.intro
  intro β g
  rw [k0_part64_eq_skeleton]
  unfold k0_part64_skel
  rw [pair0 R _ _ _ i]
  simp (config := { iota := false, proj := false, eta := false }) only [e1, Scf.for_trips0_bind _ _ (trips2 i), dif_pos (cond2 i), Prog.bind_assoc]
  rfl

theorem part65_eq (a b c : BitVec 32) : ∃ n : BitVec 32, ∀ {β : Type} (g : _ → P F β),
    (R.ap (k0_part65 (F := F) i) a v15 v27 v29 b c >>= g) = (do
    chunkR R false v15 v27 v29 7
    finish R 0
    head R 1 fun k v => g ⟨n, k, v⟩) := by
  unfold Refs.ap
  apply Exists.intro
  intro β g
  rw [k0_part65_eq_skeleton]
  unfold k0_part65_skel
  simp (config := { iota := false, proj := false, eta := false }) only [dif_pos (cond3 i), k0_part15_eq_skeleton, Prog.bind_assoc]
  rfl

theorem part66_67 (v166 : BitVec 32) : ∃ n : (Σ' (v239 : BitVec 32) (v240 : BitVec 32) (v257 : BitVec 32), BitVec 32), ∀ {β : Type} (g : _ → P F β), (do
    let ⟨v180, v183, v218, v219, v221⟩ ← R.ap (k0_part66 (F := F) i) v15 v166 v27 v29
    let x ← R.ap (k0_part67 (F := F) i) v166 v27 v180 v183 v218 v219 v221
    g x) = (do
    chunk R true v15 v27 v29 (k0_off1 i (BitVec.ofNat 32 (1 : Fin 4).val)) (k0_off1_inb i 1) (k0_off2 i (BitVec.ofNat 32 (1 : Fin 4).val)) (k0_off2_inb i 1)
    g n) := by
  unfold Refs.ap
  apply Exists.intro
  intro β g
  rw [k0_part66_eq_skeleton]
  simp only [k0_part67_eq_skeleton]
  unfold k0_part66_skel k0_part67_skel
  rfl

theorem part68_eq (a b c d : BitVec 32) : ∃ n : BitVec 32, ∀ {β : Type} (g : _ → P F β),
    (R.ap (k0_part68 (F := F) i) v15 v27 v29 a b c d >>= g) = (do
    chunks R v15 v27 v29 (lp i 2 (by omega))
    chunks R v15 v27 v29 [6, 7]
    g n) := by
  have e1 := loop3 R v15 v27 v29 i a b c d
  unfold Refs.ap at e1 ⊢
  apply Exists.intro
  intro β g
  rw [k0_part68_eq_skeleton]
  unfold k0_part68_skel
  rw [pair1 R _ _ _ i]
  simp (config := { iota := false, proj := false, eta := false }) only [e1, Scf.for_trips0_bind _ _ (trips4 i), dif_pos (cond4 i), Prog.bind_assoc]
  rfl

theorem part69_71 (a b c : BitVec 32) {β : Type} {G : _ → _ → P F β} {H : FVec F S512x256 .bf16 → FVec F S512x128 .bf16 → P F β}
    (hG : ∀ z x, G z x = H z.1 z.2.1) : (do
    let y ← R.ap (k0_part69 (F := F) i) a v15 v27 v29 b c
    let z ← R.ap (k0_part70 (F := F) i) v15 y.1 y.2
    let x ← R.ap (k0_part71 (F := F) i) y.1 z.1 z.2.2.1 z.2.2.2.1 z.2.2.2.2.1 z.2.2.2.2.2.1 z.2.2.2.2.2.2
    G z x) = (do
    finish R 1
    head R 2 fun k v => do
      chunk R true v15 k v (k0_off1 i (BitVec.ofNat 32 (2 : Fin 4).val)) (k0_off1_inb i 2) (k0_off2 i (BitVec.ofNat 32 (2 : Fin 4).val)) (k0_off2_inb i 2)
      H k v) := by
  have e : G = fun z _ => H z.1 z.2.1 := funext fun z => funext fun x => hG z x
  subst e
  unfold Refs.ap
  simp only [k0_part69_eq_skeleton, k0_part70_eq_skeleton, k0_part71_eq_skeleton]
  unfold k0_part69_skel k0_part70_skel k0_part71_skel
  simp (config := { iota := false, proj := false, eta := false }) only [dif_neg (cond5 i), Prog.bind_assoc]
  rfl

theorem part72_eq (a b c : BitVec 32) (d : BitVec 1) : ∃ n : (Σ' (v430 : BitVec 32), BitVec 1), ∀ {β : Type} (g : _ → P F β),
    (R.ap (k0_part72 (F := F) i) v15 v27 v29 a b c d >>= g) = (do
    chunks R v15 v27 v29 (lp i 3 (by omega))
    g n) := by
  have e1 := loop5 R v15 v27 v29 i a b c d
  unfold Refs.ap at e1 ⊢
  apply Exists.intro
  intro β g
  rw [k0_part72_eq_skeleton]
  unfold k0_part72_skel
  simp (config := { iota := false, proj := false, eta := false }) only [e1, Scf.for_trips0_bind _ _ (trips6 i), Prog.bind_assoc]
  rfl

theorem part73_75 (a b c : BitVec 32) (d : BitVec 1) {β : Type} {G : _ → _ → P F β} {H : FVec F S512x256 .bf16 → FVec F S512x128 .bf16 → P F β}
    (hG : ∀ z x, G z x = H z.1 z.2.1) : (do
    let y ← R.ap (k0_part73 (F := F) i) a v15 v27 v29 b c d
    let z ← R.ap (k0_part74 (F := F) i) v15 y.1 y.2
    let x ← R.ap (k0_part75 (F := F) i) y.1 z.1 z.2.2.1 z.2.2.2.1 z.2.2.2.2.1 z.2.2.2.2.2.1 z.2.2.2.2.2.2
    G z x) = (do
    chunks R v15 v27 v29 [7]
    finish R 2
    head R 3 fun k v => do
      chunk R true v15 k v (k0_off1 i (BitVec.ofNat 32 (3 : Fin 4).val)) (k0_off1_inb i 3) (k0_off2 i (BitVec.ofNat 32 (3 : Fin 4).val)) (k0_off2_inb i 3)
      H k v) := by
  have e : G = fun z _ => H z.1 z.2.1 := funext fun z => funext fun x => hG z x
  subst e
  unfold Refs.ap
  simp only [k0_part73_eq_skeleton, k0_part74_eq_skeleton, k0_part75_eq_skeleton]
  unfold k0_part73_skel k0_part74_skel k0_part75_skel
  simp (config := { iota := false, proj := false, eta := false }) only [dif_neg (cond6 i), dif_pos (cond7 i), k0_part45_eq_skeleton, Prog.bind_assoc]
  rfl

theorem part76_eq (a b c d e f : BitVec 32) : ∃ n : (Σ' (v579 : BitVec 32) (v581 : BitVec 32) (v582 : BitVec 32) (v583 : BitVec 1), BitVec 1),
    ∀ {β : Type} (g : _ → P F β), (R.ap (k0_part76 (F := F) i) v15 v27 v29 a b c d e f >>= g) = (do
    chunks R v15 v27 v29 (lp i 4 (by omega))
    g n) := by
  have e1 := loop7 R v15 v27 v29 i a b c d e f
  unfold Refs.ap at e1 ⊢
  apply Exists.intro
  intro β g
  rw [k0_part76_eq_skeleton]
  unfold k0_part76_skel
  simp (config := { iota := false, proj := false, eta := false }) only [e1, Scf.for_trips0_bind _ _ (trips8 i), Prog.bind_assoc]
  rfl

/-- The last block of keys, up to the last store. -/
def last : P F (FVec F S512x128 .f32) := head R 3 fun k v => do
  chunk R true (k0_pay338 i) k v (k0_off1 i (BitVec.ofNat 32 (3 : Fin 4).val)) (k0_off1_inb i 3) (k0_off2 i (BitVec.ofNat 32 (3 : Fin 4).val)) (k0_off2_inb i 3)
  chunks R (k0_pay338 i) k v (lp i 4 (by omega))
  let x : Vec F S256x512 .f32 ← Prog.lift (.load R.a11 (Rect.unit (s := S256x512) ![0, 0] S256x512.size inb_S256x512_S256x512_0_0).toLoadRect (View.loadsAt_vmem h_S256x512))
  let x' : Vec F S512x256 .f32 ← Prog.lift (.load R.a9 (Rect.unit (s := S2048x256) ![512 * (3 : Fin 4).val, 0] S512x256.size (ownQ 3)).toLoadRect (View.loadsAt_vmem h_S512x256))
  Prog.lift (.store R.a9 (Rect.unit (s := S2048x256) ![512 * (3 : Fin 4).val, 0] S512x256.size (ownQ 3)) (k0_pay357 x) Finset.univ (View.stores_vmem_bits_univ h_S512x256 rfl) (.inl rfl))
  let y : Vec F S128x512 .f32 ← Prog.lift (.load R.a12 (Rect.unit (s := S128x512) ![0, 0] S128x512.size inb_S128x512_S128x512_0_0).toLoadRect (View.loadsAt_vmem h_S128x512))
  pure (k0_pay358 y)

theorem part77_eq : R.ap (k0_part77 (F := F) i) = (do
    zeroQ R i
    sub R i 0 (by decide) [5, 6, 7]
    sub R i 1 (by decide) [6, 7]
    sub R i 2 (by decide) [7]
    last R i) := by
  simp only [sub_eq]
  unfold Refs.ap
  rw [k0_part77_eq_skeleton]
  unfold k0_part77_skel
  obtain ⟨n, n', n'', e⟩ := part61_head (F := F) R i _
  refine e.trans (bind_ext fun _ => head_ext R 0 fun k v => ?_)
  clear e
  obtain ⟨⟨a1, a2, a3, a4⟩, e⟩ := part62_63 (F := F) R (k0_pay338 i) k v i n' n''
  refine (e _).trans (bind_ext fun _ => ?_)
  clear e
  obtain ⟨⟨b1, b2⟩, e⟩ := part64_eq (F := F) R (k0_pay338 i) k v i a1 a2 a3 a4
  refine (e _).trans (bind_ext fun _ => ?_)
  rw [pair_rest0, Prog.bind_assoc]
  refine bind_ext fun _ => ?_
  clear e
  obtain ⟨c1, e⟩ := part65_eq (F := F) R (k0_pay338 i) k v i n b1 b2
  refine (e _).trans (bind_ext fun _ => bind_ext fun _ => head_ext R 1 fun k v => ?_)
  clear e
  obtain ⟨⟨d1, d2, d3, d4⟩, e⟩ := part66_67 (F := F) R (k0_pay338 i) k v i c1
  refine (e _).trans (bind_ext fun _ => ?_)
  clear e
  obtain ⟨e1, e⟩ := part68_eq (F := F) R (k0_pay338 i) k v i d1 d2 d3 d4
  refine (e _).trans (bind_ext fun _ => bind_ext fun _ => ?_)
  clear e
  refine part69_71 (F := F) R (k0_pay338 i) k v i n d2 e1 ?_
  rintro ⟨k, v, z⟩ ⟨f1, f2, f3, f4⟩
  obtain ⟨⟨g1, g2⟩, e⟩ := part72_eq (F := F) R (k0_pay338 i) k v i f1 f2 f3 f4
  refine (e _).trans (bind_ext fun _ => ?_)
  clear e
  refine part73_75 (F := F) R (k0_pay338 i) k v i n f2 g1 g2 ?_
  rintro ⟨k, v, z⟩ ⟨h1, h2, h3, h4, h5, h6⟩
  obtain ⟨⟨j1, j2, j3, j4, j5⟩, e⟩ := part76_eq (F := F) R (k0_pay338 i) k v i h1 h2 h3 h4 h5 h6
  refine (e _).trans (bind_ext fun _ => ?_)
  clear e
  simp (config := { iota := false, proj := false, eta := false }) only [dif_neg (cond8 i), dif_neg (cond9 i), Prog.bind_assoc]
  rfl

theorem last_eq : (do
    let y ← last (F := F) R i
    let y' : Vec F S512x128 .f32 ← Prog.lift (.load R.a10 (Rect.unit (s := S2048x128) ![512 * (3 : Fin 4).val, 0] S512x128.size (ownD 3)).toLoadRect (View.loadsAt_vmem h_S512x128))
    Prog.lift (.store R.a10 (Rect.unit (s := S2048x128) ![512 * (3 : Fin 4).val, 0] S512x128.size (ownD 3)) y Finset.univ (View.stores_vmem_bits_univ h_S512x128 rfl) (.inl rfl))
    pure ⟨⟩) = sub R i 3 (by decide) [] := by
  refine Eq.trans ?_ (Prog.bind_pure (sub (F := F) R i 3 (by decide) []))
  refine Eq.trans ?_ (sub_eq R i 3 (by decide) [] (pure PUnit.unit)).symm
  unfold last head
  simp only [Prog.bind_assoc]
  rfl

/-- The kernel's body at a grid point: the query gradient cleared where it has to be, and the four blocks of keys. -/
theorem body_eq : R.ap (cc0_mla_bwd (F := F) i) = (do
    zeroQ R i
    sub R i 0 (by decide) [5, 6, 7]
    sub R i 1 (by decide) [6, 7]
    sub R i 2 (by decide) [7]
    sub R i 3 (by decide) []) := by
  have e := part77_eq (F := F) R i
  rw [← last_eq]
  unfold Refs.ap at e ⊢
  rw [cc0_mla_bwd_eq_skeleton]
  unfold cc0_mla_bwd_skel
  rw [e]
  simp only [Prog.bind_assoc]
  rfl

end Cert.KernelIdeal.Att
-- ==== Proof.Run.lean ====
module

public import proofs.«01_k».proof.Proof.Values
public import proofs.«01_k».proof.Proof.Body
public import Idealize.ShloMosaic.Lib.Claim

@[expose] public section

set_option maxRecDepth 16384

noncomputable section

/-! # The run of the kernel

Every grid point's body against the memory it finds: the key and value gradients of the point's keys are written
whole, the query gradient is cleared at a head's first point and grows at its second. -/

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arrays point `t` reads. -/
def inAt (c : Dev nD) (t : Fin cfg0.N) : In F where
  q := iblk m c 0 t
  k := iblk m c 1 t
  v := iblk m c 2 t
  ct := iblk m c 3 t
  lse := iblk m c 4 t
  dl := iblk m c 5 t

/-- The query gradient after point `t`, of the one before it. -/
def dqAfter (c : Dev nD) (t : Fin cfg0.N) (d : Vec F S4096x256 .f32) : Vec F S4096x256 .f32 :=
  dqOf (inAt m c t) (grid0.coords t) d
/-- The point before `t`. -/
abbrev prev (t : Fin cfg0.N) : Fin cfg0.N := ⟨t.val - 1, Nat.lt_of_le_of_lt (Nat.sub_le _ _) t.isLt⟩
/-- The query gradient after point `t`. -/
def dqAt (c : Dev nD) (t : Fin cfg0.N) : Vec F S4096x256 .f32 :=
  if t.val % 2 = 0 then dqAfter m c t k0_pay337 else dqAfter m c t (dqAfter m c (prev t) k0_pay337)

/-- The scratch operands. -/
abbrev scA : Memref sig .tc .vmem S256x512 .f32 := Memref.whole cc0_scratch0
abbrev scB : Memref sig .tc .vmem S128x512 .f32 := Memref.whole cc0_scratch1

/-- The memory the body is given at point `t`. -/
def refs (t : Fin cfg0.N) : Refs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := scA
  h11 := Memref.isWhole_whole _
  a12 := scB
  h12 := Memref.isWhole_whole _

theorem bodyAt_eq (t : Fin cfg0.N) : bodyAt0 (F := F) t = (do
    zeroQ (refs t) (grid0.coords t)
    sub (refs t) (grid0.coords t) 0 (by decide) [5, 6, 7]
    sub (refs t) (grid0.coords t) 1 (by decide) [6, 7]
    sub (refs t) (grid0.coords t) 2 (by decide) [7]
    sub (refs t) (grid0.coords t) 3 (by decide) []) :=
  body_eq (refs t) (grid0.coords t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkOf (inAt m c t) (grid0.coords t)
    | ⟨8, _⟩ => dvOf (inAt m c t) (grid0.coords t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqAt m c t := by dsimp only [dats]
theorem after7 (c : Dev nD) (t : Fin cfg0.N) : (dats m 0 c).after 7 t = dkOf (inAt m c t) (grid0.coords t) := by dsimp only [dats]
theorem after8 (c : Dev nD) (t : Fin cfg0.N) : (dats m 0 c).after 8 t = dvOf (inAt m c t) (grid0.coords t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- At a head's second point the query gradient's buffer holds what the first left. -/
theorem before6 (c : Dev nD) (t : Fin cfg0.N) (h : t.val % 2 ≠ 0) (d) : (dats m 0 c).before 6 t d = dqAfter m c (prev t) k0_pay337 := by
  rw [(dats m 0 c).before_out_kept 6 rfl t (by omega) (by
    rw [Bool.eq_false_iff]
    intro hf
    have := (flush0_6 _).mp hf
    simp only at this
    omega) (fun _ => rfl) (fun _ _ => rfl), after6]
  unfold dqAt
  rw [if_pos (by show (t.val - 1) % 2 = 0; omega)]

theorem coord1 : ∀ t : Fin cfg0.N, (grid0.coords t 1).val = t.val % 2 :=
  (by decide +kernel : ∀ t : Fin grid0.N, (grid0.coords t 1).val = t.val % 2)

/-- The query gradient is cleared at a head's first point, whatever was there. -/
theorem dqOf_first (X : In F) (i : grid0.Coords) (h : (i 1).val = 0) (d d' : Vec F S4096x256 .f32) : dqOf X i d = dqOf X i d' := by
  unfold dqOf
  rw [if_pos h, if_pos h]

theorem dqAt_eq (c : Dev nD) (t : Fin cfg0.N) (d) :
    dqOf (inAt m c t) (grid0.coords t) ((dats m 0 c).before 6 t d) = dqAt m c t := by
  unfold dqAt
  by_cases h : t.val % 2 = 0
  · rw [if_pos h]
    exact dqOf_first _ _ ((coord1 t).trans h) _ _
  · rw [if_neg h, before6 m c t h]
    rfl

theorem phi_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (refs t).a2 fullShare ((dats m 0 c).before 0 t d))
    ∗ (∃ d, owns (c : Thread nD τ) (refs t).a3 fullShare ((dats m 0 c).before 1 t d))
    ∗ (∃ d, owns (c : Thread nD τ) (refs t).a4 fullShare ((dats m 0 c).before 2 t d))
    ∗ (∃ d, owns (c : Thread nD τ) (refs t).a5 fullShare ((dats m 0 c).before 3 t d))
    ∗ (∃ d, owns (c : Thread nD τ) (refs t).a6 fullShare ((dats m 0 c).before 4 t d))
    ∗ (∃ d, owns (c : Thread nD τ) (refs t).a7 fullShare ((dats m 0 c).before 5 t d))
    ∗ (∃ d, owns (c : Thread nD τ) (refs t).a8 fullShare ((dats m 0 c).before 6 t d))
    ∗ (∃ d, owns (c : Thread nD τ) (refs t).a9 fullShare ((dats m 0 c).before 7 t d))
    ∗ (∃ d, owns (c : Thread nD τ) (refs t).a10 fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (refs t).a2 fullShare ((dats m 0 c).after 0 t)
    ∗ owns (c : Thread nD τ) (refs t).a3 fullShare ((dats m 0 c).after 1 t)
    ∗ owns (c : Thread nD τ) (refs t).a4 fullShare ((dats m 0 c).after 2 t)
    ∗ owns (c : Thread nD τ) (refs t).a5 fullShare ((dats m 0 c).after 3 t)
    ∗ owns (c : Thread nD τ) (refs t).a6 fullShare ((dats m 0 c).after 4 t)
    ∗ owns (c : Thread nD τ) (refs t).a7 fullShare ((dats m 0 c).after 5 t)
    ∗ owns (c : Thread nD τ) (refs t).a8 fullShare ((dats m 0 c).after 6 t)
    ∗ owns (c : Thread nD τ) (refs t).a9 fullShare ((dats m 0 c).after 7 t)
    ∗ owns (c : Thread nD τ) (refs t).a10 fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0, before1, before2, before3, before4, before5]
  rw [show (dats m 0 c).Φ t.succ = Pipeline.ΦA spec0 c from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl, phi_eq]
  iintro ⟨⟨⟨⟨%a, HS0⟩, ⟨%b, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_wp (refs t) c (inAt m c t) (grid0.coords t)
    ⟨(dats m 0 c).before 6 t d6, (dats m 0 c).before 7 t d7, (dats m 0 c).before 8 t d8, a, b⟩ _)
  rw [← dqAt_eq m c t d6]
  unfold heldIn heldSt
  rw [bodySt_dq, bodySt_dk, bodySt_dv]
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H7 H8 HS0 HS1]
  · isplitl [H6]; · iexact H6
    isplitl [H7]; · iexact H7
    isplitl [H8]; · iexact H8
    isplitl [HS0]; · iexact HS0
    iexact HS1
  iintro ⟨⟨H0, H1, H2, H3, H4, H5⟩, H6, H7, H8, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every run ends, the arrays and buffers as named, every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Att
-- ==== Proof.Same.lean ====
/- The two prints of the kernel are one program over floats: the second only gives three of the first's words names. -/
module

public import proofs.«01_k».proof.Defs
public import proofs.«01_k».proof.Proof.Gen.Kernel
public import proofs.«01_k».proof.Proof.Run

@[expose] public section

set_option maxRecDepth 65536
set_option maxHeartbeats 4000000

noncomputable section

open Idealize.ShloMosaic Idealize.SL.Sem

namespace Cert.Proof.Att

/-- A named constant read as the float that its word is. -/
@[reducible] def plain : Named Bits where
  named _ _ {φ} bits := FloatOps.ofBits φ bits

theorem stage_0 : Cert.Kernel.stage0_0 = Cert.KernelIdeal.stage0_0 := by exact rfl
theorem stage_1 : Cert.Kernel.stage0_1 = Cert.KernelIdeal.stage0_1 := by exact rfl
theorem stage_2 : Cert.Kernel.stage0_2 = Cert.KernelIdeal.stage0_2 := by exact rfl
theorem stage_3 : Cert.Kernel.stage0_3 = Cert.KernelIdeal.stage0_3 := by exact rfl
theorem stage_4 : Cert.Kernel.stage0_4 = Cert.KernelIdeal.stage0_4 := by exact rfl
theorem stage_5 : Cert.Kernel.stage0_5 = Cert.KernelIdeal.stage0_5 := by exact rfl
theorem stage_6 : Cert.Kernel.stage0_6 = Cert.KernelIdeal.stage0_6 := by exact rfl
theorem stage_7 : Cert.Kernel.stage0_7 = Cert.KernelIdeal.stage0_7 := by exact rfl
theorem stage_8 : Cert.Kernel.stage0_8 = Cert.KernelIdeal.stage0_8 := by exact rfl

theorem body_eq : @Cert.Kernel.cc0_mla_bwd Bits _ _ = @Cert.KernelIdeal.cc0_mla_bwd Bits _ plain _ := by exact rfl

theorem labels_eq : @Cert.Kernel.defs₀ Bits _ _ = @Cert.KernelIdeal.defs₀ Bits _ plain _ := by
  unfold Cert.Kernel.defs₀ Cert.KernelIdeal.defs₀
  refine congrArg Defs.onTc (funext fun l => funext fun x => ?_)
  match l, x with
  | 0, (t, s) =>
    dsimp only
    rw [body_eq]
    simp only [stage_0, stage_1, stage_2, stage_3, stage_4, stage_5, stage_6, stage_7, stage_8]
    rfl

theorem defs_eq : Cert.Kernel.defs (F := Bits) = @Cert.KernelIdeal.defs Bits _ plain _ := by
  unfold Cert.Kernel.defs Cert.KernelIdeal.defs
  exact congrArg (Pipeline.defs (Cert.Kernel.pcfgs (F := Bits))) labels_eq

theorem main_eq : Cert.Kernel.main (F := Bits) = Cert.KernelIdeal.main (F := Bits) := by exact rfl

end Cert.Proof.Att
-- ==== Proof.Frames.lean ====
/- The three frames and the three named constants: the claims that say nothing about values. -/
module

public import proofs.«01_k».proof.Defs
public import proofs.«01_k».proof.Proof.Gen.Kernel
public import proofs.«01_k».proof.Proof.Gen.ReferenceIdeal.Run
public import proofs.«01_k».proof.Proof.Same
public import Idealize.ShloMosaic.Lib.Quiescent

@[expose] public section

noncomputable section

open Idealize.ShloMosaic Idealize.SL.Sem

namespace Cert.Proof.Att

/-- Programs that are equal do the same. -/
theorem same_run {nD : Nat} {τ : Topo} {sig : RefSig} {Val : EltTy → Type} {Λ : Labels} {d d' : Defs nD τ sig Val Λ} (hd : d = d')
    {p p' : Dev nD → Prog (TpuEff nD τ sig Val Λ .tc) PUnit} (hp : p = p') {s : MemSt nD τ sig Val}
    {Q : PUnit × MemSt nD τ sig Val → Prop} (h : θ_run d' (onTc p') s Q) : θ_run d (onTc p) s Q := by
  subst hd hp
  exact h

/-- The kernel over floats leaves its arguments and every semaphore as it found them. -/
theorem frame_p : Cert.quiescent_Kernel := fun m ρ _ => same_run defs_eq main_eq (@Cert.KernelIdeal.Att.frame Bits _ plain m ρ)

/-- So does the kernel over the reals. -/
theorem frame_pi : Cert.quiescent_KernelIdeal := fun m ρ _ => Cert.KernelIdeal.Att.frame m ρ

/-- So does the reference, which names no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The table of named constants gives each of the three names its value. -/
theorem preserves : Cert.preserves_Kernel_KernelIdeal :=
  ⟨IdealRules.named_const.statement Cert.KernelIdeal.κ "scale2" .f32 0x3DD53B95#32 _ rfl,
    IdealRules.named_const.statement Cert.KernelIdeal.κ "mask" .f32 0xF149F2CA#32 _ rfl,
    IdealRules.named_const.statement Cert.KernelIdeal.κ "scale" .f32 0x3D93CD3A#32 _ rfl⟩

end Cert.Proof.Att

end
-- ==== Proof.Maths.lean ====
/- The gradient of latent attention over the real numbers: what both programs compute of finite arguments. -/
module

public import Mathlib.Data.EReal.Operations
public import Mathlib.Analysis.SpecialFunctions.Pow.Real
public import Mathlib.Analysis.SpecialFunctions.Log.Basic
public import Mathlib.Algebra.BigOperators.Field

@[expose] public section

noncomputable section

namespace Cert.Att

/-- A sum of reals is the sum of them as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The four arguments, all their entries real numbers. -/
structure Args where
  q : Fin 4096 → Fin 8 → Fin 192 → ℝ
  k : Fin 4096 → Fin 8 → Fin 192 → ℝ
  v : Fin 4096 → Fin 8 → Fin 128 → ℝ
  ct : Fin 4096 → Fin 8 → Fin 128 → ℝ

variable (A : Args) (h : Fin 8) (x y : Fin 4096)

/-- The score of query row `x` against key `y`. -/
def score : ℝ := (∑ c, A.q x h c * A.k y h c) * (Real.sqrt 192)⁻¹
/-- The score, a key after the query masked. -/
def scoreM : EReal := if y.val ≤ x.val then (score A h x y : EReal) else ⊥
/-- The largest score of a row. -/
def top : EReal := Finset.univ.fold max ⊥ fun y => scoreM A h x y
def top' : ℝ := (top A h x).toReal

theorem scoreM_ne_top : scoreM A h x y ≠ ⊤ := by
  unfold scoreM
  split
  · exact EReal.coe_ne_top _
  · exact bot_ne_top

/-- It is a real number: the key at the query itself is not masked. -/
theorem top_eq : top A h x = (top' A h x : EReal) := by
  unfold top'
  rw [EReal.coe_toReal]
  · unfold top
    refine (Finset.fold_max_lt (c := ⊤)).mpr ⟨bot_lt_top, fun y _ => lt_top_iff_ne_top.mpr (scoreM_ne_top A h x y)⟩ |>.ne
  · have : scoreM A h x x ≤ top A h x := by
      unfold top
      exact Finset.le_fold_max (scoreM A h x x) |>.mpr (.inr ⟨x, Finset.mem_univ x, le_rfl⟩)
    intro hb
    rw [hb, le_bot_iff] at this
    unfold scoreM at this
    rw [if_pos le_rfl] at this
    exact EReal.coe_ne_bot _ this

/-- A row's weights, their total, and the weights over it. -/
def wt : ℝ := if y.val ≤ x.val then Real.exp (score A h x y - top' A h x) else 0
def total : ℝ := ∑ y, wt A h x y
def pr : ℝ := wt A h x y / total A h x

theorem wt_nonneg : 0 ≤ wt A h x y := by
  unfold wt
  split
  · exact (Real.exp_pos _).le
  · exact le_rfl
theorem total_pos : 0 < total A h x := by
  unfold total
  refine Finset.sum_pos' (fun y _ => wt_nonneg A h x y) ⟨x, Finset.mem_univ x, ?_⟩
  unfold wt
  rw [if_pos le_rfl]
  exact Real.exp_pos _

/-- The gradient of a weight, its mean over the row, and the gradient of an unscaled score. -/
def dpr : ℝ := ∑ d, A.ct x h d * A.v y h d
def mean : ℝ := ∑ y, pr A h x y * dpr A h x y
def dsc : ℝ := pr A h x y * (dpr A h x y - mean A h x) * (Real.sqrt 192)⁻¹

theorem pr_masked (hxy : ¬ y.val ≤ x.val) : pr A h x y = 0 := by
  unfold pr wt
  rw [if_neg hxy, zero_div]
theorem dsc_masked (hxy : ¬ y.val ≤ x.val) : dsc A h x y = 0 := by
  unfold dsc
  rw [pr_masked A h x y hxy, zero_mul, zero_mul]

/-- The three gradients. -/
def gradQ (c : Fin 192) : ℝ := ∑ y, dsc A h x y * A.k y h c
def gradK (c : Fin 192) : ℝ := ∑ x, dsc A h x y * A.q x h c
def gradV (d : Fin 128) : ℝ := ∑ x, A.ct x h d * pr A h x y

/-- The row's saved statistic: the logarithm, to the base 2, of the sum of the exponentials of its scores. -/
def lse2 : ℝ := (top' A h x + Real.log (total A h x)) * (Real.log 2)⁻¹

/-- A weight over its row's total, from the saved statistic. -/
theorem pr_exp2 (hxy : y.val ≤ x.val) :
    Real.rpow 2 ((∑ c, A.q x h c * A.k y h c) * ((Real.sqrt 192)⁻¹ * (Real.log 2)⁻¹) - lse2 A h x) = pr A h x y := by
  have hl : Real.log 2 ≠ 0 := (Real.log_pos (by norm_num)).ne'
  have ht := total_pos A h x
  show (2 : ℝ) ^ (_ : ℝ) = _
  rw [Real.rpow_def_of_pos (by norm_num)]
  unfold pr wt lse2
  rw [if_pos hxy]
  have : Real.log 2 * ((∑ c, A.q x h c * A.k y h c) * ((Real.sqrt 192)⁻¹ * (Real.log 2)⁻¹) - (top' A h x + Real.log (total A h x)) * (Real.log 2)⁻¹)
      = (score A h x y - top' A h x) - Real.log (total A h x) := by
    unfold score
    field_simp
    ring
  rw [this, Real.exp_sub, Real.exp_log ht]

/-- The row's mean, from the output's product with its gradient. -/
theorem mean_out : ∑ d, (∑ y, A.v y h d * pr A h x y) * A.ct x h d = mean A h x := by
  unfold mean dpr
  simp only [Finset.sum_mul, Finset.mul_sum]
  rw [Finset.sum_comm]
  exact Finset.sum_congr rfl fun y _ => Finset.sum_congr rfl fun d _ => by ring

/-- The gradient of a score, as the derivative of a quotient of weights. -/
theorem dsc_quot : (dpr A h x y / total A h x + -(∑ y, dpr A h x y * (1 / (total A h x * total A h x)) * wt A h x y)) * wt A h x y
    * (Real.sqrt 192)⁻¹ = dsc A h x y := by
  have ht := (total_pos A h x).ne'
  unfold dsc mean pr
  have : ∑ y, dpr A h x y * (1 / (total A h x * total A h x)) * wt A h x y
      = (∑ y, wt A h x y / total A h x * dpr A h x y) / total A h x := by
    rw [Finset.sum_div]
    exact Finset.sum_congr rfl fun y _ => by field_simp
  rw [this]
  field_simp
  ring

end Cert.Att
-- ==== Proof.Consts.lean ====
/- The numbers that the programs' words are. -/
module

public import Idealize.ShloMosaic.Lib.Pointwise

@[expose] public section

noncomputable section

namespace Cert.Att

open Idealize.ShloMosaic

theorem word_192 : Ideal.ofBits .f32 0x43400000#32 = ((192 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_bot : Ideal.ofBits .f32 0xFF800000#32 = (⊥ : EReal) := by
  simp [Ideal.ofBits, Ideal.ieee]
theorem word_top : Ideal.ofBits .f32 0x7F800000#32 = (⊤ : EReal) := by
  simp [Ideal.ofBits, Ideal.ieee]
theorem word_zero : Ideal.ofBits .f32 0x00000000#32 = ((0 : ℝ) : EReal) := by
  simp [Ideal.ofBits, Ideal.ieee]

/-- The order of two small numbers as words. -/
theorem sle_iff (a b : ℕ) (ha : a < 4096) (hb : b < 4096) :
    IntOp.cmpi .sle (BitVec.ofNat 32 a) (BitVec.ofNat 32 b) = if a ≤ b then 1#1 else 0#1 := by
  have h1 : (BitVec.ofNat 32 a).toInt = a := by
    rw [BitVec.toInt_eq_toNat_cond, BitVec.toNat_ofNat]; omega
  have h2 : (BitVec.ofNat 32 b).toInt = b := by
    rw [BitVec.toInt_eq_toNat_cond, BitVec.toNat_ofNat]; omega
  unfold IntOp.cmpi
  show BitVec.ofBool (decide ((BitVec.ofNat 32 a).toInt ≤ (BitVec.ofNat 32 b).toInt)) = _
  rw [h1, h2]
  by_cases hab : a ≤ b
  · rw [if_pos hab, decide_eq_true (by omega)]
    rfl
  · rw [if_neg hab, decide_eq_false (by omega)]
    rfl

theorem max_at {s : Shape} (x y : FVec Ideal s .f32) (i : s.Idx) : maximumf x y i = (max (x i : EReal) (y i) : EReal) := rfl
theorem constant_at {s : Shape} (w : BitVec 32) (i : s.Idx) : constant (F := Ideal) s .f32 w i = Ideal.ofBits .f32 w := rfl

open Pointwise in
/-- The largest element of each row of a stack of matrices. -/
theorem max_rows {a n K : ℕ} (x : FVec Ideal ⟨3, ![a, n, K]⟩ .f32) {u : Shape} (init : FVec Ideal u .f32)
    (h : (⟨3, ![a, n, K]⟩ : Shape).ReducesTo [2] ⟨2, ![a, n]⟩) (hu : 0 < u.numel) (i : Fin a) (r : Fin n) :
    Host.reduce (FloatOps.maximumf (F := Ideal) (φ := .f32)) x init h hu (ix2 i r)
      = Finset.univ.fold (max : EReal → EReal → EReal) (init (Shape.Idx.first hu)) fun k : Fin K => x (ix3 i r k) := by
  rw [Host.reduce_eq_fold, h.fold_fiber_r3_a2]
  rfl

end Cert.Att
-- ==== Proof.KerVal.lean ====
/- What a chunk of the kernel adds to the three gradients, over the real numbers. -/
module

public import proofs.«01_k».proof.Proof.Maths
public import proofs.«01_k».proof.Proof.Consts
public import proofs.«01_k».proof.Proof.Values
public import Idealize.ShloMosaic.Lib.Pointwise

@[expose] public section

set_option maxRecDepth 16384

noncomputable section

namespace Cert.KernelIdeal.Att

open Cert.KernelIdeal.Gen Cert.Att
open Idealize.ShloMosaic Idealize.ShloMosaic.VecWindow Idealize.ShloMosaic.Pointwise

theorem scale2_eq : Named.named (F := Ideal) κ "scale2" (φ := .f32) 0x3DD53B95#32 = (((Real.sqrt 192)⁻¹ * (Real.log 2)⁻¹ : ℝ) : EReal) :=
  IdealRules.named_const.ideal_named_scalar _ _ _ _ rfl
theorem scale_eq : Named.named (F := Ideal) κ "scale" (φ := .f32) 0x3D93CD3A#32 = (((Real.sqrt 192)⁻¹ : ℝ) : EReal) :=
  IdealRules.named_const.ideal_named_scalar _ _ _ _ rfl
theorem mask_eq : Named.named (F := Ideal) κ "mask" (φ := .f32) 0xF149F2CA#32 = (⊥ : EReal) :=
  IdealRules.named_const.ideal_named_scalar _ _ _ _ rfl

/-- A row of 192 numbers, zeros after it. -/
def wide (f : Fin 192 → ℝ) (c : Fin 256) : ℝ := if hc : c.val < 192 then f ⟨c.val, hc⟩ else 0

theorem sum_wide (f g : Fin 192 → ℝ) : ∑ c, wide f c * wide g c = ∑ c, f c * g c := by
  have : (∑ c : Fin (192 + 64), wide f c * wide g c) = ∑ c, f c * g c := by
    rw [Fin.sum_univ_add]
    have h1 : ∀ c : Fin 192, wide f (Fin.castAdd 64 c) * wide g (Fin.castAdd 64 c) = f c * g c := by
      intro c
      unfold wide
      rw [dif_pos (show (Fin.castAdd 64 c).val < 192 from c.isLt), dif_pos (show (Fin.castAdd 64 c).val < 192 from c.isLt)]
      rfl
    have h2 : ∀ c : Fin 64, wide f (Fin.natAdd 192 c) * wide g (Fin.natAdd 192 c) = 0 := by
      intro c
      unfold wide
      rw [dif_neg (show ¬ (Fin.natAdd 192 c).val < 192 from by simp), zero_mul]
    simp only [h1, h2, Finset.sum_const_zero, add_zero]
  exact this

/-- The query row that a block's row is; the key that a key of a point's block is; a key of the point. -/
def gx (r : Fin 8) (x : Fin 512) : Fin 4096 := ⟨512 * r.val + x.val, by omega⟩
def key (kb : Fin 2) (y : Fin 2048) : Fin 4096 := ⟨2048 * kb.val + y.val, by omega⟩
def lk (b : Fin 4) (y : Fin 512) : Fin 2048 := ⟨512 * b.val + y.val, by omega⟩

variable (A : Args) (h : Fin 8) (kb : Fin 2) (X : In Ideal)

/-- The lane of a head in its pair's block of 128 lanes. -/
def lane : Fin 128 := ⟨h.val % 2, by omega⟩

/-- The arrays a point is given hold the head's rows. -/
structure Holds : Prop where
  q : ∀ x c, X.q (ix2 x c) = (wide (A.q x h) c : EReal)
  k : ∀ y c, X.k (ix2 y c) = (wide (A.k (key kb y) h) c : EReal)
  v : ∀ y d, X.v (ix2 y d) = (A.v (key kb y) h d : EReal)
  ct : ∀ x d, X.ct (ix2 x d) = (A.ct x h d : EReal)
  lse : ∀ x, X.lse (ix2 x (lane h)) = (lse2 A h x : EReal)
  dl : ∀ x, X.dl (ix2 x (lane h)) = (mean A h x : EReal)

theorem window_at {α : Type} {n m k : ℕ} (x : (⟨2, ![n, m]⟩ : Shape).Idx → α) (o : ℕ) (inb : _) (a : Fin k) (c : Fin m) (ho : o + a.val < n) :
    window (s := ⟨2, ![n, m]⟩) x ![o, 0] ![k, m] inb (ix2 a c) = x (ix2 ⟨o + a.val, ho⟩ c) := by
  unfold window
  congr 1
  funext j
  apply Fin.ext
  fin_cases j
  · show o + 1 * a.val = _
    simp
  · show 0 + 1 * c.val = _
    simp

theorem rowsQ_at {e : EltTy} (x : Vec Ideal S4096x256 e) (r : Fin 8) (a : Fin 512) (c : Fin 256) : rowsQ x r (ix2 a c) = x (ix2 (gx r a) c) :=
  window_at x _ _ a c _
theorem rowsD_at {e : EltTy} (x : Vec Ideal S4096x128 e) (r : Fin 8) (a : Fin 512) (c : Fin 128) : rowsD x r (ix2 a c) = x (ix2 (gx r a) c) :=
  window_at x _ _ a c _
theorem keys_at (b : Fin 4) (y : Fin 512) (c : Fin 256) : keys X b (ix2 y c) = X.k (ix2 (lk b y) c) := by
  unfold keys k0_pay341
  pointwise
  exact window_at X.k _ _ y c _
theorem vals_at (b : Fin 4) (y : Fin 512) (c : Fin 128) : vals X b (ix2 y c) = X.v (ix2 (lk b y) c) := by
  unfold vals k0_pay342
  pointwise
  exact window_at X.v _ _ y c _

/-- The mask of the head's lane. -/
theorem lane_at (i : grid0.Coords) (hi : (i 0).val = h.val) (x : Fin 512) (l : Fin 128) :
    k0_pay338 i (ix2 x l) = if l = lane h then 1#1 else 0#1 := by
  unfold k0_pay338
  pointwise
  rw [hi]
  clear hi
  revert l h
  decide +kernel

theorem col_at (v15 : IVec S512x128 1) (hv : ∀ x l, v15 (ix2 x l) = if l = lane h then 1#1 else 0#1) (x : Vec Ideal S512x128 .f32) (r : Fin 512) :
    col v15 x (ix2 r 0) = x (ix2 r (lane h)) := by
  pointwise [col]
  simp only [hv]
  rw [Finset.sum_eq_single (lane h)]
  · rw [if_pos rfl]
    rfl
  · intro l _ hl
    rw [if_neg hl]
    rfl
  · exact fun hl => absurd (Finset.mem_univ _) hl

theorem put_rows {α : Type} (d : S4096x256.Idx → α) (r : Fin 8) (w : S512x256.Idx → α) (x : Fin 4096) (c : Fin 256) :
    put d ![512 * r.val, 0] S512x256.size w (ix2 x c)
      = if x.val / 512 = r.val then w (ix2 ⟨x.val % 512, by omega⟩ c) else d (ix2 x c) := by
  unfold put
  by_cases hr : x.val / 512 = r.val
  · rw [if_pos hr, dif_pos]
    · congr 1
      funext j
      apply Fin.ext
      fin_cases j
      · show x.val - 512 * r.val = x.val % 512
        omega
      · show c.val - 0 = c.val
        omega
    · intro j
      fin_cases j
      · show 512 * r.val ≤ x.val ∧ x.val < 512 * r.val + 512
        omega
      · show 0 ≤ c.val ∧ c.val < 0 + 256
        omega
  · rw [if_neg hr, dif_neg]
    intro hj
    have hj : 512 * r.val ≤ x.val ∧ x.val < 512 * r.val + 512 := hj 0
    omega

theorem lk_split (y : Fin 2048) : lk ⟨y.val / 512, by omega⟩ ⟨y.val % 512, by omega⟩ = y := Fin.ext (Nat.div_add_mod _ _)

variable (H : Holds A h kb X) (i : grid0.Coords) (hi : (i 0).val = h.val) (hk : (i 1).val = kb.val)

include H hi in
theorem logits_at (b : Fin 4) (r : Fin 8) (x y : Fin 512) : logits (keys X b) (rowsQ X.q r) (ix2 x y)
    = (((∑ c, A.q (gx r x) h c * A.k (key kb (lk b y)) h c) * ((Real.sqrt 192)⁻¹ * (Real.log 2)⁻¹) : ℝ) : EReal) := by
  pointwise [logits]
  simp only [keys_at, rowsQ_at, H.q, H.k]
  rw [scale2_eq]
  rw [← sum_wide, EReal.coe_mul _ (_ * _), coe_sum]
  simp only [EReal.coe_mul]

/-- A block's probabilities: off the diagonal it lies below it. -/
def Below (mk : Bool) (r : Fin 8) (b : Fin 4) : Prop := bif mk then r.val = 4 * kb.val + b.val else 4 * kb.val + b.val < r.val

include H hi in
theorem prob_at (mk : Bool) (r : Fin 8) (b : Fin 4) (hm : Below kb mk r b) (x y : Fin 512) :
    prob mk (k0_pay338 i) (keys X b) (rowsQ X.q r) (rowsD X.lse r) (ix2 x y) = (pr A h (gx r x) (key kb (lk b y)) : EReal) := by
  have hs : ∀ hxy : (key kb (lk b y)).val ≤ (gx r x).val, Ideal.exp2 (logits (keys X b) (rowsQ X.q r) (ix2 x y) - (lse2 A h (gx r x) : EReal))
      = (pr A h (gx r x) (key kb (lk b y)) : EReal) := by
    intro hxy
    rw [logits_at A h kb X H i hi, ← EReal.coe_sub, Ideal.exp2_coe, pr_exp2 A h _ _ hxy]
  cases mk with
  | false =>
    have hm : 4 * kb.val + b.val < r.val := hm
    pointwise [prob, cond_false]
    rw [col_at h _ (lane_at h i hi), rowsD_at, H.lse]
    refine hs ?_
    show 2048 * kb.val + (512 * b.val + y.val) ≤ 512 * r.val + x.val
    omega
  | true =>
    have hm : r.val = 4 * kb.val + b.val := hm
    pointwise [prob, cond_true, masked]
    rw [col_at h _ (lane_at h i hi), rowsD_at, H.lse, mask_eq]
    rw [sle_iff y.val x.val (by omega) (by omega)]
    by_cases hxy : y.val ≤ x.val
    · rw [if_pos hxy, Scalar.select, if_pos (by rfl)]
      refine hs ?_
      show 2048 * kb.val + (512 * b.val + y.val) ≤ 512 * r.val + x.val
      omega
    · rw [if_neg hxy, Scalar.select, if_neg (by decide), EReal.bot_sub, pr_masked]
      · exact Ideal.exp2_bot
      · show ¬ 2048 * kb.val + (512 * b.val + y.val) ≤ 512 * r.val + x.val
        omega

include H hi in
theorem dlog_at (mk : Bool) (r : Fin 8) (b : Fin 4) (hm : Below kb mk r b) (x y : Fin 512) :
    dlog mk (k0_pay338 i) (keys X b) (vals X b) (rowsQ X.q r) (rowsD X.ct r) (rowsD X.lse r) (rowsD X.dl r) (ix2 x y)
      = (dsc A h (gx r x) (key kb (lk b y)) : EReal) := by
  pointwise [dlog]
  rw [prob_at A h kb X H i hi mk r b hm, col_at h _ (lane_at h i hi), rowsD_at X.dl, H.dl, scale_eq]
  simp only [rowsD_at, vals_at, H.ct, H.v]
  unfold dsc dpr
  rw [EReal.coe_mul, EReal.coe_mul, EReal.coe_sub, coe_sum]
  simp only [EReal.coe_mul]

include H hi in
theorem stepA_at (mk : Bool) (r : Fin 8) (b : Fin 4) (hm : Below kb mk r b) (a : Vec Ideal S256x512 .f32) (c : Fin 256) (y : Fin 512) :
    stepA X i b mk r a (ix2 c y)
      = a (ix2 c y) + ((∑ x, wide (A.q (gx r x) h) c * dsc A h (gx r x) (key kb (lk b y)) : ℝ) : EReal) := by
  pointwise [stepA, accK]
  simp only [dlog_at A h kb X H i hi mk r b hm, rowsQ_at, H.q]
  rw [coe_sum]
  simp only [EReal.coe_mul]
include H hi in
theorem stepB_at (mk : Bool) (r : Fin 8) (b : Fin 4) (hm : Below kb mk r b) (a : Vec Ideal S128x512 .f32) (d : Fin 128) (y : Fin 512) :
    stepB X i b mk r a (ix2 d y)
      = a (ix2 d y) + ((∑ x, A.ct (gx r x) h d * pr A h (gx r x) (key kb (lk b y)) : ℝ) : EReal) := by
  pointwise [stepB, accV]
  simp only [prob_at A h kb X H i hi mk r b hm, rowsD_at, H.ct]
  rw [coe_sum]
  simp only [EReal.coe_mul]
include H hi in
theorem accQ_at (mk : Bool) (r : Fin 8) (b : Fin 4) (hm : Below kb mk r b) (d : Vec Ideal S512x256 .f32) (x : Fin 512) (c : Fin 256) :
    accQ mk (k0_pay338 i) (keys X b) (vals X b) (rowsQ X.q r) (rowsD X.ct r) (rowsD X.lse r) (rowsD X.dl r) d (ix2 x c)
      = d (ix2 x c) + ((∑ y, dsc A h (gx r x) (key kb (lk b y)) * wide (A.k (key kb (lk b y)) h) c : ℝ) : EReal) := by
  pointwise [accQ]
  simp only [dlog_at A h kb X H i hi mk r b hm, keys_at, H.k]
  rw [coe_sum]
  simp only [EReal.coe_mul]

/-! ## The sums over the blocks of query rows -/

include hk in
theorem below_all (b : Fin 4) : Below kb true (row i b) b ∧ ∀ r ∈ below i b, Below kb false r b := by
  have hk2 := kb.isLt
  refine ⟨?_, ?_⟩
  · show 4 * (i 1).val + b.val = 4 * kb.val + b.val
    rw [hk]
  · intro r hr
    show 4 * kb.val + b.val < r.val
    unfold below lp tail at hr
    rw [hk] at hr
    rcases (show kb.val = 0 ∨ kb.val = 1 by omega) with h0 | h0
    · rw [h0] at hr ⊢
      fin_cases b <;> fin_cases r <;> simp_all
    · rw [h0] at hr ⊢
      fin_cases b <;> fin_cases r <;> simp_all

include hk in
/-- A sum over the blocks on and below the diagonal is one over all of them, where those above add nothing. -/
theorem list_sum (f : Fin 8 → ℝ) (b : Fin 4) (h0 : ∀ r : Fin 8, r.val < 4 * kb.val + b.val → f r = 0) :
    f (row i b) + ((below i b).map f).sum = ∑ r, f r := by
  have hk2 := kb.isLt
  have hr : row i b = ⟨4 * kb.val + b.val, by omega⟩ := by
    unfold row
    simp only [hk]
  rw [hr, Fin.sum_univ_eight]
  unfold below lp tail
  rw [hk]
  rcases (show kb.val = 0 ∨ kb.val = 1 by omega) with h1 | h1
  · simp only [h1] at h0 ⊢
    fin_cases b <;> (try simp [Fin.forall_fin_succ] at h0) <;> simp <;> (try simp [h0]) <;> ring
  · simp only [h1] at h0 ⊢
    fin_cases b <;> (try simp [Fin.forall_fin_succ] at h0) <;> simp <;> (try simp [h0]) <;> ring

/-- The blocks of query rows are the query rows. -/
theorem sum_rows (f : Fin 4096 → ℝ) : ∑ r : Fin 8, ∑ x : Fin 512, f (gx r x) = ∑ x, f x := by
  rw [← Fintype.sum_prod_type']
  exact Fintype.sum_equiv (finProdFinEquiv (m := 8) (n := 512)) _ _ fun p => congrArg f (Fin.ext (Nat.add_comm _ _))
theorem sum_keys (f : Fin 4096 → ℝ) : ∑ kb : Fin 2, ∑ y : Fin 2048, f (key kb y) = ∑ y, f y := by
  rw [← Fintype.sum_prod_type']
  exact Fintype.sum_equiv (finProdFinEquiv (m := 2) (n := 2048)) _ _ fun p => congrArg f (Fin.ext (Nat.add_comm _ _))
theorem sum_lk (f : Fin 2048 → ℝ) : ∑ b : Fin 4, ∑ y : Fin 512, f (lk b y) = ∑ y, f y := by
  rw [← Fintype.sum_prod_type']
  exact Fintype.sum_equiv (finProdFinEquiv (m := 4) (n := 512)) _ _ fun p => congrArg f (Fin.ext (Nat.add_comm _ _))

/-- A fold each of whose steps adds a number at an index adds their sum there. -/
theorem fold_adds {β ι : Type} (g : β → ι → β) (p : β → EReal) (f : ι → ℝ) (l : List ι) (hg : ∀ r ∈ l, ∀ a, p (g a r) = p a + (f r : EReal))
    (a : β) : p (l.foldl g a) = p a + (((l.map f).sum : ℝ) : EReal) := by
  induction l generalizing a with
  | nil => simp
  | cons r l ih =>
    rw [List.foldl_cons, ih (fun r hr => hg r (List.mem_cons_of_mem _ hr)), hg r List.mem_cons_self, List.map_cons, List.sum_cons,
      EReal.coe_add, add_assoc]

theorem zero_a (c : Fin 256) (y : Fin 512) : k0_pay339 (F := Ideal) (ix2 c y) = 0 := by
  pointwise [k0_pay339]
theorem zero_b (d : Fin 128) (y : Fin 512) : k0_pay340 (F := Ideal) (ix2 d y) = 0 := by
  pointwise [k0_pay340]
theorem zero_q (x : Fin 4096) (c : Fin 256) : k0_pay337 (F := Ideal) (ix2 x c) = 0 := by
  pointwise [k0_pay337]

/-- Above the diagonal a block adds nothing. -/
theorem above (r : Fin 8) (b : Fin 4) (hr : r.val < 4 * kb.val + b.val) (x y : Fin 512) : ¬ (key kb (lk b y)).val ≤ (gx r x).val := by
  show ¬ 2048 * kb.val + (512 * b.val + y.val) ≤ 512 * r.val + x.val
  omega

include H hi hk in
theorem sumA_at (b : Fin 4) (c : Fin 256) (y : Fin 512) :
    sumA X i b (ix2 c y) = ((∑ x, wide (A.q x h) c * dsc A h x (key kb (lk b y)) : ℝ) : EReal) := by
  unfold sumA
  have hb := below_all kb i hk b
  rw [fold_adds _ (fun a : Vec Ideal S256x512 .f32 => (a (ix2 c y) : EReal)) _ _ (fun r hr a => stepA_at A h kb X H i hi false r b (hb.2 r hr) a c y)]
  show stepA X i b true (row i b) (k0_pay339 (F := Ideal)) (ix2 c y) + _ = _
  rw [stepA_at A h kb X H i hi true _ b hb.1, zero_a, zero_add, ← EReal.coe_add,
    list_sum kb i hk (fun r => ∑ x, wide (A.q (gx r x) h) c * dsc A h (gx r x) (key kb (lk b y))) b ?_,
    sum_rows fun x => wide (A.q x h) c * dsc A h x (key kb (lk b y))]
  intro r hr
  refine Finset.sum_eq_zero fun x _ => ?_
  rw [dsc_masked A h _ _ (above kb r b hr x y), mul_zero]

include H hi hk in
theorem sumB_at (b : Fin 4) (d : Fin 128) (y : Fin 512) :
    sumB X i b (ix2 d y) = ((∑ x, A.ct x h d * pr A h x (key kb (lk b y)) : ℝ) : EReal) := by
  unfold sumB
  have hb := below_all kb i hk b
  rw [fold_adds _ (fun a : Vec Ideal S128x512 .f32 => (a (ix2 d y) : EReal)) _ _ (fun r hr a => stepB_at A h kb X H i hi false r b (hb.2 r hr) a d y)]
  show stepB X i b true (row i b) (k0_pay340 (F := Ideal)) (ix2 d y) + _ = _
  rw [stepB_at A h kb X H i hi true _ b hb.1, zero_b, zero_add, ← EReal.coe_add,
    list_sum kb i hk (fun r => ∑ x, A.ct (gx r x) h d * pr A h (gx r x) (key kb (lk b y))) b ?_,
    sum_rows fun x => A.ct x h d * pr A h x (key kb (lk b y))]
  intro r hr
  refine Finset.sum_eq_zero fun x _ => ?_
  rw [pr_masked A h _ _ (above kb r b hr x y), mul_zero]

/-- What a block of keys adds to a row of the query gradient. -/
def addQ (b : Fin 4) (x : Fin 4096) (c : Fin 256) : ℝ := ∑ y, dsc A h x (key kb (lk b y)) * wide (A.k (key kb (lk b y)) h) c

include H hi in
theorem stepQ_at (mk : Bool) (r : Fin 8) (b : Fin 4) (hm : Below kb mk r b) (d : Vec Ideal S4096x256 .f32) (x : Fin 4096) (c : Fin 256) :
    stepQ X i b mk r d (ix2 x c) = d (ix2 x c) + ((if x.val / 512 = r.val then addQ A h kb b x c else 0 : ℝ) : EReal) := by
  unfold stepQ
  rw [put_rows]
  by_cases hr : x.val / 512 = r.val
  · have hx : gx r ⟨x.val % 512, by omega⟩ = x := Fin.ext (by show 512 * r.val + x.val % 512 = x.val; omega)
    rw [if_pos hr, if_pos hr, accQ_at A h kb X H i hi mk r b hm, rowsQ_at, hx]
    rfl
  · rw [if_neg hr, if_neg hr, EReal.coe_zero, add_zero]

include H hi hk in
theorem sumQ_at (b : Fin 4) (d : Vec Ideal S4096x256 .f32) (x : Fin 4096) (c : Fin 256) :
    sumQ X i b d (ix2 x c) = d (ix2 x c) + (addQ A h kb b x c : EReal) := by
  unfold sumQ
  have hb := below_all kb i hk b
  rw [fold_adds _ (fun a : Vec Ideal S4096x256 .f32 => (a (ix2 x c) : EReal)) _ _ (fun r hr a => stepQ_at A h kb X H i hi false r b (hb.2 r hr) a x c)]
  show stepQ X i b true (row i b) d (ix2 x c) + _ = _
  rw [stepQ_at A h kb X H i hi true _ b hb.1, add_assoc, ← EReal.coe_add,
    list_sum kb i hk (fun r => if x.val / 512 = r.val then addQ A h kb b x c else 0) b ?_]
  · rw [Finset.sum_eq_single (⟨x.val / 512, by omega⟩ : Fin 8)]
    · rw [if_pos rfl]
    · intro r _ hr
      rw [if_neg fun e => hr (Fin.ext e.symm)]
    · exact fun hn => absurd (Finset.mem_univ _) hn
  · intro r hr
    by_cases hx : x.val / 512 = r.val
    · rw [if_pos hx]
      unfold addQ
      refine Finset.sum_eq_zero fun y _ => ?_
      rw [dsc_masked, zero_mul]
      show ¬ 2048 * kb.val + (512 * b.val + y.val) ≤ x.val
      omega
    · rw [if_neg hx]

/-! ## What a point leaves -/

/-- What a point's keys add to a row of the query gradient. -/
def partQ (x : Fin 4096) (c : Fin 256) : ℝ := ∑ y, dsc A h x (key kb y) * wide (A.k (key kb y) h) c

include H hi hk in
theorem dqOf_at (d : Vec Ideal S4096x256 .f32) (x : Fin 4096) (c : Fin 256) :
    dqOf X i d (ix2 x c) = (if kb.val = 0 then 0 else (d (ix2 x c) : EReal)) + (partQ A h kb x c : EReal) := by
  have hs : partQ A h kb x c = ∑ b, addQ A h kb b x c := (sum_lk fun y => dsc A h x (key kb y) * wide (A.k (key kb y) h) c).symm
  unfold dqOf
  rw [sumQ_at A h kb X H i hi hk, sumQ_at A h kb X H i hi hk, sumQ_at A h kb X H i hi hk, sumQ_at A h kb X H i hi hk, hs, Fin.sum_univ_four,
    EReal.coe_add, EReal.coe_add, EReal.coe_add, hk]
  simp only [add_assoc]
  congr 1
  by_cases h0 : kb.val = 0
  · rw [if_pos h0, if_pos h0, zero_q]
  · rw [if_neg h0, if_neg h0]

include H hi hk in
theorem dkOf_at (y : Fin 2048) (c : Fin 256) : dkOf X i (ix2 y c) = ((∑ x, wide (A.q x h) c * dsc A h x (key kb y) : ℝ) : EReal) := by
  have e : dkOf X i (ix2 y c) = k0_pay357 (sumA X i ⟨y.val / 512, by omega⟩) (ix2 (⟨y.val % 512, by omega⟩ : Fin 512) c) := by
    unfold dkOf
    rw [ix2_eq_valueIdx, ix2_eq_valueIdx]
  rw [e]
  pointwise [k0_pay357]
  rw [sumA_at A h kb X H i hi hk, lk_split]
include H hi hk in
theorem dvOf_at (y : Fin 2048) (d : Fin 128) : dvOf X i (ix2 y d) = ((∑ x, A.ct x h d * pr A h x (key kb y) : ℝ) : EReal) := by
  have e : dvOf X i (ix2 y d) = k0_pay358 (sumB X i ⟨y.val / 512, by omega⟩) (ix2 (⟨y.val % 512, by omega⟩ : Fin 512) d) := by
    unfold dvOf
    rw [ix2_eq_valueIdx, ix2_eq_valueIdx]
  rw [e]
  pointwise [k0_pay358]
  rw [sumB_at A h kb X H i hi hk, lk_split]

end Cert.KernelIdeal.Att
-- ==== Proof.HostPre.lean ====
/- What the host prepares for the kernel, of finite arguments. -/
module

public import proofs.«01_k».proof.Proof.Maths
public import proofs.«01_k».proof.Proof.Consts
public import proofs.«01_k».proof.Proof.KerVal
public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.KernelIdeal.Pre

open Cert.KernelIdeal Cert.KernelIdeal.Att Cert.KernelIdeal.Gen Cert.Att
open Idealize.ShloMosaic Idealize.ShloMosaic.Pointwise

abbrev W := FVec Ideal S4096x8x192 .f32
abbrev N := FVec Ideal S4096x8x128 .f32
abbrev T := FVec Ideal S8x4096x4096 .f32
abbrev R := FVec Ideal S8x4096 .f32

/-! ## The host's arrays -/

def mask : IVec S8x4096x4096 1 :=
  broadcastInDim S8x4096x4096 ![0, 1, 2] bcast_S1x4096x4096_S8x4096x4096_0_1_2 (cmpi .sle
    (broadcastInDim S1x4096x4096 ![0, 1, 2] bcast_S1x1x4096_S1x4096x4096_0_1_2 (broadcastInDim S1x1x4096 ![2] bcast_S4096_S1x1x4096_2 (iotaInDim S4096 32 0)))
    (broadcastInDim S1x4096x4096 ![0, 1, 2] bcast_S1x4096x1_S1x4096x4096_0_1_2 (broadcastInDim S1x4096x1 ![1] bcast_S4096_S1x4096x1_1 (iotaInDim S4096 32 0))))
def root : T := broadcastInDim S8x4096x4096 ![] bcast_S_S8x4096x4096 (id (Host.sqrt (constant S_ .f32 0x43400000#32)))
def scores (a0 a1 : W) : T :=
  select mask (Host.divf (Host.dotGeneral dot_S4096x8x192_S4096x8x192_S8x4096x4096_2_2_0_0_1_1 none a0 a1) root)
    (broadcastInDim S8x4096x4096 ![] bcast_S_S8x4096x4096 (id (constant S_ .f32 0xFF800000#32)))
abbrev upright (x : R) : FVec Ideal S8x4096x1 .f32 := broadcastInDim S8x4096x1 ![0, 1] bcast_S8x4096_S8x4096x1_0_1 x
def across (x : R) : T := broadcastInDim S8x4096x4096 ![0, 1, 2] bcast_S8x4096x1_S8x4096x4096_0_1_2 (upright x)
def tops (s : T) : R := Host.reduce FloatOps.maximumf s (constant S_ .f32 0xFF800000#32) reducesTo_S8x4096x4096_S8x4096_d2 h_S_
def wts (s : T) (t : R) : T := Host.exp (subf s (across t))
def tots (e : T) : R := Host.reduceAdd e (constant S_ .f32 0x00000000#32) reducesTo_S8x4096x4096_S8x4096_d2 h_S_
def lses (t l : R) : FVec Ideal S4096x8 .f32 :=
  transpose S4096x8 [1, 0] (shapeCast S8x4096 (Host.divf (addf (upright t) (Host.log (upright l)))
    (broadcastInDim S8x4096x1 ![] bcast_S_S8x4096x1 (id (Host.log (constant S_ .f32 0x40000000#32))))) shapeCasts_S8x4096x1_S8x4096) transposes_S8x4096_S4096x8_1_0
def outs (a2 : N) (e : T) (l : R) : N :=
  transpose S4096x8x128 [2, 0, 1] (Host.dotGeneral dot_S4096x8x128_S8x4096x4096_S8x128x4096_0_2_2_1_1_0 none a2 (Host.divf e (across l))) transposes_S8x128x4096_S4096x8x128_2_0_1
def deltas (a2 a3 : N) (e : T) (l : R) : FVec Ideal S4096x8 .f32 :=
  Host.reduceAdd (mulf (outs a2 e l) a3) (constant S_ .f32 0x00000000#32) reducesTo_S4096x8x128_S4096x8_d2 h_S_
def paired (x : FVec Ideal S4096x8 .f32) : FVec Ideal S4096x512 .f32 :=
  shapeCast S4096x512 (pad S4096x4x128 ![0, 0, 0] ![0, 0, 126] ![0, 0, 0] (shapeCast S4096x4x2 x shapeCasts_S4096x8_S4096x4x2)
    (sitofp .f32 (constantI S_ 32 0#32) : FVec Ideal S_ .f32) pads_S4096x4x2_S4096x4x128_000_000_01260 h_S_) shapeCasts_S4096x4x128_S4096x512
def padded (a : W) : FVec Ideal S4096x2048 .bf16 :=
  truncf .bf16 (shapeCast S4096x2048 (pad S4096x8x256 ![0, 0, 0] ![0, 0, 64] ![0, 0, 0] a
    (sitofp .f32 (constantI S_ 32 0#32) : FVec Ideal S_ .f32) pads_S4096x8x192_S4096x8x256_000_000_0640 h_S_) shapeCasts_S4096x8x256_S4096x2048) bitsLt_bf16_f32
def joined (a2 : N) : FVec Ideal S4096x2048 .bf16 :=
  truncf .bf16 (shapeCast S4096x2048 (concatenate S4096x8x256 2 [⟨S4096x8x128, a2⟩, ⟨S4096x8x128, (broadcastInDim S4096x8x128 ![] bcast_S_S4096x8x128 (constant S_ .f32 0x3F800000#32) : N)⟩]
    concatenates_S4096x8x128_S4096x8x128_S4096x8x256_d2) shapeCasts_S4096x8x256_S4096x2048) bitsLt_bf16_f32
def flat (a3 : N) : FVec Ideal S4096x1024 .bf16 :=
  truncf .bf16 (shapeCast S4096x1024 a3 shapeCasts_S4096x8x128_S4096x1024) bitsLt_bf16_f32

variable (m : (ℓ : Loc nD τ sig) → Buf (Elt Ideal) ℓ) (c : Dev nD)

def a0 : W := m ((c.tc : Thread nD τ).loc main_arg0)
def a1 : W := m ((c.tc : Thread nD τ).loc main_arg1)
def a2 : N := m ((c.tc : Thread nD τ).loc main_arg2)
def a3 : N := m ((c.tc : Thread nD τ).loc main_arg3)

theorem in_q : (V m c main_v37 : FVec Ideal S4096x2048 .bf16) = padded (a0 m c) := by
  unfold V V0
  after_reads_simp
  rfl
theorem in_k : (V m c main_v40 : FVec Ideal S4096x2048 .bf16) = padded (a1 m c) := by
  unfold V V0
  after_reads_simp
  rfl
theorem in_v : (V m c main_v43 : FVec Ideal S4096x2048 .bf16) = joined (a2 m c) := by
  unfold V V0
  after_reads_simp
  rfl
theorem in_d : (V m c main_v45 : FVec Ideal S4096x1024 .bf16) = flat (a3 m c) := by
  unfold V V0
  after_reads_simp
  rfl
def theT : T := scores (a0 m c) (a1 m c)
theorem in_lse : (V m c main_v48 : FVec Ideal S4096x512 .f32) =
    paired (lses (tops (theT m c)) (tots (wts (theT m c) (tops (theT m c))))) := by
  unfold V V0
  after_reads_simp
  simp -implicitDefEqProofs only [StableHlo.TRef.toBuf, StableHlo.TRef.ofBuf, cast_cast, cast_eq]
  unfold theT a0 a1 paired lses tots wts across upright tops scores root mask
  rfl
theorem in_dl : (V m c main_v51 : FVec Ideal S4096x512 .f32) =
    paired (deltas (a2 m c) (a3 m c) (wts (theT m c) (tops (theT m c))) (tots (wts (theT m c) (tops (theT m c))))) := by
  unfold V V0
  after_reads_simp
  simp -implicitDefEqProofs only [StableHlo.TRef.toBuf, StableHlo.TRef.ofBuf, cast_cast, cast_eq]
  unfold theT a0 a1 a2 a3 paired deltas outs tots wts across upright tops scores root mask
  rfl

variable (A : Args) (h : Fin 8)

section Rows

variable (q k : W) (h0 : ∀ x h d, q (ix3 x h d) = (A.q x h d : EReal)) (h1 : ∀ x h d, k (ix3 x h d) = (A.k x h d : EReal))
variable (v ct : N) (h2 : ∀ x h d, v (ix3 x h d) = (A.v x h d : EReal)) (h3 : ∀ x h d, ct (ix3 x h d) = (A.ct x h d : EReal))

theorem mask_at (h : Fin 8) (x y : Fin 4096) : mask (ix3 h x y) = if y.val ≤ x.val then 1#1 else 0#1 := by
  pointwise [mask]
  exact sle_iff y.val x.val y.isLt x.isLt
theorem root_at (h : Fin 8) (x y : Fin 4096) : root (ix3 h x y) = ((Real.sqrt 192 : ℝ) : EReal) := by
  pointwise [root, id_eq]
  rw [word_192, Ideal.sqrt_coe, if_neg (by norm_num)]

theorem root_ne : Real.sqrt 192 ≠ 0 := (Real.sqrt_pos.mpr (by norm_num)).ne'

include h0 h1 in
theorem scores_at (h : Fin 8) (x y : Fin 4096) : scores q k (ix3 h x y) = scoreM A h x y := by
  pointwise [scores, id_eq]
  rw [mask_at, root_at]
  simp only [h0, h1]
  unfold scoreM score
  by_cases hxy : y.val ≤ x.val
  · rw [if_pos hxy, if_pos hxy]
    rw [Scalar.select, if_pos (by rfl), Ideal.div_coe root_ne, one_div, EReal.coe_mul, coe_sum]
    simp only [EReal.coe_mul]
  · rw [if_neg hxy, if_neg hxy]
    rw [Scalar.select, if_neg (by decide), word_bot]

variable (s : T) (hs : ∀ h x y, s (ix3 h x y) = scoreM A h x y)

include hs in
theorem tops_at (h : Fin 8) (x : Fin 4096) : tops s (ix2 h x) = (top' A h x : EReal) := by
  rw [← top_eq]
  unfold tops top
  rw [max_rows]
  simp only [hs]
  rw [constant_at, word_bot]

variable (t : R) (ht : ∀ h x, t (ix2 h x) = (top' A h x : EReal))

include hs ht in
theorem wts_at (h : Fin 8) (x y : Fin 4096) : wts s t (ix3 h x y) = (wt A h x y : EReal) := by
  pointwise [wts, across]
  rw [ht, hs]
  unfold scoreM wt
  split
  · rw [← EReal.coe_sub, Ideal.exp_coe]
  · rw [EReal.bot_sub, Ideal.exp_bot]
    rfl

variable (e : T) (he : ∀ h x y, e (ix3 h x y) = (wt A h x y : EReal))

include he in
theorem tots_at (h : Fin 8) (x : Fin 4096) : tots e (ix2 h x) = (total A h x : EReal) := by
  pointwise [tots]
  simp only [he]
  unfold total
  rw [coe_sum]

variable (l : R) (hl : ∀ h x, l (ix2 h x) = (total A h x : EReal))

include ht hl in
theorem lses_at (h : Fin 8) (x : Fin 4096) : lses t l (ix2 x h) = (lse2 A h x : EReal) := by
  pointwise [lses, id_eq]
  rw [ht, hl, word_two, Ideal.log_coe, Ideal.log_coe, if_neg (not_le.mpr (total_pos A h x)), if_neg (by norm_num), ← EReal.coe_add,
    Ideal.div_coe (Real.log_pos (by norm_num)).ne', ← EReal.coe_mul, one_div]
  rfl

include h2 he hl in
theorem outs_at (h : Fin 8) (x : Fin 4096) (d : Fin 128) : outs v e l (ix3 x h d) = ((∑ y, A.v y h d * pr A h x y : ℝ) : EReal) := by
  pointwise [outs, across]
  simp only [h2, he, hl]
  unfold pr
  rw [coe_sum]
  refine Finset.sum_congr (M := EReal) rfl fun y _ => ?_
  rw [Ideal.div_coe (total_pos A h x).ne', ← EReal.coe_mul, ← EReal.coe_mul, one_div, div_eq_mul_inv]

include h2 h3 he hl in
theorem deltas_at (h : Fin 8) (x : Fin 4096) : deltas v ct e l (ix2 x h) = (mean A h x : EReal) := by
  pointwise [deltas]
  rw [← mean_out, coe_sum]
  refine Finset.sum_congr (M := EReal) rfl fun y _ => ?_
  rw [outs_at A v h2 e he l hl, h3, EReal.coe_mul]

end Rows

theorem paired_at (z : FVec Ideal S4096x8 .f32) (x : Fin 4096) :
    paired z (ix2 x ⟨128 * (h.val / 2) + h.val % 2, by omega⟩) = z (ix2 x h) := by
  pointwise [paired]
  rw [dif_pos ⟨by omega, by omega⟩]
theorem padded_at (a : W) (x : Fin 4096) (c : Fin 256) :
    padded a (ix2 x ⟨256 * h.val + c.val, by omega⟩) = if hc : c.val < 192 then a (ix3 x h ⟨c.val, hc⟩) else 0 := by
  pointwise [padded]
  split
  · rfl
  · show (((0#32 : BitVec 32).toInt : ℝ) : EReal) = 0
    simp
theorem joined_at (a : N) (x : Fin 4096) (d : Fin 128) :
    joined a (ix2 x ⟨256 * h.val + d.val, by omega⟩) = a (ix3 x h d) := by
  have e : (256 * h.val + d.val) % 256 = d.val := by omega
  pointwise [joined]
  rw [dif_pos (by omega)]
  simp only [e]
theorem flat_at (a : N) (x : Fin 4096) (d : Fin 128) :
    flat a (ix2 x ⟨128 * h.val + d.val, by omega⟩) = a (ix3 x h d) := by
  pointwise [flat]
end Cert.KernelIdeal.Pre
-- ==== Proof.Final.lean ====
/- What the kernel's run leaves in the result arrays, of finite arguments. -/
module

public import proofs.«01_k».proof.Proof.HostPre
public import proofs.«01_k».proof.Proof.Run
public import Idealize.ShloMosaic.Lib.Pipeline.ValueKit

@[expose] public section

set_option maxRecDepth 16384

noncomputable section

namespace Cert.KernelIdeal.Pre

open Cert.KernelIdeal Cert.KernelIdeal.Att Cert.KernelIdeal.Gen Cert.Att
open Idealize.ShloMosaic Idealize.ShloMosaic.Pointwise Idealize.ShloMosaic.TcCoe

variable (m : (ℓ : Loc nD τ sig) → Buf (Elt Ideal) ℓ) (c : Dev nD) (A : Args)

/-- A point's head and its block of keys. -/
def hd (t : Fin cfg0.N) : Fin 8 := ⟨t.val / 2, by have : t.val < 16 := N_0 ▸ t.isLt; omega⟩
def kb (t : Fin cfg0.N) : Fin 2 := ⟨t.val % 2, by omega⟩

theorem coord0 : ∀ t : Fin cfg0.N, (grid0.coords t 0).val = t.val / 2 :=
  (by decide +kernel : ∀ t : Fin grid0.N, (grid0.coords t 0).val = t.val / 2)

theorem idx : ∀ t : Fin cfg0.N, win0_0.index t = ![0, t.val / 2] ∧ win0_1.index t = ![t.val % 2, t.val / 2]
    ∧ win0_2.index t = ![t.val % 2, 2 * (t.val / 2)] ∧ win0_3.index t = ![0, t.val / 2] ∧ win0_4.index t = ![0, t.val / 4] ∧ win0_5.index t = ![0, t.val / 4]
    ∧ win0_6.index t = ![0, t.val / 2] ∧ win0_7.index t = ![t.val % 2, t.val / 2] ∧ win0_8.index t = ![t.val % 2, t.val / 2] :=
  (by decide +kernel : ∀ t : Fin grid0.N, _)

theorem blk_q (t : Fin cfg0.N) (x : Fin 4096) (d : Fin 256) : (inAt m c t).q (ix2 x d) = (V m c main_v37 : FVec Ideal S4096x2048 .bf16) (ix2 x ⟨256 * (hd t).val + d.val, by omega⟩) := by
  show iblk m c 0 t (ix2 x d) = _
  unfold hd
  blk_simp [iblk]
  blk_ext [idx t]
theorem blk_k (t : Fin cfg0.N) (y : Fin 2048) (d : Fin 256) : (inAt m c t).k (ix2 y d) = (V m c main_v40 : FVec Ideal S4096x2048 .bf16) (ix2 (key (kb t) y) ⟨256 * (hd t).val + d.val, by omega⟩) := by
  show iblk m c 1 t (ix2 y d) = _
  unfold hd key kb
  blk_simp [iblk]
  blk_ext [idx t]
theorem blk_v (t : Fin cfg0.N) (y : Fin 2048) (d : Fin 128) : (inAt m c t).v (ix2 y d) = (V m c main_v43 : FVec Ideal S4096x2048 .bf16) (ix2 (key (kb t) y) ⟨256 * (hd t).val + d.val, by omega⟩) := by
  show iblk m c 2 t (ix2 y d) = _
  unfold hd key kb
  blk_simp [iblk]
  blk_ext [idx t]
theorem blk_d (t : Fin cfg0.N) (x : Fin 4096) (d : Fin 128) : (inAt m c t).ct (ix2 x d) = (V m c main_v45 : FVec Ideal S4096x1024 .bf16) (ix2 x ⟨128 * (hd t).val + d.val, by omega⟩) := by
  show iblk m c 3 t (ix2 x d) = _
  unfold hd
  blk_simp [iblk]
  blk_ext [idx t]
theorem blk_lse (t : Fin cfg0.N) (x : Fin 4096) : (inAt m c t).lse (ix2 x (lane (hd t))) = (V m c main_v48 : FVec Ideal S4096x512 .f32) (ix2 x ⟨128 * ((hd t).val / 2) + (hd t).val % 2, by omega⟩) := by
  show iblk m c 4 t (ix2 x (lane (hd t))) = _
  unfold hd lane
  blk_simp [iblk]
  blk_ext [idx t]
theorem blk_dl (t : Fin cfg0.N) (x : Fin 4096) : (inAt m c t).dl (ix2 x (lane (hd t))) = (V m c main_v51 : FVec Ideal S4096x512 .f32) (ix2 x ⟨128 * ((hd t).val / 2) + (hd t).val % 2, by omega⟩) := by
  show iblk m c 5 t (ix2 x (lane (hd t))) = _
  unfold hd lane
  blk_simp [iblk]
  blk_ext [idx t]

variable (h0 : ∀ x h d, a0 m c (ix3 x h d) = (A.q x h d : EReal)) (h1 : ∀ x h d, a1 m c (ix3 x h d) = (A.k x h d : EReal))
variable (h2 : ∀ x h d, a2 m c (ix3 x h d) = (A.v x h d : EReal)) (h3 : ∀ x h d, a3 m c (ix3 x h d) = (A.ct x h d : EReal))

theorem padded_real (a : W) (f : Fin 4096 → Fin 8 → Fin 192 → ℝ) (ha : ∀ x h d, a (ix3 x h d) = (f x h d : EReal)) (h : Fin 8) (x : Fin 4096) (d : Fin 256) :
    padded a (ix2 x ⟨256 * h.val + d.val, by omega⟩) = (wide (f x h) d : EReal) := by
  rw [padded_at]
  unfold wide
  split
  · rw [ha]
  · rfl

include h0 h1 in
theorem theT_at (h : Fin 8) (x y : Fin 4096) : theT m c (ix3 h x y) = scoreM A h x y := scores_at A _ _ h0 h1 h x y
include h0 h1 in
theorem theTops_at (h : Fin 8) (x : Fin 4096) : tops (theT m c) (ix2 h x) = (top' A h x : EReal) := tops_at A _ (theT_at m c A h0 h1) h x
include h0 h1 in
theorem theWts_at (h : Fin 8) (x y : Fin 4096) : wts (theT m c) (tops (theT m c)) (ix3 h x y) = (wt A h x y : EReal) :=
  wts_at A _ (theT_at m c A h0 h1) _ (theTops_at m c A h0 h1) h x y
include h0 h1 in
theorem theTots_at (h : Fin 8) (x : Fin 4096) : tots (wts (theT m c) (tops (theT m c))) (ix2 h x) = (total A h x : EReal) :=
  tots_at A _ (theWts_at m c A h0 h1) h x

include h0 h1 h2 h3 in
/-- Every point is given its head's rows. -/
theorem holds (t : Fin cfg0.N) : Holds A (hd t) (kb t) (inAt m c t) where
  q x d := by rw [blk_q, in_q, padded_real (a0 m c) A.q h0]
  k y d := by rw [blk_k, in_k, padded_real (a1 m c) A.k h1]
  v y d := by rw [blk_v, in_v, joined_at, h2]
  ct x d := by rw [blk_d, in_d, flat_at, h3]
  lse x := by rw [blk_lse, in_lse, paired_at, lses_at A _ (theTops_at m c A h0 h1) _ (theTots_at m c A h0 h1)]
  dl x := by rw [blk_dl, in_dl, paired_at, deltas_at A _ _ h2 h3 _ (theWts_at m c A h0 h1) _ (theTots_at m c A h0 h1)]

/-! ## The result arrays -/

def dqs (i : S4096x2048.Idx) : EReal :=
  ((∑ y, dsc A ⟨(i 1).val / 256, by have := ValueIdx.idx2_lt1 i; omega⟩ (i 0) y * wide (A.k y ⟨(i 1).val / 256, by have := ValueIdx.idx2_lt1 i; omega⟩) ⟨(i 1).val % 256, by omega⟩ : ℝ) : EReal)
def dks (i : S4096x2048.Idx) : EReal :=
  ((∑ x, wide (A.q x ⟨(i 1).val / 256, by have := ValueIdx.idx2_lt1 i; omega⟩) ⟨(i 1).val % 256, by omega⟩ * dsc A ⟨(i 1).val / 256, by have := ValueIdx.idx2_lt1 i; omega⟩ x (i 0) : ℝ) : EReal)
def dvs (i : S4096x1024.Idx) : EReal :=
  ((∑ x, A.ct x ⟨(i 1).val / 128, by have := ValueIdx.idx2_lt1 i; omega⟩ ⟨(i 1).val % 128, by omega⟩ * pr A ⟨(i 1).val / 128, by have := ValueIdx.idx2_lt1 i; omega⟩ x (i 0) : ℝ) : EReal)

theorem dqs_at (x : Fin 4096) (h : Fin 8) (d : Fin 256) : dqs A (ix2 x ⟨h.val * 256 + d.val, by omega⟩) = ((∑ y, dsc A h x y * wide (A.k y h) d : ℝ) : EReal) := by
  have e1 : (⟨(h.val * 256 + d.val) / 256, by omega⟩ : Fin 8) = h := Fin.ext (by show (h.val * 256 + d.val) / 256 = h.val; omega)
  have e2 : (⟨(h.val * 256 + d.val) % 256, by omega⟩ : Fin 256) = d := Fin.ext (by show (h.val * 256 + d.val) % 256 = d.val; omega)
  show ((∑ y, dsc A ⟨(h.val * 256 + d.val) / 256, _⟩ x y * wide (A.k y ⟨(h.val * 256 + d.val) / 256, _⟩) ⟨(h.val * 256 + d.val) % 256, _⟩ : ℝ) : EReal) = _
  rw [e1, e2]
theorem dks_at (y : Fin 4096) (h : Fin 8) (d : Fin 256) : dks A (ix2 y ⟨h.val * 256 + d.val, by omega⟩) = ((∑ x, wide (A.q x h) d * dsc A h x y : ℝ) : EReal) := by
  have e1 : (⟨(h.val * 256 + d.val) / 256, by omega⟩ : Fin 8) = h := Fin.ext (by show (h.val * 256 + d.val) / 256 = h.val; omega)
  have e2 : (⟨(h.val * 256 + d.val) % 256, by omega⟩ : Fin 256) = d := Fin.ext (by show (h.val * 256 + d.val) % 256 = d.val; omega)
  show ((∑ x, wide (A.q x ⟨(h.val * 256 + d.val) / 256, _⟩) ⟨(h.val * 256 + d.val) % 256, _⟩ * dsc A ⟨(h.val * 256 + d.val) / 256, _⟩ x y : ℝ) : EReal) = _
  rw [e1, e2]
theorem dvs_at (y : Fin 4096) (h : Fin 8) (d : Fin 128) : dvs A (ix2 y ⟨h.val * 128 + d.val, by omega⟩) = ((∑ x, A.ct x h d * pr A h x y : ℝ) : EReal) := by
  have e1 : (⟨(h.val * 128 + d.val) / 128, by omega⟩ : Fin 8) = h := Fin.ext (by show (h.val * 128 + d.val) / 128 = h.val; omega)
  have e2 : (⟨(h.val * 128 + d.val) % 128, by omega⟩ : Fin 128) = d := Fin.ext (by show (h.val * 128 + d.val) % 128 = d.val; omega)
  show ((∑ x, A.ct x ⟨(h.val * 128 + d.val) / 128, _⟩ ⟨(h.val * 128 + d.val) % 128, _⟩ * pr A ⟨(h.val * 128 + d.val) / 128, _⟩ x y : ℝ) : EReal) = _
  rw [e1, e2]

include h0 h1 h2 h3 in
/-- After a head's second point the query gradient is summed over every key. -/
theorem dqAt_at (t : Fin cfg0.N) (ht : t.val % 2 = 1) (x : Fin 4096) (d : Fin 256) :
    dqAt m c t (ix2 x d) = ((∑ y, dsc A (hd t) x y * wide (A.k y (hd t)) d : ℝ) : EReal) := by
  have hp : hd (prev t) = hd t := Fin.ext (by show (t.val - 1) / 2 = t.val / 2; omega)
  have k1 : kb t = 1 := Fin.ext ht
  have k0 : kb (prev t) = 0 := Fin.ext (by show (t.val - 1) % 2 = 0; omega)
  unfold dqAt
  rw [if_neg (by omega)]
  unfold dqAfter
  rw [dqOf_at A (hd t) (kb t) _ (holds m c A h0 h1 h2 h3 t) _ (coord0 t) (coord1 t),
    dqOf_at A (hd (prev t)) (kb (prev t)) _ (holds m c A h0 h1 h2 h3 (prev t)) _ (coord0 _) (coord1 _), hp, k0, k1, if_neg (by decide), if_pos (by rfl),
    zero_add, ← EReal.coe_add, ← sum_keys fun y => dsc A (hd t) x y * wide (A.k y (hd t)) d, Fin.sum_univ_two]
  rfl

theorem rank2 {n k : ℕ} (y : (⟨2, ![n, k]⟩ : Shape).Idx) : y = ix2 (⟨(y 0).val, ValueIdx.idx2_lt0 y⟩ : Fin n) (⟨(y 1).val, ValueIdx.idx2_lt1 y⟩ : Fin k) := by
  funext j
  apply Fin.ext
  fin_cases j <;> rfl

include h0 h1 h2 h3 in
theorem arr_q : (dats m 0 c).arrAt 6 cfg0.N = dqs A := by
  refine (dats m 0 c).arrAt_eq_of_covers 6 _ (by decide +kernel) fun t hf y => ?_
  have ht := (flush0_6 t).mp hf
  blk_simp
  rw [after6]
  obtain ⟨x, d, rfl⟩ : ∃ (x : Fin 4096) (d : Fin 256), y = ix2 x d := ⟨_, _, rank2 (n := 4096) (k := 256) y⟩
  refine (dqAt_at m c A h0 h1 h2 h3 t ht x d).trans ((dqs_at A x (hd t) d).symm.trans ?_)
  unfold hd
  blk_ext [idx t]
include h0 h1 h2 h3 in
theorem arr_k : (dats m 0 c).arrAt 7 cfg0.N = dks A := by
  refine (dats m 0 c).arrAt_eq_of_covers 7 _ (by decide +kernel) fun t hf y => ?_
  blk_simp
  rw [after7]
  obtain ⟨x, d, rfl⟩ : ∃ (x : Fin 2048) (d : Fin 256), y = ix2 x d := ⟨_, _, rank2 (n := 2048) (k := 256) y⟩
  refine (dkOf_at A (hd t) (kb t) _ (holds m c A h0 h1 h2 h3 t) _ (coord0 t) (coord1 t) x d).trans ((dks_at A (key (kb t) x) (hd t) d).symm.trans ?_)
  unfold hd key kb
  blk_ext [idx t]
include h0 h1 h2 h3 in
theorem arr_v : (dats m 0 c).arrAt 8 cfg0.N = dvs A := by
  refine (dats m 0 c).arrAt_eq_of_covers 8 _ (by decide +kernel) fun t hf y => ?_
  blk_simp
  rw [after8]
  obtain ⟨x, d, rfl⟩ : ∃ (x : Fin 2048) (d : Fin 128), y = ix2 x d := ⟨_, _, rank2 (n := 2048) (k := 128) y⟩
  refine (dvOf_at A (hd t) (kb t) _ (holds m c A h0 h1 h2 h3 t) _ (coord0 t) (coord1 t) x d).trans ((dvs_at A (key (kb t) x) (hd t) d).symm.trans ?_)
  unfold hd key kb
  blk_ext [idx t]

/-! ## The results -/

theorem withArr (w : Fin 9) (A' : (w : Fin 9) → Buf (Elt Ideal) ((spec0 w).arr.view.loc (c.tc : Thread nD τ))) :
    Pipeline.withArrays spec0 c (V0 m c) A' (Proc.devRef .tc (Pipeline.arrRef spec0 w)) = A' w :=
  Pipeline.withArrays_arr spec0 (by decide) c (V0 m c) A' w

include h0 h1 h2 h3 in
theorem end_q : Pipeline.afterTail₀ cfgs (dats m) 0 (V0 m) [hostOps1] c main_v54
    = (extractStridedSlice S4096x8x192 ![0, 0, 0] (shapeCast S4096x8x256 (dqs A : FVec Ideal S4096x2048 .f32) shapeCasts_S4096x2048_S4096x8x256) slices_S4096x8x256_S4096x8x192_0_0_0 : W) := by
  rw [← arr_q m c A h0 h1 h2 h3, ← withArr m c 6 fun w => (dats m 0 c).arrAt w cfg0.N]
  unfold Pipeline.afterTail₀
  after_reads_simp
  rfl
include h0 h1 h2 h3 in
theorem end_k : Pipeline.afterTail₀ cfgs (dats m) 0 (V0 m) [hostOps1] c main_v56
    = (extractStridedSlice S4096x8x192 ![0, 0, 0] (shapeCast S4096x8x256 (dks A : FVec Ideal S4096x2048 .f32) shapeCasts_S4096x2048_S4096x8x256) slices_S4096x8x256_S4096x8x192_0_0_0 : W) := by
  rw [← arr_k m c A h0 h1 h2 h3, ← withArr m c 7 fun w => (dats m 0 c).arrAt w cfg0.N]
  unfold Pipeline.afterTail₀
  after_reads_simp
  rfl
include h0 h1 h2 h3 in
theorem end_v : Pipeline.afterTail₀ cfgs (dats m) 0 (V0 m) [hostOps1] c main_v57
    = (shapeCast S4096x8x128 (dvs A : FVec Ideal S4096x1024 .f32) shapeCasts_S4096x1024_S4096x8x128 : N) := by
  rw [← arr_v m c A h0 h1 h2 h3, ← withArr m c 8 fun w => (dats m 0 c).arrAt w cfg0.N]
  unfold Pipeline.afterTail₀
  after_reads_simp
  rfl

theorem wide_narrow (f : Fin 192 → ℝ) (d : Fin 192) : wide f ⟨d.val, by omega⟩ = f d := by
  unfold wide
  rw [dif_pos d.isLt]

include h0 h1 h2 h3 in
theorem res_q (x : Fin 4096) (h : Fin 8) (d : Fin 192) : (Pipeline.afterTail₀ cfgs (dats m) 0 (V0 m) [hostOps1] c main_v54 : W) (ix3 x h d) = (gradQ A h x d : EReal) := by
  rw [end_q m c A h0 h1 h2 h3]
  pointwise
  refine (dqs_at A x h ⟨d.val, by omega⟩).trans ?_
  unfold gradQ
  simp only [wide_narrow]
include h0 h1 h2 h3 in
theorem res_k (x : Fin 4096) (h : Fin 8) (d : Fin 192) : (Pipeline.afterTail₀ cfgs (dats m) 0 (V0 m) [hostOps1] c main_v56 : W) (ix3 x h d) = (gradK A h x d : EReal) := by
  rw [end_k m c A h0 h1 h2 h3]
  pointwise
  refine (dks_at A x h ⟨d.val, by omega⟩).trans ?_
  unfold gradK
  simp only [wide_narrow, mul_comm]
include h0 h1 h2 h3 in
theorem res_v (x : Fin 4096) (h : Fin 8) (d : Fin 128) : (Pipeline.afterTail₀ cfgs (dats m) 0 (V0 m) [hostOps1] c main_v57 : N) (ix3 x h d) = (gradV A h x d : EReal) := by
  rw [end_v m c A h0 h1 h2 h3]
  pointwise
  exact dvs_at A x h d

end Cert.KernelIdeal.Pre
-- ==== Proof.RefVal.lean ====
/- What the reference computes of finite arguments. -/
module

public import proofs.«01_k».proof.Proof.Maths
public import proofs.«01_k».proof.Proof.Consts
public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Cert.ReferenceIdeal.Value Cert.Att
open Idealize.ShloMosaic Idealize.ShloMosaic.Pointwise

/-- The arrays that the arguments are. -/
abbrev W := FVec Ideal S4096x8x192 .f32
abbrev N := FVec Ideal S4096x8x128 .f32
abbrev T := FVec Ideal S8x4096x4096 .f32
abbrev R := FVec Ideal S8x4096 .f32

def mask : IVec S8x4096x4096 1 :=
  broadcastInDim S8x4096x4096 ![0, 1, 2] bcast_S1x4096x4096_S8x4096x4096_0_1_2 (cmpi .sle
    (broadcastInDim S1x4096x4096 ![0, 1, 2] bcast_S1x1x4096_S1x4096x4096_0_1_2 (broadcastInDim S1x1x4096 ![2] bcast_S4096_S1x1x4096_2 (iotaInDim S4096 32 0)))
    (broadcastInDim S1x4096x4096 ![0, 1, 2] bcast_S1x4096x1_S1x4096x4096_0_1_2 (broadcastInDim S1x4096x1 ![1] bcast_S4096_S1x4096x1_1 (iotaInDim S4096 32 0))))
def root : T := broadcastInDim S8x4096x4096 ![] bcast_S_S8x4096x4096 (id (Host.sqrt (constant S_ .f32 0x43400000#32)))
def scores (a0 a1 : W) : T :=
  select mask (Host.divf (Host.dotGeneral dot_S4096x8x192_S4096x8x192_S8x4096x4096_2_2_0_0_1_1 none a0 a1) root)
    (broadcastInDim S8x4096x4096 ![] bcast_S_S8x4096x4096 (id (constant S_ .f32 0xFF800000#32)))
def across (x : R) : T := broadcastInDim S8x4096x4096 ![0, 1, 2] bcast_S8x4096x1_S8x4096x4096_0_1_2 (broadcastInDim S8x4096x1 ![0, 1] bcast_S8x4096_S8x4096x1_0_1 x)
def tops (s : T) : R :=
  maximumf (broadcastInDim S8x4096 ![] bcast_S_S8x4096 (constant S_ .f32 0xFF800000#32))
    (Host.reduce FloatOps.maximumf s (constant S_ .f32 0xFF800000#32) reducesTo_S8x4096x4096_S8x4096_d2 h_S_)
def wts (s : T) : T := Host.exp (subf s (across (tops s)))
def tots (e : T) : R := Host.reduceAdd e (constant S_ .f32 0x00000000#32) reducesTo_S8x4096x4096_S8x4096_d2 h_S_
def dprs (a2 a3 : N) : T :=
  Host.dotGeneral dot_S8x128x4096_S4096x8x128_S8x4096x4096_1_2_2_0_0_1 none (transpose S8x128x4096 [1, 2, 0] a3 transposes_S4096x8x128_S8x128x4096_1_2_0) a2
def back (e g : T) (t : R) : R :=
  Host.reduceAdd (Host.negf (shapeCast S8x4096x1 (Host.reduceAdd (mulf (mulf g
    (broadcastInDim S8x4096x4096 ![0, 1, 2] bcast_S8x4096x1_S8x4096x4096_0_1_2 (Host.divf (broadcastInDim S8x4096x1 ![] bcast_S_S8x4096x1 (constant S_ .f32 0x3F800000#32))
      (mulf (broadcastInDim S8x4096x1 ![0, 1] bcast_S8x4096_S8x4096x1_0_1 t) (broadcastInDim S8x4096x1 ![0, 1] bcast_S8x4096_S8x4096x1_0_1 t))))) e)
    (constant S_ .f32 0x00000000#32) reducesTo_S8x4096x4096_S8x4096_d2 h_S_) shapeCasts_S8x4096_S8x4096x1)) (constant S_ .f32 0x00000000#32) reducesTo_S8x4096x1_S8x4096_d2 h_S_
def dscs (e g : T) (t : R) : T :=
  Host.divf (select mask (mulf (addf (Host.divf g (across t))
    (broadcastInDim S8x4096x4096 ![0, 1] bcast_S8x4096_S8x4096x4096_0_1 (back e g t))) e)
    (broadcastInDim S8x4096x4096 ![] bcast_S_S8x4096x4096 (constant S_ .f32 0x00000000#32))) root

variable (m : (ℓ : Loc nD τ sig) → Buf (Elt Ideal) ℓ) (c : Dev nD)

def a0 : W := m ((c.tc : Thread nD τ).loc main_arg0)
def a1 : W := m ((c.tc : Thread nD τ).loc main_arg1)
def a2 : N := m ((c.tc : Thread nD τ).loc main_arg2)
def a3 : N := m ((c.tc : Thread nD τ).loc main_arg3)

theorem out_v : res_main_v46 (F := Ideal) m c = (transpose S4096x8x128 [2, 0, 1] (Host.dotGeneral dot_S8x128x4096_S8x4096x4096_S8x128x4096_2_1_1_2_0_0 none
    (transpose S8x128x4096 [1, 2, 0] (a3 m c) transposes_S4096x8x128_S8x128x4096_1_2_0)
    (Host.divf (wts (scores (a0 m c) (a1 m c))) (across (tots (wts (scores (a0 m c) (a1 m c))))))) transposes_S8x128x4096_S4096x8x128_2_0_1 : N) := by
  unfold res_main_v46 a0 a1 a3 wts tots across tops scores root mask
  rfl
theorem out_k : res_main_v63 (F := Ideal) m c = (transpose S4096x8x192 [1, 0, 2] (Host.dotGeneral dot_S8x4096x4096_S4096x8x192_S8x4096x192_1_0_2_2_0_1 none
    (dscs (wts (scores (a0 m c) (a1 m c))) (dprs (a2 m c) (a3 m c)) (tots (wts (scores (a0 m c) (a1 m c))))) (a0 m c)) transposes_S8x4096x192_S4096x8x192_1_0_2 : W) := by
  unfold res_main_v63 a0 a1 a2 a3 dscs back dprs wts tots across tops scores root mask
  rfl
theorem out_q : res_main_v65 (F := Ideal) m c = (transpose S4096x8x192 [1, 0, 2] (Host.dotGeneral dot_S8x4096x4096_S4096x8x192_S8x4096x192_2_0_1_2_0_1 none
    (dscs (wts (scores (a0 m c) (a1 m c))) (dprs (a2 m c) (a3 m c)) (tots (wts (scores (a0 m c) (a1 m c))))) (a1 m c)) transposes_S8x4096x192_S4096x8x192_1_0_2 : W) := by
  unfold res_main_v65 a0 a1 a2 a3 dscs back dprs wts tots across tops scores root mask
  rfl

theorem mask_at (h : Fin 8) (x y : Fin 4096) : mask (ix3 h x y) = if y.val ≤ x.val then 1#1 else 0#1 := by
  pointwise [mask]
  exact sle_iff y.val x.val y.isLt x.isLt
theorem root_at (h : Fin 8) (x y : Fin 4096) : root (ix3 h x y) = ((Real.sqrt 192 : ℝ) : EReal) := by
  pointwise [root, id_eq]
  rw [word_192, Ideal.sqrt_coe, if_neg (by norm_num)]

theorem root_ne : Real.sqrt 192 ≠ 0 := (Real.sqrt_pos.mpr (by norm_num)).ne'

variable (A : Args)

section Rows

variable (a0 a1 : W) (h0 : ∀ x h c, a0 (ix3 x h c) = (A.q x h c : EReal)) (h1 : ∀ x h c, a1 (ix3 x h c) = (A.k x h c : EReal))
variable (a2 a3 : N) (h2 : ∀ x h c, a2 (ix3 x h c) = (A.v x h c : EReal)) (h3 : ∀ x h c, a3 (ix3 x h c) = (A.ct x h c : EReal))

include h0 h1 in
theorem scores_at (h : Fin 8) (x y : Fin 4096) : scores a0 a1 (ix3 h x y) = scoreM A h x y := by
  pointwise [scores, id_eq]
  rw [mask_at, root_at]
  simp only [h0, h1]
  unfold scoreM score
  by_cases hxy : y.val ≤ x.val
  · rw [if_pos hxy, if_pos hxy]
    rw [Scalar.select, if_pos (by rfl), Ideal.div_coe root_ne, one_div, EReal.coe_mul, coe_sum]
    simp only [EReal.coe_mul]
  · rw [if_neg hxy, if_neg hxy]
    rw [Scalar.select, if_neg (by decide), word_bot]

theorem tops_at (s : T) (hs : ∀ h x y, s (ix3 h x y) = scoreM A h x y) (h : Fin 8) (x : Fin 4096) : tops s (ix2 h x) = (top' A h x : EReal) := by
  rw [← top_eq]
  unfold tops top
  rw [max_at, max_rows]
  simp only [hs]
  rw [constant_at, show broadcastInDim S8x4096 ![] bcast_S_S8x4096 (constant (F := Ideal) S_ .f32 0xFF800000#32) (ix2 h x) = Ideal.ofBits .f32 0xFF800000#32 from rfl, word_bot]
  exact max_eq_right bot_le

theorem wts_at (s : T) (hs : ∀ h x y, s (ix3 h x y) = scoreM A h x y) (h : Fin 8) (x y : Fin 4096) : wts s (ix3 h x y) = (wt A h x y : EReal) := by
  pointwise [wts, across]
  rw [tops_at A s hs, hs]
  unfold scoreM wt
  split
  · rw [← EReal.coe_sub, Ideal.exp_coe]
  · rw [EReal.bot_sub, Ideal.exp_bot]
    rfl

theorem tots_at (e : T) (he : ∀ h x y, e (ix3 h x y) = (wt A h x y : EReal)) (h : Fin 8) (x : Fin 4096) : tots e (ix2 h x) = (total A h x : EReal) := by
  pointwise [tots]
  simp only [he]
  unfold total
  rw [coe_sum]

include h2 h3 in
theorem dprs_at (h : Fin 8) (x y : Fin 4096) : dprs a2 a3 (ix3 h x y) = (dpr A h x y : EReal) := by
  pointwise [dprs]
  simp only [h2, h3]
  unfold dpr
  rw [coe_sum]
  simp only [EReal.coe_mul]

variable (e g : T) (t : R) (he : ∀ h x y, e (ix3 h x y) = (wt A h x y : EReal)) (hg : ∀ h x y, g (ix3 h x y) = (dpr A h x y : EReal))
  (ht : ∀ h x, t (ix2 h x) = (total A h x : EReal))

include he hg ht in
theorem back_at (h : Fin 8) (x : Fin 4096) : back e g t (ix2 h x)
    = ((-(∑ y, dpr A h x y * (1 / (total A h x * total A h x)) * wt A h x y) : ℝ) : EReal) := by
  pointwise [back]
  simp only [he, hg, ht]
  have hn : total A h x * total A h x ≠ 0 := mul_ne_zero (total_pos A h x).ne' (total_pos A h x).ne'
  rw [EReal.coe_neg, coe_sum, Fin.sum_univ_one]
  simp only [EReal.coe_mul]
  rw [← EReal.coe_mul, ← EReal.coe_one, Ideal.div_coe hn, ← EReal.coe_mul, one_mul]

include he hg ht in
theorem dscs_at (h : Fin 8) (x y : Fin 4096) : dscs e g t (ix3 h x y) = (dsc A h x y : EReal) := by
  pointwise [dscs, across]
  rw [mask_at, root_at, back_at A e g t he hg ht, he, hg, ht, ← dsc_quot]
  have hn : total A h x ≠ 0 := (total_pos A h x).ne'
  by_cases hxy : y.val ≤ x.val
  · rw [if_pos hxy, Scalar.select, if_pos (by rfl), Ideal.div_coe root_ne, Ideal.div_coe hn, ← EReal.coe_mul, ← EReal.coe_add,
      ← EReal.coe_mul, ← EReal.coe_mul, one_div, one_div, one_div, div_eq_mul_inv]
  · have hw : wt A h x y = 0 := by
      unfold wt
      rw [if_neg hxy]
    rw [if_neg hxy, Scalar.select, if_neg (by decide), Ideal.div_coe root_ne, hw, zero_mul, mul_zero, zero_mul]
    rfl

end Rows

variable (h0 : ∀ x h d, a0 m c (ix3 x h d) = (A.q x h d : EReal)) (h1 : ∀ x h d, a1 m c (ix3 x h d) = (A.k x h d : EReal))
variable (h2 : ∀ x h d, a2 m c (ix3 x h d) = (A.v x h d : EReal)) (h3 : ∀ x h d, a3 m c (ix3 x h d) = (A.ct x h d : EReal))

include h0 h1 in
theorem wts_eq (h : Fin 8) (x y : Fin 4096) : wts (scores (a0 m c) (a1 m c)) (ix3 h x y) = (wt A h x y : EReal) :=
  wts_at A _ (scores_at A _ _ h0 h1) h x y
include h0 h1 in
theorem tots_eq (h : Fin 8) (x : Fin 4096) : tots (wts (scores (a0 m c) (a1 m c))) (ix2 h x) = (total A h x : EReal) :=
  tots_at A _ (wts_eq m c A h0 h1) h x
include h0 h1 h2 h3 in
theorem dscs_eq (h : Fin 8) (x y : Fin 4096) :
    dscs (wts (scores (a0 m c) (a1 m c))) (dprs (a2 m c) (a3 m c)) (tots (wts (scores (a0 m c) (a1 m c)))) (ix3 h x y) = (dsc A h x y : EReal) :=
  dscs_at A _ _ _ (wts_eq m c A h0 h1) (dprs_at A _ _ h2 h3) (tots_eq m c A h0 h1) h x y

include h0 h1 h2 h3 in
theorem query_at (x : Fin 4096) (h : Fin 8) (d : Fin 192) : (res_main_v65 (F := Ideal) m c : W) (ix3 x h d) = (gradQ A h x d : EReal) := by
  rw [out_q]
  pointwise
  simp only [dscs_eq m c A h0 h1 h2 h3, h1]
  unfold gradQ
  rw [coe_sum]
  simp only [EReal.coe_mul]
include h0 h1 h2 h3 in
theorem key_at (y : Fin 4096) (h : Fin 8) (d : Fin 192) : (res_main_v63 (F := Ideal) m c : W) (ix3 y h d) = (gradK A h y d : EReal) := by
  rw [out_k]
  pointwise
  simp only [dscs_eq m c A h0 h1 h2 h3, h0]
  unfold gradK
  rw [coe_sum]
  simp only [EReal.coe_mul]
include h0 h1 h3 in
theorem value_at (y : Fin 4096) (h : Fin 8) (d : Fin 128) : (res_main_v46 (F := Ideal) m c : N) (ix3 y h d) = (gradV A h y d : EReal) := by
  rw [out_v]
  pointwise [across]
  simp only [wts_eq m c A h0 h1, tots_eq m c A h0 h1, h3]
  unfold gradV pr
  rw [coe_sum]
  refine Finset.sum_congr (M := EReal) rfl fun x _ => ?_
  rw [Ideal.div_coe (total_pos A h x).ne', one_div, EReal.coe_mul, div_eq_mul_inv, EReal.coe_mul]

end Cert.ReferenceIdeal.Att
-- ==== Proof.Finite.lean ====
/- The precondition: every entry of the four arguments is a real number. -/
module

public import proofs.«01_k».proof.Pre_finite
public import proofs.«01_k».proof.Proof.Maths
public import proofs.«01_k».proof.Proof.Consts
public import Idealize.ShloMosaic.Lib.ReduceAll

@[expose] public section

set_option maxRecDepth 16384

noncomputable section

namespace Cert.Pre_finite

open Idealize.ShloMosaic Cert.Att

theorem facts : Facts where
  bcast_S_S4096x8x192 := by decide
  reducesTo_S4096x8x192_S_d0_1_2 := by decide
  h_S_ := by decide
  bcast_S_S4096x8x128 := by decide
  reducesTo_S4096x8x128_S_d0_1_2 := by decide

instance : Subsingleton S_.Idx := ⟨fun a b => funext fun i => i.elim0⟩

/-- Of an array whose every entry is smaller than infinity in absolute value, every entry is a real number. -/
theorem all_real {s : Shape} {axes : List (Fin s.rank)} (x : FVec Ideal s .f32) (hb : S_.BroadcastsInDim s (![] : Fin 0 → Fin s.rank)) (init : IVec S_ 1)
    (hr : s.ReducesTo axes S_) (hu : 0 < S_.numel) (j : S_.Idx)
    (e : Host.reduce IntOp.andi (cmpf .olt (Host.absf x) (broadcastInDim s ![] hb (constant S_ .f32 0x7F800000#32))) init hr hu j = 1#1) (i : s.Idx) :
    x i = ((EReal.toReal (x i) : ℝ) : EReal) := by
  have h := Host.reduce_andi_all _ _ hr hu j e i
  have h2 : FloatOps.cmpf (F := Ideal) (φ := .f32) .olt (FloatOps.absf (x i)) (Ideal.ofBits .f32 0x7F800000#32) = 1#1 := h
  rw [word_top] at h2
  rw [Ideal.cmpf_def, Ideal.absf_def] at h2
  have h3 : max (x i : EReal) (-(x i : EReal)) < ⊤ := by
    by_contra hn
    simp [Ideal.cmp, hn] at h2
  refine (EReal.coe_toReal ?_ ?_).symm
  · intro ht
    rw [ht] at h3
    simp at h3
  · intro ht
    rw [ht] at h3
    simp at h3

/-- The precondition, read: every entry of each of the four arguments is a real number. -/
theorem real_args (hF : Facts) (q k : FVec Ideal S4096x8x192 .f32) (v ct : FVec Ideal S4096x8x128 .f32)
    (h : fn (F := Ideal) q k v ct = fun _ => 1#1) :
    (∀ i, q i = ((EReal.toReal (q i) : ℝ) : EReal)) ∧ (∀ i, k i = ((EReal.toReal (k i) : ℝ) : EReal)) ∧
      (∀ i, v i = ((EReal.toReal (v i) : ℝ) : EReal)) ∧ (∀ i, ct i = ((EReal.toReal (ct i) : ℝ) : EReal)) := by
  have e := congrFun h (fun i => i.elim0)
  obtain ⟨e, e3⟩ := IntOp.andi_eq_one.mp e
  obtain ⟨e, e2⟩ := IntOp.andi_eq_one.mp e
  obtain ⟨e0, e1⟩ := IntOp.andi_eq_one.mp e
  exact ⟨all_real _ _ _ _ _ _ e0, all_real _ _ _ _ _ _ e1, all_real _ _ _ _ _ _ e2, all_real _ _ _ _ _ _ e3⟩

end Cert.Pre_finite
-- ==== Proof.Algebraic.lean ====
/- Over the reals the kernel and the reference end with the same three gradients. -/
module

public import proofs.«01_k».proof.Defs
public import proofs.«01_k».proof.Proof.Gen.ReferenceIdeal.Run
public import proofs.«01_k».proof.Proof.Final
public import proofs.«01_k».proof.Proof.RefVal
public import proofs.«01_k».proof.Proof.Finite

@[expose] public section

set_option maxRecDepth 16384

noncomputable section

open Idealize.ShloMosaic Idealize.SL.Sem Idealize.ShloMosaic.Pointwise Cert.Att

namespace Cert.KernelIdeal.Att

open Cert.KernelIdeal Cert.KernelIdeal.Gen

variable (m : (ℓ : Loc nD τ sig) → Buf (Elt Ideal) ℓ) (ρ : Dev nD → PrngReg)

/-- What the host reads into `r` after the launch. -/
abbrev got (r : Ref sig .tc) (c : Dev nD) : Buf (Elt Ideal) ((c.tc : Thread nD τ).loc r) :=
  Pipeline.afterTail₀ cfgs (dats m) 0 (V0 m) [hostOps1] c r

/-- A run of the kernel ends with the three gradients read from the blocks, and the arguments as they were. -/
theorem results : θ_run defs (onTc (τ := τ) (main (F := Ideal))) ⟨m, fun _ => 0, ρ⟩ (fun r => ∀ c : Dev nD,
      r.2.mem ((c.tc : Thread nD τ).loc main_v54) = got m main_v54 c
      ∧ r.2.mem ((c.tc : Thread nD τ).loc main_v56) = got m main_v56 c
      ∧ r.2.mem ((c.tc : Thread nD τ).loc main_v57) = got m main_v57 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2 main_v54 (Pipeline.mem_restRefs_of main_v54 (by decide) (by decide)),
      (h.1 c).2 main_v56 (Pipeline.mem_restRefs_of main_v56 (by decide) (by decide)),
      (h.1 c).2 main_v57 (Pipeline.mem_restRefs_of main_v57 (by decide) (by decide)), h.2.1 c⟩)
    (θ_run_and (run_main m ρ) (frame m ρ))

end Cert.KernelIdeal.Att

namespace Cert.Proof.Att

theorem rank3 {n k l : ℕ} (y : (⟨3, ![n, k, l]⟩ : Shape).Idx) :
    y = ix3 (⟨(y 0).val, (y 0).isLt⟩ : Fin n) (⟨(y 1).val, (y 1).isLt⟩ : Fin k) (⟨(y 2).val, (y 2).isLt⟩ : Fin l) := by
  funext j
  apply Fin.ext
  fin_cases j <;> rfl

/-- Two arrays of rank three with the same entries are the same array. -/
theorem same_entries {n k l : ℕ} {f g : FVec Ideal ⟨3, ![n, k, l]⟩ .f32} (h : ∀ x y z, f (ix3 x y z) = g (ix3 x y z)) : f = g := by
  funext i
  rw [rank3 i]
  exact h _ _ _

/-- The four arguments of a device as arrays of real numbers. -/
def args (q k : FVec Ideal ⟨3, ![4096, 8, 192]⟩ .f32) (v ct : FVec Ideal ⟨3, ![4096, 8, 128]⟩ .f32) : Args where
  q x h d := EReal.toReal (q (ix3 x h d))
  k x h d := EReal.toReal (k (ix3 x h d))
  v x h d := EReal.toReal (v (ix3 x h d))
  ct x h d := EReal.toReal (ct (ix3 x h d))

theorem algebraic : Cert.algebraic_KernelIdeal_ReferenceIdeal_pre_finite (hPre_finite := Cert.Pre_finite.facts) := by
  intro m g m' g' hp hm
  have hk := fun c => Cert.Pre_finite.real_args Cert.Pre_finite.facts (Cert.KernelIdeal.Pre.a0 m c) (Cert.KernelIdeal.Pre.a1 m c)
    (Cert.KernelIdeal.Pre.a2 m c) (Cert.KernelIdeal.Pre.a3 m c) (hp c)
  let A : Dev Cert.KernelIdeal.nD → Args := fun c => args (Cert.KernelIdeal.Pre.a0 m c) (Cert.KernelIdeal.Pre.a1 m c)
    (Cert.KernelIdeal.Pre.a2 m c) (Cert.KernelIdeal.Pre.a3 m c)
  have e0 : ∀ c, Cert.ReferenceIdeal.Att.a0 m' c = Cert.KernelIdeal.Pre.a0 m c := fun c => (hm c).1
  have e1 : ∀ c, Cert.ReferenceIdeal.Att.a1 m' c = Cert.KernelIdeal.Pre.a1 m c := fun c => (hm c).2.1
  have e2 : ∀ c, Cert.ReferenceIdeal.Att.a2 m' c = Cert.KernelIdeal.Pre.a2 m c := fun c => (hm c).2.2.1
  have e3 : ∀ c, Cert.ReferenceIdeal.Att.a3 m' c = Cert.KernelIdeal.Pre.a3 m c := fun c => (hm c).2.2.2
  refine ⟨fun c => Cert.KernelIdeal.Att.got m Cert.KernelIdeal.main_v54 c, fun c => Cert.KernelIdeal.Att.got m Cert.KernelIdeal.main_v56 c,
    fun c => Cert.KernelIdeal.Att.got m Cert.KernelIdeal.main_v57 c, Cert.KernelIdeal.Att.results m g, ?_⟩
  refine (θ_run Cert.ReferenceIdeal.defs _ _).mono (fun r h c => ?_) (Cert.ReferenceIdeal.Value.run (F := Ideal) m' g')
  obtain ⟨hq, hk', hv, ha⟩ := h c
  have k0 := (hk c).1
  have k1 := (hk c).2.1
  have k2 := (hk c).2.2.1
  have k3 := (hk c).2.2.2
  refine ⟨hq.trans (same_entries fun x y z => ?_), hk'.trans (same_entries fun x y z => ?_), hv.trans (same_entries fun x y z => ?_), ha⟩
  · exact (Cert.ReferenceIdeal.Att.query_at m' c (A c) (fun _ _ _ => (congrFun (e0 c) _).trans (k0 _)) (fun _ _ _ => (congrFun (e1 c) _).trans (k1 _))
      (fun _ _ _ => (congrFun (e2 c) _).trans (k2 _)) (fun _ _ _ => (congrFun (e3 c) _).trans (k3 _)) x y z).trans
      (Cert.KernelIdeal.Pre.res_q m c (A c) (fun _ _ _ => k0 _) (fun _ _ _ => k1 _) (fun _ _ _ => k2 _) (fun _ _ _ => k3 _) x y z).symm
  · exact (Cert.ReferenceIdeal.Att.key_at m' c (A c) (fun _ _ _ => (congrFun (e0 c) _).trans (k0 _)) (fun _ _ _ => (congrFun (e1 c) _).trans (k1 _))
      (fun _ _ _ => (congrFun (e2 c) _).trans (k2 _)) (fun _ _ _ => (congrFun (e3 c) _).trans (k3 _)) x y z).trans
      (Cert.KernelIdeal.Pre.res_k m c (A c) (fun _ _ _ => k0 _) (fun _ _ _ => k1 _) (fun _ _ _ => k2 _) (fun _ _ _ => k3 _) x y z).symm
  · exact (Cert.ReferenceIdeal.Att.value_at m' c (A c) (fun _ _ _ => (congrFun (e0 c) _).trans (k0 _)) (fun _ _ _ => (congrFun (e1 c) _).trans (k1 _))
      (fun _ _ _ => (congrFun (e3 c) _).trans (k3 _)) x y z).trans
      (Cert.KernelIdeal.Pre.res_v m c (A c) (fun _ _ _ => k0 _) (fun _ _ _ => k1 _) (fun _ _ _ => k2 _) (fun _ _ _ => k3 _) x y z).symm

end Cert.Proof.Att

end
-- ==== Proof.Tiles.lean ====
/- Arrays of rank two, entry by entry. -/
module

public import Idealize.ShloMosaic.Lib.Pointwise
public import Idealize.ShloMosaic.Lib.Pipeline.ValueKit

@[expose] public section

noncomputable section

namespace Cert.Tiles

open Idealize.ShloMosaic Idealize.ShloMosaic.Pointwise

/-- An index of rank two is its row and its column. -/
theorem row_col {n k : ℕ} (y : (⟨2, ![n, k]⟩ : Shape).Idx) : ∃ (i : Fin n) (j : Fin k), y = ix2 i j := by
  refine ⟨⟨(y 0).val, ValueIdx.idx2_lt0 y⟩, ⟨(y 1).val, ValueIdx.idx2_lt1 y⟩, ?_⟩
  funext j
  apply Fin.ext
  fin_cases j <;> rfl

theorem origin : (![0, 0] : Fin 2 → ℕ) = fun _ => 0 := by
  funext a
  fin_cases a <;> rfl

end Cert.Tiles

end
-- ==== Proof.Halves.lean ====
/- A product over 4096 rows taken in two halves. -/
module

public import proofs.«01_k».proof.Proof.Tiles

@[expose] public section

noncomputable section

namespace Cert.Tiles

open Idealize.ShloMosaic Idealize.ShloMosaic.Pointwise

/-- One of the two products: the first block transposed, times the second. -/
def one (a b : FVec Ideal ⟨2, ![2048, 1024]⟩ .f32) (x y : Fin 1024) : EReal :=
  ∑ k : Fin 2048, (a (ix2 k x) : EReal) * (b (ix2 k y) : EReal)

theorem halves (f : Fin 4096 → EReal) : ∑ k, f k = ∑ k : Fin 2048, f ⟨k.val, by omega⟩ + ∑ k : Fin 2048, f ⟨2048 + k.val, by omega⟩ :=
  Fin.sum_univ_add (fun k : Fin (2048 + 2048) => f k)

end Cert.Tiles

end
-- ==== Proof.Prod2.lean ====
/- The gradient of the output projection's weights: every block of 1024 by 1024 is the sum of two products, over 2048 rows each, the first kept
in the scratch. -/
module

public import proofs.«01_k».proof.Proof.Halves
public import proofs.«01_k».proof.Proof.Gen.Kernel2Ideal.Value
public import proofs.«01_k».proof.Proof.Gen.Kernel2
public import proofs.«01_k».proof.Proof.Gen.Reference2Ideal.Run
public import Idealize.ShloMosaic.Lib.StableHlo.ReadAt
public import Idealize.ShloMosaic.Lib.Tactic

@[expose] public section

set_option maxRecDepth 16384

noncomputable section

namespace Cert.Kernel2Ideal.Prod

open Cert.Kernel2Ideal Cert.Kernel2Ideal.Gen Cert.Tiles
open Idealize.ShloMosaic Idealize.ShloMosaic.Pointwise Idealize.ShloMosaic.TcCoe

abbrev A := FVec Ideal S4096x2048 .f32
abbrev T := FVec Ideal S2048x1024 .f32
abbrev O := FVec Ideal S1024x1024 .f32

variable (m : (ℓ : Loc nD τ sig) → Buf (Elt Ideal) ℓ) (c : Dev nD)

def act : A := m ((c.tc : Thread nD τ).loc main_arg0)
def ct : A := m ((c.tc : Thread nD τ).loc main_arg2)

/-- Entry (d, e) of the product of the transposed `a` with `b`. -/
def prod (a b : A) (i : S2048x2048.Idx) : EReal := ∑ k : Fin 4096, (a (ix2 k (i 0)) : EReal) * (b (ix2 k (i 1)) : EReal)

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

section
variable (i : grid0.Coords) (a3 : Memref sig .tc .vmem S2048x1024 .bf16) (h3 : a3.IsWhole) (a4 : Memref sig .tc .vmem S2048x1024 .f32) (h4 : a4.IsWhole)
  (a5 a6 : Memref sig .tc .vmem S1024x1024 .f32) (h5 : a5.IsWhole) (h6 : a6.IsWhole)

/-- The first point of a pair leaves its product in the scratch. -/
theorem kept (hc0 : cond0_0 i) (hc1 : ¬cond0_1 i) (hc2 : ¬cond0_2 i) (x0 x1 : T) (x y : Fin 1024) :
    (sout0_A_0 (F := Ideal) c i a3 h3 a4 h4 a5 h5 a6 h6 hc0 hc1 hc2 x0 x1 : O) (ix2 x y) = one x0 x1 x y := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin]
  unfold one
  pointwise [k0_pay2, k0_pay1]

/-- The second adds its own and writes the sum. -/
theorem added (hc0 : ¬cond0_0 i) (hc1 : ¬cond0_1 i) (hc2 : cond0_2 i) (x0 x1 : T) (s : O) (x y : Fin 1024) :
    (out0_B_2 (F := Ideal) c i a3 h3 a4 h4 a5 h5 a6 h6 hc0 hc1 hc2 x0 x1 s : O) (ix2 x y) = (s (ix2 x y) : EReal) + one x0 x1 x y := by
  unfold out0_B_2
  rw [View.read_writes_eq_canon _ _ _ (cover0_B_2 (F := Ideal) c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h6.read_unread, View.ld_unit_zero (S := S2048x1024) origin,
    View.ld_unit_zero (S := S1024x1024) origin]
  unfold one
  pointwise [k0_pay4, k0_pay1]
end

theorem lt (t : Fin cfg0.N) : t.val < 8 := N_0 ▸ t.isLt

theorem in_a : (V m c main_v0 : FVec Ideal S4096x2048 .bf16) = act m c := by
  unfold V
  after_reads_simp
  rfl

theorem blk_a (t : Fin cfg0.N) (k : Fin 2048) (x : Fin 1024) :
    (iblk m c 0 t : T) (ix2 k x) = act m c (ix2 ⟨2048 * (t.val % 2) + k.val, by omega⟩ ⟨1024 * (t.val / 4) + x.val, by have := lt t; omega⟩) := by
  rw [← in_a]
  blk_simp [iblk]
  blk_ext [idx t]

theorem blk_b (t : Fin cfg0.N) (k : Fin 2048) (y : Fin 1024) :
    (iblk m c 1 t : T) (ix2 k y) = ct m c (ix2 ⟨2048 * (t.val % 2) + k.val, by omega⟩ ⟨1024 * (t.val / 2 % 2) + y.val, by omega⟩) := by
  blk_simp [iblk]
  blk_ext [idx t]

/-- What the second point of a pair writes: both products. -/
theorem pair (t : Fin cfg0.N) (u : Fin cfg0.N) (hu : u.val + 1 = t.val) (h : t.val % 2 = 1) (x y : Fin 1024) :
    ((outsAt0 m c t.val t.isLt).1 : O) (ix2 x y) = one (iblk m c 0 u) (iblk m c 1 u) x y + one (iblk m c 0 t) (iblk m c 1 t) x y := by
  have e : t.val - 1 = u.val := by omega
  rw [outsAt0_B m c t (by omega) h]
  dsimp only
  rw [added]
  simp only [e]
  rw [outsAt0_A m c u (by omega) (by omega)]
  dsimp only
  rw [kept]

/-- After the run the result array is the product. -/
theorem arr : (dats m 0 c).arrAt 2 cfg0.N = prod (act m c) (ct m c) := by
  refine (dats m 0 c).arrAt_eq_of_covers 2 _ (by decide +kernel) fun t hf y => ?_
  have h : t.val % 2 = 1 := (flush0_2 t).mp hf
  blk_simp
  rw [after0_2]
  obtain ⟨x, d, rfl⟩ : ∃ (x : Fin 1024) (d : Fin 1024), y = ix2 x d := row_col y
  have hl := lt t
  have hu : t.val - 1 < cfg0.N := lt_of_le_of_lt (Nat.sub_le _ _) t.isLt
  refine (pair m c t ⟨t.val - 1, hu⟩ (Nat.sub_add_cancel (by omega)) h x d).trans ?_
  refine Eq.trans (b := prod (act m c) (ct m c) (ix2 (⟨1024 * (t.val / 4) + x.val, by omega⟩ : Fin 2048) (⟨1024 * (t.val / 2 % 2) + d.val, by omega⟩ : Fin 2048))) ?_ ?_
  · unfold prod one
    rw [halves]
    simp only [blk_a, blk_b, h, show (t.val - 1) % 2 = 0 by omega, show (t.val - 1) / 4 = t.val / 4 by omega, show (t.val - 1) / 2 = t.val / 2 by omega,
      Nat.mul_zero, Nat.zero_add, Nat.mul_one]
    rfl
  · blk_ext [idx t]

/-- The reference's product, entry by entry. -/
theorem ref (a b : A) : (transpose Cert.Reference2Ideal.S2048x2048 [1, 0]
      (Host.dotGeneral (F := Ideal) (φ₁ := .f32) (φ₂ := .f32) Cert.Reference2Ideal.dot_S4096x2048_S4096x2048_S2048x2048_0_0_1_1_n_n none b a)
      Cert.Reference2Ideal.Gen.facts.transposes_S2048x2048_S2048x2048_1_0 : FVec Ideal S2048x2048 .f32) = prod a b := by
  funext i
  obtain ⟨x, d, rfl⟩ : ∃ (x : Fin 2048) (d : Fin 2048), i = ix2 x d := row_col i
  pointwise []
  exact Finset.sum_congr rfl fun k _ => mul_comm _ _

end Cert.Kernel2Ideal.Prod

end
-- ==== Proof.Prod3.lean ====
/- The gradient of the output projection's input: every block of 1024 by 1024 is one product over all 2048 columns. -/
module

public import proofs.«01_k».proof.Proof.Tiles
public import proofs.«01_k».proof.Proof.Gen.Kernel3Ideal.Value
public import proofs.«01_k».proof.Proof.Gen.Kernel3
public import proofs.«01_k».proof.Proof.Gen.Reference3Ideal.Run
public import Idealize.ShloMosaic.Lib.StableHlo.ReadAt

@[expose] public section

set_option maxRecDepth 16384

noncomputable section

namespace Cert.Kernel3Ideal.Prod

open Cert.Kernel3Ideal Cert.Kernel3Ideal.Gen Cert.Tiles
open Idealize.ShloMosaic Idealize.ShloMosaic.Pointwise Idealize.ShloMosaic.TcCoe

abbrev A := FVec Ideal S4096x2048 .f32
abbrev B := FVec Ideal S2048x2048 .f32

variable (m : (ℓ : Loc nD τ sig) → Buf (Elt Ideal) ℓ) (c : Dev nD)

def wts : B := m ((c.tc : Thread nD τ).loc main_arg1)
def ct : A := m ((c.tc : Thread nD τ).loc main_arg2)

/-- Entry (x, d) of the product of `a` with the transposed `b`. -/
def prod (a : A) (b : B) (i : S4096x2048.Idx) : EReal := ∑ k : Fin 2048, (a (ix2 (i 0) k) : EReal) * (b (ix2 (i 1) k) : EReal)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem out_at (a b : FVec Ideal S1024x2048 .f32) (x y : Fin 1024) :
    (out0_2 (F := Ideal) a b : FVec Ideal S1024x1024 .f32) (ix2 x y) = ∑ k : Fin 2048, (a (ix2 x k) : EReal) * (b (ix2 y k) : EReal) := by
  unfold out0_2 r0_1
  rw [View.canon_unit_zero origin]
  pointwise [k0_pay1, r0_0]

theorem lt (t : Fin cfg0.N) : t.val < 8 := N_0 ▸ t.isLt

theorem blk_a (t : Fin cfg0.N) (x : Fin 1024) (k : Fin 2048) :
    (iblk m c 0 t : FVec Ideal S1024x2048 .f32) (ix2 x k) = ct m c (ix2 ⟨1024 * (t.val / 2) + x.val, by have := lt t; omega⟩ k) := by
  blk_simp [iblk]
  blk_ext [idx t]

theorem in_b : (V m c main_v0 : FVec Ideal S2048x2048 .bf16) = wts m c := by
  unfold V
  after_reads_simp
  rfl

theorem blk_b (t : Fin cfg0.N) (y : Fin 1024) (k : Fin 2048) :
    (iblk m c 1 t : FVec Ideal S1024x2048 .f32) (ix2 y k) = wts m c (ix2 ⟨1024 * (t.val % 2) + y.val, by omega⟩ k) := by
  rw [← in_b]
  blk_simp [iblk]
  blk_ext [idx t]

/-- After the run the result array is the product. -/
theorem arr : (dats m 0 c).arrAt 2 cfg0.N = prod (ct m c) (wts m c) := by
  refine (dats m 0 c).arrAt_eq_of_covers 2 _ (by decide +kernel) fun t hf y => ?_
  blk_simp
  rw [after0_2]
  obtain ⟨x, d, rfl⟩ : ∃ (x : Fin 1024) (d : Fin 1024), y = ix2 x d := row_col y
  refine (out_at _ _ x d).trans ?_
  simp only [blk_a, blk_b]
  have e : prod (ct m c) (wts m c) (ix2 (⟨1024 * (t.val / 2) + x.val, by have := lt t; omega⟩ : Fin 4096) (⟨1024 * (t.val % 2) + d.val, by omega⟩ : Fin 2048))
      = ∑ k : Fin 2048, (ct m c (ix2 ⟨1024 * (t.val / 2) + x.val, by have := lt t; omega⟩ k) : EReal) * (wts m c (ix2 ⟨1024 * (t.val % 2) + d.val, by omega⟩ k) : EReal) := rfl
  rw [← e]
  blk_ext [idx t]

/-- The reference's product, entry by entry. -/
theorem ref (a : A) (b : B) : (Host.dotGeneral Cert.Reference3Ideal.dot_S4096x2048_S2048x2048_S4096x2048_1_1_0_0_n_n none a b : A) = prod a b := by
  funext i
  obtain ⟨x, d, rfl⟩ := row_col i
  pointwise []
  rfl

end Cert.Kernel3Ideal.Prod

end
-- ==== Proof.Prod4.lean ====
/- The gradient of the input projection's weights, one group of columns: every block of 1024 by 1024 is the sum of two products, over 2048 rows each, the first kept
in the scratch. -/
module

public import proofs.«01_k».proof.Proof.Halves
public import proofs.«01_k».proof.Proof.Gen.Kernel4Ideal.Value
public import proofs.«01_k».proof.Proof.Gen.Kernel4
public import proofs.«01_k».proof.Proof.Gen.Reference4Ideal.Run
public import Idealize.ShloMosaic.Lib.StableHlo.ReadAt
public import Idealize.ShloMosaic.Lib.Tactic

@[expose] public section

set_option maxRecDepth 16384

noncomputable section

namespace Cert.Kernel4Ideal.Prod

open Cert.Kernel4Ideal Cert.Kernel4Ideal.Gen Cert.Tiles
open Idealize.ShloMosaic Idealize.ShloMosaic.Pointwise Idealize.ShloMosaic.TcCoe

abbrev A := FVec Ideal S4096x1024 .f32
abbrev B := FVec Ideal S4096x2048 .f32
abbrev T := FVec Ideal S2048x1024 .f32
abbrev O := FVec Ideal S1024x1024 .f32

variable (m : (ℓ : Loc nD τ sig) → Buf (Elt Ideal) ℓ) (c : Dev nD)

def act : B := m ((c.tc : Thread nD τ).loc main_arg0)
def ct : A := m ((c.tc : Thread nD τ).loc main_arg2)

/-- Entry (d, e) of the product of the transposed `a` with `b`. -/
def prod (a : A) (b : B) (i : S1024x2048.Idx) : EReal := ∑ k : Fin 4096, (a (ix2 k (i 0)) : EReal) * (b (ix2 k (i 1)) : EReal)

theorem idx : ∀ t : Fin cfg0.N, win0_0.index t = ![t.val % 2, 0] ∧ win0_1.index t = ![t.val % 2, t.val / 2]
    ∧ win0_2.index t = ![0, t.val / 2] :=
  (by decide +kernel : ∀ t : Fin grid0.N, _)

section
variable (i : grid0.Coords) (a3 : Memref sig .tc .vmem S2048x1024 .bf16) (h3 : a3.IsWhole) (a4 : Memref sig .tc .vmem S2048x1024 .bf16) (h4 : a4.IsWhole)
  (a5 a6 : Memref sig .tc .vmem S1024x1024 .f32) (h5 : a5.IsWhole) (h6 : a6.IsWhole)

/-- The first point of a pair leaves its product in the scratch. -/
theorem kept (hc0 : cond0_0 i) (hc1 : ¬cond0_1 i) (hc2 : ¬cond0_2 i) (x0 x1 : T) (x y : Fin 1024) :
    (sout0_A_0 (F := Ideal) c i a3 h3 a4 h4 a5 h5 a6 h6 hc0 hc1 hc2 x0 x1 : O) (ix2 x y) = one x0 x1 x y := by
  unfold sout0_A_0
  rw [View.read_writes_eq_canon _ _ _ (scover0_A_0 (F := Ideal) c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin]
  unfold one
  pointwise [k0_pay2, k0_pay1]

/-- The second adds its own and writes the sum. -/
theorem added (hc0 : ¬cond0_0 i) (hc1 : ¬cond0_1 i) (hc2 : cond0_2 i) (x0 x1 : T) (s : O) (x y : Fin 1024) :
    (out0_B_2 (F := Ideal) c i a3 h3 a4 h4 a5 h5 a6 h6 hc0 hc1 hc2 x0 x1 s : O) (ix2 x y) = (s (ix2 x y) : EReal) + one x0 x1 x y := by
  unfold out0_B_2
  rw [View.read_writes_eq_canon _ _ _ (cover0_B_2 (F := Ideal) c i a3 h3 a4 h4 a5 h5 a6 h6 hc0 hc1 hc2 x0 x1 s)]
  unfold kernelRun0_B
  dsimp only
  sl_unfold_words
  rw [View.canon_unit_zero origin]
  simp only [View.readAt_eq_ld, h3.read_unread, h4.read_unread, h6.read_unread, View.ld_unit_zero (S := S2048x1024) origin,
    View.ld_unit_zero (S := S1024x1024) origin]
  unfold one
  pointwise [k0_pay4, k0_pay1]
end

theorem lt (t : Fin cfg0.N) : t.val < 4 := N_0 ▸ t.isLt

theorem in_a : (V m c main_v0 : FVec Ideal S4096x1024 .bf16) = ct m c := by
  unfold V
  after_reads_simp
  rfl

theorem in_b : (V m c main_v1 : FVec Ideal S4096x2048 .bf16) = act m c := by
  unfold V
  after_reads_simp
  rfl

theorem blk_a (t : Fin cfg0.N) (k : Fin 2048) (x : Fin 1024) :
    (iblk m c 0 t : T) (ix2 k x) = ct m c (ix2 ⟨2048 * (t.val % 2) + k.val, by omega⟩ x) := by
  rw [← in_a]
  blk_simp [iblk]
  blk_ext [idx t]

theorem blk_b (t : Fin cfg0.N) (k : Fin 2048) (y : Fin 1024) :
    (iblk m c 1 t : T) (ix2 k y) = act m c (ix2 ⟨2048 * (t.val % 2) + k.val, by omega⟩ ⟨1024 * (t.val / 2) + y.val, by have := lt t; omega⟩) := by
  rw [← in_b]
  blk_simp [iblk]
  blk_ext [idx t]

/-- What the second point of a pair writes: both products. -/
theorem pair (t : Fin cfg0.N) (u : Fin cfg0.N) (hu : u.val + 1 = t.val) (h : t.val % 2 = 1) (x y : Fin 1024) :
    ((outsAt0 m c t.val t.isLt).1 : O) (ix2 x y) = one (iblk m c 0 u) (iblk m c 1 u) x y + one (iblk m c 0 t) (iblk m c 1 t) x y := by
  have e : t.val - 1 = u.val := by omega
  rw [outsAt0_B m c t (by omega) h]
  dsimp only
  rw [added]
  simp only [e]
  rw [outsAt0_A m c u (by omega) (by omega)]
  dsimp only
  rw [kept]

/-- After the run the result array is the product. -/
theorem arr : (dats m 0 c).arrAt 2 cfg0.N = prod (ct m c) (act m c) := by
  refine (dats m 0 c).arrAt_eq_of_covers 2 _ (by decide +kernel) fun t hf y => ?_
  have h : t.val % 2 = 1 := (flush0_2 t).mp hf
  blk_simp
  rw [after0_2]
  obtain ⟨x, d, rfl⟩ : ∃ (x : Fin 1024) (d : Fin 1024), y = ix2 x d := row_col y
  have hl := lt t
  have hu : t.val - 1 < cfg0.N := lt_of_le_of_lt (Nat.sub_le _ _) t.isLt
  refine (pair m c t ⟨t.val - 1, hu⟩ (Nat.sub_add_cancel (by omega)) h x d).trans ?_
  refine Eq.trans (b := prod (ct m c) (act m c) (ix2 x (⟨1024 * (t.val / 2) + d.val, by omega⟩ : Fin 2048))) ?_ ?_
  · unfold prod one
    rw [halves]
    simp only [blk_a, blk_b, h, show (t.val - 1) % 2 = 0 by omega, show (t.val - 1) / 2 = t.val / 2 by omega,
      Nat.mul_zero, Nat.zero_add, Nat.mul_one]
    rfl
  · blk_ext [idx t]

/-- The reference's product, entry by entry. -/
theorem ref (a : A) (b : B) : (transpose Cert.Reference4Ideal.S1024x2048 [1, 0] (transpose Cert.Reference4Ideal.S2048x1024 [1, 0]
      (Host.dotGeneral (F := Ideal) (φ₁ := .f32) (φ₂ := .f32) Cert.Reference4Ideal.dot_S4096x1024_S4096x2048_S1024x2048_0_0_1_1_n_n none a b)
      Cert.Reference4Ideal.Gen.facts.transposes_S1024x2048_S2048x1024_1_0)
      Cert.Reference4Ideal.Gen.facts.transposes_S2048x1024_S1024x2048_1_0 : FVec Ideal S1024x2048 .f32) = prod a b := by
  funext i
  obtain ⟨x, d, rfl⟩ : ∃ (x : Fin 1024) (d : Fin 2048), i = ix2 x d := row_col i
  pointwise []
  rfl

end Cert.Kernel4Ideal.Prod

end
-- ==== Proof.Layout.lean ====
/- How the projections lay out the 4032 columns over four tiles of 1024: the groups in their order there, and 64 columns of zeros. -/
module

public import proofs.«01_k».proof.Proof.Tiles

@[expose] public section

set_option maxRecDepth 16384

noncomputable section

namespace Cert.Tiles

open Idealize.ShloMosaic Idealize.ShloMosaic.Pointwise

/-- The column that stands at place `c` of the four tiles, for `c` below 4032. -/
def place (c : ℕ) : ℕ :=
  if c < 1024 then c else if c < 2048 then c - 1024 + 1280 else if c < 3072 then c - 2048 + 3008 else if c < 3456 then c - 3072 + 2304
  else if c < 3584 then c - 3456 + 1024 else if c < 3840 then c - 3584 + 2688 else if c < 3968 then c - 3840 + 1152 else c - 3968 + 2944

/-- The place of column `i`. -/
def column (i : ℕ) : ℕ :=
  if i < 1024 then i else if i < 1152 then i - 1024 + 3456 else if i < 1280 then i - 1152 + 3840 else if i < 2304 then i - 1280 + 1024
  else if i < 2688 then i - 2304 + 3072 else if i < 2944 then i - 2688 + 3584 else if i < 3008 then i - 2944 + 3968 else i - 3008 + 2048

theorem place_lt {c : ℕ} (h : c < 4032) : place c < 4032 := by
  unfold place
  split_ifs <;> omega

theorem column_place {c : ℕ} (h : c < 4032) : column (place c) = c := by
  unfold place
  split_ifs <;> (unfold column; split_ifs <;> omega)

/-- A row of 4032 numbers laid out over the 4096 places. -/
def laid (f : Fin 4032 → EReal) (c : Fin 4096) : EReal := if h : c.val < 4032 then f ⟨place c.val, place_lt h⟩ else 0

theorem pad_zero (f : Fin 4032 → EReal) (c : Fin 4096) (h : 4032 ≤ c.val) : laid f c = 0 := dif_neg (by omega)

theorem pad_at (f : Fin 4032 → EReal) (c : Fin 4096) (i : Fin 4032) (h : c.val < 4032) (hi : i.val = place c.val) : laid f c = f i :=
  (dif_pos h).trans (congrArg f (Fin.ext hi.symm))

/-- The places below 4032 are the columns in another order. -/
theorem sum_place (f : Fin 4032 → EReal) : ∑ c : Fin 4032, f ⟨place c.val, place_lt c.isLt⟩ = ∑ i, f i := by
  have hb : Function.Bijective (fun c : Fin 4032 => (⟨place c.val, place_lt c.isLt⟩ : Fin 4032)) := by
    refine Finite.injective_iff_bijective.mp fun x y h => Fin.ext ?_
    rw [← column_place x.isLt, ← column_place y.isLt]
    exact congrArg column (Fin.mk.inj_iff.mp h)
  exact Function.Bijective.sum_comp hb f

/-- The sum over the places is the sum over the columns, for the zeros add nothing. -/
theorem sum_pad (f g : Fin 4032 → EReal) : ∑ c : Fin 4096, laid f c * laid g c = ∑ i, f i * g i := by
  rw [← sum_place (fun i => f i * g i)]
  refine (Fin.sum_univ_add (fun c : Fin (4032 + 64) => laid f c * laid g c)).trans ?_
  have e : ∑ i : Fin 64, laid f (Fin.natAdd 4032 i) * laid g (Fin.natAdd 4032 i) = 0 :=
    Finset.sum_eq_zero fun i _ => by rw [pad_zero f _ (Nat.le_add_right _ _), zero_mul]
  rw [e, add_zero]
  refine Finset.sum_congr rfl fun c _ => ?_
  rw [pad_at f _ ⟨place c.val, place_lt c.isLt⟩ c.isLt rfl, pad_at g _ ⟨place c.val, place_lt c.isLt⟩ c.isLt rfl]

/-- The sum over the places is the sum of the sums over the four tiles. -/
theorem sum_tiles (f : Fin 4096 → EReal) : ∑ c, f c
    = ∑ k : Fin 1024, f ⟨k.val, by omega⟩ + ∑ k : Fin 1024, f ⟨1024 + k.val, by omega⟩ + ∑ k : Fin 1024, f ⟨2048 + k.val, by omega⟩
      + ∑ k : Fin 1024, f ⟨3072 + k.val, by omega⟩ :=
  (Fin.sum_univ_add (fun c : Fin (3072 + 1024) => f c)).trans (congrArg (· + _) ((Fin.sum_univ_add (fun c : Fin (2048 + 1024) => f (Fin.castAdd 1024 c))).trans
    (congrArg (· + _) (Fin.sum_univ_add (fun c : Fin (1024 + 1024) => f (Fin.castAdd 1024 (Fin.castAdd 1024 c)))))))

section
variable {N n s k off pre : ℕ} (w : FVec Ideal ⟨2, ![4032, n]⟩ .f32) (v : FVec Ideal ⟨2, ![n, 4032]⟩ .f32)

/-- Rows `off` and on of `w` are the rows `pre` and on of the stack: what row `c` of it holds. -/
theorem row_at (xs : List ((s : Shape) × (s.Idx → EReal))) (h : Shape.Concatenates (xs.map (·.1)) ⟨2, ![N, n]⟩ 0) (hk : k < xs.length)
    (hs : (⟨2, ![4032, n]⟩ : Shape).Slices ![off, 0] ⟨2, ![s, n]⟩) (hx : xs[k] = ⟨⟨2, ![s, n]⟩, extractStridedSlice ⟨2, ![s, n]⟩ ![off, 0] w hs⟩)
    (hpre : (((xs.take k).map (·.1)).map fun s => if h : s.rank = 2 then s.size ((0 : Fin 2).cast h.symm) else 0).sum = pre)
    (c : Fin N) (j : Fin n) (lo : pre ≤ c.val) (hi : c.val < pre + s) (i : Fin 4032) (e : i.val = off + (c.val - pre)) :
    concatenate ⟨2, ![N, n]⟩ 0 xs h (ix2 c j) = w (ix2 i j) := by
  refine (concatenate_apply_piece (0 : Fin 2) xs h (ix2 c j) k hk _ _ hx rfl pre hpre (ix2 (⟨c.val - pre, by omega⟩ : Fin s) j) ?_ ?_).trans ?_
  · intro b hb
    fin_cases b
    · exact absurd rfl hb
    · rfl
  · show pre + (c.val - pre) = c.val
    omega
  · refine extractStridedSlice_apply ![off, 0] w hs _ (ix2 i j) fun b => ?_
    fin_cases b
    · exact e
    · exact (Nat.zero_add _).symm

/-- The same of columns. -/
theorem col_at (xs : List ((s : Shape) × (s.Idx → EReal))) (h : Shape.Concatenates (xs.map (·.1)) ⟨2, ![n, N]⟩ 1) (hk : k < xs.length)
    (hs : (⟨2, ![n, 4032]⟩ : Shape).Slices ![0, off] ⟨2, ![n, s]⟩) (hx : xs[k] = ⟨⟨2, ![n, s]⟩, extractStridedSlice ⟨2, ![n, s]⟩ ![0, off] v hs⟩)
    (hpre : (((xs.take k).map (·.1)).map fun s => if h : s.rank = 2 then s.size ((1 : Fin 2).cast h.symm) else 0).sum = pre)
    (j : Fin n) (c : Fin N) (lo : pre ≤ c.val) (hi : c.val < pre + s) (i : Fin 4032) (e : i.val = off + (c.val - pre)) :
    concatenate ⟨2, ![n, N]⟩ 1 xs h (ix2 j c) = v (ix2 j i) := by
  refine (concatenate_apply_piece (1 : Fin 2) xs h (ix2 j c) k hk _ _ hx rfl pre hpre (ix2 j (⟨c.val - pre, by omega⟩ : Fin s)) ?_ ?_).trans ?_
  · intro b hb
    fin_cases b
    · rfl
    · exact absurd rfl hb
  · show pre + (c.val - pre) = c.val
    omega
  · refine extractStridedSlice_apply ![0, off] v hs _ (ix2 j i) fun b => ?_
    fin_cases b
    · exact (Nat.zero_add _).symm
    · exact e
end

/-- Where the groups begin and end, and where they come from. -/
def spans : List (ℕ × ℕ × ℕ) :=
  [(0, 1024, 0), (1024, 2048, 1280), (2048, 3072, 3008), (3072, 3456, 2304), (3456, 3584, 1024), (3584, 3840, 2688), (3840, 3968, 1152), (3968, 4032, 2944)]

theorem place_of {c lo hi off : ℕ} (h1 : lo ≤ c) (h2 : c < hi) (h3 : (lo, hi, off) ∈ spans) : place c = off + (c - lo) ∧ c < 4032 := by
  simp only [spans, List.mem_cons, Prod.mk.injEq, List.not_mem_nil, or_false] at h3
  unfold place
  rcases h3 with ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ <;>
    (split_ifs <;> omega)

section
variable {n s off : ℕ} (w : FVec Ideal ⟨2, ![4032, n]⟩ .f32) (v : FVec Ideal ⟨2, ![n, 4032]⟩ .f32)

/-- A group of rows that starts at `pre` in a stack: row `c` of it. -/
theorem in_row (k pre : ℕ) (xs : List ((s : Shape) × (s.Idx → EReal))) (h : Shape.Concatenates (xs.map (·.1)) ⟨2, ![4096, n]⟩ 0) (hk : k < xs.length)
    (hs : (⟨2, ![4032, n]⟩ : Shape).Slices ![off, 0] ⟨2, ![s, n]⟩) (hx : xs[k] = ⟨⟨2, ![s, n]⟩, extractStridedSlice ⟨2, ![s, n]⟩ ![off, 0] w hs⟩)
    (hpre : (((xs.take k).map (·.1)).map fun s => if h : s.rank = 2 then s.size ((0 : Fin 2).cast h.symm) else 0).sum = pre)
    (hp : (pre, pre + s, off) ∈ spans) (c : Fin 4096) (j : Fin n) (lo : pre ≤ c.val) (hi : c.val < pre + s) :
    concatenate ⟨2, ![4096, n]⟩ 0 xs h (ix2 c j) = laid (fun i => w (ix2 i j)) c := by
  obtain ⟨e, l⟩ := place_of lo hi hp
  rw [pad_at _ c ⟨place c.val, place_lt l⟩ l rfl]
  exact row_at w xs h hk hs hx hpre c j lo hi _ e

/-- A group of columns that starts at `pre` of columns put side by side from place `base` on: column `c` of it. -/
theorem in_col (k base pre : ℕ) {N : ℕ} (xs : List ((s : Shape) × (s.Idx → EReal))) (h : Shape.Concatenates (xs.map (·.1)) ⟨2, ![n, N]⟩ 1) (hk : k < xs.length)
    (hs : (⟨2, ![n, 4032]⟩ : Shape).Slices ![0, off] ⟨2, ![n, s]⟩) (hx : xs[k] = ⟨⟨2, ![n, s]⟩, extractStridedSlice ⟨2, ![n, s]⟩ ![0, off] v hs⟩)
    (hpre : (((xs.take k).map (·.1)).map fun s => if h : s.rank = 2 then s.size ((1 : Fin 2).cast h.symm) else 0).sum = pre)
    (hp : (base + pre, base + pre + s, off) ∈ spans) (j : Fin n) (c : Fin N) (d : Fin 4096) (hd : d.val = base + c.val) (lo : pre ≤ c.val) (hi : c.val < pre + s) :
    concatenate ⟨2, ![n, N]⟩ 1 xs h (ix2 j c) = laid (fun i => v (ix2 j i)) d := by
  obtain ⟨e, l⟩ := place_of (c := d.val) (by omega) (by omega) hp
  rw [pad_at _ d ⟨place d.val, place_lt l⟩ l rfl]
  exact col_at v xs h hk hs hx hpre j c lo hi _ (e.trans (by omega))
/-- The zeros at the end of a stack. -/
theorem zero_row {N r : ℕ} (k pre : ℕ) (z : FVec Ideal ⟨2, ![r, n]⟩ .f32) (hz : ∀ i, z i = (0 : EReal)) (xs : List ((s : Shape) × (s.Idx → EReal)))
    (h : Shape.Concatenates (xs.map (·.1)) ⟨2, ![N, n]⟩ 0) (hk : k < xs.length) (hx : xs[k] = ⟨⟨2, ![r, n]⟩, z⟩)
    (hpre : (((xs.take k).map (·.1)).map fun s => if h : s.rank = 2 then s.size ((0 : Fin 2).cast h.symm) else 0).sum = pre)
    (c : Fin N) (j : Fin n) (lo : pre ≤ c.val) (hi : c.val < pre + r) : concatenate ⟨2, ![N, n]⟩ 0 xs h (ix2 c j) = 0 := by
  refine (concatenate_apply_piece (0 : Fin 2) xs h (ix2 c j) k hk _ _ hx rfl pre hpre (ix2 (⟨c.val - pre, by omega⟩ : Fin r) j) ?_ ?_).trans (hz _)
  · intro b hb
    fin_cases b
    · exact absurd rfl hb
    · rfl
  · show pre + (c.val - pre) = c.val
    omega

/-- The zeros at the end of columns put side by side. -/
theorem zero_col {N r : ℕ} (k pre : ℕ) (z : FVec Ideal ⟨2, ![n, r]⟩ .f32) (hz : ∀ i, z i = (0 : EReal)) (xs : List ((s : Shape) × (s.Idx → EReal)))
    (h : Shape.Concatenates (xs.map (·.1)) ⟨2, ![n, N]⟩ 1) (hk : k < xs.length) (hx : xs[k] = ⟨⟨2, ![n, r]⟩, z⟩)
    (hpre : (((xs.take k).map (·.1)).map fun s => if h : s.rank = 2 then s.size ((1 : Fin 2).cast h.symm) else 0).sum = pre)
    (j : Fin n) (c : Fin N) (lo : pre ≤ c.val) (hi : c.val < pre + r) : concatenate ⟨2, ![n, N]⟩ 1 xs h (ix2 j c) = 0 := by
  refine (concatenate_apply_piece (1 : Fin 2) xs h (ix2 j c) k hk _ _ hx rfl pre hpre (ix2 j (⟨c.val - pre, by omega⟩ : Fin r)) ?_ ?_).trans (hz _)
  · intro b hb
    fin_cases b
    · rfl
    · exact absurd rfl hb
  · show pre + (c.val - pre) = c.val
    omega
end

/-- The rows of `w` over the four tiles. -/
def stack (w : FVec Ideal ⟨2, ![4032, 2048]⟩ .f32) (z : FVec Ideal ⟨2, ![64, 2048]⟩ .f32) : FVec Ideal ⟨2, ![4096, 2048]⟩ .f32 :=
  concatenate ⟨2, ![4096, 2048]⟩ 0 [⟨⟨2, ![1024, 2048]⟩, extractStridedSlice ⟨2, ![1024, 2048]⟩ ![0, 0] w⟩,
    ⟨⟨2, ![1024, 2048]⟩, extractStridedSlice ⟨2, ![1024, 2048]⟩ ![1280, 0] w⟩,
    ⟨⟨2, ![1024, 2048]⟩, extractStridedSlice ⟨2, ![1024, 2048]⟩ ![3008, 0] w⟩,
    ⟨⟨2, ![384, 2048]⟩, extractStridedSlice ⟨2, ![384, 2048]⟩ ![2304, 0] w⟩,
    ⟨⟨2, ![128, 2048]⟩, extractStridedSlice ⟨2, ![128, 2048]⟩ ![1024, 0] w⟩,
    ⟨⟨2, ![256, 2048]⟩, extractStridedSlice ⟨2, ![256, 2048]⟩ ![2688, 0] w⟩,
    ⟨⟨2, ![128, 2048]⟩, extractStridedSlice ⟨2, ![128, 2048]⟩ ![1152, 0] w⟩,
    ⟨⟨2, ![64, 2048]⟩, extractStridedSlice ⟨2, ![64, 2048]⟩ ![2944, 0] w⟩,
    ⟨⟨2, ![64, 2048]⟩, z⟩]
    (by decide : Shape.Concatenates [⟨2, ![1024, 2048]⟩, ⟨2, ![1024, 2048]⟩, ⟨2, ![1024, 2048]⟩, ⟨2, ![384, 2048]⟩, ⟨2, ![128, 2048]⟩, ⟨2, ![256, 2048]⟩, ⟨2, ![128, 2048]⟩, ⟨2, ![64, 2048]⟩, ⟨2, ![64, 2048]⟩] ⟨2, ![4096, 2048]⟩ 0)

/-- The columns of `v` over the four tiles. -/
def beside (v : FVec Ideal ⟨2, ![4096, 4032]⟩ .f32) (z : FVec Ideal ⟨2, ![4096, 64]⟩ .f32) : FVec Ideal ⟨2, ![4096, 4096]⟩ .f32 :=
  concatenate ⟨2, ![4096, 4096]⟩ 1 [⟨⟨2, ![4096, 1024]⟩, extractStridedSlice ⟨2, ![4096, 1024]⟩ ![0, 0] v⟩,
    ⟨⟨2, ![4096, 1024]⟩, extractStridedSlice ⟨2, ![4096, 1024]⟩ ![0, 1280] v⟩,
    ⟨⟨2, ![4096, 1024]⟩, extractStridedSlice ⟨2, ![4096, 1024]⟩ ![0, 3008] v⟩,
    ⟨⟨2, ![4096, 384]⟩, extractStridedSlice ⟨2, ![4096, 384]⟩ ![0, 2304] v⟩,
    ⟨⟨2, ![4096, 128]⟩, extractStridedSlice ⟨2, ![4096, 128]⟩ ![0, 1024] v⟩,
    ⟨⟨2, ![4096, 256]⟩, extractStridedSlice ⟨2, ![4096, 256]⟩ ![0, 2688] v⟩,
    ⟨⟨2, ![4096, 128]⟩, extractStridedSlice ⟨2, ![4096, 128]⟩ ![0, 1152] v⟩,
    ⟨⟨2, ![4096, 64]⟩, extractStridedSlice ⟨2, ![4096, 64]⟩ ![0, 2944] v⟩,
    ⟨⟨2, ![4096, 64]⟩, z⟩]
    (by decide : Shape.Concatenates [⟨2, ![4096, 1024]⟩, ⟨2, ![4096, 1024]⟩, ⟨2, ![4096, 1024]⟩, ⟨2, ![4096, 384]⟩, ⟨2, ![4096, 128]⟩, ⟨2, ![4096, 256]⟩, ⟨2, ![4096, 128]⟩, ⟨2, ![4096, 64]⟩, ⟨2, ![4096, 64]⟩] ⟨2, ![4096, 4096]⟩ 1)

/-- The columns of `v` that the last tile holds. -/
def mixed (v : FVec Ideal ⟨2, ![4096, 4032]⟩ .f32) (z : FVec Ideal ⟨2, ![4096, 64]⟩ .f32) : FVec Ideal ⟨2, ![4096, 1024]⟩ .f32 :=
  concatenate ⟨2, ![4096, 1024]⟩ 1 [⟨⟨2, ![4096, 384]⟩, extractStridedSlice ⟨2, ![4096, 384]⟩ ![0, 2304] v⟩,
    ⟨⟨2, ![4096, 128]⟩, extractStridedSlice ⟨2, ![4096, 128]⟩ ![0, 1024] v⟩,
    ⟨⟨2, ![4096, 256]⟩, extractStridedSlice ⟨2, ![4096, 256]⟩ ![0, 2688] v⟩,
    ⟨⟨2, ![4096, 128]⟩, extractStridedSlice ⟨2, ![4096, 128]⟩ ![0, 1152] v⟩,
    ⟨⟨2, ![4096, 64]⟩, extractStridedSlice ⟨2, ![4096, 64]⟩ ![0, 2944] v⟩,
    ⟨⟨2, ![4096, 64]⟩, z⟩]
    (by decide : Shape.Concatenates [⟨2, ![4096, 384]⟩, ⟨2, ![4096, 128]⟩, ⟨2, ![4096, 256]⟩, ⟨2, ![4096, 128]⟩, ⟨2, ![4096, 64]⟩, ⟨2, ![4096, 64]⟩] ⟨2, ![4096, 1024]⟩ 1)

theorem last_cases {b c : ℕ} (h : b ≤ c) : c < b + 384 ∨ b + 384 ≤ c ∧ c < b + 512 ∨ b + 512 ≤ c ∧ c < b + 768 ∨ b + 768 ≤ c ∧ c < b + 896
    ∨ b + 896 ≤ c ∧ c < b + 960 ∨ b + 960 ≤ c := by omega

theorem cases (c : ℕ) : c < 1024 ∨ 1024 ≤ c ∧ c < 2048 ∨ 2048 ≤ c ∧ c < 3072 ∨ 3072 ≤ c := by omega

variable (z : FVec Ideal ⟨2, ![64, 2048]⟩ .f32) (z' : FVec Ideal ⟨2, ![4096, 64]⟩ .f32)

theorem stack_at (w : FVec Ideal ⟨2, ![4032, 2048]⟩ .f32) (hz : ∀ i, z i = (0 : EReal)) (c : Fin 4096) (j : Fin 2048) :
    stack w z (ix2 c j) = laid (fun i => w (ix2 i j)) c := by
  unfold stack
  rcases cases c.val with h | ⟨l, h⟩ | ⟨l, h⟩ | l
  · exact in_row w 0 0 _ _ (by simp) _ rfl rfl (by decide) c j (Nat.zero_le _) h
  · exact in_row w 1 1024 _ _ (by simp) _ rfl rfl (by decide) c j l h
  · exact in_row w 2 2048 _ _ (by simp) _ rfl rfl (by decide) c j l h
  rcases last_cases l with h | ⟨l, h⟩ | ⟨l, h⟩ | ⟨l, h⟩ | ⟨l, h⟩ | l
  · exact in_row w 3 3072 _ _ (by simp) _ rfl rfl (by decide) c j l h
  · exact in_row w 4 3456 _ _ (by simp) _ rfl rfl (by decide) c j l h
  · exact in_row w 5 3584 _ _ (by simp) _ rfl rfl (by decide) c j l h
  · exact in_row w 6 3840 _ _ (by simp) _ rfl rfl (by decide) c j l h
  · exact in_row w 7 3968 _ _ (by simp) _ rfl rfl (by decide) c j l h
  · exact (zero_row 8 4032 z hz _ _ (by simp) rfl rfl c j l (by omega)).trans (pad_zero _ c l).symm

theorem mixed_at (v : FVec Ideal ⟨2, ![4096, 4032]⟩ .f32) (hz : ∀ i, z' i = (0 : EReal)) (j : Fin 4096) (c : Fin 1024) :
    mixed v z' (ix2 j c) = laid (fun i => v (ix2 j i)) ⟨3072 + c.val, by omega⟩ := by
  unfold mixed
  rcases last_cases (Nat.zero_le c.val) with h | ⟨l, h⟩ | ⟨l, h⟩ | ⟨l, h⟩ | ⟨l, h⟩ | l
  · exact in_col v 0 3072 0 _ _ (by simp) _ rfl rfl (by decide) j c _ rfl (Nat.zero_le _) h
  · exact in_col v 1 3072 384 _ _ (by simp) _ rfl rfl (by decide) j c _ rfl l h
  · exact in_col v 2 3072 512 _ _ (by simp) _ rfl rfl (by decide) j c _ rfl l h
  · exact in_col v 3 3072 768 _ _ (by simp) _ rfl rfl (by decide) j c _ rfl l h
  · exact in_col v 4 3072 896 _ _ (by simp) _ rfl rfl (by decide) j c _ rfl l h
  · exact (zero_col 5 960 z' hz _ _ (by simp) rfl rfl j c l (by omega)).trans (pad_zero _ _ (show 4032 ≤ 3072 + c.val by omega)).symm

theorem beside_at (v : FVec Ideal ⟨2, ![4096, 4032]⟩ .f32) (hz : ∀ i, z' i = (0 : EReal)) (j : Fin 4096) (c : Fin 4096) :
    beside v z' (ix2 j c) = laid (fun i => v (ix2 j i)) c := by
  unfold beside
  rcases cases c.val with h | ⟨l, h⟩ | ⟨l, h⟩ | l
  · exact in_col v 0 0 0 _ _ (by simp) _ rfl rfl (by decide) j c c (Nat.zero_add _).symm (Nat.zero_le _) h
  · exact in_col v 1 0 1024 _ _ (by simp) _ rfl rfl (by decide) j c c (Nat.zero_add _).symm l h
  · exact in_col v 2 0 2048 _ _ (by simp) _ rfl rfl (by decide) j c c (Nat.zero_add _).symm l h
  rcases last_cases l with h | ⟨l, h⟩ | ⟨l, h⟩ | ⟨l, h⟩ | ⟨l, h⟩ | l
  · exact in_col v 3 0 3072 _ _ (by simp) _ rfl rfl (by decide) j c c (Nat.zero_add _).symm l h
  · exact in_col v 4 0 3456 _ _ (by simp) _ rfl rfl (by decide) j c c (Nat.zero_add _).symm l h
  · exact in_col v 5 0 3584 _ _ (by simp) _ rfl rfl (by decide) j c c (Nat.zero_add _).symm l h
  · exact in_col v 6 0 3840 _ _ (by simp) _ rfl rfl (by decide) j c c (Nat.zero_add _).symm l h
  · exact in_col v 7 0 3968 _ _ (by simp) _ rfl rfl (by decide) j c c (Nat.zero_add _).symm l h
  · exact (zero_col 8 4032 z' hz _ _ (by simp) rfl rfl j c l (by omega)).trans (pad_zero _ c l).symm

/-- A whole tile is one group of columns. -/
theorem tile_at (lo off : ℕ) (v : FVec Ideal ⟨2, ![4096, 4032]⟩ .f32) (hs : (⟨2, ![4096, 4032]⟩ : Shape).Slices ![0, off] ⟨2, ![4096, 1024]⟩)
    (hp : (lo, lo + 1024, off) ∈ spans) (j : Fin 4096) (k : Fin 1024) (c : Fin 4096) (hc : c.val = lo + k.val) :
    extractStridedSlice ⟨2, ![4096, 1024]⟩ ![0, off] v hs (ix2 j k) = laid (fun i => v (ix2 j i)) c := by
  obtain ⟨e, l⟩ := place_of (c := c.val) (by omega) (by omega) hp
  rw [pad_at _ c ⟨place c.val, place_lt l⟩ l rfl]
  refine extractStridedSlice_apply ![0, off] v hs _ (ix2 j ⟨place c.val, place_lt l⟩) fun b => ?_
  fin_cases b
  · exact (Nat.zero_add _).symm
  · exact e.trans (congrArg (off + ·) (by show c.val - lo = k.val; omega))

end Cert.Tiles

end
-- ==== Proof.Prod5.lean ====
/- The gradient of the input projection's input: every block of 1024 by 1024 is the sum of four products, one over each tile of columns. -/
module

public import proofs.«01_k».proof.Proof.Layout
public import proofs.«01_k».proof.Proof.Gen.Kernel5Ideal.Value
public import proofs.«01_k».proof.Proof.Gen.Kernel5
public import proofs.«01_k».proof.Proof.Gen.Reference5Ideal.Run
public import Idealize.ShloMosaic.Lib.StableHlo.ReadAt
public import Idealize.ShloMosaic.Lib.StableHlo.RunClose

@[expose] public section

set_option maxRecDepth 16384

noncomputable section

namespace Cert.Kernel5Ideal.Prod

open Cert.Kernel5Ideal Cert.Kernel5Ideal.Gen Cert.Tiles
open Idealize.ShloMosaic Idealize.ShloMosaic.Pointwise Idealize.ShloMosaic.TcCoe

abbrev A := FVec Ideal S4096x4032 .f32
abbrev B := FVec Ideal S2048x4032 .f32
abbrev T := FVec Ideal S1024x1024 .f32

variable (m : (ℓ : Loc nD τ sig) → Buf (Elt Ideal) ℓ) (c : Dev nD)

def wts : B := m ((c.tc : Thread nD τ).loc main_arg1)
def ct : A := m ((c.tc : Thread nD τ).loc main_arg2)

/-- Entry (x, d) of the product of `a` with the transposed `b`. -/
def prod (a : A) (b : B) (i : S4096x2048.Idx) : EReal := ∑ k : Fin 4032, (a (ix2 (i 0) k) : EReal) * (b (ix2 (i 1) k) : EReal)

theorem idx_rows : ∀ t : Fin cfg0.N, win0_0.index t = ![t.val % 4, 0] ∧ win0_1.index t = ![t.val % 4, 0] ∧ win0_2.index t = ![t.val % 4, 0]
    ∧ win0_3.index t = ![t.val % 4, 0] :=
  (by decide +kernel : ∀ t : Fin grid0.N, _)

theorem idx_cols : ∀ t : Fin cfg0.N, win0_4.index t = ![0, t.val / 4] ∧ win0_5.index t = ![1, t.val / 4] ∧ win0_6.index t = ![2, t.val / 4]
    ∧ win0_7.index t = ![3, t.val / 4] :=
  (by decide +kernel : ∀ t : Fin grid0.N, _)

theorem idx_out : ∀ t : Fin cfg0.N, win0_8.index t = ![t.val % 4, t.val / 4] := (by decide +kernel : ∀ t : Fin grid0.N, _)

/-- One of the four products. -/
def one (a b : T) (x y : Fin 1024) : EReal := ∑ k : Fin 1024, (a (ix2 x k) : EReal) * (b (ix2 k y) : EReal)

theorem out_at (a0 a1 a2 a3 b0 b1 b2 b3 : T) (x y : Fin 1024) :
    (out0_8 (F := Ideal) a0 a1 a2 a3 b0 b1 b2 b3 : T) (ix2 x y) = one a0 b0 x y + one a1 b1 x y + one a2 b2 x y + one a3 b3 x y := by
  unfold out0_8 r0_0 one
  rw [View.canon_unit_zero origin]
  pointwise [k0_pay1]

theorem lt (t : Fin cfg0.N) : t.val < 8 := N_0 ▸ t.isLt

/-- The transposed weights. -/
def rows (b : B) : FVec Ideal S4032x2048 .f32 := transpose S4032x2048 [1, 0] b transposes_S2048x4032_S4032x2048_1_0

theorem rows_at (b : B) (i : Fin 4032) (k : Fin 2048) : rows b (ix2 i k) = b (ix2 k i) := by
  unfold rows
  pointwise []

def zeros : FVec Ideal S64x2048 .bf16 := broadcastInDim S64x2048 ![] bcast_S_S64x2048 (constant (F := Ideal) S_ .bf16 0x0000#16)

theorem zeros_at (i : S64x2048.Idx) : zeros i = (0 : EReal) := by
  obtain ⟨x, y, rfl⟩ : ∃ (x : Fin 64) (y : Fin 2048), i = ix2 x y := row_col i
  unfold zeros
  pointwise []

def zeros' : FVec Ideal S4096x64 .bf16 := broadcastInDim S4096x64 ![] bcast_S_S4096x64 (constant (F := Ideal) S_ .bf16 0x0000#16)

theorem zeros_at' (i : S4096x64.Idx) : zeros' i = (0 : EReal) := by
  obtain ⟨x, y, rfl⟩ : ∃ (x : Fin 4096) (y : Fin 64), i = ix2 x y := row_col i
  unfold zeros'
  pointwise []

theorem in_0 : (V m c main_v13 : FVec Ideal S4096x1024 .bf16) = extractStridedSlice S4096x1024 ![0, 0] (ct m c) slices_S4096x4032_S4096x1024_0_0 := by
  unfold V
  after_reads_simp
  rfl

theorem in_1 : (V m c main_v15 : FVec Ideal S4096x1024 .bf16) = extractStridedSlice S4096x1024 ![0, 1280] (ct m c) slices_S4096x4032_S4096x1024_0_1280 := by
  unfold V
  after_reads_simp
  rfl

theorem in_2 : (V m c main_v17 : FVec Ideal S4096x1024 .bf16) = extractStridedSlice S4096x1024 ![0, 3008] (ct m c) slices_S4096x4032_S4096x1024_0_3008 := by
  unfold V
  after_reads_simp
  rfl

theorem in_3 : (V m c main_v11 : FVec Ideal S4096x1024 .bf16) = mixed (ct m c) zeros' := by
  unfold V
  unfold hostOps0
  after_results_entrywise (rounds := 1) []

theorem in_b : (V m c main_v29 : FVec Ideal S4096x2048 .bf16) = stack (rows (wts m c)) zeros := by
  unfold V
  unfold hostOps0
  after_results_entrywise (rounds := 1) []

variable (t : Fin cfg0.N)

/-- The cotangents of the rows of the block, laid out over the places. -/
abbrev left (x : Fin 1024) : Fin 4096 → EReal := laid fun i => ct m c (ix2 ⟨1024 * (t.val % 4) + x.val, by omega⟩ i)

/-- The weights of the columns of the block, laid out over the places. -/
abbrev right (y : Fin 1024) : Fin 4096 → EReal := laid fun i => wts m c (ix2 ⟨1024 * (t.val / 4) + y.val, by have := lt t; omega⟩ i)

theorem blk_0 (x k : Fin 1024) : (iblk m c 0 t : T) (ix2 x k) = left m c t x ⟨k.val, by omega⟩ := by
  refine Eq.trans (b := (V m c main_v13 : FVec Ideal S4096x1024 .bf16) (ix2 ⟨1024 * (t.val % 4) + x.val, by omega⟩ k)) ?_ ?_
  · blk_simp [iblk]
    blk_ext [idx_rows t]
  · rw [in_0]
    exact tile_at 0 0 _ _ (by decide) _ _ _ (Nat.zero_add _).symm

theorem blk_1 (x k : Fin 1024) : (iblk m c 1 t : T) (ix2 x k) = left m c t x ⟨1024 + k.val, by omega⟩ := by
  refine Eq.trans (b := (V m c main_v15 : FVec Ideal S4096x1024 .bf16) (ix2 ⟨1024 * (t.val % 4) + x.val, by omega⟩ k)) ?_ ?_
  · blk_simp [iblk]
    blk_ext [idx_rows t]
  · rw [in_1]
    exact tile_at 1024 1280 _ _ (by decide) _ _ _ rfl

theorem blk_2 (x k : Fin 1024) : (iblk m c 2 t : T) (ix2 x k) = left m c t x ⟨2048 + k.val, by omega⟩ := by
  refine Eq.trans (b := (V m c main_v17 : FVec Ideal S4096x1024 .bf16) (ix2 ⟨1024 * (t.val % 4) + x.val, by omega⟩ k)) ?_ ?_
  · blk_simp [iblk]
    blk_ext [idx_rows t]
  · rw [in_2]
    exact tile_at 2048 3008 _ _ (by decide) _ _ _ rfl

theorem blk_3 (x k : Fin 1024) : (iblk m c 3 t : T) (ix2 x k) = left m c t x ⟨3072 + k.val, by omega⟩ := by
  refine Eq.trans (b := (V m c main_v11 : FVec Ideal S4096x1024 .bf16) (ix2 ⟨1024 * (t.val % 4) + x.val, by omega⟩ k)) ?_ ?_
  · blk_simp [iblk]
    blk_ext [idx_rows t]
  · rw [in_3]
    exact mixed_at _ _ zeros_at' _ _

theorem stack_in (p : Fin 4096) (y : Fin 1024) : (V m c main_v29 : FVec Ideal S4096x2048 .bf16) (ix2 p ⟨1024 * (t.val / 4) + y.val, by have := lt t; omega⟩)
    = right m c t y p := by
  rw [in_b, stack_at _ _ zeros_at]
  simp only [rows_at]

theorem blk_4 (k y : Fin 1024) : (iblk m c 4 t : T) (ix2 k y) = right m c t y ⟨k.val, by omega⟩ := by
  rw [← stack_in]
  blk_simp [iblk]
  blk_ext [idx_cols t]

theorem blk_5 (k y : Fin 1024) : (iblk m c 5 t : T) (ix2 k y) = right m c t y ⟨1024 + k.val, by omega⟩ := by
  rw [← stack_in]
  blk_simp [iblk]
  blk_ext [idx_cols t]

theorem blk_6 (k y : Fin 1024) : (iblk m c 6 t : T) (ix2 k y) = right m c t y ⟨2048 + k.val, by omega⟩ := by
  rw [← stack_in]
  blk_simp [iblk]
  blk_ext [idx_cols t]

theorem blk_7 (k y : Fin 1024) : (iblk m c 7 t : T) (ix2 k y) = right m c t y ⟨3072 + k.val, by omega⟩ := by
  rw [← stack_in]
  blk_simp [iblk]
  blk_ext [idx_cols t]

/-- The four products of a block are the sum over all columns. -/
theorem four (x d : Fin 1024) : one (iblk m c 0 t) (iblk m c 4 t) x d + one (iblk m c 1 t) (iblk m c 5 t) x d + one (iblk m c 2 t) (iblk m c 6 t) x d
      + one (iblk m c 3 t) (iblk m c 7 t) x d
    = prod (ct m c) (wts m c) (ix2 (⟨1024 * (t.val % 4) + x.val, by omega⟩ : Fin 4096) (⟨1024 * (t.val / 4) + d.val, by have := lt t; omega⟩ : Fin 2048)) := by
  refine Eq.trans ?_ (sum_pad _ _)
  rw [sum_tiles]
  unfold one
  simp only [blk_0, blk_1, blk_2, blk_3, blk_4, blk_5, blk_6, blk_7]
  rfl

/-- After the run the result array is the product. -/
theorem arr : (dats m 0 c).arrAt 8 cfg0.N = prod (ct m c) (wts m c) := by
  refine (dats m 0 c).arrAt_eq_of_covers 8 _ (by decide +kernel) fun t hf y => ?_
  blk_simp
  rw [after0_8]
  obtain ⟨x, d, rfl⟩ : ∃ (x : Fin 1024) (d : Fin 1024), y = ix2 x d := row_col y
  refine (out_at _ _ _ _ _ _ _ _ x d).trans ((four m c t x d).trans ?_)
  blk_ext [idx_out t]

/-- The reference's product, entry by entry. -/
theorem ref (a : A) (b : B) : (Host.dotGeneral Cert.Reference5Ideal.dot_S4096x4032_S2048x4032_S4096x2048_1_1_0_0_n_n none a b : FVec Ideal S4096x2048 .f32) = prod a b := by
  funext i
  obtain ⟨x, d, rfl⟩ := row_col i
  pointwise []
  rfl

end Cert.Kernel5Ideal.Prod

end
-- ==== Proof.Prod6.lean ====
/- The input projection: every block of 1024 by 1024 is one product over all 2048 rows, of columns laid out over four tiles. -/
module

public import proofs.«01_k».proof.Proof.Layout
public import proofs.«01_k».proof.Proof.Gen.Kernel6Ideal.Value
public import proofs.«01_k».proof.Proof.Gen.Kernel6
public import proofs.«01_k».proof.Proof.Gen.Reference6Ideal.Run
public import Idealize.ShloMosaic.Lib.StableHlo.ReadAt
public import Idealize.ShloMosaic.Lib.StableHlo.RunClose

@[expose] public section

set_option maxRecDepth 16384

noncomputable section

namespace Cert.Kernel6Ideal.Prod

open Cert.Kernel6Ideal Cert.Kernel6Ideal.Gen Cert.Tiles
open Idealize.ShloMosaic Idealize.ShloMosaic.Pointwise Idealize.ShloMosaic.TcCoe

abbrev A := FVec Ideal S4096x2048 .f32
abbrev B := FVec Ideal S2048x4032 .f32

variable (m : (ℓ : Loc nD τ sig) → Buf (Elt Ideal) ℓ) (c : Dev nD)

def act : A := m ((c.tc : Thread nD τ).loc main_arg0)
def wts : B := m ((c.tc : Thread nD τ).loc main_arg1)

/-- Entry (x, c) of the product of `a` with `b`, its columns laid out over the tiles. -/
def prod (a : A) (b : B) (i : S4096x4096.Idx) : EReal := laid (fun j => ∑ k : Fin 2048, (a (ix2 (i 0) k) : EReal) * (b (ix2 k j) : EReal)) (i 1)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem out_at (a b : FVec Ideal S1024x2048 .f32) (x y : Fin 1024) :
    (out0_2 (F := Ideal) a b : FVec Ideal S1024x1024 .f32) (ix2 x y) = ∑ k : Fin 2048, (a (ix2 x k) : EReal) * (b (ix2 y k) : EReal) := by
  unfold out0_2 r0_1
  rw [View.canon_unit_zero origin]
  pointwise [k0_pay1, r0_0]

theorem lt (t : Fin cfg0.N) : t.val < 16 := N_0 ▸ t.isLt

theorem in_a : (V m c main_v0 : FVec Ideal S4096x2048 .bf16) = act m c := by
  unfold V
  after_reads_simp
  rfl

/-- The transposed weights. -/
def rows (b : B) : FVec Ideal S4032x2048 .f32 := transpose S4032x2048 [1, 0] b transposes_S2048x4032_S4032x2048_1_0

theorem rows_at (b : B) (i : Fin 4032) (k : Fin 2048) : rows b (ix2 i k) = b (ix2 k i) := by
  unfold rows
  pointwise []

def zeros : FVec Ideal S64x2048 .bf16 := broadcastInDim S64x2048 ![] bcast_S_S64x2048 (constant (F := Ideal) S_ .bf16 0x0000#16)

theorem zeros_at (i : S64x2048.Idx) : zeros i = (0 : EReal) := by
  obtain ⟨x, y, rfl⟩ : ∃ (x : Fin 64) (y : Fin 2048), i = ix2 x y := row_col i
  unfold zeros
  pointwise []

theorem in_b : (V m c main_v12 : FVec Ideal S4096x2048 .bf16) = stack (rows (wts m c)) zeros := by
  unfold V
  unfold hostOps0
  after_results_entrywise (rounds := 1) []

theorem blk_a (t : Fin cfg0.N) (x : Fin 1024) (k : Fin 2048) :
    (iblk m c 0 t : FVec Ideal S1024x2048 .f32) (ix2 x k) = act m c (ix2 ⟨1024 * (t.val / 4) + x.val, by have := lt t; omega⟩ k) := by
  rw [← in_a]
  blk_simp [iblk]
  blk_ext [idx t]

theorem blk_b' (t : Fin cfg0.N) (y : Fin 1024) (k : Fin 2048) :
    (iblk m c 1 t : FVec Ideal S1024x2048 .f32) (ix2 y k) = (V m c main_v12 : FVec Ideal S4096x2048 .bf16) (ix2 ⟨1024 * (t.val % 4) + y.val, by omega⟩ k) := by
  blk_simp [iblk]
  blk_ext [idx t]

theorem blk_b (t : Fin cfg0.N) (y : Fin 1024) (k : Fin 2048) :
    (iblk m c 1 t : FVec Ideal S1024x2048 .f32) (ix2 y k) = laid (fun j => wts m c (ix2 k j)) ⟨1024 * (t.val % 4) + y.val, by omega⟩ := by
  rw [blk_b', in_b, stack_at _ _ zeros_at]
  simp only [rows_at]

/-- A product with laid out columns is laid out. -/
theorem sum_laid (f : Fin 2048 → EReal) (g : Fin 2048 → Fin 4032 → EReal) (y : Fin 4096) :
    ∑ k, f k * laid (g k) y = laid (fun j => ∑ k, f k * g k j) y := by
  unfold laid
  split_ifs with h
  · rfl
  · simp only [mul_zero, Finset.sum_const_zero]

/-- After the run the result array is the product. -/
theorem arr : (dats m 0 c).arrAt 2 cfg0.N = prod (act m c) (wts m c) := by
  refine (dats m 0 c).arrAt_eq_of_covers 2 _ (by decide +kernel) fun t hf y => ?_
  blk_simp
  rw [after0_2]
  obtain ⟨x, d, rfl⟩ : ∃ (x : Fin 1024) (d : Fin 1024), y = ix2 x d := row_col y
  refine (out_at _ _ x d).trans ?_
  simp only [blk_a, blk_b]
  rw [sum_laid]
  refine Eq.trans (b := prod (act m c) (wts m c) (ix2 (⟨1024 * (t.val / 4) + x.val, by have := lt t; omega⟩ : Fin 4096) (⟨1024 * (t.val % 4) + d.val, by omega⟩ : Fin 4096))) rfl ?_
  blk_ext [idx t]

end Cert.Kernel6Ideal.Prod

namespace Cert.Reference6Ideal.Prod

open Cert.Reference6Ideal Cert.Reference6Ideal.Gen Cert.Tiles
open Idealize.ShloMosaic Idealize.ShloMosaic.Pointwise Idealize.ShloMosaic.TcCoe

abbrev A := FVec Ideal S4096x2048 .f32
abbrev B := FVec Ideal S2048x4032 .f32

variable (a : A) (b : B)

def whole : FVec Ideal S4096x4032 .f32 := Host.dotGeneral dot_S4096x2048_S2048x4032_S4096x4032_1_0_0_1_n_n none a b

def zeros : FVec Ideal S4096x64 .f32 := broadcastInDim S4096x64 ![] bcast_S_S4096x64 (constant (F := Ideal) S_ .f32 0x00000000#32)

theorem zeros_at (i : S4096x64.Idx) : zeros i = (0 : EReal) := by
  obtain ⟨x, y, rfl⟩ : ∃ (x : Fin 4096) (y : Fin 64), i = ix2 x y := row_col i
  unfold zeros
  pointwise []

theorem whole_at (x : Fin 4096) (j : Fin 4032) : whole a b (ix2 x j) = ∑ k : Fin 2048, (a (ix2 x k) : EReal) * (b (ix2 k j) : EReal) := by
  unfold whole
  pointwise []

/-- The reference's groups side by side are the product laid out. -/
theorem ref : beside (whole a b) zeros = Cert.Kernel6Ideal.Prod.prod a b := by
  funext i
  obtain ⟨x, d, rfl⟩ : ∃ (x : Fin 4096) (d : Fin 4096), i = ix2 x d := row_col i
  rw [beside_at _ _ zeros_at]
  simp only [whole_at]
  rfl

end Cert.Reference6Ideal.Prod

end
-- ==== Proof.Prod7.lean ====
/- The output projection with its residual: every block of 1024 by 1024 is one product over all 2048 columns, plus the block of the residual. -/
module

public import proofs.«01_k».proof.Proof.Tiles
public import proofs.«01_k».proof.Proof.Gen.Kernel7Ideal.Value
public import proofs.«01_k».proof.Proof.Gen.Kernel7
public import proofs.«01_k».proof.Proof.Gen.Reference7Ideal.Run
public import Idealize.ShloMosaic.Lib.StableHlo.ReadAt

@[expose] public section

set_option maxRecDepth 16384

noncomputable section

namespace Cert.Kernel7Ideal.Prod

open Cert.Kernel7Ideal Cert.Kernel7Ideal.Gen Cert.Tiles
open Idealize.ShloMosaic Idealize.ShloMosaic.Pointwise Idealize.ShloMosaic.TcCoe

abbrev A := FVec Ideal S4096x2048 .f32
abbrev B := FVec Ideal S2048x2048 .f32

variable (m : (ℓ : Loc nD τ sig) → Buf (Elt Ideal) ℓ) (c : Dev nD)

def res : A := m ((c.tc : Thread nD τ).loc main_arg0)
def act : A := m ((c.tc : Thread nD τ).loc main_arg1)
def wts : B := m ((c.tc : Thread nD τ).loc main_arg2)

/-- Entry (x, d) of `r` plus the product of `a` with `b`. -/
def prod (r a : A) (b : B) (i : S4096x2048.Idx) : EReal := (r i : EReal) + ∑ k : Fin 2048, (a (ix2 (i 0) k) : EReal) * (b (ix2 k (i 1)) : EReal)

theorem idx : ∀ t : Fin cfg0.N, win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, _)

theorem out_at (a : FVec Ideal S1024x2048 .f32) (b : FVec Ideal S2048x1024 .f32) (r : FVec Ideal S1024x1024 .f32) (x y : Fin 1024) :
    (out0_3 (F := Ideal) a b r : FVec Ideal S1024x1024 .f32) (ix2 x y) = (r (ix2 x y) : EReal) + ∑ k : Fin 2048, (a (ix2 x k) : EReal) * (b (ix2 k y) : EReal) := by
  unfold out0_3 r0_2
  rw [View.canon_unit_zero origin]
  pointwise [k0_pay1, r0_0, r0_1]

theorem lt (t : Fin cfg0.N) : t.val < 8 := N_0 ▸ t.isLt

theorem in_a : (V m c main_v0 : FVec Ideal S4096x2048 .bf16) = act m c := by
  unfold V
  after_reads_simp
  rfl

theorem in_b : (V m c main_v1 : FVec Ideal S2048x2048 .bf16) = wts m c := by
  unfold V
  after_reads_simp
  rfl

theorem blk_a (t : Fin cfg0.N) (x : Fin 1024) (k : Fin 2048) :
    (iblk m c 0 t : FVec Ideal S1024x2048 .f32) (ix2 x k) = act m c (ix2 ⟨1024 * (t.val / 2) + x.val, by have := lt t; omega⟩ k) := by
  rw [← in_a]
  blk_simp [iblk]
  blk_ext [idx t]

theorem blk_b (t : Fin cfg0.N) (k : Fin 2048) (y : Fin 1024) :
    (iblk m c 1 t : FVec Ideal S2048x1024 .f32) (ix2 k y) = wts m c (ix2 k ⟨1024 * (t.val % 2) + y.val, by omega⟩) := by
  rw [← in_b]
  blk_simp [iblk]
  blk_ext [idx t]

theorem blk_r (t : Fin cfg0.N) (x y : Fin 1024) :
    (iblk m c 2 t : FVec Ideal S1024x1024 .f32) (ix2 x y)
      = res m c (ix2 ⟨1024 * (t.val / 2) + x.val, by have := lt t; omega⟩ ⟨1024 * (t.val % 2) + y.val, by omega⟩) := by
  blk_simp [iblk]
  blk_ext [idx t]

/-- After the run the result array is the sum. -/
theorem arr : (dats m 0 c).arrAt 3 cfg0.N = prod (res m c) (act m c) (wts m c) := by
  refine (dats m 0 c).arrAt_eq_of_covers 3 _ (by decide +kernel) fun t hf y => ?_
  blk_simp
  rw [after0_3]
  obtain ⟨x, d, rfl⟩ : ∃ (x : Fin 1024) (d : Fin 1024), y = ix2 x d := row_col y
  refine (out_at _ _ _ x d).trans ?_
  simp only [blk_a, blk_b, blk_r]
  refine Eq.trans (b := prod (res m c) (act m c) (wts m c) (ix2 (⟨1024 * (t.val / 2) + x.val, by have := lt t; omega⟩ : Fin 4096) (⟨1024 * (t.val % 2) + d.val, by omega⟩ : Fin 2048))) rfl ?_
  blk_ext [idx t]

/-- The reference's sum, entry by entry. -/
theorem ref (r a : A) (b : B) : (addf r (Host.dotGeneral Cert.Reference7Ideal.dot_S4096x2048_S2048x2048_S4096x2048_1_0_0_1_n_n none a b : A) : A) = prod r a b := by
  funext i
  obtain ⟨x, d, rfl⟩ := row_col i
  pointwise []
  rfl

end Cert.Kernel7Ideal.Prod

end
-- ==== Proof.Products.lean ====
/- The six products: the frames of their programs, and the two runs of each ending with the same array. -/
module

public import proofs.«01_k».proof.Proof.Frames
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel7

@[expose] public section

set_option maxRecDepth 65536
set_option maxHeartbeats 4000000

noncomputable section

open Idealize.ShloMosaic Idealize.SL.Sem

namespace Cert.Proof.Products

/-! The gradient of the output projection's weights. -/

theorem defs_eq2 : Cert.Kernel2.defs (F := Bits) = Cert.Kernel2Ideal.defs (F := Bits) := by
  unfold Cert.Kernel2.defs Cert.Kernel2Ideal.defs Cert.Kernel2.defs₀ Cert.Kernel2Ideal.defs₀
  refine congrArg (Pipeline.defs (Cert.Kernel2.pcfgs (F := Bits))) (congrArg Defs.onTc (funext fun l => funext fun x => ?_))
  match l, x with
  | 0, (t, s) => rfl

theorem frame_p2 : Cert.quiescent_Kernel2 := fun m ρ _ => Att.same_run defs_eq2 rfl (Cert.Kernel2Ideal.Gen.frame (F := Bits) m ρ)

theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem algebraic2 : Cert.algebraic_Kernel2Ideal_Reference2Ideal := fun m g m' g' _ e =>
  ⟨fun c => Cert.Kernel2Ideal.Prod.prod (Cert.Kernel2Ideal.Prod.act m c) (Cert.Kernel2Ideal.Prod.ct m c),
    (θ_run Cert.Kernel2Ideal.defs _ _).mono (fun _ h c => ⟨(h c).1.trans (Cert.Kernel2Ideal.Prod.arr m c), (h c).2⟩) (Cert.Kernel2Ideal.Value.run_blocks m g),
    (θ_run Cert.Reference2Ideal.defs _ _).mono (fun _ h c => ⟨(h c).1.trans ((Cert.Kernel2Ideal.Prod.ref _ _).trans (congrArg₂ Cert.Kernel2Ideal.Prod.prod (e c).1 (e c).2.2)), (h c).2⟩)
      (Cert.Reference2Ideal.Value.run (F := Ideal) m' g')⟩

/-! The gradient of the output projection's input. -/

theorem defs_eq3 : Cert.Kernel3.defs (F := Bits) = Cert.Kernel3Ideal.defs (F := Bits) := by
  unfold Cert.Kernel3.defs Cert.Kernel3Ideal.defs Cert.Kernel3.defs₀ Cert.Kernel3Ideal.defs₀
  refine congrArg (Pipeline.defs (Cert.Kernel3.pcfgs (F := Bits))) (congrArg Defs.onTc (funext fun l => funext fun x => ?_))
  match l, x with
  | 0, (t, s) => rfl

theorem frame_p3 : Cert.quiescent_Kernel3 := fun m ρ _ => Att.same_run defs_eq3 rfl (Cert.Kernel3Ideal.Gen.frame (F := Bits) m ρ)

theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic3 : Cert.algebraic_Kernel3Ideal_Reference3Ideal := fun m g m' g' _ e =>
  ⟨fun c => Cert.Kernel3Ideal.Prod.prod (Cert.Kernel3Ideal.Prod.ct m c) (Cert.Kernel3Ideal.Prod.wts m c),
    (θ_run Cert.Kernel3Ideal.defs _ _).mono (fun _ h c => ⟨(h c).1.trans (Cert.Kernel3Ideal.Prod.arr m c), (h c).2⟩) (Cert.Kernel3Ideal.Value.run_blocks m g),
    (θ_run Cert.Reference3Ideal.defs _ _).mono (fun _ h c => ⟨(h c).1.trans ((Cert.Kernel3Ideal.Prod.ref _ _).trans (congrArg₂ Cert.Kernel3Ideal.Prod.prod (e c).2.2 (e c).2.1)), (h c).2⟩)
      (Cert.Reference3Ideal.Value.run (F := Ideal) m' g')⟩

/-! The gradient of the input projection's weights. -/

theorem defs_eq4 : Cert.Kernel4.defs (F := Bits) = Cert.Kernel4Ideal.defs (F := Bits) := by
  unfold Cert.Kernel4.defs Cert.Kernel4Ideal.defs Cert.Kernel4.defs₀ Cert.Kernel4Ideal.defs₀
  refine congrArg (Pipeline.defs (Cert.Kernel4.pcfgs (F := Bits))) (congrArg Defs.onTc (funext fun l => funext fun x => ?_))
  match l, x with
  | 0, (t, s) => rfl

theorem frame_p4 : Cert.quiescent_Kernel4 := fun m ρ _ => Att.same_run defs_eq4 rfl (Cert.Kernel4Ideal.Gen.frame (F := Bits) m ρ)

theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem algebraic4 : Cert.algebraic_Kernel4Ideal_Reference4Ideal := fun m g m' g' _ e =>
  ⟨fun c => Cert.Kernel4Ideal.Prod.prod (Cert.Kernel4Ideal.Prod.ct m c) (Cert.Kernel4Ideal.Prod.act m c),
    (θ_run Cert.Kernel4Ideal.defs _ _).mono (fun _ h c => ⟨(h c).1.trans (Cert.Kernel4Ideal.Prod.arr m c), (h c).2⟩) (Cert.Kernel4Ideal.Value.run_blocks m g),
    (θ_run Cert.Reference4Ideal.defs _ _).mono (fun _ h c => ⟨(h c).1.trans ((Cert.Kernel4Ideal.Prod.ref _ _).trans (congrArg₂ Cert.Kernel4Ideal.Prod.prod (e c).2.2 (e c).1)), (h c).2⟩)
      (Cert.Reference4Ideal.Value.run (F := Ideal) m' g')⟩

/-! The gradient of the input projection's input. -/

theorem defs_eq5 : Cert.Kernel5.defs (F := Bits) = Cert.Kernel5Ideal.defs (F := Bits) := by
  unfold Cert.Kernel5.defs Cert.Kernel5Ideal.defs Cert.Kernel5.defs₀ Cert.Kernel5Ideal.defs₀
  refine congrArg (Pipeline.defs (Cert.Kernel5.pcfgs (F := Bits))) (congrArg Defs.onTc (funext fun l => funext fun x => ?_))
  match l, x with
  | 0, (t, s) => rfl

theorem frame_p5 : Cert.quiescent_Kernel5 := fun m ρ _ => Att.same_run defs_eq5 rfl (Cert.Kernel5Ideal.Gen.frame (F := Bits) m ρ)

theorem frame_pi5 : Cert.quiescent_Kernel5Ideal := fun m ρ _ => Cert.Kernel5Ideal.Gen.frame m ρ

theorem frame_ri5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

theorem algebraic5 : Cert.algebraic_Kernel5Ideal_Reference5Ideal := fun m g m' g' _ e =>
  ⟨fun c => Cert.Kernel5Ideal.Prod.prod (Cert.Kernel5Ideal.Prod.ct m c) (Cert.Kernel5Ideal.Prod.wts m c),
    (θ_run Cert.Kernel5Ideal.defs _ _).mono (fun _ h c => ⟨(h c).1.trans (Cert.Kernel5Ideal.Prod.arr m c), (h c).2⟩) (Cert.Kernel5Ideal.Value.run_blocks m g),
    (θ_run Cert.Reference5Ideal.defs _ _).mono (fun _ h c => ⟨(h c).1.trans ((Cert.Kernel5Ideal.Prod.ref _ _).trans (congrArg₂ Cert.Kernel5Ideal.Prod.prod (e c).2.2 (e c).2.1)), (h c).2⟩)
      (Cert.Reference5Ideal.Value.run (F := Ideal) m' g')⟩

/-! The input projection. -/

theorem defs_eq6 : Cert.Kernel6.defs (F := Bits) = Cert.Kernel6Ideal.defs (F := Bits) := by
  unfold Cert.Kernel6.defs Cert.Kernel6Ideal.defs Cert.Kernel6.defs₀ Cert.Kernel6Ideal.defs₀
  refine congrArg (Pipeline.defs (Cert.Kernel6.pcfgs (F := Bits))) (congrArg Defs.onTc (funext fun l => funext fun x => ?_))
  match l, x with
  | 0, (t, s) => rfl

theorem frame_p6 : Cert.quiescent_Kernel6 := fun m ρ _ => Att.same_run defs_eq6 rfl (Cert.Kernel6Ideal.Gen.frame (F := Bits) m ρ)

theorem frame_pi6 : Cert.quiescent_Kernel6Ideal := fun m ρ _ => Cert.Kernel6Ideal.Gen.frame m ρ

theorem frame_ri6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

theorem algebraic6 : Cert.algebraic_Kernel6Ideal_Reference6Ideal := fun m g m' g' _ e =>
  ⟨fun c => Cert.Kernel6Ideal.Prod.prod (Cert.Kernel6Ideal.Prod.act m c) (Cert.Kernel6Ideal.Prod.wts m c),
    (θ_run Cert.Kernel6Ideal.defs _ _).mono (fun _ h c => ⟨(h c).1.trans (Cert.Kernel6Ideal.Prod.arr m c), (h c).2⟩) (Cert.Kernel6Ideal.Value.run_blocks m g),
    (θ_run Cert.Reference6Ideal.defs _ _).mono (fun _ h c => ⟨(h c).1.trans ((Cert.Reference6Ideal.Prod.ref _ _).trans (congrArg₂ Cert.Kernel6Ideal.Prod.prod (e c).1 (e c).2)), (h c).2⟩)
      (Cert.Reference6Ideal.Value.run (F := Ideal) m' g')⟩

/-! The output projection. -/

theorem defs_eq7 : Cert.Kernel7.defs (F := Bits) = Cert.Kernel7Ideal.defs (F := Bits) := by
  unfold Cert.Kernel7.defs Cert.Kernel7Ideal.defs Cert.Kernel7.defs₀ Cert.Kernel7Ideal.defs₀
  refine congrArg (Pipeline.defs (Cert.Kernel7.pcfgs (F := Bits))) (congrArg Defs.onTc (funext fun l => funext fun x => ?_))
  match l, x with
  | 0, (t, s) => rfl

theorem frame_p7 : Cert.quiescent_Kernel7 := fun m ρ _ => Att.same_run defs_eq7 rfl (Cert.Kernel7Ideal.Gen.frame (F := Bits) m ρ)

theorem frame_pi7 : Cert.quiescent_Kernel7Ideal := fun m ρ _ => Cert.Kernel7Ideal.Gen.frame m ρ

theorem frame_ri7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

theorem algebraic7 : Cert.algebraic_Kernel7Ideal_Reference7Ideal := fun m g m' g' _ e =>
  ⟨fun c => Cert.Kernel7Ideal.Prod.prod (Cert.Kernel7Ideal.Prod.res m c) (Cert.Kernel7Ideal.Prod.act m c) (Cert.Kernel7Ideal.Prod.wts m c),
    (θ_run Cert.Kernel7Ideal.defs _ _).mono (fun _ h c => ⟨(h c).1.trans (Cert.Kernel7Ideal.Prod.arr m c), (h c).2⟩) (Cert.Kernel7Ideal.Value.run_blocks m g),
    (θ_run Cert.Reference7Ideal.defs _ _).mono (fun _ h c => ⟨(h c).1.trans ((Cert.Kernel7Ideal.Prod.ref _ _ _).trans (congr (congrArg₂ Cert.Kernel7Ideal.Prod.prod (e c).1 (e c).2.1) (e c).2.2)), (h c).2⟩)
      (Cert.Reference7Ideal.Value.run (F := Ideal) m' g')⟩

end Cert.Proof.Products

end
-- ==== Proof.Step8.lean ====
/- The norm of each row with its gain: a block of 512 rows at each grid point. -/
module

public import proofs.«01_k».proof.Proof.Tiles
public import proofs.«01_k».proof.Proof.Gen.Kernel8Ideal.Value
public import proofs.«01_k».proof.Proof.Gen.Kernel8
public import proofs.«01_k».proof.Proof.Gen.Reference8Ideal.Run

@[expose] public section

set_option maxRecDepth 16384

noncomputable section

namespace Cert.Kernel8Ideal.Step

open Cert.Kernel8Ideal Cert.Kernel8Ideal.Gen Cert.Tiles
open Idealize.ShloMosaic Idealize.ShloMosaic.Pointwise Idealize.ShloMosaic.TcCoe

abbrev A := FVec Ideal S4096x2048 .f32
abbrev G := FVec Ideal S1x2048 .f32

variable (m : (ℓ : Loc nD τ sig) → Buf (Elt Ideal) ℓ) (c : Dev nD)

def act : A := m ((c.tc : Thread nD τ).loc main_arg0)
def gain : G := m ((c.tc : Thread nD τ).loc main_arg1)

/-- The factor that the norm puts on a row `r`. -/
def factor (r : Fin 2048 → EReal) : EReal :=
  Ideal.rsqrt (Ideal.div (∑ k, r k * r k) (Ideal.ofBits .f32 1157627904#32) + Ideal.ofBits .f32 897988541#32)

/-- Entry (x, d) of the rows of `a`, normed, with the gain `g`. -/
def norm (a : A) (g : G) (i : S4096x2048.Idx) : EReal := (a i : EReal) * factor (fun k => a (ix2 (i 0) k)) * (g (ix2 0 (i 1)) : EReal)

theorem idx : ∀ t : Fin cfg0.N, win0_0.index t = ![t.val, 0] ∧ win0_1.index t = ![0, 0] ∧ win0_2.index t = ![t.val, 0] :=
  (by decide +kernel : ∀ t : Fin grid0.N, _)

theorem out_at (a : FVec Ideal S512x2048 .f32) (g : G) (x : Fin 512) (d : Fin 2048) :
    ((out0_2 (F := Ideal) a g : FVec Ideal S512x2048 .bf16) (ix2 x d) : EReal) = a (ix2 x d) * factor (fun k => a (ix2 x k)) * g (ix2 0 d) := by
  unfold out0_2 r0_0
  rw [View.canon_unit_zero origin]
  pointwise [k0_pay1, r0_1]
  rfl

theorem lt (t : Fin cfg0.N) : t.val < 8 := N_0 ▸ t.isLt

theorem blk_a (t : Fin cfg0.N) (x : Fin 512) (k : Fin 2048) :
    (iblk m c 0 t : FVec Ideal S512x2048 .f32) (ix2 x k) = act m c (ix2 ⟨512 * t.val + x.val, by have := lt t; omega⟩ k) := by
  blk_simp [iblk]
  blk_ext [idx t]

theorem blk_g (t : Fin cfg0.N) (k : Fin 2048) : (iblk m c 1 t : G) (ix2 0 k) = gain m c (ix2 0 k) := by
  blk_simp [iblk]
  blk_ext [idx t]

/-- After the run the result array has the normed rows. -/
theorem arr : (dats m 0 c).arrAt 2 cfg0.N = norm (act m c) (gain m c) := by
  refine (dats m 0 c).arrAt_eq_of_covers 2 _ (by decide +kernel) fun t hf y => ?_
  blk_simp
  rw [after0_2]
  obtain ⟨x, d, rfl⟩ : ∃ (x : Fin 512) (d : Fin 2048), y = ix2 x d := row_col y
  refine (out_at _ _ x d).trans ?_
  simp only [blk_a, blk_g]
  refine Eq.trans (b := norm (act m c) (gain m c) (ix2 (⟨512 * t.val + x.val, by have := lt t; omega⟩ : Fin 4096) d)) rfl ?_
  blk_ext [idx t]

end Cert.Kernel8Ideal.Step

namespace Cert.Reference8Ideal.Step

open Cert.Reference8Ideal Cert.Reference8Ideal.Gen Cert.Tiles
open Idealize.ShloMosaic Idealize.ShloMosaic.Pointwise Idealize.ShloMosaic.TcCoe

/-- The reference's result, entry by entry. -/
theorem ref (x : FVec Ideal S4096x2048 .f32) (g : FVec Ideal S1x2048 .f32) :
    (truncf .bf16 (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 g)) bitsLt_bf16_f32 : FVec Ideal S4096x2048 .bf16)
      = Cert.Kernel8Ideal.Step.norm x g := by
  funext i
  obtain ⟨r, d, rfl⟩ : ∃ (r : Fin 4096) (d : Fin 2048), i = ix2 r d := row_col i
  pointwise []
  rfl

end Cert.Reference8Ideal.Step

end
-- ==== Proof.Step9.lean ====
/- The gates: a block of 512 rows at each grid point, written in two halves of the columns. -/
module

public import proofs.«01_k».proof.Proof.Tiles
public import proofs.«01_k».proof.Proof.Gen.Kernel9Ideal.Value
public import proofs.«01_k».proof.Proof.Gen.Kernel9
public import proofs.«01_k».proof.Proof.Gen.Reference9Ideal.Run

@[expose] public section

set_option maxRecDepth 16384

noncomputable section

namespace Cert.Kernel9Ideal.Step

open Cert.Kernel9Ideal Cert.Kernel9Ideal.Gen Cert.Tiles
open Idealize.ShloMosaic Idealize.ShloMosaic.Pointwise Idealize.ShloMosaic.TcCoe

abbrev A := FVec Ideal S4096x1024 .f32
abbrev P := FVec Ideal S4096x4096 .f32

variable (m : (ℓ : Loc nD τ sig) → Buf (Elt Ideal) ℓ) (c : Dev nD)

def outA : A := m ((c.tc : Thread nD τ).loc main_arg0)
def outB : A := m ((c.tc : Thread nD τ).loc main_arg1)
def proj : P := m ((c.tc : Thread nD τ).loc main_arg2)

/-- An entry times the silu of its gate. -/
def gated (a g : EReal) : EReal := a * (g * Ideal.logistic g)

/-- Two arrays of 1024 columns side by side, each entry gated: entry (x, d) by what `g` has at (x, d). -/
def pair {n : ℕ} (a b : FVec Ideal ⟨2, ![n, 1024]⟩ .f32) (g : Fin n → Fin 2048 → EReal) (i : (⟨2, ![n, 2048]⟩ : Shape).Idx) : EReal :=
  gated (if h : (i 1).val < 1024 then a (ix2 (i 0) ⟨(i 1).val, h⟩)
    else b (ix2 (i 0) ⟨(i 1).val - 1024, by have := ValueIdx.idx2_lt1 i; omega⟩)) (g (i 0) (i 1))

/-- The gates of row x in the input projection: columns 1024 to 3072. -/
def gates (p : P) (x : Fin 4096) (d : Fin 2048) : EReal := p (ix2 x ⟨1024 + d.val, by omega⟩)

theorem idx : ∀ t : Fin cfg0.N, win0_0.index t = ![t.val, 0] ∧ win0_1.index t = ![t.val, 0] ∧ win0_2.index t = ![t.val, 1]
    ∧ win0_3.index t = ![t.val, 2] ∧ win0_4.index t = ![t.val, 0] :=
  (by decide +kernel : ∀ t : Fin grid0.N, _)

theorem pay1_at (a g : FVec Ideal S512x1024 .f32) (x : Fin 512) (d : Fin 1024) :
    ((k0_pay1 (F := Ideal) g a : FVec Ideal S512x1024 .bf16) (ix2 x d) : EReal) = gated (a (ix2 x d)) (g (ix2 x d)) := by
  pointwise [k0_pay1]
  rfl

theorem pay2_at (a g : FVec Ideal S512x1024 .f32) (x : Fin 512) (d : Fin 1024) :
    ((k0_pay2 (F := Ideal) g a : FVec Ideal S512x1024 .bf16) (ix2 x d) : EReal) = gated (a (ix2 x d)) (g (ix2 x d)) := by
  pointwise [k0_pay2]
  rfl

/-- What one point leaves in its block, from the blocks it reads. -/
theorem out_eq (a b g h : FVec Ideal S512x1024 .f32) (w : Fin 512 → Fin 2048 → EReal)
    (hg : ∀ x (d : Fin 1024), g (ix2 x d) = w x ⟨d.val, by omega⟩) (hh : ∀ x (d : Fin 1024), h (ix2 x d) = w x ⟨1024 + d.val, by omega⟩)
    (y : S512x2048.Idx) : (out0_4 (F := Ideal) a b g h : FVec Ideal S512x2048 .bf16) y = pair a b w y := by
  unfold out0_4
  refine View.canon_apply_of_pieces (Val := Elt Ideal) (e := .bf16) (pair a b w) _ (fun p hp => ?_) y (cover0_4 _ _ y)
  rcases List.mem_cons.mp hp with rfl | hp
  · intro z
    obtain ⟨x, d, rfl⟩ : ∃ (x : Fin 512) (d : Fin 1024), z = ix2 x d := row_col z
    refine (pay2_at _ _ x d).trans ?_
    rw [View.ld_unit_zero (S := S512x1024) origin, View.ld_unit_zero (S := S512x1024) origin, hh]
    have e : r0_2.emb (ix2 x d) = ix2 x (⟨1024 + d.val, by omega⟩ : Fin 2048) := by
      funext a
      apply Fin.ext
      fin_cases a <;> simp [Rect.emb, Rect.unit, ix2]
    unfold pair
    rw [e]
    rw [dif_neg (by show ¬ (1024 + d.val < 1024); omega)]
    congr 3
    apply Fin.ext
    show d.val = 1024 + d.val - 1024
    omega
  · rcases List.mem_singleton.mp hp with rfl
    intro z
    obtain ⟨x, d, rfl⟩ : ∃ (x : Fin 512) (d : Fin 1024), z = ix2 x d := row_col z
    refine (pay1_at _ _ x d).trans ?_
    rw [View.ld_unit_zero (S := S512x1024) origin, View.ld_unit_zero (S := S512x1024) origin, hg]
    have e : r0_1.emb (ix2 x d) = ix2 x (⟨d.val, by omega⟩ : Fin 2048) := by
      funext a
      apply Fin.ext
      fin_cases a <;> simp [Rect.emb, Rect.unit, ix2]
    unfold pair
    rw [e]
    rw [dif_pos (by show d.val < 1024; omega)]
    rfl

theorem lt (t : Fin cfg0.N) : t.val < 8 := N_0 ▸ t.isLt

theorem blk_a (t : Fin cfg0.N) (x : Fin 512) (k : Fin 1024) :
    (iblk m c 0 t : FVec Ideal S512x1024 .f32) (ix2 x k) = outA m c (ix2 ⟨512 * t.val + x.val, by have := lt t; omega⟩ k) := by
  blk_simp [iblk]
  blk_ext [idx t]

theorem blk_b (t : Fin cfg0.N) (x : Fin 512) (k : Fin 1024) :
    (iblk m c 1 t : FVec Ideal S512x1024 .f32) (ix2 x k) = outB m c (ix2 ⟨512 * t.val + x.val, by have := lt t; omega⟩ k) := by
  blk_simp [iblk]
  blk_ext [idx t]

theorem blk_g (t : Fin cfg0.N) (x : Fin 512) (k : Fin 1024) :
    (iblk m c 2 t : FVec Ideal S512x1024 .f32) (ix2 x k) = gates (proj m c) ⟨512 * t.val + x.val, by have := lt t; omega⟩ ⟨k.val, by omega⟩ := by
  blk_simp [iblk]
  unfold gates
  blk_ext [idx t]

theorem blk_h (t : Fin cfg0.N) (x : Fin 512) (k : Fin 1024) :
    (iblk m c 3 t : FVec Ideal S512x1024 .f32) (ix2 x k) = gates (proj m c) ⟨512 * t.val + x.val, by have := lt t; omega⟩ ⟨1024 + k.val, by omega⟩ := by
  blk_simp [iblk]
  unfold gates
  blk_ext [idx t]

/-- After the run the result array has the gated entries. -/
theorem arr : (dats m 0 c).arrAt 4 cfg0.N = pair (outA m c) (outB m c) (gates (proj m c)) := by
  refine (dats m 0 c).arrAt_eq_of_covers 4 _ (by decide +kernel) fun t hf y => ?_
  blk_simp
  rw [after0_4]
  obtain ⟨x, d, rfl⟩ : ∃ (x : Fin 512) (d : Fin 2048), y = ix2 x d := row_col y
  refine (out_eq _ _ _ _ (fun z k => gates (proj m c) ⟨512 * t.val + z.val, by have := lt t; omega⟩ k) (blk_g m c t) (blk_h m c t) _).trans ?_
  refine Eq.trans (b := pair (outA m c) (outB m c) (gates (proj m c)) (ix2 (⟨512 * t.val + x.val, by have := lt t; omega⟩ : Fin 4096) d)) ?_ ?_
  · unfold pair
    simp only [ix2_0, ix2_1, blk_a, blk_b]
    rfl
  · blk_ext [idx t]

end Cert.Kernel9Ideal.Step

namespace Cert.Reference9Ideal.Step

open Cert.Reference9Ideal Cert.Reference9Ideal.Gen Cert.Tiles
open Idealize.ShloMosaic Idealize.ShloMosaic.Pointwise Idealize.ShloMosaic.TcCoe
open Cert.Kernel9Ideal.Step (pair gates gated)

/-- The reference's result, entry by entry. -/
theorem ref (a b : FVec Ideal S4096x1024 .f32) (p : FVec Ideal S4096x4096 .f32) :
    (truncf .bf16 (concatenate S4096x2048 1 [⟨S4096x1024, (mulf a (mulf (extractStridedSlice S4096x1024 ![0, 1024] p slices_S4096x4096_S4096x1024_0_1024) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 1024] p slices_S4096x4096_S4096x1024_0_1024)))))))⟩, ⟨S4096x1024, (mulf b (mulf (extractStridedSlice S4096x1024 ![0, 2048] p slices_S4096x4096_S4096x1024_0_2048) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 2048] p slices_S4096x4096_S4096x1024_0_2048)))))))⟩] concatenates_S4096x1024_S4096x1024_S4096x2048_d1) bitsLt_bf16_f32 : FVec Ideal S4096x2048 .bf16)
      = pair a b (gates p) := by
  funext i
  obtain ⟨r, d, rfl⟩ : ∃ (r : Fin 4096) (d : Fin 2048), i = ix2 r d := row_col i
  unfold pair gates gated
  by_cases h : d.val < 1024
  · pointwise [h]
    rfl
  · have e : (⟨1024 + d.val, by omega⟩ : Fin 4096) = ⟨2048 + (d.val - 1024), by omega⟩ := Fin.ext (by show 1024 + d.val = 2048 + (d.val - 1024); omega)
    pointwise [h]
    rw [e]
    rfl

end Cert.Reference9Ideal.Step

end
-- ==== Proof.Step10.lean ====
/- One step of AdamW, entry by entry: a block of 256 rows of one layer at each grid point. -/
module

public import proofs.«01_k».proof.Proof.Tiles
public import proofs.«01_k».proof.Proof.Gen.Kernel10Ideal.Value
public import proofs.«01_k».proof.Proof.Gen.Kernel10
public import proofs.«01_k».proof.Proof.Gen.Reference10Ideal.Run

@[expose] public section

set_option maxRecDepth 16384

noncomputable section

namespace Cert.Kernel10Ideal.Step

open Cert.Kernel10Ideal Cert.Kernel10Ideal.Gen Cert.Tiles
open Idealize.ShloMosaic Idealize.ShloMosaic.Pointwise Idealize.ShloMosaic.TcCoe

abbrev A := FVec Ideal S4x512x2048 .f32
abbrev T := FVec Ideal S1x256x2048 .f32

variable (m : (ℓ : Loc nD τ sig) → Buf (Elt Ideal) ℓ) (c : Dev nD)

def wts : A := m ((c.tc : Thread nD τ).loc main_arg0)
def grad : A := m ((c.tc : Thread nD τ).loc main_arg1)
def mom : A := m ((c.tc : Thread nD τ).loc main_arg2)
def sqs : A := m ((c.tc : Thread nD τ).loc main_arg3)

/-- The new first moment, from a gradient and the old one. -/
def newM (g u : EReal) : EReal := Ideal.ofBits .f32 0x3F666666#32 * u + Ideal.ofBits .f32 0x3DCCCCCD#32 * g

/-- The new second moment. -/
def newV (g v : EReal) : EReal := Ideal.ofBits .f32 0x3F7FBE77#32 * v + Ideal.ofBits .f32 0x3A83126F#32 * (g * g)

/-- The change of a weight. -/
def delta (w g u v : EReal) : EReal :=
  Ideal.ofBits .f32 0xBA83126F#32 * (Ideal.div (Ideal.div (newM g u) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

theorem origin3 : (![0, 0, 0] : Fin 3 → ℕ) = fun _ => 0 := by
  funext a
  fin_cases a <;> rfl

theorem entry {n k l : ℕ} (y : (⟨3, ![n, k, l]⟩ : Shape).Idx) : ∃ (a : Fin n) (b : Fin k) (d : Fin l), y = ix3 a b d :=
  ⟨y 0, y 1, y 2, (ix3_eta y).symm⟩

theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

theorem lt (t : Fin cfg0.N) : t.val < 8 := N_0 ▸ t.isLt

/-- Where entry (0, x, d) of the block of point `t` lies in the array. -/
def at_ (t : Fin cfg0.N) (x : Fin 256) (d : Fin 2048) : S4x512x2048.Idx :=
  ix3 (⟨t.val / 2, by have := lt t; omega⟩ : Fin 4) (⟨256 * (t.val % 2) + x.val, by omega⟩ : Fin 512) d

theorem out4_at (w g u v : T) (x : Fin 256) (d : Fin 2048) :
    (out0_4 (F := Ideal) w g u v : T) (ix3 0 x d) = delta (w (ix3 0 x d)) (g (ix3 0 x d)) (u (ix3 0 x d)) (v (ix3 0 x d)) := by
  unfold out0_4 r0_0
  rw [View.canon_unit_zero origin3]
  pointwise [k0_pay1, k0_pay7, k0_pay5, k0_pay6, k0_pay4]
  rfl

theorem out5_at (w g u v : T) (x : Fin 256) (d : Fin 2048) :
    (out0_5 (F := Ideal) w g u v : T) (ix3 0 x d) = newM (g (ix3 0 x d)) (u (ix3 0 x d)) := by
  unfold out0_5 r0_0
  rw [View.canon_unit_zero origin3]
  pointwise [k0_pay2, k0_pay5, k0_pay4]
  rfl

theorem out6_at (w g u v : T) (x : Fin 256) (d : Fin 2048) :
    (out0_6 (F := Ideal) w g u v : T) (ix3 0 x d) = newV (g (ix3 0 x d)) (v (ix3 0 x d)) := by
  unfold out0_6 r0_0
  rw [View.canon_unit_zero origin3]
  pointwise [k0_pay3, k0_pay6, k0_pay4]
  rfl

theorem blk_w (t : Fin cfg0.N) (x : Fin 256) (d : Fin 2048) : (iblk m c 0 t : T) (ix3 0 x d) = wts m c (at_ t x d) := by
  unfold at_
  blk_simp [iblk]
  blk_ext [idx t]

theorem blk_g (t : Fin cfg0.N) (x : Fin 256) (d : Fin 2048) : (iblk m c 1 t : T) (ix3 0 x d) = grad m c (at_ t x d) := by
  unfold at_
  blk_simp [iblk]
  blk_ext [idx t]

theorem blk_u (t : Fin cfg0.N) (x : Fin 256) (d : Fin 2048) : (iblk m c 2 t : T) (ix3 0 x d) = mom m c (at_ t x d) := by
  unfold at_
  blk_simp [iblk]
  blk_ext [idx t]

theorem blk_v (t : Fin cfg0.N) (x : Fin 256) (d : Fin 2048) : (iblk m c 3 t : T) (ix3 0 x d) = sqs m c (at_ t x d) := by
  unfold at_
  blk_simp [iblk]
  blk_ext [idx t]

def allD (w g u v : A) : A := fun i => delta (w i) (g i) (u i) (v i)
def allM (g u : A) : A := fun i => newM (g i) (u i)
def allV (g v : A) : A := fun i => newV (g i) (v i)

/-- After the run the three result arrays have the new values. -/
theorem arr4 : (dats m 0 c).arrAt 4 cfg0.N = allD (wts m c) (grad m c) (mom m c) (sqs m c) := by
  refine (dats m 0 c).arrAt_eq_of_covers 4 _ (by decide +kernel) fun t hf y => ?_
  blk_simp
  rw [after0_4]
  obtain ⟨a, x, d, rfl⟩ : ∃ (a : Fin 1) (x : Fin 256) (d : Fin 2048), y = ix3 a x d := entry y
  obtain rfl : a = 0 := Subsingleton.elim _ _
  refine (out4_at _ _ _ _ x d).trans ?_
  simp only [blk_w, blk_g, blk_u, blk_v]
  refine Eq.trans (b := allD (wts m c) (grad m c) (mom m c) (sqs m c) (at_ t x d)) rfl ?_
  unfold at_
  blk_ext [idx t]

theorem arr5 : (dats m 0 c).arrAt 5 cfg0.N = allM (grad m c) (mom m c) := by
  refine (dats m 0 c).arrAt_eq_of_covers 5 _ (by decide +kernel) fun t hf y => ?_
  blk_simp
  rw [after0_5]
  obtain ⟨a, x, d, rfl⟩ : ∃ (a : Fin 1) (x : Fin 256) (d : Fin 2048), y = ix3 a x d := entry y
  obtain rfl : a = 0 := Subsingleton.elim _ _
  refine (out5_at _ _ _ _ x d).trans ?_
  simp only [blk_g, blk_u]
  refine Eq.trans (b := allM (grad m c) (mom m c) (at_ t x d)) rfl ?_
  unfold at_
  blk_ext [idx t]

theorem arr6 : (dats m 0 c).arrAt 6 cfg0.N = allV (grad m c) (sqs m c) := by
  refine (dats m 0 c).arrAt_eq_of_covers 6 _ (by decide +kernel) fun t hf y => ?_
  blk_simp
  rw [after0_6]
  obtain ⟨a, x, d, rfl⟩ : ∃ (a : Fin 1) (x : Fin 256) (d : Fin 2048), y = ix3 a x d := entry y
  obtain rfl : a = 0 := Subsingleton.elim _ _
  refine (out6_at _ _ _ _ x d).trans ?_
  simp only [blk_g, blk_v]
  refine Eq.trans (b := allV (grad m c) (sqs m c) (at_ t x d)) rfl ?_
  unfold at_
  blk_ext [idx t]

end Cert.Kernel10Ideal.Step

namespace Cert.Reference10Ideal.Step

open Cert.Reference10Ideal Cert.Reference10Ideal.Gen Cert.Tiles
open Idealize.ShloMosaic Idealize.ShloMosaic.Pointwise Idealize.ShloMosaic.TcCoe
open Cert.Kernel10Ideal.Step (allD allM allV entry)

abbrev A := FVec Ideal S4x512x2048 .f32

/-- The reference's three results, entry by entry. -/
theorem refD (w g u v : A) :
    (mulf (broadcastInDim S4x512x2048 ![] bcast_S_S4x512x2048 (constant S_ .f32 0xBA83126F#32)) (addf (Host.divf (Host.divf (addf (mulf (broadcastInDim S4x512x2048 ![] bcast_S_S4x512x2048 (constant S_ .f32 0x3F666666#32)) u) (mulf (broadcastInDim S4x512x2048 ![] bcast_S_S4x512x2048 (constant S_ .f32 0x3DCCCCCD#32)) g)) (broadcastInDim S4x512x2048 ![] bcast_S_S4x512x2048 (constant S_ .f32 0x3F26BD02#32))) (addf (Host.sqrt (Host.divf (addf (mulf (broadcastInDim S4x512x2048 ![] bcast_S_S4x512x2048 (constant S_ .f32 0x3F7FBE77#32)) v) (mulf (broadcastInDim S4x512x2048 ![] bcast_S_S4x512x2048 (constant S_ .f32 0x3A83126F#32)) (mulf g g))) (broadcastInDim S4x512x2048 ![] bcast_S_S4x512x2048 (constant S_ .f32 0x3C231ACC#32)))) (broadcastInDim S4x512x2048 ![] bcast_S_S4x512x2048 (constant S_ .f32 0x322BCC77#32)))) (mulf (broadcastInDim S4x512x2048 ![] bcast_S_S4x512x2048 (constant S_ .f32 0x3C23D70A#32)) w)) : A)
      = allD w g u v := by
  funext i
  obtain ⟨a, x, d, rfl⟩ : ∃ (a : Fin 4) (x : Fin 512) (d : Fin 2048), i = ix3 a x d := entry i
  pointwise []
  rfl

theorem refM (g u : A) :
    (addf (mulf (broadcastInDim S4x512x2048 ![] bcast_S_S4x512x2048 (constant S_ .f32 0x3F666666#32)) u) (mulf (broadcastInDim S4x512x2048 ![] bcast_S_S4x512x2048 (constant S_ .f32 0x3DCCCCCD#32)) g) : A)
      = allM g u := by
  funext i
  obtain ⟨a, x, d, rfl⟩ : ∃ (a : Fin 4) (x : Fin 512) (d : Fin 2048), i = ix3 a x d := entry i
  pointwise []
  rfl

theorem refV (g v : A) :
    (addf (mulf (broadcastInDim S4x512x2048 ![] bcast_S_S4x512x2048 (constant S_ .f32 0x3F7FBE77#32)) v) (mulf (broadcastInDim S4x512x2048 ![] bcast_S_S4x512x2048 (constant S_ .f32 0x3A83126F#32)) (mulf g g)) : A)
      = allV g v := by
  funext i
  obtain ⟨a, x, d, rfl⟩ : ∃ (a : Fin 4) (x : Fin 512) (d : Fin 2048), i = ix3 a x d := entry i
  pointwise []
  rfl

end Cert.Reference10Ideal.Step

end
-- ==== Proof.Steps.lean ====
/- The norm, the gates and the optimiser's step: the frames of their programs, and the two runs of each ending with the same arrays. -/
module

public import proofs.«01_k».proof.Defs
public import proofs.«01_k».proof.Proof.Frames
public import proofs.«01_k».proof.Proof.Step8
public import proofs.«01_k».proof.Proof.Step9
public import proofs.«01_k».proof.Proof.Step10

@[expose] public section

set_option maxRecDepth 65536
set_option maxHeartbeats 4000000

noncomputable section

open Idealize.ShloMosaic Idealize.SL.Sem

namespace Cert.Proof.Steps

/-! The norm. -/

theorem defs_eq8 : Cert.Kernel8.defs (F := Bits) = Cert.Kernel8Ideal.defs (F := Bits) := by
  unfold Cert.Kernel8.defs Cert.Kernel8Ideal.defs Cert.Kernel8.defs₀ Cert.Kernel8Ideal.defs₀
  refine congrArg (Pipeline.defs (Cert.Kernel8.pcfgs (F := Bits))) (congrArg Defs.onTc (funext fun l => funext fun x => ?_))
  match l, x with
  | 0, (t, s) => rfl

theorem frame_p8 : Cert.quiescent_Kernel8 := fun m ρ _ => Att.same_run defs_eq8 rfl (Cert.Kernel8Ideal.Gen.frame (F := Bits) m ρ)

theorem frame_pi8 : Cert.quiescent_Kernel8Ideal := fun m ρ _ => Cert.Kernel8Ideal.Gen.frame m ρ

theorem frame_ri8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

theorem algebraic8 : Cert.algebraic_Kernel8Ideal_Reference8Ideal := fun m g m' g' _ e =>
  ⟨fun c => Cert.Kernel8Ideal.Step.norm (Cert.Kernel8Ideal.Step.act m c) (Cert.Kernel8Ideal.Step.gain m c),
    (θ_run Cert.Kernel8Ideal.defs _ _).mono (fun _ h c => ⟨(h c).1.trans (Cert.Kernel8Ideal.Step.arr m c), (h c).2⟩) (Cert.Kernel8Ideal.Value.run_blocks m g),
    (θ_run Cert.Reference8Ideal.defs _ _).mono (fun _ h c => ⟨(h c).1.trans ((Cert.Reference8Ideal.Step.ref _ _).trans (congrArg₂ Cert.Kernel8Ideal.Step.norm (e c).1 (e c).2)), (h c).2⟩)
      (Cert.Reference8Ideal.Value.run (F := Ideal) m' g')⟩

/-! The gates. -/

theorem defs_eq9 : Cert.Kernel9.defs (F := Bits) = Cert.Kernel9Ideal.defs (F := Bits) := by
  unfold Cert.Kernel9.defs Cert.Kernel9Ideal.defs Cert.Kernel9.defs₀ Cert.Kernel9Ideal.defs₀
  refine congrArg (Pipeline.defs (Cert.Kernel9.pcfgs (F := Bits))) (congrArg Defs.onTc (funext fun l => funext fun x => ?_))
  match l, x with
  | 0, (t, s) => rfl

theorem frame_p9 : Cert.quiescent_Kernel9 := fun m ρ _ => Att.same_run defs_eq9 rfl (Cert.Kernel9Ideal.Gen.frame (F := Bits) m ρ)

theorem frame_pi9 : Cert.quiescent_Kernel9Ideal := fun m ρ _ => Cert.Kernel9Ideal.Gen.frame m ρ

theorem frame_ri9 : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

theorem algebraic9 : Cert.algebraic_Kernel9Ideal_Reference9Ideal := fun m g m' g' _ e =>
  ⟨fun c => Cert.Kernel9Ideal.Step.pair (Cert.Kernel9Ideal.Step.outA m c) (Cert.Kernel9Ideal.Step.outB m c) (Cert.Kernel9Ideal.Step.gates (Cert.Kernel9Ideal.Step.proj m c)),
    (θ_run Cert.Kernel9Ideal.defs _ _).mono (fun _ h c => ⟨(h c).1.trans (Cert.Kernel9Ideal.Step.arr m c), (h c).2⟩) (Cert.Kernel9Ideal.Value.run_blocks m g),
    (θ_run Cert.Reference9Ideal.defs _ _).mono (fun _ h c => ⟨(h c).1.trans ((Cert.Reference9Ideal.Step.ref _ _ _).trans (congr (congrArg₂ Cert.Kernel9Ideal.Step.pair (e c).1 (e c).2.1) (congrArg Cert.Kernel9Ideal.Step.gates (e c).2.2))), (h c).2⟩)
      (Cert.Reference9Ideal.Value.run (F := Ideal) m' g')⟩

/-! The optimiser's step. -/

theorem defs_eq10 : Cert.Kernel10.defs (F := Bits) = Cert.Kernel10Ideal.defs (F := Bits) := by
  unfold Cert.Kernel10.defs Cert.Kernel10Ideal.defs Cert.Kernel10.defs₀ Cert.Kernel10Ideal.defs₀
  refine congrArg (Pipeline.defs (Cert.Kernel10.pcfgs (F := Bits))) (congrArg Defs.onTc (funext fun l => funext fun x => ?_))
  match l, x with
  | 0, (t, s) => rfl

theorem frame_p10 : Cert.quiescent_Kernel10 := fun m ρ _ => Att.same_run defs_eq10 rfl (Cert.Kernel10Ideal.Gen.frame (F := Bits) m ρ)

theorem frame_pi10 : Cert.quiescent_Kernel10Ideal := fun m ρ _ => Cert.Kernel10Ideal.Gen.frame m ρ

theorem frame_ri10 : Cert.quiescent_Reference10Ideal := fun m ρ _ =>
  (θ_run Cert.Reference10Ideal.defs _ _).mono (fun r h => ⟨fun c => (h c).2.2.2, sem_eq_zero_of_no_sems (by decide) r.2⟩) (Cert.Reference10Ideal.Value.run (F := Ideal) m ρ)

theorem algebraic10 : Cert.algebraic_Kernel10Ideal_Reference10Ideal := fun m g m' g' _ e =>
  ⟨fun c => Cert.Kernel10Ideal.Step.allD (Cert.Kernel10Ideal.Step.wts m c) (Cert.Kernel10Ideal.Step.grad m c) (Cert.Kernel10Ideal.Step.mom m c) (Cert.Kernel10Ideal.Step.sqs m c), fun c => Cert.Kernel10Ideal.Step.allM (Cert.Kernel10Ideal.Step.grad m c) (Cert.Kernel10Ideal.Step.mom m c), fun c => Cert.Kernel10Ideal.Step.allV (Cert.Kernel10Ideal.Step.grad m c) (Cert.Kernel10Ideal.Step.sqs m c),
    (θ_run Cert.Kernel10Ideal.defs _ _).mono (fun _ h c => ⟨(h c).1.trans (Cert.Kernel10Ideal.Step.arr4 m c), (h c).2.1.trans (Cert.Kernel10Ideal.Step.arr5 m c), (h c).2.2.1.trans (Cert.Kernel10Ideal.Step.arr6 m c), (h c).2.2.2⟩) (Cert.Kernel10Ideal.Value.run_blocks m g),
    (θ_run Cert.Reference10Ideal.defs _ _).mono (fun _ h c => ⟨(h c).1.trans ((Cert.Reference10Ideal.Step.refD _ _ _ _).trans (congr (congr (congrArg₂ Cert.Kernel10Ideal.Step.allD (e c).1 (e c).2.1) (e c).2.2.1) (e c).2.2.2)),
      (h c).2.1.trans ((Cert.Reference10Ideal.Step.refM _ _).trans (congrArg₂ Cert.Kernel10Ideal.Step.allM (e c).2.1 (e c).2.2.1)),
      (h c).2.2.1.trans ((Cert.Reference10Ideal.Step.refV _ _).trans (congrArg₂ Cert.Kernel10Ideal.Step.allV (e c).2.1 (e c).2.2.2)), (h c).2.2.2⟩)
      (Cert.Reference10Ideal.Value.run (F := Ideal) m' g')⟩

end Cert.Proof.Steps

end
-- ==== Proof.Qkv.lean ====
/- The latent attention's q, k and v from the input projection: a block of 512 rows at each grid point, eight heads of 256
   columns side by side in each of the three wide results. -/
module

public import proofs.«01_k».proof.Proof.Tiles
public import Idealize.ShloMosaic.Lib.StableHlo.ReadAt
public import proofs.«01_k».proof.Proof.Gen.Kernel11Ideal.Value
public import proofs.«01_k».proof.Proof.Gen.Kernel11
public import proofs.«01_k».proof.Proof.Gen.Reference11Ideal.Run

@[expose] public section

set_option maxRecDepth 16384

noncomputable section

namespace Cert.Kernel11Ideal.Qkv

open Cert.Kernel11Ideal Cert.Kernel11Ideal.Gen Cert.Tiles
open Idealize.ShloMosaic Idealize.ShloMosaic.Pointwise Idealize.ShloMosaic.TcCoe

/-- Eight heads side by side: the first 128 columns of head `h` are `f h`, the other 128 are `g h`. -/
def wide (f g : Fin 8 → Fin 128 → EReal) (j : Fin 2048) : EReal :=
  if h : j.val % 256 < 128 then f ⟨j.val / 256, by omega⟩ ⟨j.val % 256, h⟩ else g ⟨j.val / 256, by omega⟩ ⟨j.val % 256 - 128, by omega⟩

theorem wide_lo (f g : Fin 8 → Fin 128 → EReal) (h : Fin 8) (d : Fin 128) (j : Fin 2048) (e : j.val = 256 * h.val + d.val) : wide f g j = f h d := by
  unfold wide
  rw [dif_pos (by omega)]
  congr 1 <;> (try congr 1) <;> (try apply Fin.ext) <;> (first | omega | (dsimp only; omega))

theorem wide_hi (f g : Fin 8 → Fin 128 → EReal) (h : Fin 8) (d : Fin 128) (j : Fin 2048) (e : j.val = 256 * h.val + 128 + d.val) : wide f g j = g h d := by
  unfold wide
  rw [dif_neg (by omega)]
  congr 1 <;> (try congr 1) <;> (try apply Fin.ext) <;> (first | omega | (dsimp only; omega))

/-- Where a piece of 128 columns from column `o` on lies in the block. -/
theorem emb {o : ℕ} (inb) (x : Fin 512) (d : Fin 128) (h : o + d.val < 2048) :
    (Rect.unit (s := S512x2048) ![0, o] ![512, 128] inb).emb (ix2 x d) = ix2 x (⟨o + d.val, h⟩ : Fin 2048) := by
  funext a
  apply Fin.ext
  fin_cases a <;> simp [Rect.emb, Rect.unit, ix2]

theorem lo {o : ℕ} (inb) (f g : Fin 512 → Fin 8 → Fin 128 → EReal) (h : Fin 8) (e : o = 256 * h.val) (v : FVec Ideal S512x128 .bf16)
    (hv : ∀ x d, (v (ix2 x d) : EReal) = f x h d) (z : S512x128.Idx) :
    (v z : EReal) = (fun i : S512x2048.Idx => wide (f (i 0)) (g (i 0)) (i 1)) ((Rect.unit (s := S512x2048) ![0, o] ![512, 128] inb).emb z) := by
  obtain ⟨x, d, rfl⟩ : ∃ (x : Fin 512) (d : Fin 128), z = ix2 x d := row_col z
  rw [emb inb x d (by omega), hv]
  exact (wide_lo _ _ h d _ (by show o + d.val = _; omega)).symm

theorem hi {o : ℕ} (inb) (f g : Fin 512 → Fin 8 → Fin 128 → EReal) (h : Fin 8) (e : o = 256 * h.val + 128) (v : FVec Ideal S512x128 .bf16)
    (hv : ∀ x d, (v (ix2 x d) : EReal) = g x h d) (z : S512x128.Idx) :
    (v z : EReal) = (fun i : S512x2048.Idx => wide (f (i 0)) (g (i 0)) (i 1)) ((Rect.unit (s := S512x2048) ![0, o] ![512, 128] inb).emb z) := by
  obtain ⟨x, d, rfl⟩ : ∃ (x : Fin 512) (d : Fin 128), z = ix2 x d := row_col z
  rw [emb inb x d (by omega), hv]
  exact (wide_hi _ _ h d _ (by show o + d.val = _; omega)).symm

/-- A head's columns, cut from the product. -/
theorem cut_at {o : ℕ} (hs) (hb) (v : FVec Ideal S512x2048 .f32) (x : Fin 512) (d : Fin 128) (h : o + d.val < 2048) :
    (truncf .bf16 (extractStridedSlice S512x128 ![0, o] v hs) hb (ix2 x d) : EReal) = v (ix2 x ⟨o + d.val, h⟩) := by
  pointwise []

/-- The rotary embedding as the call computes it, on 128 lanes. -/
def turn (b kc ks : FVec Ideal S512x128 .f32) : FVec Ideal S512x128 .bf16 :=
  k0_pay44 kc ks b

/-- The rotary embedding of one row of 128 lanes. -/
def lanes (b kc ks : Fin 128 → EReal) (d : Fin 128) : EReal :=
  b d * kc d + (if h : d.val < 32 then b ⟨d.val + 32, by omega⟩ else if h : d.val < 64 then b ⟨d.val - 32, by omega⟩ else 0) * ks d

theorem low : ∀ d : Fin 128, IntOp.andi (IntOp.cmpi .sge (BitVec.ofNat 32 d.val) 0#32) (IntOp.cmpi .slt (BitVec.ofNat 32 d.val) 32#32)
    = if d.val < 32 then 1#1 else 0#1 := by decide +kernel

theorem high : ∀ d : Fin 128, IntOp.andi (IntOp.cmpi .sge (BitVec.ofNat 32 d.val) 32#32) (IntOp.cmpi .slt (BitVec.ofNat 32 d.val) 64#32)
    = if 32 ≤ d.val ∧ d.val < 64 then 1#1 else 0#1 := by decide +kernel

theorem turn_at (b kc ks : FVec Ideal S512x128 .f32) (x : Fin 512) (d : Fin 128) :
    (turn b (k0_pay9 kc) (k0_pay10 ks) (ix2 x d) : EReal) = lanes (fun e => b (ix2 x e)) (fun e => kc (ix2 x e)) (fun e => ks (ix2 x e)) d := by
  unfold turn lanes
  pointwise [k0_pay44, k0_pay9, k0_pay10]
  rw [low, high]
  congr 2
  by_cases p : d.val < 32
  · rw [if_pos p, dif_pos p]
    refine Eq.trans (b := b (ix2 x ⟨(d.val + 128 - 96) % 128, by omega⟩)) (by simp [Scalar.select]) ?_
    congr 2
    apply Fin.ext
    dsimp only
    omega
  · rw [if_neg p, dif_neg p]
    by_cases q : d.val < 64
    · rw [if_pos ⟨by omega, q⟩, dif_pos q]
      refine Eq.trans (b := b (ix2 x ⟨(d.val + 128 - 32) % 128, by omega⟩)) (by simp [Scalar.select]) ?_
      congr 2
      apply Fin.ext
      dsimp only
      omega
    · rw [if_neg (by omega), dif_neg q]
      simp [Scalar.select]

theorem cut_turn {o : ℕ} (hs) (v : FVec Ideal S512x2048 .f32) (kc ks : FVec Ideal S512x128 .f32) (x : Fin 512) (d : Fin 128) (ho : o + 128 ≤ 2048) :
    (turn (extractStridedSlice S512x128 ![0, o] v hs) (k0_pay9 kc) (k0_pay10 ks) (ix2 x d) : EReal)
      = lanes (fun e => v (ix2 x ⟨o + e.val, by omega⟩)) (fun e => kc (ix2 x e)) (fun e => ks (ix2 x e)) d := by
  rw [turn_at]
  congr 1
  funext e
  pointwise []

variable (m : (ℓ : Loc nD τ sig) → Buf (Elt Ideal) ℓ) (c : Dev nD)

section
variable (i : grid0.Coords) (a1 : Memref sig .tc .vmem S512x384 .f32) (h1 : a1.IsWhole) (a2 : Memref sig .tc .vmem S512x256 .f32) (h2 : a2.IsWhole)
  (a3 : Memref sig .tc .vmem S512x128 .f32) (h3 : a3.IsWhole) (a4 : Memref sig .tc .vmem S1x384 .f32) (h4 : a4.IsWhole)
  (a5 : Memref sig .tc .vmem S1x256 .f32) (h5 : a5.IsWhole) (a6 : Memref sig .tc .vmem S2048x384 .bf16) (h6 : a6.IsWhole)
  (a7 : Memref sig .tc .vmem S2048x256 .bf16) (h7 : a7.IsWhole) (a8 : Memref sig .tc .vmem S512x128 .f32) (h8 : a8.IsWhole)
  (a9 : Memref sig .tc .vmem S512x128 .f32) (h9 : a9.IsWhole) (a10 : Memref sig .tc .vmem S512x2048 .bf16) (h10 : a10.IsWhole)
  (a11 : Memref sig .tc .vmem S512x2048 .bf16) (h11 : a11.IsWhole) (a12 : Memref sig .tc .vmem S512x2048 .bf16) (h12 : a12.IsWhole)
  (a13 : Memref sig .tc .vmem S512x384 .bf16) (h13 : a13.IsWhole) (a14 : Memref sig .tc .vmem S512x256 .bf16) (h14 : a14.IsWhole)
  (x0 : FVec Ideal S512x384 .f32) (x1 : FVec Ideal S512x256 .f32) (x2 : FVec Ideal S512x128 .f32) (x3 : FVec Ideal S1x384 .f32) (x4 : FVec Ideal S1x256 .f32)
  (x5 : FVec Ideal S2048x384 .bf16) (x6 : FVec Ideal S2048x256 .bf16) (x7 x8 : FVec Ideal S512x128 .f32)

/-- The two products of a block with its weights. -/
abbrev pq : FVec Ideal S512x2048 .f32 := k0_pay8 (F := Ideal) x0 x3 x5
abbrev pkv : FVec Ideal S512x2048 .f32 := k0_pay43 (F := Ideal) x1 (k0_pay41 x1) x4 x6

def qlo (x : Fin 512) (h : Fin 8) (d : Fin 128) : EReal := pq x0 x3 x5 (ix2 x ⟨256 * h.val + d.val, by omega⟩)
def qhi (x : Fin 512) (h : Fin 8) (d : Fin 128) : EReal :=
  lanes (fun e => pq x0 x3 x5 (ix2 x ⟨256 * h.val + 128 + e.val, by omega⟩)) (fun e => x7 (ix2 x e)) (fun e => x8 (ix2 x e)) d
def klo (x : Fin 512) (h : Fin 8) (d : Fin 128) : EReal := pkv x1 x4 x6 (ix2 x ⟨128 * h.val + d.val, by omega⟩)
def khi (x : Fin 512) (h : Fin 8) (d : Fin 128) : EReal := lanes (fun e => x2 (ix2 x e)) (fun e => x7 (ix2 x e)) (fun e => x8 (ix2 x e)) d
def vlo (x : Fin 512) (h : Fin 8) (d : Fin 128) : EReal := pkv x1 x4 x6 (ix2 x ⟨1024 + 128 * h.val + d.val, by omega⟩)

/-- The q heads of a block. -/
theorem q_at (x : Fin 512) (j : Fin 2048) :
    ((out0_A_9 (F := Ideal) c i a1 h1 a2 h2 a3 h3 a4 h4 a5 h5 a6 h6 a7 h7 a8 h8 a9 h9 a10 h10 a11 h11 a12 h12 a13 h13 a14 h14 x0 x1 x2 x3 x4 x5 x6 x7 x8 : FVec Ideal S512x2048 .bf16) (ix2 x j) : EReal)
      = wide (qlo x0 x3 x5 x) (qhi x0 x3 x5 x7 x8 x) j := by
  have cov := cover0_A_9 (F := Ideal) c i a1 h1 a2 h2 a3 h3 a4 h4 a5 h5 a6 h6 a7 h7 a8 h8 a9 h9 a10 h10 a11 h11 a12 h12 a13 h13 a14 h14 x0 x1 x2 x3 x4 x5 x6 x7 x8
  unfold out0_A_9
  rw [View.read_writes_eq_canon _ _ _ cov]
  replace cov := cov (ix2 x j)
  revert cov
  unfold kernelRun0_A
  dsimp only
  sl_unfold_words
  simp only [View.readAt_eq_ld, h1.read_unread, h4.read_unread, h6.read_unread, h8.read_unread, h9.read_unread,
    View.ld_unit_zero (S := S512x128) origin, View.ld_unit_zero (S := S512x384) origin,
    View.ld_unit_zero (S := S1x384) origin, View.ld_unit_zero (S := S2048x384) origin]
  intro cov
  refine View.canon_apply_of_pieces (Val := Elt Ideal) (e := .bf16) (fun i : S512x2048.Idx => wide (qlo x0 x3 x5 (i 0)) (qhi x0 x3 x5 x7 x8 (i 0)) (i 1)) _ (fun p hp => ?_) _ cov
  simp only [List.mem_cons, List.not_mem_nil, or_false] at hp
  rcases hp with rfl | rfl | rfl | rfl | rfl | rfl | rfl | rfl | rfl | rfl | rfl | rfl | rfl | rfl | rfl | rfl
  · exact hi inb_S512x2048_S512x128_0_1920 _ _ 7 rfl _ fun x d => cut_turn slices_S512x2048_o0_1920_S512x128 (pq x0 x3 x5) x7 x8 x d (by omega)
  · exact lo inb_S512x2048_S512x128_0_1792 _ _ 7 rfl _ fun x d => cut_at slices_S512x2048_o0_1792_S512x128 _ (pq x0 x3 x5) x d _
  · exact hi inb_S512x2048_S512x128_0_1664 _ _ 6 rfl _ fun x d => cut_turn slices_S512x2048_o0_1664_S512x128 (pq x0 x3 x5) x7 x8 x d (by omega)
  · exact lo inb_S512x2048_S512x128_0_1536 _ _ 6 rfl _ fun x d => cut_at slices_S512x2048_o0_1536_S512x128 _ (pq x0 x3 x5) x d _
  · exact hi inb_S512x2048_S512x128_0_1408 _ _ 5 rfl _ fun x d => cut_turn slices_S512x2048_o0_1408_S512x128 (pq x0 x3 x5) x7 x8 x d (by omega)
  · exact lo inb_S512x2048_S512x128_0_1280 _ _ 5 rfl _ fun x d => cut_at slices_S512x2048_o0_1280_S512x128 _ (pq x0 x3 x5) x d _
  · exact hi inb_S512x2048_S512x128_0_1152 _ _ 4 rfl _ fun x d => cut_turn slices_S512x2048_o0_1152_S512x128 (pq x0 x3 x5) x7 x8 x d (by omega)
  · exact lo inb_S512x2048_S512x128_0_1024 _ _ 4 rfl _ fun x d => cut_at slices_S512x2048_o0_1024_S512x128 _ (pq x0 x3 x5) x d _
  · exact hi inb_S512x2048_S512x128_0_896 _ _ 3 rfl _ fun x d => cut_turn slices_S512x2048_o0_896_S512x128 (pq x0 x3 x5) x7 x8 x d (by omega)
  · exact lo inb_S512x2048_S512x128_0_768 _ _ 3 rfl _ fun x d => cut_at slices_S512x2048_o0_768_S512x128 _ (pq x0 x3 x5) x d _
  · exact hi inb_S512x2048_S512x128_0_640 _ _ 2 rfl _ fun x d => cut_turn slices_S512x2048_o0_640_S512x128 (pq x0 x3 x5) x7 x8 x d (by omega)
  · exact lo inb_S512x2048_S512x128_0_512 _ _ 2 rfl _ fun x d => cut_at slices_S512x2048_o0_512_S512x128 _ (pq x0 x3 x5) x d _
  · exact hi inb_S512x2048_S512x128_0_384 _ _ 1 rfl _ fun x d => cut_turn slices_S512x2048_o0_384_S512x128 (pq x0 x3 x5) x7 x8 x d (by omega)
  · exact lo inb_S512x2048_S512x128_0_256 _ _ 1 rfl _ fun x d => cut_at slices_S512x2048_o0_256_S512x128 _ (pq x0 x3 x5) x d _
  · exact hi inb_S512x2048_S512x128_0_128 _ _ 0 rfl _ fun x d => cut_turn slices_S512x2048_o0_128_S512x128 (pq x0 x3 x5) x7 x8 x d (by omega)
  · exact lo inb_S512x2048_S512x128_0_0 _ _ 0 rfl _ fun x d => cut_at slices_S512x2048_o0_0_S512x128 _ (pq x0 x3 x5) x d _
/-- The k heads of a block. -/
theorem k_at (x : Fin 512) (j : Fin 2048) :
    ((out0_A_10 (F := Ideal) c i a1 h1 a2 h2 a3 h3 a4 h4 a5 h5 a6 h6 a7 h7 a8 h8 a9 h9 a10 h10 a11 h11 a12 h12 a13 h13 a14 h14 x0 x1 x2 x3 x4 x5 x6 x7 x8 : FVec Ideal S512x2048 .bf16) (ix2 x j) : EReal)
      = wide (klo x1 x4 x6 x) (khi x2 x7 x8 x) j := by
  have cov := cover0_A_10 (F := Ideal) c i a1 h1 a2 h2 a3 h3 a4 h4 a5 h5 a6 h6 a7 h7 a8 h8 a9 h9 a10 h10 a11 h11 a12 h12 a13 h13 a14 h14 x0 x1 x2 x3 x4 x5 x6 x7 x8
  unfold out0_A_10
  rw [View.read_writes_eq_canon _ _ _ cov]
  replace cov := cov (ix2 x j)
  revert cov
  unfold kernelRun0_A
  dsimp only
  sl_unfold_words
  simp only [View.readAt_eq_ld, h2.read_unread, h3.read_unread, h5.read_unread, h7.read_unread, h8.read_unread, h9.read_unread,
    View.ld_unit_zero (S := S512x128) origin, View.ld_unit_zero (S := S512x256) origin,
    View.ld_unit_zero (S := S1x256) origin, View.ld_unit_zero (S := S2048x256) origin]
  intro cov
  refine View.canon_apply_of_pieces (Val := Elt Ideal) (e := .bf16) (fun i : S512x2048.Idx => wide (klo x1 x4 x6 (i 0)) (khi x2 x7 x8 (i 0)) (i 1)) _ (fun p hp => ?_) _ cov
  simp only [List.mem_cons, List.not_mem_nil, or_false] at hp
  rcases hp with rfl | rfl | rfl | rfl | rfl | rfl | rfl | rfl | rfl | rfl | rfl | rfl | rfl | rfl | rfl | rfl
  · exact hi inb_S512x2048_S512x128_0_1920 _ _ 7 rfl _ fun x d => turn_at x2 x7 x8 x d
  · exact lo inb_S512x2048_S512x128_0_1792 _ _ 7 rfl _ fun x d => cut_at slices_S512x2048_o0_896_S512x128 _ (pkv x1 x4 x6) x d _
  · exact hi inb_S512x2048_S512x128_0_1664 _ _ 6 rfl _ fun x d => turn_at x2 x7 x8 x d
  · exact lo inb_S512x2048_S512x128_0_1536 _ _ 6 rfl _ fun x d => cut_at slices_S512x2048_o0_768_S512x128 _ (pkv x1 x4 x6) x d _
  · exact hi inb_S512x2048_S512x128_0_1408 _ _ 5 rfl _ fun x d => turn_at x2 x7 x8 x d
  · exact lo inb_S512x2048_S512x128_0_1280 _ _ 5 rfl _ fun x d => cut_at slices_S512x2048_o0_640_S512x128 _ (pkv x1 x4 x6) x d _
  · exact hi inb_S512x2048_S512x128_0_1152 _ _ 4 rfl _ fun x d => turn_at x2 x7 x8 x d
  · exact lo inb_S512x2048_S512x128_0_1024 _ _ 4 rfl _ fun x d => cut_at slices_S512x2048_o0_512_S512x128 _ (pkv x1 x4 x6) x d _
  · exact hi inb_S512x2048_S512x128_0_896 _ _ 3 rfl _ fun x d => turn_at x2 x7 x8 x d
  · exact lo inb_S512x2048_S512x128_0_768 _ _ 3 rfl _ fun x d => cut_at slices_S512x2048_o0_384_S512x128 _ (pkv x1 x4 x6) x d _
  · exact hi inb_S512x2048_S512x128_0_640 _ _ 2 rfl _ fun x d => turn_at x2 x7 x8 x d
  · exact lo inb_S512x2048_S512x128_0_512 _ _ 2 rfl _ fun x d => cut_at slices_S512x2048_o0_256_S512x128 _ (pkv x1 x4 x6) x d _
  · exact hi inb_S512x2048_S512x128_0_384 _ _ 1 rfl _ fun x d => turn_at x2 x7 x8 x d
  · exact lo inb_S512x2048_S512x128_0_256 _ _ 1 rfl _ fun x d => cut_at slices_S512x2048_o0_128_S512x128 _ (pkv x1 x4 x6) x d _
  · exact hi inb_S512x2048_S512x128_0_128 _ _ 0 rfl _ fun x d => turn_at x2 x7 x8 x d
  · exact lo inb_S512x2048_S512x128_0_0 _ _ 0 rfl _ fun x d => cut_at slices_S512x2048_o0_0_S512x128 _ (pkv x1 x4 x6) x d _

theorem one : (Scalar.ofBits (F := Ideal) .bf16 0x3F80#16 : EReal) = 1 := by
  pointwise []

/-- The v heads of a block. -/
theorem v_at (x : Fin 512) (j : Fin 2048) :
    ((out0_A_11 (F := Ideal) c i a1 h1 a2 h2 a3 h3 a4 h4 a5 h5 a6 h6 a7 h7 a8 h8 a9 h9 a10 h10 a11 h11 a12 h12 a13 h13 a14 h14 x0 x1 x2 x3 x4 x5 x6 x7 x8 : FVec Ideal S512x2048 .bf16) (ix2 x j) : EReal)
      = wide (vlo x1 x4 x6 x) (fun _ _ => 1) j := by
  have cov := cover0_A_11 (F := Ideal) c i a1 h1 a2 h2 a3 h3 a4 h4 a5 h5 a6 h6 a7 h7 a8 h8 a9 h9 a10 h10 a11 h11 a12 h12 a13 h13 a14 h14 x0 x1 x2 x3 x4 x5 x6 x7 x8
  unfold out0_A_11
  rw [View.read_writes_eq_canon _ _ _ cov]
  replace cov := cov (ix2 x j)
  revert cov
  unfold kernelRun0_A
  dsimp only
  sl_unfold_words
  simp only [View.readAt_eq_ld, h2.read_unread, h3.read_unread, h5.read_unread, h7.read_unread, h8.read_unread, h9.read_unread,
    View.ld_unit_zero (S := S512x128) origin, View.ld_unit_zero (S := S512x256) origin,
    View.ld_unit_zero (S := S1x256) origin, View.ld_unit_zero (S := S2048x256) origin]
  intro cov
  refine View.canon_apply_of_pieces (Val := Elt Ideal) (e := .bf16) (fun i : S512x2048.Idx => wide (vlo x1 x4 x6 (i 0)) (fun _ _ => 1) (i 1)) _ (fun p hp => ?_) _ cov
  simp only [List.mem_cons, List.not_mem_nil, or_false] at hp
  rcases hp with rfl | rfl | rfl | rfl | rfl | rfl | rfl | rfl | rfl | rfl | rfl | rfl | rfl | rfl | rfl | rfl
  · exact hi inb_S512x2048_S512x128_0_1920 (vlo x1 x4 x6) (fun _ _ _ => 1) 7 rfl _ fun x d => one
  · exact lo inb_S512x2048_S512x128_0_1792 _ (fun _ _ _ => 1) 7 rfl _ fun x d => cut_at slices_S512x2048_o0_1920_S512x128 _ (pkv x1 x4 x6) x d _
  · exact hi inb_S512x2048_S512x128_0_1664 (vlo x1 x4 x6) (fun _ _ _ => 1) 6 rfl _ fun x d => one
  · exact lo inb_S512x2048_S512x128_0_1536 _ (fun _ _ _ => 1) 6 rfl _ fun x d => cut_at slices_S512x2048_o0_1792_S512x128 _ (pkv x1 x4 x6) x d _
  · exact hi inb_S512x2048_S512x128_0_1408 (vlo x1 x4 x6) (fun _ _ _ => 1) 5 rfl _ fun x d => one
  · exact lo inb_S512x2048_S512x128_0_1280 _ (fun _ _ _ => 1) 5 rfl _ fun x d => cut_at slices_S512x2048_o0_1664_S512x128 _ (pkv x1 x4 x6) x d _
  · exact hi inb_S512x2048_S512x128_0_1152 (vlo x1 x4 x6) (fun _ _ _ => 1) 4 rfl _ fun x d => one
  · exact lo inb_S512x2048_S512x128_0_1024 _ (fun _ _ _ => 1) 4 rfl _ fun x d => cut_at slices_S512x2048_o0_1536_S512x128 _ (pkv x1 x4 x6) x d _
  · exact hi inb_S512x2048_S512x128_0_896 (vlo x1 x4 x6) (fun _ _ _ => 1) 3 rfl _ fun x d => one
  · exact lo inb_S512x2048_S512x128_0_768 _ (fun _ _ _ => 1) 3 rfl _ fun x d => cut_at slices_S512x2048_o0_1408_S512x128 _ (pkv x1 x4 x6) x d _
  · exact hi inb_S512x2048_S512x128_0_640 (vlo x1 x4 x6) (fun _ _ _ => 1) 2 rfl _ fun x d => one
  · exact lo inb_S512x2048_S512x128_0_512 _ (fun _ _ _ => 1) 2 rfl _ fun x d => cut_at slices_S512x2048_o0_1280_S512x128 _ (pkv x1 x4 x6) x d _
  · exact hi inb_S512x2048_S512x128_0_384 (vlo x1 x4 x6) (fun _ _ _ => 1) 1 rfl _ fun x d => one
  · exact lo inb_S512x2048_S512x128_0_256 _ (fun _ _ _ => 1) 1 rfl _ fun x d => cut_at slices_S512x2048_o0_1152_S512x128 _ (pkv x1 x4 x6) x d _
  · exact hi inb_S512x2048_S512x128_0_128 (vlo x1 x4 x6) (fun _ _ _ => 1) 0 rfl _ fun x d => one
  · exact lo inb_S512x2048_S512x128_0_0 _ (fun _ _ _ => 1) 0 rfl _ fun x d => cut_at slices_S512x2048_o0_1024_S512x128 _ (pkv x1 x4 x6) x d _

theorem cq_at (x : Fin 512) (j : Fin 384) :
    ((out0_A_12 (F := Ideal) c i a1 h1 a2 h2 a3 h3 a4 h4 a5 h5 a6 h6 a7 h7 a8 h8 a9 h9 a10 h10 a11 h11 a12 h12 a13 h13 a14 h14 x0 x1 x2 x3 x4 x5 x6 x7 x8 : FVec Ideal S512x384 .bf16) (ix2 x j) : EReal)
      = k0_pay7 (F := Ideal) x0 x3 (ix2 x j) := by
  unfold out0_A_12
  rw [View.read_writes_eq_canon _ _ _ (cover0_A_12 (F := Ideal) c i a1 h1 a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  rw [View.canon_unit_zero origin]
  simp only [View.readAt_eq_ld, h1.read_unread, h4.read_unread, View.ld_unit_zero (S := S512x384) origin, View.ld_unit_zero (S := S1x384) origin]

theorem ckv_at (x : Fin 512) (j : Fin 256) :
    ((out0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8 : FVec Ideal S512x256 .bf16) (ix2 x j) : EReal)
      = k0_pay42 (F := Ideal) x1 (k0_pay41 x1) x4 (ix2 x j) := by
  unfold out0_A_13
  rw [View.read_writes_eq_canon _ _ _ (cover0_A_13 (F := Ideal) c i a1 h1 a2 h2 a3 h3 a4 h4 a5 h5 a6 h6 a7 h7 a8 h8 a9 h9 a10 h10 a11 h11 a12 h12 a13 h13 a14 h14 x0 x1 x2 x3 x4 x5 x6 x7 x8)]
  unfold kernelRun0_A
  dsimp only
  sl_unfold_words
  rw [View.canon_unit_zero origin]
  simp only [View.readAt_eq_ld, h2.read_unread, h5.read_unread, View.ld_unit_zero (S := S512x256) origin, View.ld_unit_zero (S := S1x256) origin]
end

end Cert.Kernel11Ideal.Qkv

end
-- ==== Proof.QkvArr.lean ====
/- The latent attention's q, k and v: the five result arrays entry by entry, and the reference's. -/
module

public import proofs.«01_k».proof.Proof.Qkv
public import Idealize.ShloMosaic.Lib.StableHlo.ReadAt

@[expose] public section

set_option maxRecDepth 16384

noncomputable section

namespace Cert.Kernel11Ideal.Qkv

open Cert.Kernel11Ideal Cert.Kernel11Ideal.Gen Cert.Tiles
open Idealize.ShloMosaic Idealize.ShloMosaic.Pointwise Idealize.ShloMosaic.TcCoe

abbrev A := FVec Ideal S4096x4096 .f32
abbrev GQ := FVec Ideal S1x384 .f32
abbrev GK := FVec Ideal S1x256 .f32
abbrev WQ := FVec Ideal S384x1536 .f32
abbrev WK := FVec Ideal S256x2048 .f32
abbrev T := FVec Ideal S4096x32 .f32

variable (m : (ℓ : Loc nD τ sig) → Buf (Elt Ideal) ℓ) (c : Dev nD)

def proj : A := m ((c.tc : Thread nD τ).loc main_arg0)
def gq : GQ := m ((c.tc : Thread nD τ).loc main_arg1)
def gk : GK := m ((c.tc : Thread nD τ).loc main_arg2)
def wq : WQ := m ((c.tc : Thread nD τ).loc main_arg3)
def wk : WK := m ((c.tc : Thread nD τ).loc main_arg4)
def cs : T := m ((c.tc : Thread nD τ).loc main_arg5)
def sn : T := m ((c.tc : Thread nD τ).loc main_arg6)

/-- The weights of q as the call takes them: 64 zero rows after each head's 192. -/
def padded (w : WQ) : FVec Ideal S2048x384 .bf16 :=
  shapeCast S2048x384 (pad S8x256x384 ![0, 0, 0] ![0, 64, 0] ![0, 0, 0] (shapeCast S8x192x384 (truncf .bf16 (transpose S1536x384 [1, 0] w transposes_S384x1536_S1536x384_1_0) bitsLt_bf16_f32) shapeCasts_S1536x384_S8x192x384)
    (sitofp .bf16 (constantI S_ 32 0#32)) pads_S8x192x384_S8x256x384_000_0640_000 h_S_) shapeCasts_S8x256x384_S2048x384

/-- Those of k and v: the k rows of all heads first. -/
def sorted (w : WK) : FVec Ideal S2048x256 .bf16 :=
  shapeCast S2048x256 (transpose S2x8x128x256 [1, 0, 2, 3] (shapeCast S8x2x128x256 (truncf .bf16 (transpose S2048x256 [1, 0] w transposes_S256x2048_S2048x256_1_0) bitsLt_bf16_f32) shapeCasts_S2048x256_S8x2x128x256)
    transposes_S8x2x128x256_S2x8x128x256_1_0_2_3) shapeCasts_S2x8x128x256_S2048x256

def table (a b : T) : FVec Ideal S4096x128 .f32 :=
  concatenate S4096x128 1 [⟨S4096x32, a⟩, ⟨S4096x32, b⟩, ⟨S4096x64, broadcastInDim S4096x64 ![] bcast_S_S4096x64 (constant S_ .f32 0x00000000#32)⟩] concatenates_S4096x32_S4096x32_S4096x64_S4096x128_d1

theorem in_q : (V m c main_v5 : FVec Ideal S2048x384 .bf16) = padded (wq m c) := by
  unfold V
  after_reads_simp
  rfl

theorem in_kv : (V m c main_v10 : FVec Ideal S2048x256 .bf16) = sorted (wk m c) := by
  unfold V
  after_reads_simp
  rfl

theorem in_c : (V m c main_v11 : FVec Ideal S4096x128 .f32) = table (cs m c) (cs m c) := by
  unfold V
  after_reads_simp
  rfl

theorem in_s : (V m c main_v13 : FVec Ideal S4096x128 .f32) = table (Host.negf (sn m c)) (sn m c) := by
  unfold V
  after_reads_simp
  rfl

theorem padded_at (w : WQ) (h : Fin 8) (e : Fin 256) (k : Fin 384) :
    (padded w (ix2 ⟨256 * h.val + e.val, by omega⟩ k) : EReal) = if p : e.val < 192 then w (ix2 k ⟨192 * h.val + e.val, by omega⟩) else 0 := by
  unfold padded
  pointwise []
  have z : (FloatOps.sitofp (F := Ideal) .bf16 0#32 : EReal) = 0 := by
    show ((((0#32 : BitVec 32).toInt : ℝ)) : EReal) = 0
    norm_num
  by_cases p : e.val < 192
  · simp only [dif_pos p, Nat.mul_comm]
  · rw [dif_neg p, dif_neg p]
    exact z

theorem sorted_at (w : WK) (s : Fin 2) (h : Fin 8) (d : Fin 128) (k : Fin 256) :
    (sorted w (ix2 ⟨1024 * s.val + 128 * h.val + d.val, by omega⟩ k) : EReal) = w (ix2 k ⟨256 * h.val + 128 * s.val + d.val, by omega⟩) := by
  unfold sorted
  pointwise []
  simp only [Nat.mul_comm]

theorem table_at (a b : T) (r : Fin 4096) (d : Fin 128) :
    (table a b (ix2 r d) : EReal) = if p : d.val < 32 then a (ix2 r ⟨d.val, p⟩) else if p : d.val < 64 then b (ix2 r ⟨d.val - 32, by omega⟩) else 0 := by
  unfold table
  pointwise []
  by_cases p : d.val < 32
  · simp only [dif_pos p]
  · simp only [dif_neg p]
    by_cases q : d.val < 64
    · rw [dif_pos (by omega), dif_pos q]
    · rw [dif_neg (by omega), dif_neg q]

/-! The results, entry by entry -/

/-- The factor that the norm puts on a row `r`, where `n` is the number of its entries. -/
def factor {k : ℕ} (n : EReal) (r : Fin k → EReal) : EReal := Ideal.rsqrt (Ideal.div (∑ j, r j * r j) n + Ideal.ofBits .f32 897988541#32)

/-- A row, normed, with the gain `g`. -/
def norm {k : ℕ} (n : EReal) (r g : Fin k → EReal) (j : Fin k) : EReal := r j * factor n r * g j

def nq (a : A) (g : GQ) (r : Fin 4096) : Fin 384 → EReal := norm (Ideal.ofBits .f32 0x43C00000#32) (fun k => a (ix2 r ⟨3072 + k.val, by omega⟩)) fun k => g (ix2 0 k)
def nk (a : A) (g : GK) (r : Fin 4096) : Fin 256 → EReal := norm (Ideal.ofBits .f32 0x43800000#32) (fun k => a (ix2 r ⟨3584 + k.val, by omega⟩)) fun k => g (ix2 0 k)

/-- The products with the weights. -/
def qd (a : A) (g : GQ) (w : WQ) (r : Fin 4096) (j : Fin 1536) : EReal := ∑ k, nq a g r k * w (ix2 k j)
def kd (a : A) (g : GK) (w : WK) (r : Fin 4096) (j : Fin 2048) : EReal := ∑ k, nk a g r k * w (ix2 k j)

/-- The rotary embedding of 64 entries `b`, and zeros after them. -/
def rot (b : Fin 64 → EReal) (c s : Fin 32 → EReal) (d : Fin 128) : EReal :=
  if p : d.val < 32 then b ⟨d.val, by omega⟩ * c ⟨d.val, p⟩ - b ⟨d.val + 32, by omega⟩ * s ⟨d.val, p⟩
  else if p : d.val < 64 then b ⟨d.val, p⟩ * c ⟨d.val - 32, by omega⟩ + b ⟨d.val - 32, by omega⟩ * s ⟨d.val - 32, by omega⟩
  else 0

def qcat (a : A) (g : GQ) (w : WQ) (c s : T) (i : S4096x2048.Idx) : EReal :=
  wide (fun h d => qd a g w (i 0) ⟨192 * h.val + d.val, by omega⟩)
    (fun h d => rot (fun e => qd a g w (i 0) ⟨192 * h.val + 128 + e.val, by omega⟩) (fun e => c (ix2 (i 0) e)) (fun e => s (ix2 (i 0) e)) d) (i 1)

def kcat (a : A) (g : GK) (w : WK) (c s : T) (i : S4096x2048.Idx) : EReal :=
  wide (fun h d => kd a g w (i 0) ⟨256 * h.val + d.val, by omega⟩)
    (fun h d => rot (fun e => a (ix2 (i 0) ⟨3968 + e.val, by omega⟩)) (fun e => c (ix2 (i 0) e)) (fun e => s (ix2 (i 0) e)) d) (i 1)

def vcat (a : A) (g : GK) (w : WK) (i : S4096x2048.Idx) : EReal :=
  wide (fun h d => kd a g w (i 0) ⟨256 * h.val + 128 + d.val, by omega⟩) (fun _ _ => 1) (i 1)

def cqn (a : A) (g : GQ) (i : S4096x384.Idx) : EReal := nq a g (i 0) (i 1)
def ckvn (a : A) (g : GK) (i : S4096x256.Idx) : EReal := nk a g (i 0) (i 1)

/-- With the call's tables the lanes are the rotary embedding. -/
theorem lanes_rot (b : Fin 128 → EReal) (u : Fin 64 → EReal) (c s : T) (r : Fin 4096) (d : Fin 128) (hu : ∀ e : Fin 64, b ⟨e.val, by omega⟩ = u e) :
    lanes b (fun e => table c c (ix2 r e)) (fun e => table (Host.negf s) s (ix2 r e)) d = rot u (fun e => c (ix2 r e)) (fun e => s (ix2 r e)) d := by
  unfold lanes rot
  simp only [table_at]
  by_cases p : d.val < 32
  · simp only [dif_pos p]
    rw [← hu, ← hu]
    refine Eq.trans (b := b d * c (ix2 r ⟨d.val, p⟩) + b ⟨d.val + 32, by omega⟩ * -(s (ix2 r ⟨d.val, p⟩) : EReal)) rfl ?_
    rw [mul_neg, sub_eq_add_neg]
  · simp only [dif_neg p]
    by_cases q : d.val < 64
    · simp only [dif_pos q]
      rw [← hu, ← hu]
    · simp only [dif_neg q, mul_zero, zero_mul, add_zero]

theorem pay7_at (x0 : FVec Ideal S512x384 .f32) (x3 : GQ) (x : Fin 512) (k : Fin 384) :
    (k0_pay7 (F := Ideal) x0 x3 (ix2 x k) : EReal) = norm (Ideal.ofBits .f32 0x43C00000#32) (fun k => x0 (ix2 x k)) (fun k => x3 (ix2 0 k)) k := by
  pointwise [k0_pay7]
  rfl

theorem pay42_at (x1 : FVec Ideal S512x256 .f32) (x4 : GK) (x : Fin 512) (k : Fin 256) :
    (k0_pay42 (F := Ideal) x1 (k0_pay41 x1) x4 (ix2 x k) : EReal) = norm (Ideal.ofBits .f32 0x43800000#32) (fun k => x1 (ix2 x k)) (fun k => x4 (ix2 0 k)) k := by
  pointwise [k0_pay42, k0_pay41]
  rfl

theorem pay8_at (x0 : FVec Ideal S512x384 .f32) (x3 : GQ) (x5 : FVec Ideal S2048x384 .bf16) (x : Fin 512) (j : Fin 2048) :
    (k0_pay8 (F := Ideal) x0 x3 x5 (ix2 x j) : EReal) = ∑ k, norm (Ideal.ofBits .f32 0x43C00000#32) (fun k => x0 (ix2 x k)) (fun k => x3 (ix2 0 k)) k * (x5 (ix2 j k) : EReal) := by
  simp only [← pay7_at]
  pointwise [k0_pay8]

theorem pay43_at (x1 : FVec Ideal S512x256 .f32) (x4 : GK) (x6 : FVec Ideal S2048x256 .bf16) (x : Fin 512) (j : Fin 2048) :
    (k0_pay43 (F := Ideal) x1 (k0_pay41 x1) x4 x6 (ix2 x j) : EReal) = ∑ k, norm (Ideal.ofBits .f32 0x43800000#32) (fun k => x1 (ix2 x k)) (fun k => x4 (ix2 0 k)) k * (x6 (ix2 j k) : EReal) := by
  simp only [← pay42_at]
  pointwise [k0_pay43]

/-! The blocks -/

theorem idx : ∀ t : Fin cfg0.N, win0_0.index t = ![t.val, 8] ∧ win0_1.index t = ![t.val, 14] ∧ win0_2.index t = ![t.val, 31] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem lt (t : Fin cfg0.N) : t.val < 8 := N_0 ▸ t.isLt

/-- The row of the arrays that row `x` of a block is. -/
def row (t : Fin cfg0.N) (x : Fin 512) : Fin 4096 := ⟨512 * t.val + x.val, by have := lt t; omega⟩

theorem blk0 (t : Fin cfg0.N) (x : Fin 512) (k : Fin 384) : (X0_0 m c t : FVec Ideal S512x384 .f32) (ix2 x k) = proj m c (ix2 (row t x) ⟨3072 + k.val, by omega⟩) := by
  unfold X0_0 Pipeline.Window.fill
  rw [dif_pos (moved0_0 t _)]
  blk_simp [iblk]
  blk_ext [idx t, row]

theorem blk1 (t : Fin cfg0.N) (x : Fin 512) (k : Fin 256) : (iblk m c 1 t : FVec Ideal S512x256 .f32) (ix2 x k) = proj m c (ix2 (row t x) ⟨3584 + k.val, by omega⟩) := by
  blk_simp [iblk]
  blk_ext [idx t, row]

theorem blk2 (t : Fin cfg0.N) (x : Fin 512) (k : Fin 128) : (iblk m c 2 t : FVec Ideal S512x128 .f32) (ix2 x k) = proj m c (ix2 (row t x) ⟨3968 + k.val, by omega⟩) := by
  blk_simp [iblk]
  blk_ext [idx t, row]

theorem blk3 (t : Fin cfg0.N) (k : Fin 384) : (iblk m c 3 t : GQ) (ix2 0 k) = gq m c (ix2 0 k) := by
  blk_simp [iblk]
  blk_ext [idx t, row]

theorem blk4 (t : Fin cfg0.N) (k : Fin 256) : (iblk m c 4 t : GK) (ix2 0 k) = gk m c (ix2 0 k) := by
  blk_simp [iblk]
  blk_ext [idx t, row]

theorem blk5 (t : Fin cfg0.N) (j : Fin 2048) (k : Fin 384) : (iblk m c 5 t : FVec Ideal S2048x384 .bf16) (ix2 j k) = padded (wq m c) (ix2 j k) := by
  rw [← in_q]
  blk_simp [iblk]
  blk_ext [idx t, row]

theorem blk6 (t : Fin cfg0.N) (j : Fin 2048) (k : Fin 256) : (iblk m c 6 t : FVec Ideal S2048x256 .bf16) (ix2 j k) = sorted (wk m c) (ix2 j k) := by
  rw [← in_kv]
  blk_simp [iblk]
  blk_ext [idx t, row]

theorem blk7 (t : Fin cfg0.N) (x : Fin 512) (k : Fin 128) : (iblk m c 7 t : FVec Ideal S512x128 .f32) (ix2 x k) = table (cs m c) (cs m c) (ix2 (row t x) k) := by
  rw [← in_c]
  blk_simp [iblk]
  blk_ext [idx t, row]

theorem blk8 (t : Fin cfg0.N) (x : Fin 512) (k : Fin 128) : (iblk m c 8 t : FVec Ideal S512x128 .f32) (ix2 x k) = table (Host.negf (sn m c)) (sn m c) (ix2 (row t x) k) := by
  rw [← in_s]
  blk_simp [iblk]
  blk_ext [idx t, row]

/-- Entry (x, j) of the product with the padded weights, in a column that has weights. -/
theorem pq_at (t : Fin cfg0.N) (x : Fin 512) (h : Fin 8) (e : Fin 192) :
    (pq (X0_0 m c t) (iblk m c 3 t) (iblk m c 5 t) (ix2 x ⟨256 * h.val + e.val, by omega⟩) : EReal)
      = qd (proj m c) (gq m c) (wq m c) (row t x) ⟨192 * h.val + e.val, by omega⟩ := by
  unfold qd nq pq
  rw [pay8_at]
  simp only [blk0, blk3, blk5]
  refine Finset.sum_congr rfl fun k _ => ?_
  rw [padded_at _ h ⟨e.val, by omega⟩, dif_pos e.isLt]

theorem pq_rope (t : Fin cfg0.N) (x : Fin 512) (h : Fin 8) (e : Fin 64) :
    (pq (X0_0 m c t) (iblk m c 3 t) (iblk m c 5 t) (ix2 x ⟨256 * h.val + 128 + e.val, by omega⟩) : EReal)
      = qd (proj m c) (gq m c) (wq m c) (row t x) ⟨192 * h.val + 128 + e.val, by omega⟩ := by
  have p := pq_at m c t x h ⟨128 + e.val, by omega⟩
  simp only [← Nat.add_assoc] at p
  exact p

theorem pk_at (t : Fin cfg0.N) (x : Fin 512) (s : Fin 2) (h : Fin 8) (d : Fin 128) :
    (pkv (iblk m c 1 t) (iblk m c 4 t) (iblk m c 6 t) (ix2 x ⟨1024 * s.val + 128 * h.val + d.val, by omega⟩) : EReal)
      = kd (proj m c) (gk m c) (wk m c) (row t x) ⟨256 * h.val + 128 * s.val + d.val, by omega⟩ := by
  unfold kd nk pkv
  rw [pay43_at]
  simp only [blk1, blk4, blk6]
  refine Finset.sum_congr rfl fun k _ => ?_
  rw [sorted_at _ s h d]

theorem arr_q : (dats m 0 c).arrAt 9 cfg0.N = qcat (proj m c) (gq m c) (wq m c) (cs m c) (sn m c) := by
  refine (dats m 0 c).arrAt_eq_of_covers 9 _ (by decide +kernel) fun t hf y => ?_
  blk_simp
  rw [after0_9]
  obtain ⟨x, j, rfl⟩ : ∃ (x : Fin 512) (j : Fin 2048), y = ix2 x j := row_col y
  unfold outsAt0
  dsimp only
  refine Eq.trans (q_at ..) ?_
  refine Eq.trans (b := qcat (proj m c) (gq m c) (wq m c) (cs m c) (sn m c) (ix2 (row t x) j)) ?_ ?_
  · unfold qcat
    congr 1
    · funext h d
      exact pq_at m c t x h ⟨d.val, by omega⟩
    · funext h d
      unfold qhi
      simp only [blk7, blk8]
      exact lanes_rot _ _ _ _ _ _ fun e => pq_rope m c t x h e
  · blk_ext [idx t, row]

theorem arr_k : (dats m 0 c).arrAt 10 cfg0.N = kcat (proj m c) (gk m c) (wk m c) (cs m c) (sn m c) := by
  refine (dats m 0 c).arrAt_eq_of_covers 10 _ (by decide +kernel) fun t hf y => ?_
  blk_simp
  rw [after0_10]
  obtain ⟨x, j, rfl⟩ : ∃ (x : Fin 512) (j : Fin 2048), y = ix2 x j := row_col y
  unfold outsAt0
  dsimp only
  refine Eq.trans (k_at ..) ?_
  refine Eq.trans (b := kcat (proj m c) (gk m c) (wk m c) (cs m c) (sn m c) (ix2 (row t x) j)) ?_ ?_
  · unfold kcat
    congr 1
    · funext h d
      unfold klo
      have := pk_at m c t x 0 h d
      simpa using this
    · funext h d
      unfold khi
      simp only [blk2, blk7, blk8]
      exact lanes_rot _ _ _ _ _ _ fun e => rfl
  · blk_ext [idx t, row]

theorem arr_v : (dats m 0 c).arrAt 11 cfg0.N = vcat (proj m c) (gk m c) (wk m c) := by
  refine (dats m 0 c).arrAt_eq_of_covers 11 _ (by decide +kernel) fun t hf y => ?_
  blk_simp
  rw [after0_11]
  obtain ⟨x, j, rfl⟩ : ∃ (x : Fin 512) (j : Fin 2048), y = ix2 x j := row_col y
  unfold outsAt0
  dsimp only
  refine Eq.trans (v_at ..) ?_
  refine Eq.trans (b := vcat (proj m c) (gk m c) (wk m c) (ix2 (row t x) j)) ?_ ?_
  · unfold vcat
    congr 1
    funext h d
    exact pk_at m c t x 1 h d
  · blk_ext [idx t, row]

theorem arr_cq : (dats m 0 c).arrAt 12 cfg0.N = cqn (proj m c) (gq m c) := by
  refine (dats m 0 c).arrAt_eq_of_covers 12 _ (by decide +kernel) fun t hf y => ?_
  blk_simp
  rw [after0_12]
  obtain ⟨x, j, rfl⟩ : ∃ (x : Fin 512) (j : Fin 384), y = ix2 x j := row_col y
  unfold outsAt0
  dsimp only
  refine Eq.trans (cq_at ..) ?_
  refine Eq.trans (b := cqn (proj m c) (gq m c) (ix2 (row t x) j)) ?_ ?_
  · rw [pay7_at]
    simp only [blk0, blk3]
    rfl
  · blk_ext [idx t, row]

theorem arr_ckv : (dats m 0 c).arrAt 13 cfg0.N = ckvn (proj m c) (gk m c) := by
  refine (dats m 0 c).arrAt_eq_of_covers 13 _ (by decide +kernel) fun t hf y => ?_
  blk_simp
  rw [after0_13]
  obtain ⟨x, j, rfl⟩ : ∃ (x : Fin 512) (j : Fin 256), y = ix2 x j := row_col y
  unfold outsAt0
  dsimp only
  refine Eq.trans (ckv_at ..) ?_
  refine Eq.trans (b := ckvn (proj m c) (gk m c) (ix2 (row t x) j)) ?_ ?_
  · rw [pay42_at]
    simp only [blk1, blk4]
    rfl
  · blk_ext [idx t, row]

end Cert.Kernel11Ideal.Qkv

end
-- ==== Proof.QkvRef.lean ====
/- The reference of the latent attention's q, k and v, entry by entry. -/
module

public import proofs.«01_k».proof.Proof.QkvArr

@[expose] public section

set_option maxRecDepth 16384

noncomputable section

namespace Cert.Reference11Ideal.Qkv

open Cert.Reference11Ideal Cert.Reference11Ideal.Gen Cert.Tiles
open Idealize.ShloMosaic Idealize.ShloMosaic.Pointwise Idealize.ShloMosaic.TcCoe
open Cert.Kernel11Ideal.Qkv (wide wide_lo wide_hi nq nk qd kd rot qcat kcat vcat cqn ckvn)

abbrev A := FVec Ideal S4096x4096 .f32
abbrev GQ := FVec Ideal S1x384 .f32
abbrev GK := FVec Ideal S1x256 .f32
abbrev WQ := FVec Ideal S384x1536 .f32
abbrev WK := FVec Ideal S256x2048 .f32
abbrev T := FVec Ideal S4096x32 .f32
abbrev H := FVec Ideal S4096x8x128 .f32

/-- The two norms. -/
def normQ (a : A) (g : GQ) : FVec Ideal S4096x384 .f32 :=
  mulf (mulf (extractStridedSlice S4096x384 ![0, 3072] a slices_S4096x4096_S4096x384_0_3072) (broadcastInDim S4096x384 ![0, 1] bcast_S4096x1_S4096x384_0_1 (Host.rsqrt (addf (Host.divf (broadcastInDim S4096x1 ![0] bcast_S4096_S4096x1_0 (Host.reduceAdd (mulf (extractStridedSlice S4096x384 ![0, 3072] a slices_S4096x4096_S4096x384_0_3072) (extractStridedSlice S4096x384 ![0, 3072] a slices_S4096x4096_S4096x384_0_3072)) (constant S_ .f32 0x00000000#32) reducesTo_S4096x384_S4096_d1 h_S_)) (broadcastInDim S4096x1 ![] bcast_S_S4096x1 (constant S_ .f32 0x43C00000#32))) (broadcastInDim S4096x1 ![] bcast_S_S4096x1 (constant S_ .f32 0x358637BD#32)))))) (broadcastInDim S4096x384 ![0, 1] bcast_S1x384_S4096x384_0_1 g)

def normK (a : A) (g : GK) : FVec Ideal S4096x256 .f32 :=
  mulf (mulf (extractStridedSlice S4096x256 ![0, 3584] a slices_S4096x4096_S4096x256_0_3584) (broadcastInDim S4096x256 ![0, 1] bcast_S4096x1_S4096x256_0_1 (Host.rsqrt (addf (Host.divf (broadcastInDim S4096x1 ![0] bcast_S4096_S4096x1_0 (Host.reduceAdd (mulf (extractStridedSlice S4096x256 ![0, 3584] a slices_S4096x4096_S4096x256_0_3584) (extractStridedSlice S4096x256 ![0, 3584] a slices_S4096x4096_S4096x256_0_3584)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x358637BD#32)))))) (broadcastInDim S4096x256 ![0, 1] bcast_S1x256_S4096x256_0_1 g)

theorem normQ_at (a : A) (g : GQ) (r : Fin 4096) (k : Fin 384) : (normQ a g (ix2 r k) : EReal) = nq a g r k := by
  pointwise [normQ]
  rfl

theorem normK_at (a : A) (g : GK) (r : Fin 4096) (k : Fin 256) : (normK a g (ix2 r k) : EReal) = nk a g r k := by
  pointwise [normK]
  rfl

/-- The products with the weights, head by head. -/
def prodQ (a : A) (g : GQ) (w : WQ) : FVec Ideal S4096x8x192 .f32 :=
  shapeCast _ (Host.dotGeneral dot_S4096x384_S384x1536_S4096x1536_1_0_0_1_n_n none (normQ a g) w) shapeCasts_S4096x1536_S4096x8x192

def prodK (a : A) (g : GK) (w : WK) : FVec Ideal S4096x8x256 .f32 :=
  shapeCast _ (Host.dotGeneral dot_S4096x256_S256x2048_S4096x2048_1_0_0_1_n_n none (normK a g) w) shapeCasts_S4096x2048_S4096x8x256

theorem prodQ_at (a : A) (g : GQ) (w : WQ) (r : Fin 4096) (h : Fin 8) (e : Fin 192) :
    (prodQ a g w (ix3 r h e) : EReal) = qd a g w r ⟨192 * h.val + e.val, by omega⟩ := by
  unfold qd
  simp only [← normQ_at]
  pointwise [prodQ]
  simp only [Nat.mul_comm]

theorem prodK_at (a : A) (g : GK) (w : WK) (r : Fin 4096) (h : Fin 8) (e : Fin 256) :
    (prodK a g w (ix3 r h e) : EReal) = kd a g w r ⟨256 * h.val + e.val, by omega⟩ := by
  unfold kd
  simp only [← normK_at]
  pointwise [prodK]
  simp only [Nat.mul_comm]

/-- The heads side by side: 128 columns of `a` and 128 of `b` for each. -/
def heads (a b : H) : FVec Ideal S4096x2048 .bf16 :=
  truncf .bf16 (shapeCast _ (concatenate S4096x8x256 2 [⟨S4096x8x128, a⟩, ⟨S4096x8x128, b⟩] concatenates_S4096x8x128_S4096x8x128_S4096x8x256_d2) shapeCasts_S4096x8x256_S4096x2048) bitsLt_bf16_f32

theorem heads_at (a b : H) (r : Fin 4096) (j : Fin 2048) : (heads a b (ix2 r j) : EReal) = wide (fun h d => a (ix3 r h d)) (fun h d => b (ix3 r h d)) j := by
  unfold wide
  pointwise [heads]

theorem rot_eq (b : Fin 64 → EReal) (c s : Fin 32 → EReal) (d : Fin 128) :
    (if p : d.val < 64 then
      if q : d.val < 32 then b ⟨d.val, p⟩ * c ⟨d.val, q⟩ - b ⟨32 + d.val, by omega⟩ * s ⟨d.val, q⟩
      else b ⟨32 + (d.val - 32), by omega⟩ * c ⟨d.val - 32, by omega⟩ + b ⟨d.val - 32, by omega⟩ * s ⟨d.val - 32, by omega⟩
    else 0) = rot b c s d := by
  unfold rot
  by_cases q : d.val < 32
  · rw [dif_pos (by omega), dif_pos q, dif_pos q]
    simp only [Nat.add_comm]
  · rw [dif_neg q]
    by_cases p : d.val < 64
    · rw [dif_pos p, dif_neg q, dif_pos p]
      have e : (⟨32 + (d.val - 32), by omega⟩ : Fin 64) = ⟨d.val, p⟩ := Fin.ext (by show 32 + (d.val - 32) = d.val; omega)
      rw [e]
    · rw [dif_neg p, dif_neg p]

/-- The rotary embedding of each head's 64 columns `b`, and 64 zeros. -/
def turned (b : FVec Ideal S4096x8x64 .f32) (u s : T) : H :=
  concatenate S4096x8x128 2 [⟨S4096x8x64, (concatenate S4096x8x64 2 [⟨S4096x8x32, (subf (mulf (extractStridedSlice S4096x8x32 ![0, 0, 0] b slices_S4096x8x64_S4096x8x32_0_0_0) (broadcastInDim S4096x8x32 ![0, 1, 2] bcast_S4096x1x32_S4096x8x32_0_1_2 (broadcastInDim S4096x1x32 ![0, 2] bcast_S4096x32_S4096x1x32_0_2 u))) (mulf (extractStridedSlice S4096x8x32 ![0, 0, 32] b slices_S4096x8x64_S4096x8x32_0_0_32) (broadcastInDim S4096x8x32 ![0, 1, 2] bcast_S4096x1x32_S4096x8x32_0_1_2 (broadcastInDim S4096x1x32 ![0, 2] bcast_S4096x32_S4096x1x32_0_2 s))))⟩, ⟨S4096x8x32, (addf (mulf (extractStridedSlice S4096x8x32 ![0, 0, 32] b slices_S4096x8x64_S4096x8x32_0_0_32) (broadcastInDim S4096x8x32 ![0, 1, 2] bcast_S4096x1x32_S4096x8x32_0_1_2 (broadcastInDim S4096x1x32 ![0, 2] bcast_S4096x32_S4096x1x32_0_2 u))) (mulf (extractStridedSlice S4096x8x32 ![0, 0, 0] b slices_S4096x8x64_S4096x8x32_0_0_0) (broadcastInDim S4096x8x32 ![0, 1, 2] bcast_S4096x1x32_S4096x8x32_0_1_2 (broadcastInDim S4096x1x32 ![0, 2] bcast_S4096x32_S4096x1x32_0_2 s))))⟩] concatenates_S4096x8x32_S4096x8x32_S4096x8x64_d2)⟩, ⟨S4096x8x64, (broadcastInDim S4096x8x64 ![] bcast_S_S4096x8x64 (constant S_ .f32 0x00000000#32))⟩] concatenates_S4096x8x64_S4096x8x64_S4096x8x128_d2

theorem turned_at (b : FVec Ideal S4096x8x64 .f32) (u s : T) (r : Fin 4096) (h : Fin 8) (d : Fin 128) :
    (turned b u s (ix3 r h d) : EReal) = rot (fun e => b (ix3 r h e)) (fun e => u (ix2 r e)) (fun e => s (ix2 r e)) d := by
  pointwise [turned]
  exact rot_eq (fun e => b (ix3 r h e)) (fun e => u (ix2 r e)) (fun e => s (ix2 r e)) d

/-- The rotary embedding of the 64 columns that all heads share, and 64 zeros. -/
def turned1 (a : A) (u s : T) : H :=
  concatenate S4096x8x128 2 [⟨S4096x8x64, (broadcastInDim S4096x8x64 ![0, 1, 2] bcast_S4096x1x64_S4096x8x64_0_1_2 (broadcastInDim S4096x1x64 ![0, 2] bcast_S4096x64_S4096x1x64_0_2 (concatenate S4096x64 1 [⟨S4096x32, (subf (mulf (extractStridedSlice S4096x32 ![0, 0] (extractStridedSlice S4096x64 ![0, 3968] a slices_S4096x4096_S4096x64_0_3968) slices_S4096x64_S4096x32_0_0) u) (mulf (extractStridedSlice S4096x32 ![0, 32] (extractStridedSlice S4096x64 ![0, 3968] a slices_S4096x4096_S4096x64_0_3968) slices_S4096x64_S4096x32_0_32) s))⟩, ⟨S4096x32, (addf (mulf (extractStridedSlice S4096x32 ![0, 32] (extractStridedSlice S4096x64 ![0, 3968] a slices_S4096x4096_S4096x64_0_3968) slices_S4096x64_S4096x32_0_32) u) (mulf (extractStridedSlice S4096x32 ![0, 0] (extractStridedSlice S4096x64 ![0, 3968] a slices_S4096x4096_S4096x64_0_3968) slices_S4096x64_S4096x32_0_0) s))⟩] concatenates_S4096x32_S4096x32_S4096x64_d1)))⟩, ⟨S4096x8x64, (broadcastInDim S4096x8x64 ![] bcast_S_S4096x8x64 (constant S_ .f32 0x00000000#32))⟩] concatenates_S4096x8x64_S4096x8x64_S4096x8x128_d2

theorem turned1_at (a : A) (u s : T) (r : Fin 4096) (h : Fin 8) (d : Fin 128) :
    (turned1 a u s (ix3 r h d) : EReal) = rot (fun e => a (ix2 r ⟨3968 + e.val, by omega⟩)) (fun e => u (ix2 r e)) (fun e => s (ix2 r e)) d := by
  pointwise [turned1]
  exact rot_eq (fun e => a (ix2 r ⟨3968 + e.val, by omega⟩)) (fun e => u (ix2 r e)) (fun e => s (ix2 r e)) d

theorem ref_q (a : A) (g : GQ) (w : WQ) (u s : T) :
    heads (extractStridedSlice S4096x8x128 ![0, 0, 0] (prodQ a g w) slices_S4096x8x192_S4096x8x128_0_0_0)
      (turned (extractStridedSlice S4096x8x64 ![0, 0, 128] (prodQ a g w) slices_S4096x8x192_S4096x8x64_0_0_128) u s) = qcat a g w u s := by
  funext i
  obtain ⟨r, j, rfl⟩ : ∃ (r : Fin 4096) (j : Fin 2048), i = ix2 r j := row_col i
  rw [heads_at]
  unfold qcat
  congr 1
  · funext h d
    refine Eq.trans ?_ (prodQ_at a g w r h ⟨d.val, by omega⟩)
    pointwise []
  · funext h d
    rw [turned_at]
    congr 1
    funext e
    have p := prodQ_at a g w r h ⟨128 + e.val, by omega⟩
    simp only [← Nat.add_assoc] at p
    refine Eq.trans ?_ p
    pointwise []

theorem ref_k (a : A) (g : GK) (w : WK) (u s : T) :
    heads (extractStridedSlice S4096x8x128 ![0, 0, 0] (prodK a g w) slices_S4096x8x256_S4096x8x128_0_0_0) (turned1 a u s) = kcat a g w u s := by
  funext i
  obtain ⟨r, j, rfl⟩ : ∃ (r : Fin 4096) (j : Fin 2048), i = ix2 r j := row_col i
  rw [heads_at]
  unfold kcat
  congr 1
  · funext h d
    refine Eq.trans ?_ (prodK_at a g w r h ⟨d.val, by omega⟩)
    pointwise []
  · funext h d
    exact turned1_at a u s r h d

theorem ref_v (a : A) (g : GK) (w : WK) :
    heads (extractStridedSlice S4096x8x128 ![0, 0, 128] (prodK a g w) slices_S4096x8x256_S4096x8x128_0_0_128)
      (broadcastInDim S4096x8x128 ![] bcast_S_S4096x8x128 (constant S_ .f32 0x3F800000#32)) = vcat a g w := by
  funext i
  obtain ⟨r, j, rfl⟩ : ∃ (r : Fin 4096) (j : Fin 2048), i = ix2 r j := row_col i
  rw [heads_at]
  unfold vcat
  congr 1
  · funext h d
    have p := prodK_at a g w r h ⟨128 + d.val, by omega⟩
    simp only [← Nat.add_assoc] at p
    refine Eq.trans ?_ p
    pointwise []
  · funext h d
    pointwise []

theorem ref_cq (a : A) (g : GQ) : (truncf .bf16 (normQ a g) bitsLt_bf16_f32 : FVec Ideal S4096x384 .bf16) = cqn a g := by
  funext i
  obtain ⟨r, j, rfl⟩ : ∃ (r : Fin 4096) (j : Fin 384), i = ix2 r j := row_col i
  exact normQ_at a g r j

theorem ref_ckv (a : A) (g : GK) : (truncf .bf16 (normK a g) bitsLt_bf16_f32 : FVec Ideal S4096x256 .bf16) = ckvn a g := by
  funext i
  obtain ⟨r, j, rfl⟩ : ∃ (r : Fin 4096) (j : Fin 256), i = ix2 r j := row_col i
  exact normK_at a g r j

end Cert.Reference11Ideal.Qkv

end
-- ==== Proof.QkvSteps.lean ====
/- The latent attention's q, k and v: the frames of the programs, and the two runs ending with the same five arrays. -/
module

public import proofs.«01_k».proof.Defs
public import proofs.«01_k».proof.Proof.Frames
public import proofs.«01_k».proof.Proof.QkvRef

@[expose] public section

set_option maxRecDepth 65536
set_option maxHeartbeats 4000000

noncomputable section

open Idealize.ShloMosaic Idealize.SL.Sem

namespace Cert.Proof.Steps

theorem defs_eq11 : Cert.Kernel11.defs (F := Bits) = Cert.Kernel11Ideal.defs (F := Bits) := by
  unfold Cert.Kernel11.defs Cert.Kernel11Ideal.defs Cert.Kernel11.defs₀ Cert.Kernel11Ideal.defs₀
  refine congrArg (Pipeline.defs (Cert.Kernel11.pcfgs (F := Bits))) (congrArg Defs.onTc (funext fun l => funext fun x => ?_))
  match l, x with
  | 0, (t, s) => rfl

theorem frame_p11 : Cert.quiescent_Kernel11 := fun m ρ _ => Att.same_run defs_eq11 rfl (Cert.Kernel11Ideal.Gen.frame (F := Bits) m ρ)

theorem frame_pi11 : Cert.quiescent_Kernel11Ideal := fun m ρ _ => Cert.Kernel11Ideal.Gen.frame m ρ

theorem frame_ri11 : Cert.quiescent_Reference11Ideal := fun m ρ _ =>
  (θ_run Cert.Reference11Ideal.defs _ _).mono (fun r h => ⟨fun c => (h c).2.2.2.2.2, sem_eq_zero_of_no_sems (by decide) r.2⟩) (Cert.Reference11Ideal.Value.run (F := Ideal) m ρ)

open Cert.Kernel11Ideal.Qkv in
theorem algebraic11 : Cert.algebraic_Kernel11Ideal_Reference11Ideal := fun m g m' g' _ e =>
  ⟨fun c => qcat (proj m c) (gq m c) (wq m c) (cs m c) (sn m c), fun c => kcat (proj m c) (gk m c) (wk m c) (cs m c) (sn m c), fun c => vcat (proj m c) (gk m c) (wk m c),
      fun c => cqn (proj m c) (gq m c), fun c => ckvn (proj m c) (gk m c),
    (θ_run Cert.Kernel11Ideal.defs _ _).mono (fun _ h c => ⟨(h c).1.trans (arr_q m c), (h c).2.1.trans (arr_k m c), (h c).2.2.1.trans (arr_v m c), (h c).2.2.2.1.trans (arr_cq m c),
      (h c).2.2.2.2.1.trans (arr_ckv m c), (h c).2.2.2.2.2⟩) (Cert.Kernel11Ideal.Value.run_blocks m g),
    (θ_run Cert.Reference11Ideal.defs _ _).mono (fun _ h c => by
      obtain ⟨e0, e1, e2, e3, e4, e5, e6⟩ := e c
      exact ⟨(h c).1.trans ((Cert.Reference11Ideal.Qkv.ref_q _ _ _ _ _).trans (congr (congr (congr (congrArg₂ qcat e0 e1) e3) e5) e6)),
        (h c).2.1.trans ((Cert.Reference11Ideal.Qkv.ref_k _ _ _ _ _).trans (congr (congr (congr (congrArg₂ kcat e0 e2) e4) e5) e6)),
        (h c).2.2.1.trans ((Cert.Reference11Ideal.Qkv.ref_v _ _ _).trans (congr (congrArg₂ vcat e0 e2) e4)),
        (h c).2.2.2.1.trans ((Cert.Reference11Ideal.Qkv.ref_cq _ _).trans (congrArg₂ cqn e0 e1)),
        (h c).2.2.2.2.1.trans ((Cert.Reference11Ideal.Qkv.ref_ckv _ _).trans (congrArg₂ ckvn e0 e2)), (h c).2.2.2.2.2⟩)
      (Cert.Reference11Ideal.Value.run (F := Ideal) m' g')⟩

end Cert.Proof.Steps

end
-- ==== Proof.GateBack.lean ====
/- The gradients of the gates: a block of 512 rows at each grid point. -/
module

public import proofs.«01_k».proof.Proof.Tiles
public import proofs.«01_k».proof.Proof.Consts
public import proofs.«01_k».proof.Proof.Gen.Kernel12Ideal.Value
public import proofs.«01_k».proof.Proof.Gen.Kernel12

@[expose] public section

set_option maxRecDepth 16384

noncomputable section

namespace Cert.Kernel12Ideal.Gate

open Cert.Kernel12Ideal Cert.Kernel12Ideal.Gen Cert.Tiles
open Idealize.ShloMosaic Idealize.ShloMosaic.Pointwise Idealize.ShloMosaic.TcCoe

abbrev D := FVec Ideal S4096x2048 .f32
abbrev A := FVec Ideal S4096x1024 .f32
abbrev P := FVec Ideal S4096x4096 .f32

variable (m : (ℓ : Loc nD τ sig) → Buf (Elt Ideal) ℓ) (c : Dev nD)

def dy : D := m ((c.tc : Thread nD τ).loc main_arg0)
def outA : A := m ((c.tc : Thread nD τ).loc main_arg1)
def outB : A := m ((c.tc : Thread nD τ).loc main_arg2)
def proj : P := m ((c.tc : Thread nD τ).loc main_arg3)

/-- The gate's function and its slope, as the kernel has it. -/
def silu (g : EReal) : EReal := g * Ideal.logistic g
def slope (g : EReal) : EReal := Ideal.logistic g * (1 + g * (1 - Ideal.logistic g))

/-- The gradient of an output: the cotangent `y` times the silu of the gate `g`. -/
def dOut (y g : EReal) : EReal := y * silu g

/-- The gradient of a gate, from the cotangent `y`, the output `o` and the gate `g`. -/
def dGate (y o g : EReal) : EReal := y * o * slope g

/-- Column j of the saved sums of a row: at the first two columns of each 128 the sum over a head's 128 entries of `f`, else zero. -/
def sums (f : Fin 1024 → EReal) (j : Fin 512) : EReal :=
  if h : j.val % 128 < 2 then ∑ k : Fin 128, f ⟨256 * (j.val / 128) + 128 * (j.val % 128) + k.val, by omega⟩ else 0

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

section block

variable (x0 : FVec Ideal S512x2048 .f32) (x1 x2 x3 x4 : FVec Ideal S512x1024 .f32) (x : Fin 512)

theorem out5_at (d : Fin 1024) :
    ((out0_5 (F := Ideal) x0 x1 x2 x3 x4 : FVec Ideal S512x1024 .bf16) (ix2 x d) : EReal) = dOut (x0 (ix2 x ⟨d.val, by omega⟩)) (x3 (ix2 x d)) := by
  unfold out0_5
  rw [View.canon_unit_zero origin]
  pointwise [k0_pay3, k0_pay2, r0_0, r0_1]
  rfl

theorem out6_at (d : Fin 1024) :
    ((out0_6 (F := Ideal) x0 x1 x2 x3 x4 : FVec Ideal S512x1024 .bf16) (ix2 x d) : EReal) = dOut (x0 (ix2 x ⟨1024 + d.val, by omega⟩)) (x4 (ix2 x d)) := by
  unfold out0_6
  rw [View.canon_unit_zero origin]
  pointwise [k0_pay7, k0_pay6, k0_pay5, r0_2, r0_1]
  rfl

theorem out7_at (d : Fin 1024) :
    ((out0_7 (F := Ideal) x0 x1 x2 x3 x4 : FVec Ideal S512x1024 .bf16) (ix2 x d) : EReal)
      = dGate (x0 (ix2 x ⟨d.val, by omega⟩)) (x1 (ix2 x d)) (x3 (ix2 x d)) := by
  unfold out0_7
  rw [View.canon_unit_zero origin]
  pointwise [k0_pay4, k0_pay2, r0_0, r0_1]
  rfl

theorem out8_at (d : Fin 1024) :
    ((out0_8 (F := Ideal) x0 x1 x2 x3 x4 : FVec Ideal S512x1024 .bf16) (ix2 x d) : EReal)
      = dGate (x0 (ix2 x ⟨1024 + d.val, by omega⟩)) (x2 (ix2 x d)) (x4 (ix2 x d)) := by
  unfold out0_8
  rw [View.canon_unit_zero origin]
  pointwise [k0_pay9, k0_pay8, k0_pay5, r0_2, r0_1]
  rfl

theorem prod_at (d : Fin 1024) :
    ((k0_pay10 (F := Ideal) (View.ld x2 r0_1) (k0_pay12 x0 x1 x2 x3 x4) : FVec Ideal S512x1024 .f32) (ix2 x d) : EReal)
      = dOut (x0 (ix2 x ⟨1024 + d.val, by omega⟩)) (x4 (ix2 x d)) * x2 (ix2 x d) := by
  pointwise [k0_pay10, k0_pay12, k0_pay6, k0_pay5, r0_2, r0_1]
  rfl

/-- A choice by a column's word is a choice by the column. -/
theorem pick (j : Fin 512) (n : ℕ) (hn : n < 512) (a b : EReal) :
    Scalar.select (IntOp.cmpi .eq (BitVec.ofNat 32 j.val) (BitVec.ofNat 32 n)) a b = if j.val = n then a else b := by
  have e : (BitVec.ofNat 32 j.val == BitVec.ofNat 32 n) = decide (j.val = n) := by
    rw [Bool.eq_iff_iff, beq_iff_eq, decide_eq_true_iff]
    constructor
    · intro h
      have h2 := congrArg BitVec.toNat h
      rw [BitVec.toNat_ofNat, BitVec.toNat_ofNat] at h2
      omega
    · intro h
      rw [h]
  unfold Scalar.select IntOp.cmpi
  simp only [e]
  by_cases h : j.val = n <;> simp [h]

theorem out9_at (j : Fin 512) :
    ((out0_9 (F := Ideal) x0 x1 x2 x3 x4 : FVec Ideal S512x512 .f32) (ix2 x j) : EReal)
      = sums (fun d => dOut (x0 (ix2 x ⟨1024 + d.val, by omega⟩)) (x4 (ix2 x d)) * x2 (ix2 x d)) j := by
  simp only [← prod_at x0 x1 x2 x3 x4]
  unfold out0_9
  rw [View.canon_unit_zero origin]
  generalize k0_pay12 (F := Ideal) x0 x1 x2 x3 x4 = w
  pointwise [k0_pay1, k0_pay11]
  rw [pick j 385 (by omega), pick j 384 (by omega), pick j 257 (by omega), pick j 256 (by omega), pick j 129 (by omega), pick j 128 (by omega),
    pick j 1 (by omega), pick j 0 (by omega)]
  generalize k0_pay10 (F := Ideal) (View.ld x2 r0_1) w = v
  unfold sums
  split_ifs <;> first
    | omega
    | rfl
    | exact Finset.sum_congr rfl fun k _ => congrArg (fun d => v (ix2 x d)) (Fin.ext (by dsimp only; omega))

end block

/-- The whole arrays of the results: the gradients of the two outputs and of the two gates, and the saved sums. -/
def doA (y : D) (p : P) (i : S4096x1024.Idx) : EReal :=
  dOut (y (ix2 (i 0) ⟨(i 1).val, by have := ValueIdx.idx2_lt1 i; omega⟩)) (p (ix2 (i 0) ⟨1024 + (i 1).val, by have := ValueIdx.idx2_lt1 i; omega⟩))
def doB (y : D) (p : P) (i : S4096x1024.Idx) : EReal :=
  dOut (y (ix2 (i 0) ⟨1024 + (i 1).val, by have := ValueIdx.idx2_lt1 i; omega⟩)) (p (ix2 (i 0) ⟨2048 + (i 1).val, by have := ValueIdx.idx2_lt1 i; omega⟩))
def dgA (y : D) (o : A) (p : P) (i : S4096x1024.Idx) : EReal :=
  dGate (y (ix2 (i 0) ⟨(i 1).val, by have := ValueIdx.idx2_lt1 i; omega⟩)) (o i) (p (ix2 (i 0) ⟨1024 + (i 1).val, by have := ValueIdx.idx2_lt1 i; omega⟩))
def dgB (y : D) (o : A) (p : P) (i : S4096x1024.Idx) : EReal :=
  dGate (y (ix2 (i 0) ⟨1024 + (i 1).val, by have := ValueIdx.idx2_lt1 i; omega⟩)) (o i) (p (ix2 (i 0) ⟨2048 + (i 1).val, by have := ValueIdx.idx2_lt1 i; omega⟩))
def saved (y : D) (o : A) (p : P) (i : S4096x512.Idx) : EReal :=
  sums (fun d => doB y p (ix2 (i 0) d) * o (ix2 (i 0) d)) (i 1)

theorem lt (t : Fin cfg0.N) : t.val < 8 := N_0 ▸ t.isLt

theorem blk_y (t : Fin cfg0.N) (x : Fin 512) (k : Fin 2048) :
    (iblk m c 0 t : FVec Ideal S512x2048 .f32) (ix2 x k) = dy m c (ix2 ⟨512 * t.val + x.val, by have := lt t; omega⟩ k) := by
  blk_simp [iblk]
  blk_ext [idx t]

theorem blk_a (t : Fin cfg0.N) (x : Fin 512) (k : Fin 1024) :
    (iblk m c 1 t : FVec Ideal S512x1024 .f32) (ix2 x k) = outA m c (ix2 ⟨512 * t.val + x.val, by have := lt t; omega⟩ k) := by
  blk_simp [iblk]
  blk_ext [idx t]

theorem blk_b (t : Fin cfg0.N) (x : Fin 512) (k : Fin 1024) :
    (iblk m c 2 t : FVec Ideal S512x1024 .f32) (ix2 x k) = outB m c (ix2 ⟨512 * t.val + x.val, by have := lt t; omega⟩ k) := by
  blk_simp [iblk]
  blk_ext [idx t]

theorem blk_g (t : Fin cfg0.N) (x : Fin 512) (k : Fin 1024) :
    (iblk m c 3 t : FVec Ideal S512x1024 .f32) (ix2 x k) = proj m c (ix2 ⟨512 * t.val + x.val, by have := lt t; omega⟩ ⟨1024 + k.val, by omega⟩) := by
  blk_simp [iblk]
  blk_ext [idx t]

theorem blk_h (t : Fin cfg0.N) (x : Fin 512) (k : Fin 1024) :
    (iblk m c 4 t : FVec Ideal S512x1024 .f32) (ix2 x k) = proj m c (ix2 ⟨512 * t.val + x.val, by have := lt t; omega⟩ ⟨2048 + k.val, by omega⟩) := by
  blk_simp [iblk]
  blk_ext [idx t]

theorem arr5 : (dats m 0 c).arrAt 5 cfg0.N = doA (dy m c) (proj m c) := by
  refine (dats m 0 c).arrAt_eq_of_covers 5 _ (by decide +kernel) fun t hf y => ?_
  blk_simp
  rw [after0_5]
  obtain ⟨x, d, rfl⟩ : ∃ (x : Fin 512) (d : Fin 1024), y = ix2 x d := row_col y
  refine (out5_at _ _ _ _ _ x d).trans ?_
  rw [blk_y, blk_g]
  refine Eq.trans (b := doA (dy m c) (proj m c) (ix2 (⟨512 * t.val + x.val, by have := lt t; omega⟩ : Fin 4096) d)) rfl ?_
  blk_ext [idx t]

theorem arr6 : (dats m 0 c).arrAt 6 cfg0.N = doB (dy m c) (proj m c) := by
  refine (dats m 0 c).arrAt_eq_of_covers 6 _ (by decide +kernel) fun t hf y => ?_
  blk_simp
  rw [after0_6]
  obtain ⟨x, d, rfl⟩ : ∃ (x : Fin 512) (d : Fin 1024), y = ix2 x d := row_col y
  refine (out6_at _ _ _ _ _ x d).trans ?_
  rw [blk_y, blk_h]
  refine Eq.trans (b := doB (dy m c) (proj m c) (ix2 (⟨512 * t.val + x.val, by have := lt t; omega⟩ : Fin 4096) d)) rfl ?_
  blk_ext [idx t]

theorem arr7 : (dats m 0 c).arrAt 7 cfg0.N = dgA (dy m c) (outA m c) (proj m c) := by
  refine (dats m 0 c).arrAt_eq_of_covers 7 _ (by decide +kernel) fun t hf y => ?_
  blk_simp
  rw [after0_7]
  obtain ⟨x, d, rfl⟩ : ∃ (x : Fin 512) (d : Fin 1024), y = ix2 x d := row_col y
  refine (out7_at _ _ _ _ _ x d).trans ?_
  rw [blk_y, blk_a, blk_g]
  refine Eq.trans (b := dgA (dy m c) (outA m c) (proj m c) (ix2 (⟨512 * t.val + x.val, by have := lt t; omega⟩ : Fin 4096) d)) rfl ?_
  blk_ext [idx t]

theorem arr8 : (dats m 0 c).arrAt 8 cfg0.N = dgB (dy m c) (outB m c) (proj m c) := by
  refine (dats m 0 c).arrAt_eq_of_covers 8 _ (by decide +kernel) fun t hf y => ?_
  blk_simp
  rw [after0_8]
  obtain ⟨x, d, rfl⟩ : ∃ (x : Fin 512) (d : Fin 1024), y = ix2 x d := row_col y
  refine (out8_at _ _ _ _ _ x d).trans ?_
  rw [blk_y, blk_b, blk_h]
  refine Eq.trans (b := dgB (dy m c) (outB m c) (proj m c) (ix2 (⟨512 * t.val + x.val, by have := lt t; omega⟩ : Fin 4096) d)) rfl ?_
  blk_ext [idx t]

theorem arr9 : (dats m 0 c).arrAt 9 cfg0.N = saved (dy m c) (outB m c) (proj m c) := by
  refine (dats m 0 c).arrAt_eq_of_covers 9 _ (by decide +kernel) fun t hf y => ?_
  blk_simp
  rw [after0_9]
  obtain ⟨x, j, rfl⟩ : ∃ (x : Fin 512) (j : Fin 512), y = ix2 x j := row_col y
  refine (out9_at _ _ _ _ _ x j).trans ?_
  simp only [blk_y, blk_b, blk_h]
  refine Eq.trans (b := saved (dy m c) (outB m c) (proj m c) (ix2 (⟨512 * t.val + x.val, by have := lt t; omega⟩ : Fin 4096) j)) rfl ?_
  blk_ext [idx t]

end Cert.Kernel12Ideal.Gate

end
-- ==== Proof.GateBackRef.lean ====
/- The reference of the gates' gradients, entry by entry, and the precondition that makes them the kernel's. -/
module

public import proofs.«01_k».proof.Proof.GateBack
public import proofs.«01_k».proof.Pre_finite_outputs
public import proofs.«01_k».proof.Proof.Finite
public import proofs.«01_k».proof.Proof.Gen.Reference12Ideal.Run

@[expose] public section

set_option maxRecDepth 16384

noncomputable section

namespace Cert.Pre_finite_outputs

open Idealize.ShloMosaic

theorem facts : Facts where
  bcast_S_S4096x2048 := by decide
  reducesTo_S4096x2048_S_d0_1 := by decide
  h_S_ := by decide
  bcast_S_S4096x1024 := by decide
  reducesTo_S4096x1024_S_d0_1 := by decide

instance : Subsingleton S_.Idx := ⟨fun a b => funext fun i => i.elim0⟩

/-- The precondition, read: every entry of the cotangent and of both outputs is a real number. -/
theorem real_args (hF : Facts) (y : FVec Ideal S4096x2048 .f32) (a b : FVec Ideal S4096x1024 .f32) (p : FVec Ideal S4096x4096 .f32)
    (h : fn (F := Ideal) y a b p = fun _ => 1#1) :
    (∀ i, y i = ((EReal.toReal (y i) : ℝ) : EReal)) ∧ (∀ i, a i = ((EReal.toReal (a i) : ℝ) : EReal)) ∧
      (∀ i, b i = ((EReal.toReal (b i) : ℝ) : EReal)) := by
  have e := congrFun h (fun i => i.elim0)
  obtain ⟨e, e2⟩ := IntOp.andi_eq_one.mp e
  obtain ⟨e0, e1⟩ := IntOp.andi_eq_one.mp e
  exact ⟨Cert.Pre_finite.all_real _ _ _ _ _ _ e0, Cert.Pre_finite.all_real _ _ _ _ _ _ e1, Cert.Pre_finite.all_real _ _ _ _ _ _ e2⟩

end Cert.Pre_finite_outputs

namespace Cert.Reference12Ideal.Gate

open Cert.Reference12Ideal Cert.Reference12Ideal.Gen Cert.Tiles
open Idealize.ShloMosaic Idealize.ShloMosaic.Pointwise Idealize.ShloMosaic.TcCoe
open Cert.Kernel12Ideal.Gate (silu dOut dGate sums doA doB dgA dgB saved)

abbrev D := FVec Ideal S4096x2048 .f32
abbrev A := FVec Ideal S4096x1024 .f32
abbrev P := FVec Ideal S4096x4096 .f32

theorem logistic_real (r : ℝ) : ∃ s : ℝ, Ideal.logistic (r : EReal) = (s : EReal) := by
  refine ⟨(1 + Real.exp (-r))⁻¹, ?_⟩
  have h : (1 + Real.exp (-r)) ≠ 0 := by positivity
  show Ideal.div 1 (1 + Ideal.exp (-(r : EReal))) = _
  have e : (1 : EReal) + Ideal.exp (-(r : EReal)) = ((1 + Real.exp (-r) : ℝ) : EReal) := by
    rw [← EReal.coe_neg, EReal.coe_add, EReal.coe_one]
    rfl
  rw [e]
  unfold Ideal.div
  rw [if_neg (by exact_mod_cast h), one_mul, EReal.coe_inv]

theorem logistic_top : Ideal.logistic ⊤ = 1 := by
  show Ideal.div 1 (1 + Ideal.exp (-⊤)) = 1
  rw [EReal.neg_top]
  show Ideal.div 1 (1 + 0) = 1
  unfold Ideal.div
  simp

theorem logistic_bot : Ideal.logistic ⊥ = 0 := by
  show Ideal.div 1 (1 + Ideal.exp (-⊥)) = 0
  rw [EReal.neg_bot]
  show Ideal.div 1 (1 + ⊤) = 0
  have e : (1 : EReal) + ⊤ = ⊤ := by rw [← EReal.coe_one]; exact EReal.coe_add_top 1
  rw [e]
  unfold Ideal.div
  simp

theorem one_sub_one : (1 : EReal) - 1 = 0 := by
  rw [← EReal.coe_one, ← EReal.coe_sub, sub_self, EReal.coe_zero]

/-- The product rule's two terms are the cotangent times the slope, of every gate, if the cotangent and the output are real. -/
theorem rule (y o : ℝ) (g : EReal) :
    ((o : EReal) * y) * Ideal.logistic g + (g * ((o : EReal) * y)) * (Ideal.logistic g * (1 - Ideal.logistic g)) = dGate y o g := by
  unfold dGate Cert.Kernel12Ideal.Gate.slope
  induction g using EReal.rec with
  | bot => rw [logistic_bot]; simp
  | top => rw [logistic_top, one_sub_one]; simp [mul_comm]
  | coe r =>
    obtain ⟨s, hs⟩ := logistic_real r
    rw [hs, ← EReal.coe_one]
    simp only [← EReal.coe_mul, ← EReal.coe_add, ← EReal.coe_sub]
    congr 1
    ring

def one : A := broadcastInDim S4096x1024 ![] bcast_S_S4096x1024 (constant S_ .f32 0x3F800000#32)
def sig (g : A) : A := Host.divf one (addf one (Host.exp (Host.negf g)))
def yA (y : D) : A := extractStridedSlice S4096x1024 ![0, 0] y slices_S4096x2048_S4096x1024_0_0
def yB (y : D) : A := extractStridedSlice S4096x1024 ![0, 1024] y slices_S4096x2048_S4096x1024_0_1024
def gA (p : P) : A := extractStridedSlice S4096x1024 ![0, 1024] p slices_S4096x4096_S4096x1024_0_1024
def gB (p : P) : A := extractStridedSlice S4096x1024 ![0, 2048] p slices_S4096x4096_S4096x1024_0_2048

/-- The gradient of an output, and that of a gate by the product rule. -/
def back (y g : A) : A := mulf y (mulf g (sig g))
def backG (y o g : A) : A := addf (mulf (mulf o y) (sig g)) (mulf (mulf g (mulf o y)) (mulf (sig g) (subf one (sig g))))

theorem sig_at (g : A) (r : Fin 4096) (d : Fin 1024) : (sig g (ix2 r d) : EReal) = Ideal.logistic (g (ix2 r d)) := by
  pointwise [sig, one]
  rfl

theorem back_at (y g : A) (r : Fin 4096) (d : Fin 1024) : (back y g (ix2 r d) : EReal) = dOut (y (ix2 r d)) (g (ix2 r d)) := by
  pointwise [back]
  rw [sig_at]
  rfl

theorem backG_at (y o g : A) (r : Fin 4096) (d : Fin 1024) (hy : y (ix2 r d) = ((EReal.toReal (y (ix2 r d)) : ℝ) : EReal))
    (ho : o (ix2 r d) = ((EReal.toReal (o (ix2 r d)) : ℝ) : EReal)) :
    (backG y o g (ix2 r d) : EReal) = dGate (y (ix2 r d)) (o (ix2 r d)) (g (ix2 r d)) := by
  rw [hy, ho, ← rule, ← hy, ← ho, ← sig_at]
  pointwise [backG, one]

theorem ref_doA (y : D) (p : P) : (truncf .bf16 (back (yA y) (gA p)) bitsLt_bf16_f32 : FVec Ideal S4096x1024 .bf16) = doA y p := by
  funext i
  obtain ⟨r, d, rfl⟩ : ∃ (r : Fin 4096) (d : Fin 1024), i = ix2 r d := row_col i
  refine (back_at _ _ r d).trans ?_
  pointwise [yA, gA]
  rfl

theorem ref_doB (y : D) (p : P) : (truncf .bf16 (back (yB y) (gB p)) bitsLt_bf16_f32 : FVec Ideal S4096x1024 .bf16) = doB y p := by
  funext i
  obtain ⟨r, d, rfl⟩ : ∃ (r : Fin 4096) (d : Fin 1024), i = ix2 r d := row_col i
  refine (back_at _ _ r d).trans ?_
  pointwise [yB, gB]
  rfl

variable (y : D) (o : A) (p : P) (hy : ∀ i, y i = ((EReal.toReal (y i) : ℝ) : EReal)) (ho : ∀ i, o i = ((EReal.toReal (o i) : ℝ) : EReal))

include hy ho in
theorem ref_dgA : (truncf .bf16 (backG (yA y) o (gA p)) bitsLt_bf16_f32 : FVec Ideal S4096x1024 .bf16) = dgA y o p := by
  funext i
  obtain ⟨r, d, rfl⟩ : ∃ (r : Fin 4096) (d : Fin 1024), i = ix2 r d := row_col i
  refine (backG_at _ _ _ r d (hy _) (ho _)).trans ?_
  pointwise [yA, gA]
  rfl

include hy ho in
theorem ref_dgB : (truncf .bf16 (backG (yB y) o (gB p)) bitsLt_bf16_f32 : FVec Ideal S4096x1024 .bf16) = dgB y o p := by
  funext i
  obtain ⟨r, d, rfl⟩ : ∃ (r : Fin 4096) (d : Fin 1024), i = ix2 r d := row_col i
  refine (backG_at _ _ _ r d (hy _) (ho _)).trans ?_
  pointwise [yB, gB]
  rfl

/-- The saved sums of each head's 128 products, two heads to 128 columns. -/
theorem ref_saved :
    (shapeCast _ (concatenate S4096x4x128 2 [⟨S4096x4x2, (shapeCast _ (Host.reduceAdd (shapeCast _ (mulf (back (yB y) (gB p)) o) shapeCasts_S4096x1024_S4096x8x128) (constant S_ .f32 0x00000000#32) reducesTo_S4096x8x128_S4096x8_d2 h_S_) shapeCasts_S4096x8_S4096x4x2)⟩, ⟨S4096x4x126, (broadcastInDim S4096x4x126 ![] bcast_S_S4096x4x126 (constant S_ .f32 0x00000000#32))⟩] concatenates_S4096x4x2_S4096x4x126_S4096x4x128_d2) shapeCasts_S4096x4x128_S4096x512 : FVec Ideal S4096x512 .f32)
      = saved y o p := by
  rw [show saved y o p = fun i => sums (fun d => (mulf (back (yB y) (gB p)) o : A) (ix2 (i 0) d)) (i 1) from by
    unfold saved
    rw [← ref_doB]
    rfl]
  generalize (mulf (back (yB y) (gB p)) o : A) = v
  funext i
  obtain ⟨r, j, rfl⟩ : ∃ (r : Fin 4096) (j : Fin 512), i = ix2 r j := row_col i
  unfold sums
  pointwise []
  split_ifs
  · exact Finset.sum_congr rfl fun k _ => congrArg (fun d => v (ix2 r d)) (Fin.ext (by dsimp only; omega))
  · rfl

end Cert.Reference12Ideal.Gate

end
-- ==== Proof.GateBackSteps.lean ====
/- The gates' gradients: the frames of the programs, and the two runs ending with the same five arrays. -/
module

public import proofs.«01_k».proof.Defs
public import proofs.«01_k».proof.Proof.Frames
public import proofs.«01_k».proof.Proof.GateBackRef

@[expose] public section

set_option maxRecDepth 65536
set_option maxHeartbeats 4000000

noncomputable section

open Idealize.ShloMosaic Idealize.SL.Sem

namespace Cert.Proof.Steps

theorem defs_eq12 : Cert.Kernel12.defs (F := Bits) = Cert.Kernel12Ideal.defs (F := Bits) := by
  unfold Cert.Kernel12.defs Cert.Kernel12Ideal.defs Cert.Kernel12.defs₀ Cert.Kernel12Ideal.defs₀
  refine congrArg (Pipeline.defs (Cert.Kernel12.pcfgs (F := Bits))) (congrArg Defs.onTc (funext fun l => funext fun x => ?_))
  match l, x with
  | 0, (t, s) => rfl

theorem frame_p12 : Cert.quiescent_Kernel12 := fun m ρ _ => Att.same_run defs_eq12 rfl (Cert.Kernel12Ideal.Gen.frame (F := Bits) m ρ)

theorem frame_pi12 : Cert.quiescent_Kernel12Ideal := fun m ρ _ => Cert.Kernel12Ideal.Gen.frame m ρ

theorem frame_ri12 : Cert.quiescent_Reference12Ideal := fun m ρ _ =>
  (θ_run Cert.Reference12Ideal.defs _ _).mono (fun r h => ⟨fun c => (h c).2.2.2.2.2, sem_eq_zero_of_no_sems (by decide) r.2⟩) (Cert.Reference12Ideal.Value.run (F := Ideal) m ρ)

open Cert.Kernel12Ideal.Gate in
theorem algebraic12 : @Cert.algebraic_Kernel12Ideal_Reference12Ideal_pre_finite_outputs Cert.Kernel12Ideal.Gen.facts Cert.Reference12Ideal.Gen.facts Cert.Pre_finite_outputs.facts :=
  fun m g m' g' hpre e =>
  ⟨fun c => doA (dy m c) (proj m c), fun c => doB (dy m c) (proj m c), fun c => dgA (dy m c) (outA m c) (proj m c), fun c => dgB (dy m c) (outB m c) (proj m c),
      fun c => saved (dy m c) (outB m c) (proj m c),
    (θ_run Cert.Kernel12Ideal.defs _ _).mono (fun _ h c => ⟨(h c).1.trans (arr5 m c), (h c).2.1.trans (arr6 m c), (h c).2.2.1.trans (arr7 m c), (h c).2.2.2.1.trans (arr8 m c),
      (h c).2.2.2.2.1.trans (arr9 m c), (h c).2.2.2.2.2⟩) (Cert.Kernel12Ideal.Value.run_blocks m g),
    (θ_run Cert.Reference12Ideal.defs _ _).mono (fun _ h c => by
      obtain ⟨e0, e1, e2, e3⟩ := e c
      obtain ⟨hy, ha, hb⟩ := Cert.Pre_finite_outputs.real_args Cert.Pre_finite_outputs.facts (dy m c) (outA m c) (outB m c) (proj m c) (hpre c)
      refine ⟨(h c).1.trans ?_, (h c).2.1.trans ?_, (h c).2.2.1.trans ?_, (h c).2.2.2.1.trans ?_, (h c).2.2.2.2.1.trans ?_, (h c).2.2.2.2.2⟩
      · rw [e0, e3]
        exact Cert.Reference12Ideal.Gate.ref_doA (dy m c) (proj m c)
      · rw [e0, e3]
        exact Cert.Reference12Ideal.Gate.ref_doB (dy m c) (proj m c)
      · rw [e0, e1, e3]
        exact Cert.Reference12Ideal.Gate.ref_dgA (dy m c) (outA m c) (proj m c) hy ha
      · rw [e0, e2, e3]
        exact Cert.Reference12Ideal.Gate.ref_dgB (dy m c) (outB m c) (proj m c) hy hb
      · rw [e0, e2, e3]
        exact Cert.Reference12Ideal.Gate.ref_saved (dy m c) (outB m c) (proj m c))
      (Cert.Reference12Ideal.Value.run (F := Ideal) m' g')⟩

end Cert.Proof.Steps

end
-- ==== Proof.NormBack.lean ====
/- The gradients of the norm: a block of 512 rows at each grid point, and a running sum of the gain's gradient. -/
module

public import proofs.«01_k».proof.Proof.Step8
public import proofs.«01_k».proof.Proof.Gen.Kernel13Ideal.Value
public import proofs.«01_k».proof.Proof.Gen.Kernel13

@[expose] public section

set_option maxRecDepth 16384

noncomputable section

namespace Cert.Kernel13Ideal.Norm

open Cert.Kernel13Ideal Cert.Kernel13Ideal.Gen Cert.Tiles
open Idealize.ShloMosaic Idealize.ShloMosaic.Pointwise Idealize.ShloMosaic.TcCoe
open Cert.Kernel8Ideal.Step (factor)

abbrev A := FVec Ideal S4096x2048 .f32
abbrev G := FVec Ideal S1x2048 .f32
abbrev T := FVec Ideal S512x2048 .f32

variable (m : (ℓ : Loc nD τ sig) → Buf (Elt Ideal) ℓ) (c : Dev nD)

def ct : A := m ((c.tc : Thread nD τ).loc main_arg0)
def act : A := m ((c.tc : Thread nD τ).loc main_arg1)
def gain : G := m ((c.tc : Thread nD τ).loc main_arg2)
def past : A := m ((c.tc : Thread nD τ).loc main_arg3)

/-- Entry d of the gradient of a row `r` with the cotangent `u` of its normed row. -/
def back (u r : Fin 2048 → EReal) (d : Fin 2048) : EReal :=
  factor r * (u d - r d * factor r * Ideal.div (∑ k, u k * (r k * factor r)) (Ideal.ofBits .f32 1157627904#32))

/-- The two results: the gradient of the rows with what passes by, and the gradient of the gain. -/
def dRows (y x : A) (g : G) (p : A) (i : S4096x2048.Idx) : EReal :=
  p i + back (fun k => y (ix2 (i 0) k) * g (ix2 0 k)) (fun k => x (ix2 (i 0) k)) (i 1)
def term (y x : A) (d : Fin 2048) (r : Fin 4096) : EReal := (y (ix2 r d) : EReal) * (x (ix2 r d) * factor fun k => x (ix2 r k))
def dGain (y x : A) (i : S1x2048.Idx) : EReal := ∑ r : Fin 4096, term y x (i 1) r

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

theorem pay5_at (x y : T) (g : G) (p : T) (r : Fin 512) (d : Fin 2048) :
    (k0_pay5 (F := Ideal) x y g p (ix2 r d) : EReal) = p (ix2 r d) + back (fun k => y (ix2 r k) * g (ix2 0 k)) (fun k => x (ix2 r k)) d := by
  pointwise [k0_pay5, k0_pay3, k0_pay2]
  rfl

/-- A block's part of the sum. -/
def part (y x : T) (d : Fin 2048) : EReal := ∑ r : Fin 512, (y (ix2 r d) : EReal) * (x (ix2 r d) * factor fun k => x (ix2 r k))

theorem pay4_at (x y : T) (a : G) (d : Fin 2048) : (k0_pay4 (F := Ideal) x y a (ix2 0 d) : EReal) = a (ix2 0 d) + part y x d := by
  pointwise [k0_pay4, k0_pay3, k0_pay2]
  rfl

section
variable (i : grid0.Coords) (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S512x2048 .f32) (h4 : a4.IsWhole)
  (a5 : Memref sig .tc .vmem S512x2048 .f32) (h5 : a5.IsWhole) (a6 : Memref sig .tc .vmem S1x2048 .f32) (h6 : a6.IsWhole)
  (y x : T) (g : G) (p : T)

theorem rows_A (hc : cond0_0 i) : out0_A_4 (F := Ideal) c i a1 h1 a2 h2 a3 h3 a4 h4 a5 h5 a6 h6 hc y x g p = k0_pay5 (F := Ideal) x y g p := by
  unfold out0_A_4
  rw [View.read_writes_eq_canon _ _ _ (cover0_A_4 (F := Ideal) c i a1 h1 a2 h2 a3 h3 a4 h4 a5 h5 a6 h6 hc y x g p)]
  unfold kernelRun0_A
  dsimp only
  sl_unfold_words
  rw [View.canon_unit_zero origin]
  simp only [View.readAt_eq_ld, h1.read_unread, h2.read_unread, h3.read_unread, h4.read_unread, View.ld_unit_zero (S := S512x2048) origin,
    View.ld_unit_zero (S := S1x2048) origin]

theorem rows_B (hc : ¬cond0_0 i) (a : G) : out0_B_4 (F := Ideal) c i a1 h1 a2 h2 a3 h3 a4 h4 a5 h5 a6 h6 hc y x g p a = k0_pay5 (F := Ideal) x y g p := by
  unfold out0_B_4
  rw [View.read_writes_eq_canon _ _ _ (cover0_B_4 (F := Ideal) c i a1 h1 a2 h2 a3 h3 a4 h4 a5 h5 a6 h6 hc y x g p a)]
  unfold kernelRun0_B
  dsimp only
  sl_unfold_words
  rw [View.canon_unit_zero origin]
  simp only [View.readAt_eq_ld, h1.read_unread, h2.read_unread, h3.read_unread, h4.read_unread, View.ld_unit_zero (S := S512x2048) origin,
    View.ld_unit_zero (S := S1x2048) origin]

/-- The first point starts the sum. -/
theorem gain_A (hc : cond0_0 i) : out0_A_5 (F := Ideal) c i a1 h1 a2 h2 a3 h3 a4 h4 a5 h5 a6 h6 hc y x g p = k0_pay4 (F := Ideal) x y (k0_pay1 (F := Ideal)) := by
  unfold out0_A_5
  rw [View.read_writes_eq_canon _ _ _ (cover0_A_5 (F := Ideal) c i a1 h1 a2 h2 a3 h3 a4 h4 a5 h5 a6 h6 hc y x g p)]
  unfold kernelRun0_A
  dsimp only
  sl_unfold_words
  rw [View.canon_cons_unit_zero (S := S1x2048) origin, View.readCov_unit_zero (S := S1x2048) _ origin]
  simp only [View.readAt_eq_ld, h1.read_unread, h2.read_unread, View.ld_unit_zero (S := S512x2048) origin]

/-- Every other point adds to it. -/
theorem gain_B (hc : ¬cond0_0 i) (a : G) : out0_B_5 (F := Ideal) c i a1 h1 a2 h2 a3 h3 a4 h4 a5 h5 a6 h6 hc y x g p a = k0_pay4 (F := Ideal) x y a := by
  unfold out0_B_5
  rw [View.read_writes_eq_canon _ _ _ (cover0_B_5 (F := Ideal) c i a1 h1 a2 h2 a3 h3 a4 h4 a5 h5 a6 h6 hc y x g p a)]
  unfold kernelRun0_B
  dsimp only
  sl_unfold_words
  rw [View.canon_unit_zero origin]
  simp only [View.readAt_eq_ld, h1.read_unread, h2.read_unread, h6.read_unread, View.ld_unit_zero (S := S512x2048) origin,
    View.ld_unit_zero (S := S1x2048) origin]

end

theorem lt (t : Fin cfg0.N) : t.val < 8 := N_0 ▸ t.isLt

theorem blk_y (t : Fin cfg0.N) (x : Fin 512) (k : Fin 2048) :
    (iblk m c 0 t : T) (ix2 x k) = ct m c (ix2 ⟨512 * t.val + x.val, by have := lt t; omega⟩ k) := by
  blk_simp [iblk]
  blk_ext [idx t]

theorem blk_x (t : Fin cfg0.N) (x : Fin 512) (k : Fin 2048) :
    (iblk m c 1 t : T) (ix2 x k) = act m c (ix2 ⟨512 * t.val + x.val, by have := lt t; omega⟩ k) := by
  blk_simp [iblk]
  blk_ext [idx t]

theorem blk_g (t : Fin cfg0.N) (k : Fin 2048) : (iblk m c 2 t : G) (ix2 0 k) = gain m c (ix2 0 k) := by
  blk_simp [iblk]
  blk_ext [idx t]

theorem blk_p (t : Fin cfg0.N) (x : Fin 512) (k : Fin 2048) :
    (iblk m c 3 t : T) (ix2 x k) = past m c (ix2 ⟨512 * t.val + x.val, by have := lt t; omega⟩ k) := by
  blk_simp [iblk]
  blk_ext [idx t]

theorem rows_t (t : Fin cfg0.N) : (outsAt0 m c t.val t.isLt).1 = k0_pay5 (F := Ideal) (iblk m c 1 t) (iblk m c 0 t) (iblk m c 2 t) (iblk m c 3 t) := by
  by_cases h0 : t.val % 8 = 0
  · rw [outsAt0_A m c t h0]
    dsimp only
    rw [rows_A]
  · rw [outsAt0_B m c t h0]
    dsimp only
    rw [rows_B]

/-- After the run the first result has the gradient of the rows. -/
theorem arr4 : (dats m 0 c).arrAt 4 cfg0.N = dRows (ct m c) (act m c) (gain m c) (past m c) := by
  refine (dats m 0 c).arrAt_eq_of_covers 4 _ (by decide +kernel) fun t hf y => ?_
  blk_simp
  rw [after0_4, rows_t]
  obtain ⟨x, d, rfl⟩ : ∃ (x : Fin 512) (d : Fin 2048), y = ix2 x d := row_col y
  refine (pay5_at _ _ _ _ x d).trans ?_
  simp only [blk_y, blk_x, blk_g, blk_p]
  refine Eq.trans (b := dRows (ct m c) (act m c) (gain m c) (past m c) (ix2 (⟨512 * t.val + x.val, by have := lt t; omega⟩ : Fin 4096) d)) rfl ?_
  blk_ext [idx t]

/-- The terms of the sum, over the natural numbers. -/
def termN (d : Fin 2048) (n : ℕ) : EReal := if h : n < 4096 then term (ct m c) (act m c) d ⟨n, h⟩ else 0

theorem part_at (t : Fin cfg0.N) (d : Fin 2048) :
    part (iblk m c 0 t) (iblk m c 1 t) d = ∑ r ∈ Finset.range 512, termN m c d (512 * t.val + r) := by
  rw [Finset.sum_range]
  unfold part
  refine Finset.sum_congr rfl fun r _ => ?_
  unfold termN
  rw [dif_pos (by have := lt t; omega)]
  simp only [blk_y, blk_x]
  rfl

/-- The running sum after each point. -/
theorem gain_t (d : Fin 2048) : ∀ (n : ℕ) (hn : n < cfg0.N),
    ((outsAt0 m c n hn).2 (ix2 0 d) : EReal) = ∑ r ∈ Finset.range (512 * n + 512), termN m c d r
  | 0, hn => by
    rw [outsAt0_A m c ⟨0, hn⟩ rfl]
    dsimp only
    rw [gain_A, pay4_at, part_at]
    have e : ((k0_pay1 (F := Ideal) : G) (ix2 0 d) : EReal) = 0 := by pointwise [k0_pay1]
    rw [e, zero_add]
    simp only [Nat.mul_zero, Nat.zero_add]
  | n + 1, hn => by
    have hN : cfg0.N = 8 := N_0
    have hB : ¬(⟨n + 1, hn⟩ : Fin cfg0.N).val % 8 = 0 := by dsimp only; omega
    rw [outsAt0_B m c ⟨n + 1, hn⟩ hB]
    dsimp only
    rw [gain_B, pay4_at, part_at, Finset.sum_range_add _ (512 * (n + 1)) 512]
    refine congrArg (· + _) ?_
    exact gain_t d n (Nat.lt_of_succ_lt hn)

/-- After the run the second result has the gradient of the gain. -/
theorem arr5 : (dats m 0 c).arrAt 5 cfg0.N = dGain (ct m c) (act m c) := by
  refine (dats m 0 c).arrAt_eq_of_covers 5 _ (by decide +kernel) fun t hf y => ?_
  have h7 : t.val = 7 := by have := (flush0_5 t).mp hf; have := lt t; omega
  blk_simp
  rw [after0_5]
  obtain ⟨x, d, rfl⟩ : ∃ (x : Fin 1) (d : Fin 2048), y = ix2 x d := row_col y
  obtain rfl : x = 0 := Subsingleton.elim _ _
  refine (gain_t m c d t.val t.isLt).trans ?_
  refine Eq.trans (b := dGain (ct m c) (act m c) (ix2 0 d)) ?_ ?_
  · rw [h7, Finset.sum_range]
    unfold dGain
    refine Finset.sum_congr rfl fun r _ => ?_
    unfold termN
    rw [dif_pos r.isLt]
    rfl
  · blk_ext [idx t]

end Cert.Kernel13Ideal.Norm

end
-- ==== Proof.NormBackRef.lean ====
/- The reference of the norm's gradients, entry by entry. -/
module

public import proofs.«01_k».proof.Proof.NormBack
public import proofs.«01_k».proof.Proof.Maths
public import proofs.«01_k».proof.Proof.Gen.Reference13Ideal.Run

@[expose] public section

set_option maxRecDepth 16384

noncomputable section

namespace Cert.Reference13Ideal.Norm

open Cert.Reference13Ideal Cert.Reference13Ideal.Gen Cert.Tiles
open Idealize.ShloMosaic Idealize.ShloMosaic.Pointwise Idealize.ShloMosaic.TcCoe
open Cert.Kernel8Ideal.Step (factor)
open Cert.Kernel13Ideal.Norm (back dRows dGain term)

abbrev A := FVec Ideal S4096x2048 .f32
abbrev G := FVec Ideal S1x2048 .f32
abbrev C := FVec Ideal S4096x1 .f32

theorem word_2048 : Ideal.ofBits .f32 1157627904#32 = ((2048 : ℝ) : EReal) := by
  simp [Ideal.ofBits, Ideal.ieee, -EReal.coe_mul]; norm_num
theorem word_half : Ideal.ofBits .f32 3204448256#32 = ((-(1 / 2) : ℝ) : EReal) := by
  simp [Ideal.ofBits, Ideal.ieee, -EReal.coe_mul]; norm_num
theorem word_eps : ∃ e : ℝ, 0 < e ∧ Ideal.ofBits .f32 897988541#32 = (e : EReal) := by
  refine ⟨(8796093 : ℝ) / 2 ^ 43, by positivity, ?_⟩
  simp [Ideal.ofBits, Ideal.ieee, -EReal.coe_mul]; norm_num

theorem div_real (a : EReal) (b : ℝ) (h : b ≠ 0) : Ideal.div a (b : EReal) = a * ((b⁻¹ : ℝ) : EReal) := by
  unfold Ideal.div
  rw [if_neg (by exact_mod_cast h), ← EReal.coe_inv]

theorem square_nonneg (a : EReal) : 0 ≤ a * a := by
  induction a using EReal.rec with
  | bot => simp
  | top => simp
  | coe r => exact_mod_cast mul_self_nonneg r

/-- A positive real factor goes into a sum. -/
theorem sum_mul_real {ι : Type} (s : Finset ι) (f : ι → EReal) (q : ℝ) (hq : 0 ≤ q) : (∑ i ∈ s, f i) * (q : EReal) = ∑ i ∈ s, f i * (q : EReal) := by
  classical
  induction s using Finset.induction_on with
  | empty => simp
  | insert a s ha ih =>
    rw [Finset.sum_insert ha, Finset.sum_insert ha, EReal.right_distrib_of_nonneg_of_ne_top (by exact_mod_cast hq) (EReal.coe_ne_top q), ih]

/-- Twice a real multiple. -/
theorem twice (w : EReal) (a : ℝ) : w * (a : EReal) + w * (a : EReal) = w * ((a + a : ℝ) : EReal) := by
  induction w using EReal.rec with
  | coe r =>
    simp only [← EReal.coe_mul, ← EReal.coe_add]
    congr 1
    ring
  | top =>
    rcases lt_trichotomy a 0 with h | h | h
    · rw [EReal.top_mul_coe_of_neg h, EReal.top_mul_coe_of_neg (by linarith)]
      rfl
    · subst h
      simp
    · rw [EReal.top_mul_coe_of_pos h, EReal.top_mul_coe_of_pos (by linarith)]
      rfl
  | bot =>
    rcases lt_trichotomy a 0 with h | h | h
    · rw [EReal.bot_mul_coe_of_neg h, EReal.bot_mul_coe_of_neg (by linarith)]
      rfl
    · subst h
      simp
    · rw [EReal.bot_mul_coe_of_pos h, EReal.bot_mul_coe_of_pos (by linarith)]
      rfl

/-- The mean square of a row, with the small number. -/
def square (r : Fin 2048 → EReal) : EReal := Ideal.div (∑ k, r k * r k) (Ideal.ofBits .f32 1157627904#32) + Ideal.ofBits .f32 897988541#32

/-- What the chain rule gives through the mean square. -/
def through (u r : Fin 2048 → EReal) : EReal :=
  Ideal.div ((∑ k, r k * u k) * (Ideal.ofBits .f32 3204448256#32 * Ideal.div (factor r) (square r))) (Ideal.ofBits .f32 1157627904#32)

/-- The product rule's three terms of a row with an infinite entry: its factor is zero, and all of them are. -/
theorem rule_top (u r : Fin 2048 → EReal) (d k : Fin 2048) (hk : r k * r k = ⊤) :
    u d * factor r + r d * through u r + through u r * r d = back u r d := by
  obtain ⟨e, he, hw⟩ := word_eps
  have hs : square r = ⊤ := by
    unfold square
    have h : ∑ k, r k * r k = ⊤ :=
      top_le_iff.mp (hk ▸ Finset.single_le_sum (f := fun k => r k * r k) (fun k _ => square_nonneg (r k)) (Finset.mem_univ k))
    rw [h, word_2048, hw, div_real _ _ (by norm_num), EReal.top_mul_coe_of_pos (by norm_num), EReal.top_add_coe]
  have hf : factor r = 0 := by
    show Ideal.rsqrt (square r) = _
    rw [hs, Ideal.rsqrt_top]
  have ht : through u r = 0 := by
    unfold through
    have h0 : Ideal.div 0 ⊤ = 0 := by
      unfold Ideal.div
      simp
    rw [hf, hs, h0, mul_zero, mul_zero, word_2048, div_real _ _ (by norm_num), zero_mul]
  unfold back
  rw [ht, hf]
  simp

/-- They are the kernel's gradient of a row of real numbers, with any cotangent. -/
theorem rule_real (u : Fin 2048 → EReal) (r : Fin 2048 → ℝ) (d : Fin 2048) :
    u d * factor (fun k => (r k : EReal)) + (r d : EReal) * through u (fun k => r k) + through u (fun k => r k) * (r d : EReal)
      = back u (fun k => r k) d := by
  obtain ⟨e, he, hw⟩ := word_eps
  have hsq : square (fun k => (r k : EReal)) = (((∑ k, r k * r k) * 2048⁻¹ + e : ℝ) : EReal) := by
    unfold square
    simp only [← EReal.coe_mul, ← Cert.Att.coe_sum]
    rw [word_2048, hw, div_real _ _ (by norm_num), ← EReal.coe_mul, ← EReal.coe_add]
  have hpos : 0 < (∑ k, r k * r k) * 2048⁻¹ + e :=
    add_pos_of_nonneg_of_pos (mul_nonneg (Finset.sum_nonneg fun k _ => mul_self_nonneg _) (by norm_num)) he
  have hf : factor (fun k => (r k : EReal)) = (((Real.sqrt ((∑ k, r k * r k) * 2048⁻¹ + e))⁻¹ : ℝ) : EReal) := by
    show Ideal.rsqrt (square fun k => (r k : EReal)) = _
    rw [hsq, Ideal.rsqrt_coe, if_neg (not_lt.mpr hpos.le), if_neg hpos.ne']
  unfold back through
  rw [hf, hsq, word_2048, word_half]
  generalize (∑ k, r k * r k) * 2048⁻¹ + e = s at hpos
  have h2 : (Real.sqrt s)⁻¹ * (Real.sqrt s)⁻¹ = s⁻¹ := by rw [← mul_inv, Real.mul_self_sqrt hpos.le]
  have hq : 0 ≤ (Real.sqrt s)⁻¹ := inv_nonneg.mpr (Real.sqrt_nonneg s)
  generalize (Real.sqrt s)⁻¹ = q at h2 hq
  have h3 : ∑ k, u k * ((r k : EReal) * (q : EReal)) = (∑ k, (r k : EReal) * u k) * (q : EReal) := by
    rw [sum_mul_real _ _ q hq]
    exact Finset.sum_congr rfl fun k _ => by rw [← mul_assoc, mul_comm (u k)]
  rw [h3]
  generalize ∑ k, (r k : EReal) * u k = w
  rw [div_real _ _ hpos.ne', div_real _ _ (by norm_num), div_real _ _ (by norm_num), sub_eq_add_neg,
    EReal.left_distrib_of_nonneg_of_ne_top (by exact_mod_cast hq) (EReal.coe_ne_top q), mul_comm (u d), add_assoc]
  refine congrArg ((q : EReal) * u d + ·) ?_
  have e1 : w * (((-(1 / 2) : ℝ) : EReal) * ((q : EReal) * ((s⁻¹ : ℝ) : EReal))) * (((2048 : ℝ)⁻¹ : ℝ) : EReal) = w * ((-(1 / 2) * (q * s⁻¹) * 2048⁻¹ : ℝ) : EReal) := by
    simp only [EReal.coe_mul, mul_assoc]
  have e2 : (q : EReal) * -((r d : EReal) * (q : EReal) * (w * (q : EReal) * (((2048 : ℝ)⁻¹ : ℝ) : EReal))) = w * ((-(q * (r d * q) * (q * 2048⁻¹)) : ℝ) : EReal) := by
    rw [EReal.coe_neg, mul_neg, mul_neg]
    simp only [EReal.coe_mul]
    ac_rfl
  rw [e1, e2, mul_comm (r d : EReal), mul_assoc, ← EReal.coe_mul, twice, ← h2]
  congr 2
  ring

theorem rule (u r : Fin 2048 → EReal) (d : Fin 2048) : u d * factor r + r d * through u r + through u r * r d = back u r d := by
  by_cases h : ∃ k, r k * r k = ⊤
  · obtain ⟨k, hk⟩ := h
    exact rule_top u r d k hk
  · have hr : r = fun k => ((EReal.toReal (r k) : ℝ) : EReal) := by
      funext k
      refine (EReal.coe_toReal ?_ ?_).symm
      · intro ht
        exact h ⟨k, by rw [ht]; rfl⟩
      · intro hb
        exact h ⟨k, by rw [hb]; rfl⟩
    rw [hr]
    exact rule_real u _ d

/-- The reference's terms. -/
def ms (x : A) : C := addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
def cots (y : A) (g : G) : A := mulf y (broadcastInDim S4096x2048 ![0, 1] bcast_S1x2048_S4096x2048_0_1 g)
def chain (u x : A) : A := broadcastInDim S4096x2048 ![0] bcast_S4096_S4096x2048_0 (Host.reduceAdd (Host.divf (mulf (shapeCast _ (Host.reduceAdd (mulf x u) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (ms x)) (ms x)))) (broadcastInDim S4096x1 ![] bcast_S_S4096x1 (constant S_ .f32 0x45000000#32))) (constant S_ .f32 0x00000000#32) reducesTo_S4096x1_S4096_d1 h_S_)
def rows (u x : A) : A := addf (addf (mulf u (broadcastInDim S4096x2048 ![0, 1] bcast_S4096x1_S4096x2048_0_1 (Host.rsqrt (ms x)))) (mulf x (chain u x))) (mulf (chain u x) x)

theorem ms_at (x : A) (r : Fin 4096) : (ms x (ix2 r 0) : EReal) = square fun k => x (ix2 r k) := by
  pointwise [ms]
  rfl

theorem chain_at (u x : A) (r : Fin 4096) (d : Fin 2048) : (chain u x (ix2 r d) : EReal) = through (fun k => u (ix2 r k)) (fun k => x (ix2 r k)) := by
  unfold through
  rw [show factor (fun k => x (ix2 r k)) = Ideal.rsqrt (square fun k => x (ix2 r k)) from rfl, ← ms_at]
  unfold chain
  generalize ms x = v
  pointwise []
  simp

theorem ref_rows (y x : A) (g : G) (p : A) : addf p (rows (cots y g) x) = dRows y x g p := by
  funext i
  obtain ⟨r, d, rfl⟩ : ∃ (r : Fin 4096) (d : Fin 2048), i = ix2 r d := row_col i
  have hu : ∀ k, (cots y g (ix2 r k) : EReal) = y (ix2 r k) * g (ix2 0 k) := fun k => by pointwise [cots]
  have e : (rows (cots y g) x (ix2 r d) : EReal) = cots y g (ix2 r d) * factor (fun k => x (ix2 r k))
      + x (ix2 r d) * through (fun k => cots y g (ix2 r k)) (fun k => x (ix2 r k)) + through (fun k => cots y g (ix2 r k)) (fun k => x (ix2 r k)) * x (ix2 r d) := by
    rw [show factor (fun k => x (ix2 r k)) = Ideal.rsqrt (square fun k => x (ix2 r k)) from rfl, ← ms_at, ← chain_at _ _ r d]
    unfold rows
    generalize ms x = v
    generalize chain (cots y g) x = w
    generalize cots y g = u
    pointwise []
  refine Eq.trans (b := (p (ix2 r d) : EReal) + rows (cots y g) x (ix2 r d)) rfl ?_
  refine congrArg ((p (ix2 r d) : EReal) + ·) (e.trans ?_)
  simp only [hu]
  exact rule (fun k => (y (ix2 r k) : EReal) * g (ix2 0 k)) (fun k => x (ix2 r k)) d

theorem ref_gain (y x : A) :
    (shapeCast _ (Host.reduceAdd (mulf (mulf x (broadcastInDim S4096x2048 ![0, 1] bcast_S4096x1_S4096x2048_0_1 (Host.rsqrt (ms x)))) y) (constant S_ .f32 0x00000000#32) reducesTo_S4096x2048_S2048_d0 h_S_) shapeCasts_S2048_S1x2048 : G)
      = dGain y x := by
  funext i
  obtain ⟨r, d, rfl⟩ : ∃ (r : Fin 1) (d : Fin 2048), i = ix2 r d := row_col i
  obtain rfl : r = 0 := Subsingleton.elim _ _
  refine Eq.trans (b := ∑ r : Fin 4096, (x (ix2 r d) : EReal) * Ideal.rsqrt (ms x (ix2 r 0)) * y (ix2 r d)) ?_ ?_
  · generalize ms x = v
    pointwise []
  · unfold dGain term
    refine Finset.sum_congr rfl fun k _ => ?_
    rw [ms_at]
    exact mul_comm _ _

end Cert.Reference13Ideal.Norm

end
-- ==== Proof.NormBackSteps.lean ====
/- The norm's gradients: the frames of the programs, and the two runs ending with the same two arrays. -/
module

public import proofs.«01_k».proof.Defs
public import proofs.«01_k».proof.Proof.Frames
public import proofs.«01_k».proof.Proof.NormBackRef

@[expose] public section

set_option maxRecDepth 65536
set_option maxHeartbeats 4000000

noncomputable section

open Idealize.ShloMosaic Idealize.SL.Sem

namespace Cert.Proof.Steps

theorem defs_eq13 : Cert.Kernel13.defs (F := Bits) = Cert.Kernel13Ideal.defs (F := Bits) := by
  unfold Cert.Kernel13.defs Cert.Kernel13Ideal.defs Cert.Kernel13.defs₀ Cert.Kernel13Ideal.defs₀
  refine congrArg (Pipeline.defs (Cert.Kernel13.pcfgs (F := Bits))) (congrArg Defs.onTc (funext fun l => funext fun x => ?_))
  match l, x with
  | 0, (t, s) => rfl

theorem frame_p13 : Cert.quiescent_Kernel13 := fun m ρ _ => Att.same_run defs_eq13 rfl (Cert.Kernel13Ideal.Gen.frame (F := Bits) m ρ)

theorem frame_pi13 : Cert.quiescent_Kernel13Ideal := fun m ρ _ => Cert.Kernel13Ideal.Gen.frame m ρ

theorem frame_ri13 : Cert.quiescent_Reference13Ideal := fun m ρ _ =>
  (θ_run Cert.Reference13Ideal.defs _ _).mono (fun r h => ⟨fun c => (h c).2.2, sem_eq_zero_of_no_sems (by decide) r.2⟩) (Cert.Reference13Ideal.Value.run (F := Ideal) m ρ)

open Cert.Kernel13Ideal.Norm in
theorem algebraic13 : @Cert.algebraic_Kernel13Ideal_Reference13Ideal Cert.Kernel13Ideal.Gen.facts Cert.Reference13Ideal.Gen.facts :=
  fun m g m' g' _ e =>
  ⟨fun c => dRows (ct m c) (act m c) (gain m c) (past m c), fun c => dGain (ct m c) (act m c),
    (θ_run Cert.Kernel13Ideal.defs _ _).mono (fun _ h c => ⟨(h c).1.trans (arr4 m c), (h c).2.1.trans (arr5 m c), (h c).2.2⟩) (Cert.Kernel13Ideal.Value.run_blocks m g),
    (θ_run Cert.Reference13Ideal.defs _ _).mono (fun _ h c => by
      obtain ⟨e0, e1, e2, e3⟩ := e c
      refine ⟨(h c).1.trans ?_, (h c).2.1.trans ?_, (h c).2.2⟩
      · rw [e0, e1, e2, e3]
        exact Cert.Reference13Ideal.Norm.ref_rows (ct m c) (act m c) (gain m c) (past m c)
      · rw [e0, e1]
        exact Cert.Reference13Ideal.Norm.ref_gain (ct m c) (act m c))
      (Cert.Reference13Ideal.Value.run (F := Ideal) m' g')⟩

end Cert.Proof.Steps

end
-- ==== Proof.lean ====
/- The claim of this certificate, put together from its parts. -/
module

public import proofs.«01_k».proof.Defs
public import proofs.«01_k».proof.Proof.Frames
public import proofs.«01_k».proof.Proof.Algebraic
public import proofs.«01_k».proof.Proof.Products
public import proofs.«01_k».proof.Proof.Steps
public import proofs.«01_k».proof.Proof.QkvSteps
public import proofs.«01_k».proof.Proof.GateBackSteps
public import proofs.«01_k».proof.Proof.NormBackSteps

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.facts, Cert.Pre_finite_outputs.facts,
    Att.frame_p, Att.frame_pi, fun m g _ => Att.frame_pi m g trivial, Att.frame_ri, fun m g _ => Att.frame_ri m g trivial,
    Products.frame_p2, Products.frame_pi2, Products.frame_ri2,
    Products.frame_p3, Products.frame_pi3, Products.frame_ri3,
    Products.frame_p4, Products.frame_pi4, Products.frame_ri4,
    Products.frame_p5, Products.frame_pi5, Products.frame_ri5,
    Products.frame_p6, Products.frame_pi6, Products.frame_ri6,
    Products.frame_p7, Products.frame_pi7, Products.frame_ri7,
    Steps.frame_p8, Steps.frame_pi8, Steps.frame_ri8,
    Steps.frame_p9, Steps.frame_pi9, Steps.frame_ri9,
    Steps.frame_p10, Steps.frame_pi10, Steps.frame_ri10,
    Steps.frame_p11, Steps.frame_pi11, Steps.frame_ri11,
    Steps.frame_p12, Steps.frame_pi12, fun m g _ => Steps.frame_pi12 m g trivial, Steps.frame_ri12, fun m g _ => Steps.frame_ri12 m g trivial,
    Steps.frame_p13, Steps.frame_pi13, Steps.frame_ri13,
    Att.preserves, Att.algebraic,
    trivial, Products.algebraic2,
    trivial, Products.algebraic3,
    trivial, Products.algebraic4,
    trivial, Products.algebraic5,
    trivial, Products.algebraic6,
    trivial, Products.algebraic7,
    trivial, Steps.algebraic8,
    trivial, Steps.algebraic9,
    trivial, Steps.algebraic10,
    trivial, Steps.algebraic11,
    trivial, Steps.algebraic12,
    trivial, Steps.algebraic13⟩

end Cert.Proof

end
